-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite4 [hPre_finite4 : Cert.Pre_finite4.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite4.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite4.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite4.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite4.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite4 [hPre_finite4 : Cert.Pre_finite4.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite4.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite4.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite4.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite4.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite4 [hKernel3Ideal : Cert.Kernel3Ideal.Facts] [hPre_finite4 : Cert.Pre_finite4.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite4 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite4 [hReference3Ideal : Cert.Reference3Ideal.Facts] [hPre_finite4 : Cert.Pre_finite4.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite4 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)) (v2 : (c : Dev Cert.KernelIdeal.nD) → Buf (Elt Ideal) ((c.tc : Thread Cert.KernelIdeal.nD Cert.KernelIdeal.τ).loc Cert.KernelIdeal.main_v69_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_v69_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v75_0)) (v1 : (c : Dev Cert.Kernel2Ideal.nD) → Buf (Elt Ideal) ((c.tc : Thread Cert.Kernel2Ideal.nD Cert.Kernel2Ideal.τ).loc Cert.Kernel2Ideal.main_v75_1)) (v2 : (c : Dev Cert.Kernel2Ideal.nD) → Buf (Elt Ideal) ((c.tc : Thread Cert.Kernel2Ideal.nD Cert.Kernel2Ideal.τ).loc Cert.Kernel2Ideal.main_v75_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v75_0) = v0 c
          ∧ r.2.mem ((c.tc : Thread Cert.Kernel2Ideal.nD Cert.Kernel2Ideal.τ).loc Cert.Kernel2Ideal.main_v75_1) = v1 c
          ∧ r.2.mem ((c.tc : Thread Cert.Kernel2Ideal.nD Cert.Kernel2Ideal.τ).loc Cert.Kernel2Ideal.main_v75_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "mask" .f32 0xF149F2CA#32 ⊥

def algebraic_Kernel3Ideal_Reference3Ideal_pre_finite4 [hKernel3Ideal : Cert.Kernel3Ideal.Facts] [hReference3Ideal : Cert.Reference3Ideal.Facts] [hPre_finite4 : Cert.Pre_finite4.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite4 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v12) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite4 (hKernel3Ideal := hKernel3Ideal) (hPre_finite4 := hPre_finite4)
    ∧ quiescent_Reference3Ideal (hReference3Ideal := hReference3Ideal)
    ∧ quiescent_Reference3Ideal_pre_finite4 (hReference3Ideal := hReference3Ideal) (hPre_finite4 := hPre_finite4)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite4 (hKernel3Ideal := hKernel3Ideal) (hReference3Ideal := hReference3Ideal) (hPre_finite4 := hPre_finite4)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  bcast_S_S16384x8 : S_.BroadcastsInDim S16384x8 (![] : Fin 0 → Fin S16384x8.rank)

variable [Facts]

def fn {F : FTy → Type} [FloatOps F] (main_arg0 : FVec F S16384x512 .f32) (main_arg1 : FVec F S16384x512 .f32) (main_arg2 : FVec F S16384x512 .f32) (main_arg3 : FVec F S16384x8 .f32) (main_arg4 : FVec F S16384x512 .f32) : IVec S16384x512 1 × IVec S16384x512 1 × IVec S16384x512 1 × IVec S16384x8 1 × IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_v12 : FVec F S16384x512 .f32 := Host.absf main_arg4
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  (main_v2, main_v5, main_v8, main_v11, main_v14)
-- ==== Pre_finite4.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  bcast_S_S16384x8 : S_.BroadcastsInDim S16384x8 (![] : Fin 0 → Fin S16384x8.rank)

variable [Facts]

def fn {F : FTy → Type} [FloatOps F] (main_arg0 : FVec F S16384x512 .f32) (main_arg1 : FVec F S16384x512 .f32) (main_arg2 : FVec F S16384x512 .f32) (main_arg3 : FVec F S16384x8 .f32) : IVec S16384x512 1 × IVec S16384x512 1 × IVec S16384x512 1 × IVec S16384x8 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  (main_v2, main_v5, main_v8, main_v11)
-- ==== Kernel.lean ====
abbrev S16384x512 : Shape := ⟨2, ![16384, 512]⟩
abbrev S16384x8 : Shape := ⟨2, ![16384, 8]⟩
abbrev S1x16384x8x64 : Shape := ⟨4, ![1, 16384, 8, 64]⟩
abbrev S1x16384x8 : Shape := ⟨3, ![1, 16384, 8]⟩
abbrev S1x8x16384 : Shape := ⟨3, ![1, 8, 16384]⟩
abbrev S16384 : Shape := ⟨1, ![16384]⟩
abbrev S1x8x16384x16384 : Shape := ⟨4, ![1, 8, 16384, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x64x16384 : Shape := ⟨4, ![1, 8, 64, 16384]⟩
abbrev S8x16384 : Shape := ⟨2, ![8, 16384]⟩
abbrev S8x32x512 : Shape := ⟨3, ![8, 32, 512]⟩
abbrev S8x32x1x512 : Shape := ⟨4, ![8, 32, 1, 512]⟩
abbrev S512x128 : Shape := ⟨2, ![512, 128]⟩
abbrev S16384x128 : Shape := ⟨2, ![16384, 128]⟩
abbrev S2x1x1x512 : Shape := ⟨4, ![2, 1, 1, 512]⟩
abbrev S512x512 : Shape := ⟨2, ![512, 512]⟩
abbrev S1x128 : Shape := ⟨2, ![1, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S128x512 : Shape := ⟨2, ![128, 512]⟩
abbrev S1x1x1x512 : Shape := ⟨4, ![1, 1, 1, 512]⟩

abbrev nBuf : Space → Nat
  | .hbm => 90
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S1x16384x8x64, .f32⟩
  | .hbm, ⟨6, _⟩ => ⟨S1x16384x8x64, .f32⟩
  | .hbm, ⟨7, _⟩ => ⟨S1x16384x8, .f32⟩
  | .hbm, ⟨8, _⟩ => ⟨S1x8x16384, .f32⟩
  | .hbm, ⟨9, _⟩ => ⟨S16384, .i32⟩
  | .hbm, ⟨10, _⟩ => ⟨S1x8x16384x16384, .f32⟩
  | .hbm, ⟨11, _⟩ => ⟨S1x8x16384x1, .f32⟩
  | .hbm, ⟨12, _⟩ => ⟨S1x8x16384x16384, .f32⟩
  | .hbm, ⟨13, _⟩ => ⟨S1x8x16384x16384, .f32⟩
  | .hbm, ⟨14, _⟩ => ⟨S1x8x1x16384, .f32⟩
  | .hbm, ⟨15, _⟩ => ⟨S1x8x16384x16384, .f32⟩
  | .hbm, ⟨16, _⟩ => ⟨S1x8x16384x16384, .f32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S1x8x16384x16384, .i1⟩
  | .hbm, ⟨25, _⟩ => ⟨S1x8x16384x16384, .f32⟩
  | .hbm, ⟨26, _⟩ => ⟨S1x8x16384x16384, .f32⟩
  | .hbm, ⟨27, _⟩ => ⟨S_, .f32⟩
  | .hbm, ⟨28, _⟩ => ⟨S1x8x16384, .f32⟩
  | .hbm, ⟨29, _⟩ => ⟨S_, .f32⟩
  | .hbm, ⟨30, _⟩ => ⟨S1x8x16384, .f32⟩
  | .hbm, ⟨31, _⟩ => ⟨S1x8x16384, .f32⟩
  | .hbm, ⟨32, _⟩ => ⟨S1x8x16384x1, .f32⟩
  | .hbm, ⟨33, _⟩ => ⟨S1x8x16384x16384, .f32⟩
  | .hbm, ⟨34, _⟩ => ⟨S1x8x16384x16384, .f32⟩
  | .hbm, ⟨35, _⟩ => ⟨S1x8x16384x16384, .f32⟩
  | .hbm, ⟨36, _⟩ => ⟨S_, .f32⟩
  | .hbm, ⟨37, _⟩ => ⟨S1x8x16384, .f32⟩
  | .hbm, ⟨38, _⟩ => ⟨S1x8x16384x1, .f32⟩
  | .hbm, ⟨39, _⟩ => ⟨S1x8x16384x16384, .f32⟩
  | .hbm, ⟨40, _⟩ => ⟨S1x8x16384x16384, .f32⟩
  | .hbm, ⟨41, _⟩ => ⟨S1x16384x8x64, .f32⟩
  | .hbm, ⟨42, _⟩ => ⟨S1x8x64x16384, .f32⟩
  | .hbm, ⟨43, _⟩ => ⟨S1x16384x8x64, .f32⟩
  | .hbm, ⟨44, _⟩ => ⟨S16384x512, .f32⟩
  | .hbm, ⟨45, _⟩ => ⟨S1x16384x8x64, .f32⟩
  | .hbm, ⟨46, _⟩ => ⟨S1x16384x8x64, .f32⟩
  | .hbm, ⟨47, _⟩ => ⟨S1x16384x8, .f32⟩
  | .hbm, ⟨48, _⟩ => ⟨S1x8x16384, .f32⟩
  | .hbm, ⟨49, _⟩ => ⟨S16384, .i32⟩
  | .hbm, ⟨50, _⟩ => ⟨S1x8x16384x16384, .f32⟩
  | .hbm, ⟨51, _⟩ => ⟨S1x8x16384x1, .f32⟩
  | .hbm, ⟨52, _⟩ => ⟨S1x8x16384x16384, .f32⟩
  | .hbm, ⟨53, _⟩ => ⟨S1x8x16384x16384, .f32⟩
  | .hbm, ⟨54, _⟩ => ⟨S1x8x1x16384, .f32⟩
  | .hbm, ⟨55, _⟩ => ⟨S1x8x16384x16384, .f32⟩
  | .hbm, ⟨56, _⟩ => ⟨S1x8x16384x16384, .f32⟩
  | .hbm, ⟨57, _⟩ => ⟨S1x16384, .i32⟩
  | .hbm, ⟨58, _⟩ => ⟨S16384x1, .i32⟩
  | .hbm, ⟨59, _⟩ => ⟨S16384x16384, .i32⟩
  | .hbm, ⟨60, _⟩ => ⟨S16384x16384, .i32⟩
  | .hbm, ⟨61, _⟩ => ⟨S16384x16384, .i1⟩
  | .hbm, ⟨62, _⟩ => ⟨S_, .f32⟩
  | .hbm, ⟨63, _⟩ => ⟨S_, .f32⟩
  | .hbm, ⟨64, _⟩ => ⟨S1x8x16384x16384, .i1⟩
  | .hbm, ⟨65, _⟩ => ⟨S1x8x16384x16384, .f32⟩
  | .hbm, ⟨66, _⟩ => ⟨S1x8x16384x16384, .f32⟩
  | .hbm, ⟨67, _⟩ => ⟨S_, .f32⟩
  | .hbm, ⟨68, _⟩ => ⟨S1x8x16384, .f32⟩
  | .hbm, ⟨69, _⟩ => ⟨S1x8x16384x1, .f32⟩
  | .hbm, ⟨70, _⟩ => ⟨S1x8x16384x16384, .f32⟩
  | .hbm, ⟨71, _⟩ => ⟨S1x8x16384x16384, .f32⟩
  | .hbm, ⟨72, _⟩ => ⟨S1x8x16384x16384, .f32⟩
  | .hbm, ⟨73, _⟩ => ⟨S_, .f32⟩
  | .hbm, ⟨74, _⟩ => ⟨S1x8x16384, .f32⟩
  | .hbm, ⟨75, _⟩ => ⟨S1x8x16384, .f32⟩
  | .hbm, ⟨76, _⟩ => ⟨S1x8x16384, .f32⟩
  | .hbm, ⟨77, _⟩ => ⟨S8x16384, .f32⟩
  | .hbm, ⟨78, _⟩ => ⟨S8x16384, .f32⟩
  | .hbm, ⟨79, _⟩ => ⟨S8x16384, .f32⟩
  | .hbm, ⟨80, _⟩ => ⟨S16384x512, .bf16⟩
  | .hbm, ⟨81, _⟩ => ⟨S16384x512, .bf16⟩
  | .hbm, ⟨82, _⟩ => ⟨S16384x512, .bf16⟩
  | .hbm, ⟨83, _⟩ => ⟨S8x16384, .f32⟩
  | .hbm, ⟨84, _⟩ => ⟨S8x16384, .f32⟩
  | .hbm, ⟨85, _⟩ => ⟨S8x32x512, .f32⟩
  | .hbm, ⟨86, _⟩ => ⟨S8x32x512, .f32⟩
  | .hbm, ⟨87, _⟩ => ⟨S16384x512, .f32⟩
  | .hbm, ⟨88, _⟩ => ⟨S8x32x1x512, .f32⟩
  | .hbm, ⟨89, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S8x32x512, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S8x32x512, .f32⟩
  | .local _ .vmem, ⟨12, _⟩ => ⟨S512x128, .f32⟩
  | .local _ .vmem, ⟨13, _⟩ => ⟨S512x128, .f32⟩
  | .local _ .vmem, ⟨14, _⟩ => ⟨S2x1x1x512, .f32⟩
  | .local _ .vmem, ⟨15, _⟩ => ⟨S2x1x1x512, .f32⟩
  | .local _ .vmem, ⟨16, _⟩ => ⟨S512x128, .bf16⟩
  | .local _ .vmem, ⟨17, _⟩ => ⟨S512x128, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69_0 : Ref sig .tc := ⟨.hbm, 87, rfl⟩
abbrev main_v69_1 : Ref sig .tc := ⟨.hbm, 88, rfl⟩
abbrev main_v69_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 32], ![false, false]⟩

def k0_off1 (i : grid0.Coords) (c0_i32 : BitVec 32) : Fin 3 → Nat :=
  let c2_i32 : BitVec 32 := 2#32
  let arg0 : BitVec 32 := BitVec.ofNat 32 (i 0).val
  let v43 : BitVec 32 := Scalar.muli c2_i32 arg0
  let v44 : BitVec 32 := Scalar.addi v43 c0_i32
  let v45 : Index := Scalar.indexCast v44
  let arg1 : BitVec 32 := BitVec.ofNat 32 (i 1).val
  let v46 : Index := Scalar.indexCast arg1
  let c0_15 : Index := 0#32
  ![v45.toNat, v46.toNat, 0]
@[reducible] def k0_t1_loop (i : grid0.Coords) : Scf.Loop 32 :=
  let c0_i32_20 : BitVec 32 := 0#32
  let arg1 : BitVec 32 := BitVec.ofNat 32 (i 1).val
  let v65 : BitVec 32 := Scalar.subi arg1 c0_i32_20
  let c1_i32_21 : BitVec 32 := 1#32
  let v67 : BitVec 32 := Scalar.divsi v65 c1_i32_21
  let v68 : BitVec 32 := Scalar.muli v67 c1_i32_21
  let v69 : BitVec 32 := Scalar.addi c0_i32_20 v68
  let c1_i32_22 : BitVec 32 := 1#32
  ⟨c0_i32_20, v69, c1_i32_22⟩
def k0_mult1 (i : grid0.Coords) (k0_t1 : Fin (k0_t1_loop i).trips) : BitVec 32 :=
  let c0_i32_20 : BitVec 32 := 0#32
  let c1_i32_22 : BitVec 32 := 1#32
  let arg12 : BitVec 32 := Scf.iv c0_i32_20 c1_i32_22 k0_t1
  let c512_i32_53 : BitVec 32 := 512#32
  let v155 : BitVec 32 := Scalar.muli arg12 c512_i32_53
  v155
def k0_off2 (i : grid0.Coords) (k0_t1 : Fin (k0_t1_loop i).trips) : Fin 2 → Nat :=
  let c0_i32_20 : BitVec 32 := 0#32
  let c1_i32_22 : BitVec 32 := 1#32
  let arg12 : BitVec 32 := Scf.iv c0_i32_20 c1_i32_22 k0_t1
  let c512_i32_53 : BitVec 32 := 512#32
  let v155 : BitVec 32 := Scalar.muli arg12 c512_i32_53
  let v156 : BitVec 32 := v155
  let v157 : Index := Scalar.indexCast v156
  let c0_54 : Index := 0#32
  ![v157.toNat, 0]
def k0_off3 (i : grid0.Coords) (k0_t1 : Fin (k0_t1_loop i).trips) (c0_i32_58 : BitVec 32) : Fin 3 → Nat :=
  let c2_i32_57 : BitVec 32 := 2#32
  let arg0 : BitVec 32 := BitVec.ofNat 32 (i 0).val
  let v164 : BitVec 32 := Scalar.muli c2_i32_57 arg0
  let v165 : BitVec 32 := Scalar.addi v164 c0_i32_58
  let v166 : Index := Scalar.indexCast v165
  let c0_i32_20 : BitVec 32 := 0#32
  let c1_i32_22 : BitVec 32 := 1#32
  let arg12 : BitVec 32 := Scf.iv c0_i32_20 c1_i32_22 k0_t1
  let v167 : Index := Scalar.indexCast arg12
  let c0_59 : Index := 0#32
  ![v166.toNat, v167.toNat, 0]
@[reducible] def k0_t2_loop (i : grid0.Coords) : Scf.Loop 32 :=
  let c0_i32_20 : BitVec 32 := 0#32
  let arg1 : BitVec 32 := BitVec.ofNat 32 (i 1).val
  let v65 : BitVec 32 := Scalar.subi arg1 c0_i32_20
  let c1_i32_21 : BitVec 32 := 1#32
  let v67 : BitVec 32 := Scalar.divsi v65 c1_i32_21
  let v68 : BitVec 32 := Scalar.muli v67 c1_i32_21
  let v69 : BitVec 32 := Scalar.addi c0_i32_20 v68
  let v66 : BitVec 32 := Scalar.addi c0_i32_20 v65
  let c1_i32_23 : BitVec 32 := 1#32
  ⟨v69, v66, c1_i32_23⟩
def k0_mult2 (i : grid0.Coords) (k0_t2 : Fin (k0_t2_loop i).trips) : BitVec 32 :=
  let c0_i32_20 : BitVec 32 := 0#32
  let arg1 : BitVec 32 := BitVec.ofNat 32 (i 1).val
  let v65 : BitVec 32 := Scalar.subi arg1 c0_i32_20
  let c1_i32_21 : BitVec 32 := 1#32
  let v67 : BitVec 32 := Scalar.divsi v65 c1_i32_21
  let v68 : BitVec 32 := Scalar.muli v67 c1_i32_21
  let v69 : BitVec 32 := Scalar.addi c0_i32_20 v68
  let c1_i32_23 : BitVec 32 := 1#32
  let arg12 : BitVec 32 := Scf.iv v69 c1_i32_23 k0_t2
  let c512_i32_53 : BitVec 32 := 512#32
  let v155 : BitVec 32 := Scalar.muli arg12 c512_i32_53
  v155
def k0_off4 (i : grid0.Coords) (k0_t2 : Fin (k0_t2_loop i).trips) : Fin 2 → Nat :=
  let c0_i32_20 : BitVec 32 := 0#32
  let arg1 : BitVec 32 := BitVec.ofNat 32 (i 1).val
  let v65 : BitVec 32 := Scalar.subi arg1 c0_i32_20
  let c1_i32_21 : BitVec 32 := 1#32
  let v67 : BitVec 32 := Scalar.divsi v65 c1_i32_21
  let v68 : BitVec 32 := Scalar.muli v67 c1_i32_21
  let v69 : BitVec 32 := Scalar.addi c0_i32_20 v68
  let c1_i32_23 : BitVec 32 := 1#32
  let arg12 : BitVec 32 := Scf.iv v69 c1_i32_23 k0_t2
  let c512_i32_53 : BitVec 32 := 512#32
  let v155 : BitVec 32 := Scalar.muli arg12 c512_i32_53
  let v156 : BitVec 32 := v155
  let v157 : Index := Scalar.indexCast v156
  let c0_54 : Index := 0#32
  ![v157.toNat, 0]
def k0_off5 (i : grid0.Coords) (k0_t2 : Fin (k0_t2_loop i).trips) (c0_i32_58 : BitVec 32) : Fin 3 → Nat :=
  let c2_i32_57 : BitVec 32 := 2#32
  let arg0 : BitVec 32 := BitVec.ofNat 32 (i 0).val
  let v164 : BitVec 32 := Scalar.muli c2_i32_57 arg0
  let v165 : BitVec 32 := Scalar.addi v164 c0_i32_58
  let v166 : Index := Scalar.indexCast v165
  let c0_i32_20 : BitVec 32 := 0#32
  let arg1 : BitVec 32 := BitVec.ofNat 32 (i 1).val
  let v65 : BitVec 32 := Scalar.subi arg1 c0_i32_20
  let c1_i32_21 : BitVec 32 := 1#32
  let v67 : BitVec 32 := Scalar.divsi v65 c1_i32_21
  let v68 : BitVec 32 := Scalar.muli v67 c1_i32_21
  let v69 : BitVec 32 := Scalar.addi c0_i32_20 v68
  let c1_i32_23 : BitVec 32 := 1#32
  let arg12 : BitVec 32 := Scf.iv v69 c1_i32_23 k0_t2
  let v167 : Index := Scalar.indexCast arg12
  let c0_59 : Index := 0#32
  ![v166.toNat, v167.toNat, 0]
def k0_mult3 (i : grid0.Coords) : BitVec 32 :=
  let arg1 : BitVec 32 := BitVec.ofNat 32 (i 1).val
  let c512_i32 : BitVec 32 := 512#32
  let v72 : BitVec 32 := Scalar.muli arg1 c512_i32
  v72
def k0_off6 (i : grid0.Coords) : Fin 2 → Nat :=
  let arg1 : BitVec 32 := BitVec.ofNat 32 (i 1).val
  let c512_i32 : BitVec 32 := 512#32
  let v72 : BitVec 32 := Scalar.muli arg1 c512_i32
  let v73 : BitVec 32 := v72
  let v74 : Index := Scalar.indexCast v73
  let c0_24 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x512 : Shape := ⟨2, ![16384, 512]⟩
abbrev S16384x8 : Shape := ⟨2, ![16384, 8]⟩
abbrev S1x16384x8x64 : Shape := ⟨4, ![1, 16384, 8, 64]⟩
abbrev S1x16384x8 : Shape := ⟨3, ![1, 16384, 8]⟩
abbrev S1x8x16384 : Shape := ⟨3, ![1, 8, 16384]⟩
abbrev S16384 : Shape := ⟨1, ![16384]⟩
abbrev S1x8x16384x16384 : Shape := ⟨4, ![1, 8, 16384, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x64x16384 : Shape := ⟨4, ![1, 8, 64, 16384]⟩
abbrev S16384x8x64 : Shape := ⟨3, ![16384, 8, 64]⟩
abbrev S8x16384 : Shape := ⟨2, ![8, 16384]⟩
abbrev S1x8x16384x64 : Shape := ⟨4, ![1, 8, 16384, 64]⟩
abbrev S8x32x1x512 : Shape := ⟨4, ![8, 32, 1, 512]⟩

abbrev nBuf : Space → Nat
  | .hbm => 124
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S1x16384x8x64, .f32⟩
  | .hbm, ⟨6, _⟩ => ⟨S1x16384x8x64, .f32⟩
  | .hbm, ⟨7, _⟩ => ⟨S1x16384x8, .f32⟩
  | .hbm, ⟨8, _⟩ => ⟨S1x8x16384, .f32⟩
  | .hbm, ⟨9, _⟩ => ⟨S16384, .i32⟩
  | .hbm, ⟨10, _⟩ => ⟨S1x8x16384x16384, .f32⟩
  | .hbm, ⟨11, _⟩ => ⟨S1x8x16384x1, .f32⟩
  | .hbm, ⟨12, _⟩ => ⟨S1x8x16384x16384, .f32⟩
  | .hbm, ⟨13, _⟩ => ⟨S1x8x16384x16384, .f32⟩
  | .hbm, ⟨14, _⟩ => ⟨S1x8x1x16384, .f32⟩
  | .hbm, ⟨15, _⟩ => ⟨S1x8x16384x16384, .f32⟩
  | .hbm, ⟨16, _⟩ => ⟨S1x8x16384x16384, .f32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S1x8x16384x16384, .i1⟩
  | .hbm, ⟨25, _⟩ => ⟨S1x8x16384x16384, .f32⟩
  | .hbm, ⟨26, _⟩ => ⟨S1x8x16384x16384, .f32⟩
  | .hbm, ⟨27, _⟩ => ⟨S_, .f32⟩
  | .hbm, ⟨28, _⟩ => ⟨S1x8x16384x16384, .f32⟩
  | .hbm, ⟨29, _⟩ => ⟨S_, .f32⟩
  | .hbm, ⟨30, _⟩ => ⟨S1x8x16384, .f32⟩
  | .hbm, ⟨31, _⟩ => ⟨S1x8x16384x1, .f32⟩
  | .hbm, ⟨32, _⟩ => ⟨S1x8x16384x16384, .f32⟩
  | .hbm, ⟨33, _⟩ => ⟨S1x8x16384x16384, .i1⟩
  | .hbm, ⟨34, _⟩ => ⟨S1x8x16384x16384, .f32⟩
  | .hbm, ⟨35, _⟩ => ⟨S_, .f32⟩
  | .hbm, ⟨36, _⟩ => ⟨S1x8x16384, .f32⟩
  | .hbm, ⟨37, _⟩ => ⟨S_, .f32⟩
  | .hbm, ⟨38, _⟩ => ⟨S1x8x16384, .f32⟩
  | .hbm, ⟨39, _⟩ => ⟨S1x8x16384, .f32⟩
  | .hbm, ⟨40, _⟩ => ⟨S_, .f32⟩
  | .hbm, ⟨41, _⟩ => ⟨S1x8x16384, .f32⟩
  | .hbm, ⟨42, _⟩ => ⟨S1x8x16384, .i1⟩
  | .hbm, ⟨43, _⟩ => ⟨S_, .f32⟩
  | .hbm, ⟨44, _⟩ => ⟨S1x8x16384, .f32⟩
  | .hbm, ⟨45, _⟩ => ⟨S1x8x16384, .i1⟩
  | .hbm, ⟨46, _⟩ => ⟨S_, .f32⟩
  | .hbm, ⟨47, _⟩ => ⟨S1x8x16384, .f32⟩
  | .hbm, ⟨48, _⟩ => ⟨S_, .f32⟩
  | .hbm, ⟨49, _⟩ => ⟨S1x8x16384, .f32⟩
  | .hbm, ⟨50, _⟩ => ⟨S_, .f32⟩
  | .hbm, ⟨51, _⟩ => ⟨S1x8x16384, .f32⟩
  | .hbm, ⟨52, _⟩ => ⟨S1x8x16384, .f32⟩
  | .hbm, ⟨53, _⟩ => ⟨S1x8x16384, .f32⟩
  | .hbm, ⟨54, _⟩ => ⟨S1x8x16384x1, .f32⟩
  | .hbm, ⟨55, _⟩ => ⟨S1x8x16384x16384, .f32⟩
  | .hbm, ⟨56, _⟩ => ⟨S1x8x16384x16384, .f32⟩
  | .hbm, ⟨57, _⟩ => ⟨S1x8x16384x16384, .f32⟩
  | .hbm, ⟨58, _⟩ => ⟨S_, .f32⟩
  | .hbm, ⟨59, _⟩ => ⟨S1x8x16384, .f32⟩
  | .hbm, ⟨60, _⟩ => ⟨S1x8x16384x1, .f32⟩
  | .hbm, ⟨61, _⟩ => ⟨S1x8x16384x16384, .f32⟩
  | .hbm, ⟨62, _⟩ => ⟨S1x8x16384x16384, .f32⟩
  | .hbm, ⟨63, _⟩ => ⟨S1x8x16384x1, .f32⟩
  | .hbm, ⟨64, _⟩ => ⟨S_, .f32⟩
  | .hbm, ⟨65, _⟩ => ⟨S1x8x16384x1, .f32⟩
  | .hbm, ⟨66, _⟩ => ⟨S1x8x16384x1, .f32⟩
  | .hbm, ⟨67, _⟩ => ⟨S1x16384x8x64, .f32⟩
  | .hbm, ⟨68, _⟩ => ⟨S1x8x64x16384, .f32⟩
  | .hbm, ⟨69, _⟩ => ⟨S1x16384x8x64, .f32⟩
  | .hbm, ⟨70, _⟩ => ⟨S16384x512, .f32⟩
  | .hbm, ⟨71, _⟩ => ⟨S16384x512, .f32⟩
  | .hbm, ⟨72, _⟩ => ⟨S16384x8x64, .f32⟩
  | .hbm, ⟨73, _⟩ => ⟨S_, .f32⟩
  | .hbm, ⟨74, _⟩ => ⟨S16384x8, .f32⟩
  | .hbm, ⟨75, _⟩ => ⟨S1x16384x8x64, .f32⟩
  | .hbm, ⟨76, _⟩ => ⟨S1x8x64x16384, .f32⟩
  | .hbm, ⟨77, _⟩ => ⟨S1x8x16384x16384, .f32⟩
  | .hbm, ⟨78, _⟩ => ⟨S1x8x64x16384, .f32⟩
  | .hbm, ⟨79, _⟩ => ⟨S1x16384x8x64, .f32⟩
  | .hbm, ⟨80, _⟩ => ⟨S16384x512, .f32⟩
  | .hbm, ⟨81, _⟩ => ⟨S1x8x16384x16384, .f32⟩
  | .hbm, ⟨82, _⟩ => ⟨S1x8x16384x16384, .f32⟩
  | .hbm, ⟨83, _⟩ => ⟨S1x8x16384x16384, .f32⟩
  | .hbm, ⟨84, _⟩ => ⟨S_, .f32⟩
  | .hbm, ⟨85, _⟩ => ⟨S1x8x16384, .f32⟩
  | .hbm, ⟨86, _⟩ => ⟨S1x8x16384x1, .f32⟩
  | .hbm, ⟨87, _⟩ => ⟨S1x8x16384x1, .f32⟩
  | .hbm, ⟨88, _⟩ => ⟨S1x8x16384x16384, .f32⟩
  | .hbm, ⟨89, _⟩ => ⟨S1x8x16384x16384, .f32⟩
  | .hbm, ⟨90, _⟩ => ⟨S_, .f32⟩
  | .hbm, ⟨91, _⟩ => ⟨S8x16384, .f32⟩
  | .hbm, ⟨92, _⟩ => ⟨S1x8x16384, .f32⟩
  | .hbm, ⟨93, _⟩ => ⟨S1x8x16384x16384, .f32⟩
  | .hbm, ⟨94, _⟩ => ⟨S1x8x16384x16384, .f32⟩
  | .hbm, ⟨95, _⟩ => ⟨S1x8x16384x16384, .f32⟩
  | .hbm, ⟨96, _⟩ => ⟨S_, .f32⟩
  | .hbm, ⟨97, _⟩ => ⟨S1x8x16384x16384, .f32⟩
  | .hbm, ⟨98, _⟩ => ⟨S1x8x16384x16384, .f32⟩
  | .hbm, ⟨99, _⟩ => ⟨S1x8x16384x16384, .f32⟩
  | .hbm, ⟨100, _⟩ => ⟨S_, .f32⟩
  | .hbm, ⟨101, _⟩ => ⟨S1x8x16384, .f32⟩
  | .hbm, ⟨102, _⟩ => ⟨S1x8x1x16384, .f32⟩
  | .hbm, ⟨103, _⟩ => ⟨S_, .f32⟩
  | .hbm, ⟨104, _⟩ => ⟨S8x16384, .f32⟩
  | .hbm, ⟨105, _⟩ => ⟨S1x8x16384, .f32⟩
  | .hbm, ⟨106, _⟩ => ⟨S_, .f32⟩
  | .hbm, ⟨107, _⟩ => ⟨S1x8x16384, .f32⟩
  | .hbm, ⟨108, _⟩ => ⟨S1x8x16384x1, .f32⟩
  | .hbm, ⟨109, _⟩ => ⟨S_, .f32⟩
  | .hbm, ⟨110, _⟩ => ⟨S8x16384, .f32⟩
  | .hbm, ⟨111, _⟩ => ⟨S1x8x16384, .f32⟩
  | .hbm, ⟨112, _⟩ => ⟨S1x8x16384, .f32⟩
  | .hbm, ⟨113, _⟩ => ⟨S1x8x16384x64, .f32⟩
  | .hbm, ⟨114, _⟩ => ⟨S1x16384x8x64, .f32⟩
  | .hbm, ⟨115, _⟩ => ⟨S1x8x16384x64, .f32⟩
  | .hbm, ⟨116, _⟩ => ⟨S1x16384x8x64, .f32⟩
  | .hbm, ⟨117, _⟩ => ⟨S1x16384x8, .f32⟩
  | .hbm, ⟨118, _⟩ => ⟨S16384x8, .f32⟩
  | .hbm, ⟨119, _⟩ => ⟨S16384x512, .f32⟩
  | .hbm, ⟨120, _⟩ => ⟨S16384x512, .f32⟩
  | .hbm, ⟨121, _⟩ => ⟨S8x16384, .f32⟩
  | .hbm, ⟨122, _⟩ => ⟨S8x32x1x512, .f32⟩
  | .hbm, ⟨123, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_v17_1 : Ref sig .tc := ⟨.hbm, 24, rfl⟩
abbrev main_call0_v2 : Ref sig .tc := ⟨.hbm, 25, rfl⟩
abbrev main_v17_0 : Ref sig .tc := ⟨.hbm, 26, rfl⟩
abbrev main_call0_cst : Ref sig .tc := ⟨.hbm, 27, rfl⟩
abbrev main_v17_2 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩

abbrev nD : Nat := 1
abbrev τ : Topo := Topo.v7x

variable {F : FTy → Type} [FloatOps F]
-- ==== Kernel2.lean ====
abbrev S16384x512 : Shape := ⟨2, ![16384, 512]⟩
abbrev S16384x8 : Shape := ⟨2, ![16384, 8]⟩
abbrev S1x16384x8x64 : Shape := ⟨4, ![1, 16384, 8, 64]⟩
abbrev S1x16384x8 : Shape := ⟨3, ![1, 16384, 8]⟩
abbrev S1x8x16384 : Shape := ⟨3, ![1, 8, 16384]⟩
abbrev S16384 : Shape := ⟨1, ![16384]⟩
abbrev S1x8x16384x16384 : Shape := ⟨4, ![1, 8, 16384, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x64x16384 : Shape := ⟨4, ![1, 8, 64, 16384]⟩
abbrev S8x16384 : Shape := ⟨2, ![8, 16384]⟩
abbrev S16384x8x64 : Shape := ⟨3, ![16384, 8, 64]⟩
abbrev S8x32x512 : Shape := ⟨3, ![8, 32, 512]⟩
abbrev S8x32x1x512 : Shape := ⟨4, ![8, 32, 1, 512]⟩
abbrev S512x128 : Shape := ⟨2, ![512, 128]⟩
abbrev S16384x128 : Shape := ⟨2, ![16384, 128]⟩
abbrev S2x1x1x512 : Shape := ⟨4, ![2, 1, 1, 512]⟩
abbrev S512x512 : Shape := ⟨2, ![512, 512]⟩
abbrev S1x128 : Shape := ⟨2, ![1, 128]⟩
abbrev S1x1x512 : Shape := ⟨3, ![1, 1, 512]⟩
abbrev S1x512 : Shape := ⟨2, ![1, 512]⟩
abbrev S128x512 : Shape := ⟨2, ![128, 512]⟩
abbrev S512x1 : Shape := ⟨2, ![512, 1]⟩
abbrev S512 : Shape := ⟨1, ![512]⟩
abbrev S1x1x1x512 : Shape := ⟨4, ![1, 1, 1, 512]⟩

abbrev nBuf : Space → Nat
  | .hbm => 97
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S1x16384x8x64, .f32⟩
  | .hbm, ⟨6, _⟩ => ⟨S1x16384x8x64, .f32⟩
  | .hbm, ⟨7, _⟩ => ⟨S1x16384x8, .f32⟩
  | .hbm, ⟨8, _⟩ => ⟨S1x8x16384, .f32⟩
  | .hbm, ⟨9, _⟩ => ⟨S16384, .i32⟩
  | .hbm, ⟨10, _⟩ => ⟨S1x8x16384x16384, .f32⟩
  | .hbm, ⟨11, _⟩ => ⟨S1x8x16384x1, .f32⟩
  | .hbm, ⟨12, _⟩ => ⟨S1x8x16384x16384, .f32⟩
  | .hbm, ⟨13, _⟩ => ⟨S1x8x16384x16384, .f32⟩
  | .hbm, ⟨14, _⟩ => ⟨S1x8x1x16384, .f32⟩
  | .hbm, ⟨15, _⟩ => ⟨S1x8x16384x16384, .f32⟩
  | .hbm, ⟨16, _⟩ => ⟨S1x8x16384x16384, .f32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S1x8x16384x16384, .i1⟩
  | .hbm, ⟨25, _⟩ => ⟨S1x8x16384x16384, .f32⟩
  | .hbm, ⟨26, _⟩ => ⟨S1x8x16384x16384, .f32⟩
  | .hbm, ⟨27, _⟩ => ⟨S_, .f32⟩
  | .hbm, ⟨28, _⟩ => ⟨S1x8x16384, .f32⟩
  | .hbm, ⟨29, _⟩ => ⟨S_, .f32⟩
  | .hbm, ⟨30, _⟩ => ⟨S1x8x16384, .f32⟩
  | .hbm, ⟨31, _⟩ => ⟨S1x8x16384, .f32⟩
  | .hbm, ⟨32, _⟩ => ⟨S1x8x16384x1, .f32⟩
  | .hbm, ⟨33, _⟩ => ⟨S1x8x16384x16384, .f32⟩
  | .hbm, ⟨34, _⟩ => ⟨S1x8x16384x16384, .f32⟩
  | .hbm, ⟨35, _⟩ => ⟨S1x8x16384x16384, .f32⟩
  | .hbm, ⟨36, _⟩ => ⟨S_, .f32⟩
  | .hbm, ⟨37, _⟩ => ⟨S1x8x16384, .f32⟩
  | .hbm, ⟨38, _⟩ => ⟨S1x8x16384x1, .f32⟩
  | .hbm, ⟨39, _⟩ => ⟨S1x8x16384x16384, .f32⟩
  | .hbm, ⟨40, _⟩ => ⟨S1x8x16384x16384, .f32⟩
  | .hbm, ⟨41, _⟩ => ⟨S1x16384x8x64, .f32⟩
  | .hbm, ⟨42, _⟩ => ⟨S1x8x64x16384, .f32⟩
  | .hbm, ⟨43, _⟩ => ⟨S1x16384x8x64, .f32⟩
  | .hbm, ⟨44, _⟩ => ⟨S16384x512, .f32⟩
  | .hbm, ⟨45, _⟩ => ⟨S1x16384x8x64, .f32⟩
  | .hbm, ⟨46, _⟩ => ⟨S1x16384x8x64, .f32⟩
  | .hbm, ⟨47, _⟩ => ⟨S1x16384x8, .f32⟩
  | .hbm, ⟨48, _⟩ => ⟨S1x8x16384, .f32⟩
  | .hbm, ⟨49, _⟩ => ⟨S16384, .i32⟩
  | .hbm, ⟨50, _⟩ => ⟨S1x8x16384x16384, .f32⟩
  | .hbm, ⟨51, _⟩ => ⟨S1x8x16384x1, .f32⟩
  | .hbm, ⟨52, _⟩ => ⟨S1x8x16384x16384, .f32⟩
  | .hbm, ⟨53, _⟩ => ⟨S1x8x16384x16384, .f32⟩
  | .hbm, ⟨54, _⟩ => ⟨S1x8x1x16384, .f32⟩
  | .hbm, ⟨55, _⟩ => ⟨S1x8x16384x16384, .f32⟩
  | .hbm, ⟨56, _⟩ => ⟨S1x8x16384x16384, .f32⟩
  | .hbm, ⟨57, _⟩ => ⟨S1x16384, .i32⟩
  | .hbm, ⟨58, _⟩ => ⟨S16384x1, .i32⟩
  | .hbm, ⟨59, _⟩ => ⟨S16384x16384, .i32⟩
  | .hbm, ⟨60, _⟩ => ⟨S16384x16384, .i32⟩
  | .hbm, ⟨61, _⟩ => ⟨S16384x16384, .i1⟩
  | .hbm, ⟨62, _⟩ => ⟨S_, .f32⟩
  | .hbm, ⟨63, _⟩ => ⟨S_, .f32⟩
  | .hbm, ⟨64, _⟩ => ⟨S1x8x16384x16384, .i1⟩
  | .hbm, ⟨65, _⟩ => ⟨S1x8x16384x16384, .f32⟩
  | .hbm, ⟨66, _⟩ => ⟨S1x8x16384x16384, .f32⟩
  | .hbm, ⟨67, _⟩ => ⟨S_, .f32⟩
  | .hbm, ⟨68, _⟩ => ⟨S1x8x16384, .f32⟩
  | .hbm, ⟨69, _⟩ => ⟨S1x8x16384x1, .f32⟩
  | .hbm, ⟨70, _⟩ => ⟨S1x8x16384x16384, .f32⟩
  | .hbm, ⟨71, _⟩ => ⟨S1x8x16384x16384, .f32⟩
  | .hbm, ⟨72, _⟩ => ⟨S1x8x16384x16384, .f32⟩
  | .hbm, ⟨73, _⟩ => ⟨S_, .f32⟩
  | .hbm, ⟨74, _⟩ => ⟨S1x8x16384, .f32⟩
  | .hbm, ⟨75, _⟩ => ⟨S1x8x16384, .f32⟩
  | .hbm, ⟨76, _⟩ => ⟨S1x8x16384, .f32⟩
  | .hbm, ⟨77, _⟩ => ⟨S8x16384, .f32⟩
  | .hbm, ⟨78, _⟩ => ⟨S8x16384, .f32⟩
  | .hbm, ⟨79, _⟩ => ⟨S8x16384, .f32⟩
  | .hbm, ⟨80, _⟩ => ⟨S16384x512, .f32⟩
  | .hbm, ⟨81, _⟩ => ⟨S16384x8x64, .f32⟩
  | .hbm, ⟨82, _⟩ => ⟨S_, .f32⟩
  | .hbm, ⟨83, _⟩ => ⟨S16384x8, .f32⟩
  | .hbm, ⟨84, _⟩ => ⟨S16384x512, .bf16⟩
  | .hbm, ⟨85, _⟩ => ⟨S16384x512, .bf16⟩
  | .hbm, ⟨86, _⟩ => ⟨S16384x512, .bf16⟩
  | .hbm, ⟨87, _⟩ => ⟨S8x16384, .f32⟩
  | .hbm, ⟨88, _⟩ => ⟨S8x16384, .f32⟩
  | .hbm, ⟨89, _⟩ => ⟨S8x32x512, .f32⟩
  | .hbm, ⟨90, _⟩ => ⟨S16384x512, .bf16⟩
  | .hbm, ⟨91, _⟩ => ⟨S8x32x512, .f32⟩
  | .hbm, ⟨92, _⟩ => ⟨S8x16384, .f32⟩
  | .hbm, ⟨93, _⟩ => ⟨S8x32x512, .f32⟩
  | .hbm, ⟨94, _⟩ => ⟨S16384x512, .f32⟩
  | .hbm, ⟨95, _⟩ => ⟨S16384x512, .f32⟩
  | .hbm, ⟨96, _⟩ => ⟨S8x32x1x512, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S8x32x512, .f32⟩
  | .local _ .vmem, ⟨9, _⟩ => ⟨S8x32x512, .f32⟩
  | .local _ .vmem, ⟨10, _⟩ => ⟨S8x32x512, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S2x1x1x512, .f32⟩
  | .local _ .vmem, ⟨16, _⟩ => ⟨S2x1x1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75_0 : Ref sig .tc := ⟨.hbm, 94, rfl⟩
abbrev main_v75_1 : Ref sig .tc := ⟨.hbm, 95, rfl⟩
abbrev main_v75_2 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 32], ![false, false]⟩

def k0_off1 (i : grid0.Coords) (c0_i32 : BitVec 32) : Fin 3 → Nat :=
  let c2_i32 : BitVec 32 := 2#32
  let arg0 : BitVec 32 := BitVec.ofNat 32 (i 0).val
  let v27 : BitVec 32 := Scalar.muli c2_i32 arg0
  let v28 : BitVec 32 := Scalar.addi v27 c0_i32
  let v29 : Index := Scalar.indexCast v28
  let arg1 : BitVec 32 := BitVec.ofNat 32 (i 1).val
  let v30 : Index := Scalar.indexCast arg1
  let c0_7 : Index := 0#32
  ![v29.toNat, v30.toNat, 0]
def k0_mult1 (i : grid0.Coords) : BitVec 32 :=
  let arg1 : BitVec 32 := BitVec.ofNat 32 (i 1).val
  let c512_i32 : BitVec 32 := 512#32
  let v49 : BitVec 32 := Scalar.muli arg1 c512_i32
  v49
def k0_off2 (i : grid0.Coords) : Fin 2 → Nat :=
  let arg1 : BitVec 32 := BitVec.ofNat 32 (i 1).val
  let c512_i32 : BitVec 32 := 512#32
  let v49 : BitVec 32 := Scalar.muli arg1 c512_i32
  let v50 : BitVec 32 := v49
  let v51 : Index := Scalar.indexCast v50
  let c0_12 : Index := 0#32
  ![v51.toNat, 0]
@[reducible] def k0_t1_loop (i : grid0.Coords) : Scf.Loop 32 :=
  let arg1 : BitVec 32 := BitVec.ofNat 32 (i 1).val
  let c1_i32_38 : BitVec 32 := 1#32
  let v137 : BitVec 32 := Scalar.addi arg1 c1_i32_38
  let c32_i32 : BitVec 32 := 32#32
  let v138 : BitVec 32 := Scalar.subi c32_i32 v137
  let c1_i32_39 : BitVec 32 := 1#32
  let v140 : BitVec 32 := Scalar.divsi v138 c1_i32_39
  let v141 : BitVec 32 := Scalar.muli v140 c1_i32_39
  let v142 : BitVec 32 := Scalar.addi v137 v141
  let c1_i32_40 : BitVec 32 := 1#32
  ⟨v137, v142, c1_i32_40⟩
def k0_mult2 (i : grid0.Coords) (k0_t1 : Fin (k0_t1_loop i).trips) : BitVec 32 :=
  let arg1 : BitVec 32 := BitVec.ofNat 32 (i 1).val
  let c1_i32_38 : BitVec 32 := 1#32
  let v137 : BitVec 32 := Scalar.addi arg1 c1_i32_38
  let c1_i32_40 : BitVec 32 := 1#32
  let arg12 : BitVec 32 := Scf.iv v137 c1_i32_40 k0_t1
  let c512_i32_53 : BitVec 32 := 512#32
  let v161 : BitVec 32 := Scalar.muli arg12 c512_i32_53
  v161
def k0_off3 (i : grid0.Coords) (k0_t1 : Fin (k0_t1_loop i).trips) : Fin 2 → Nat :=
  let arg1 : BitVec 32 := BitVec.ofNat 32 (i 1).val
  let c1_i32_38 : BitVec 32 := 1#32
  let v137 : BitVec 32 := Scalar.addi arg1 c1_i32_38
  let c1_i32_40 : BitVec 32 := 1#32
  let arg12 : BitVec 32 := Scf.iv v137 c1_i32_40 k0_t1
  let c512_i32_53 : BitVec 32 := 512#32
  let v161 : BitVec 32 := Scalar.muli arg12 c512_i32_53
  let v162 : BitVec 32 := v161
  let v163 : Index := Scalar.indexCast v162
  let c0_54 : Index := 0#32
  ![v163.toNat, 0]
def k0_off4 (i : grid0.Coords) (k0_t1 : Fin (k0_t1_loop i).trips) (c0_i32_57 : BitVec 32) : Fin 3 → Nat :=
  let c2_i32_56 : BitVec 32 := 2#32
  let arg0 : BitVec 32 := BitVec.ofNat 32 (i 0).val
  let v169 : BitVec 32 := Scalar.muli c2_i32_56 arg0
  let v170 : BitVec 32 := Scalar.addi v169 c0_i32_57
  let v174 : Index := Scalar.indexCast v170
  let arg1 : BitVec 32 := BitVec.ofNat 32 (i 1).val
  let c1_i32_38 : BitVec 32 := 1#32
  let v137 : BitVec 32 := Scalar.addi arg1 c1_i32_38
  let c1_i32_40 : BitVec 32 := 1#32
  let arg12 : BitVec 32 := Scf.iv v137 c1_i32_40 k0_t1
  let v175 : Index := Scalar.indexCast arg12
  let c0_59 : Index := 0#32
  ![v174.toNat, v175.toNat, 0]
@[reducible] def k0_t2_loop (i : grid0.Coords) : Scf.Loop 32 :=
  let arg1 : BitVec 32 := BitVec.ofNat 32 (i 1).val
  let c1_i32_38 : BitVec 32 := 1#32
  let v137 : BitVec 32 := Scalar.addi arg1 c1_i32_38
  let c32_i32 : BitVec 32 := 32#32
  let v138 : BitVec 32 := Scalar.subi c32_i32 v137
  let c1_i32_39 : BitVec 32 := 1#32
  let v140 : BitVec 32 := Scalar.divsi v138 c1_i32_39
  let v141 : BitVec 32 := Scalar.muli v140 c1_i32_39
  let v142 : BitVec 32 := Scalar.addi v137 v141
  let v139 : BitVec 32 := Scalar.addi v137 v138
  let c1_i32_41 : BitVec 32 := 1#32
  ⟨v142, v139, c1_i32_41⟩
def k0_mult3 (i : grid0.Coords) (k0_t2 : Fin (k0_t2_loop i).trips) : BitVec 32 :=
  let arg1 : BitVec 32 := BitVec.ofNat 32 (i 1).val
  let c1_i32_38 : BitVec 32 := 1#32
  let v137 : BitVec 32 := Scalar.addi arg1 c1_i32_38
  let c32_i32 : BitVec 32 := 32#32
  let v138 : BitVec 32 := Scalar.subi c32_i32 v137
  let c1_i32_39 : BitVec 32 := 1#32
  let v140 : BitVec 32 := Scalar.divsi v138 c1_i32_39
  let v141 : BitVec 32 := Scalar.muli v140 c1_i32_39
  let v142 : BitVec 32 := Scalar.addi v137 v141
  let c1_i32_41 : BitVec 32 := 1#32
  let arg12 : BitVec 32 := Scf.iv v142 c1_i32_41 k0_t2
  let c512_i32_53 : BitVec 32 := 512#32
  let v161 : BitVec 32 := Scalar.muli arg12 c512_i32_53
  v161
def k0_off5 (i : grid0.Coords) (k0_t2 : Fin (k0_t2_loop i).trips) : Fin 2 → Nat :=
  let arg1 : BitVec 32 := BitVec.ofNat 32 (i 1).val
  let c1_i32_38 : BitVec 32 := 1#32
  let v137 : BitVec 32 := Scalar.addi arg1 c1_i32_38
  let c32_i32 : BitVec 32 := 32#32
  let v138 : BitVec 32 := Scalar.subi c32_i32 v137
  let c1_i32_39 : BitVec 32 := 1#32
  let v140 : BitVec 32 := Scalar.divsi v138 c1_i32_39
  let v141 : BitVec 32 := Scalar.muli v140 c1_i32_39
  let v142 : BitVec 32 := Scalar.addi v137 v141
  let c1_i32_41 : BitVec 32 := 1#32
  let arg12 : BitVec 32 := Scf.iv v142 c1_i32_41 k0_t2
  let c512_i32_53 : BitVec 32 := 512#32
  let v161 : BitVec 32 := Scalar.muli arg12 c512_i32_53
  let v162 : BitVec 32 := v161
  let v163 : Index := Scalar.indexCast v162
  let c0_54 : Index := 0#32
  ![v163.toNat, 0]
def k0_off6 (i : grid0.Coords) (k0_t2 : Fin (k0_t2_loop i).trips) (c0_i32_57 : BitVec 32) : Fin 3 → Nat :=
  let c2_i32_56 : BitVec 32 := 2#32
  let arg0 : BitVec 32 := BitVec.ofNat 32 (i 0).val
  let v169 : BitVec 32 := Scalar.muli c2_i32_56 arg0
  let v170 : BitVec 32 := Scalar.addi v169 c0_i32_57
  let v174 : Index := Scalar.indexCast v170
  let arg1 : BitVec 32 := BitVec.ofNat 32 (i 1).val
  let c1_i32_38 : BitVec 32 := 1#32
  let v137 : BitVec 32 := Scalar.addi arg1 c1_i32_38
  let c32_i32 : BitVec 32 := 32#32
  let v138 : BitVec 32 := Scalar.subi c32_i32 v137
  let c1_i32_39 : BitVec 32 := 1#32
  let v140 : BitVec 32 := Scalar.divsi v138 c1_i32_39
  let v141 : BitVec 32 := Scalar.muli v140 c1_i32_39
  let v142 : BitVec 32 := Scalar.addi v137 v141
  let c1_i32_41 : BitVec 32 := 1#32
  let arg12 : BitVec 32 := Scf.iv v142 c1_i32_41 k0_t2
  let v175 : Index := Scalar.indexCast arg12
  let c0_59 : Index := 0#32
  ![v174.toNat, v175.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16384x512 : Shape := ⟨2, ![16384, 512]⟩
abbrev S16384x8 : Shape := ⟨2, ![16384, 8]⟩
abbrev S1x16384x8x64 : Shape := ⟨4, ![1, 16384, 8, 64]⟩
abbrev S1x16384x8 : Shape := ⟨3, ![1, 16384, 8]⟩
abbrev S1x8x16384 : Shape := ⟨3, ![1, 8, 16384]⟩
abbrev S16384 : Shape := ⟨1, ![16384]⟩
abbrev S1x8x16384x16384 : Shape := ⟨4, ![1, 8, 16384, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x64x16384 : Shape := ⟨4, ![1, 8, 64, 16384]⟩
abbrev S8x16384 : Shape := ⟨2, ![8, 16384]⟩
abbrev S1x8x16384x64 : Shape := ⟨4, ![1, 8, 16384, 64]⟩
abbrev S8x32x1x512 : Shape := ⟨4, ![8, 32, 1, 512]⟩

abbrev nBuf : Space → Nat
  | .hbm => 120
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S1x16384x8x64, .f32⟩
  | .hbm, ⟨6, _⟩ => ⟨S1x16384x8x64, .f32⟩
  | .hbm, ⟨7, _⟩ => ⟨S1x16384x8, .f32⟩
  | .hbm, ⟨8, _⟩ => ⟨S1x8x16384, .f32⟩
  | .hbm, ⟨9, _⟩ => ⟨S16384, .i32⟩
  | .hbm, ⟨10, _⟩ => ⟨S1x8x16384x16384, .f32⟩
  | .hbm, ⟨11, _⟩ => ⟨S1x8x16384x1, .f32⟩
  | .hbm, ⟨12, _⟩ => ⟨S1x8x16384x16384, .f32⟩
  | .hbm, ⟨13, _⟩ => ⟨S1x8x16384x16384, .f32⟩
  | .hbm, ⟨14, _⟩ => ⟨S1x8x1x16384, .f32⟩
  | .hbm, ⟨15, _⟩ => ⟨S1x8x16384x16384, .f32⟩
  | .hbm, ⟨16, _⟩ => ⟨S1x8x16384x16384, .f32⟩
  | .hbm, ⟨17, _⟩ => ⟨S1x16384, .i32⟩
  | .hbm, ⟨18, _⟩ => ⟨S16384x1, .i32⟩
  | .hbm, ⟨19, _⟩ => ⟨S16384x16384, .i32⟩
  | .hbm, ⟨20, _⟩ => ⟨S16384x16384, .i32⟩
  | .hbm, ⟨21, _⟩ => ⟨S16384x16384, .i1⟩
  | .hbm, ⟨22, _⟩ => ⟨S_, .f32⟩
  | .hbm, ⟨23, _⟩ => ⟨S_, .f32⟩
  | .hbm, ⟨24, _⟩ => ⟨S1x8x16384x16384, .i1⟩
  | .hbm, ⟨25, _⟩ => ⟨S1x8x16384x16384, .f32⟩
  | .hbm, ⟨26, _⟩ => ⟨S1x8x16384x16384, .f32⟩
  | .hbm, ⟨27, _⟩ => ⟨S_, .f32⟩
  | .hbm, ⟨28, _⟩ => ⟨S1x8x16384x16384, .f32⟩
  | .hbm, ⟨29, _⟩ => ⟨S_, .f32⟩
  | .hbm, ⟨30, _⟩ => ⟨S1x8x16384, .f32⟩
  | .hbm, ⟨31, _⟩ => ⟨S1x8x16384x1, .f32⟩
  | .hbm, ⟨32, _⟩ => ⟨S1x8x16384x16384, .f32⟩
  | .hbm, ⟨33, _⟩ => ⟨S1x8x16384x16384, .i1⟩
  | .hbm, ⟨34, _⟩ => ⟨S1x8x16384x16384, .f32⟩
  | .hbm, ⟨35, _⟩ => ⟨S_, .f32⟩
  | .hbm, ⟨36, _⟩ => ⟨S1x8x16384, .f32⟩
  | .hbm, ⟨37, _⟩ => ⟨S_, .f32⟩
  | .hbm, ⟨38, _⟩ => ⟨S1x8x16384, .f32⟩
  | .hbm, ⟨39, _⟩ => ⟨S1x8x16384, .f32⟩
  | .hbm, ⟨40, _⟩ => ⟨S_, .f32⟩
  | .hbm, ⟨41, _⟩ => ⟨S1x8x16384, .f32⟩
  | .hbm, ⟨42, _⟩ => ⟨S1x8x16384, .i1⟩
  | .hbm, ⟨43, _⟩ => ⟨S_, .f32⟩
  | .hbm, ⟨44, _⟩ => ⟨S1x8x16384, .f32⟩
  | .hbm, ⟨45, _⟩ => ⟨S1x8x16384, .i1⟩
  | .hbm, ⟨46, _⟩ => ⟨S_, .f32⟩
  | .hbm, ⟨47, _⟩ => ⟨S1x8x16384, .f32⟩
  | .hbm, ⟨48, _⟩ => ⟨S_, .f32⟩
  | .hbm, ⟨49, _⟩ => ⟨S1x8x16384, .f32⟩
  | .hbm, ⟨50, _⟩ => ⟨S_, .f32⟩
  | .hbm, ⟨51, _⟩ => ⟨S1x8x16384, .f32⟩
  | .hbm, ⟨52, _⟩ => ⟨S1x8x16384, .f32⟩
  | .hbm, ⟨53, _⟩ => ⟨S1x8x16384, .f32⟩
  | .hbm, ⟨54, _⟩ => ⟨S1x8x16384x1, .f32⟩
  | .hbm, ⟨55, _⟩ => ⟨S1x8x16384x16384, .f32⟩
  | .hbm, ⟨56, _⟩ => ⟨S1x8x16384x16384, .f32⟩
  | .hbm, ⟨57, _⟩ => ⟨S1x8x16384x16384, .f32⟩
  | .hbm, ⟨58, _⟩ => ⟨S_, .f32⟩
  | .hbm, ⟨59, _⟩ => ⟨S1x8x16384, .f32⟩
  | .hbm, ⟨60, _⟩ => ⟨S1x8x16384x1, .f32⟩
  | .hbm, ⟨61, _⟩ => ⟨S1x8x16384x16384, .f32⟩
  | .hbm, ⟨62, _⟩ => ⟨S1x8x16384x16384, .f32⟩
  | .hbm, ⟨63, _⟩ => ⟨S1x8x16384x1, .f32⟩
  | .hbm, ⟨64, _⟩ => ⟨S_, .f32⟩
  | .hbm, ⟨65, _⟩ => ⟨S1x8x16384x1, .f32⟩
  | .hbm, ⟨66, _⟩ => ⟨S1x8x16384x1, .f32⟩
  | .hbm, ⟨67, _⟩ => ⟨S1x16384x8x64, .f32⟩
  | .hbm, ⟨68, _⟩ => ⟨S1x8x64x16384, .f32⟩
  | .hbm, ⟨69, _⟩ => ⟨S1x16384x8x64, .f32⟩
  | .hbm, ⟨70, _⟩ => ⟨S16384x512, .f32⟩
  | .hbm, ⟨71, _⟩ => ⟨S1x16384x8x64, .f32⟩
  | .hbm, ⟨72, _⟩ => ⟨S1x8x64x16384, .f32⟩
  | .hbm, ⟨73, _⟩ => ⟨S1x8x16384x16384, .f32⟩
  | .hbm, ⟨74, _⟩ => ⟨S1x8x64x16384, .f32⟩
  | .hbm, ⟨75, _⟩ => ⟨S1x16384x8x64, .f32⟩
  | .hbm, ⟨76, _⟩ => ⟨S16384x512, .f32⟩
  | .hbm, ⟨77, _⟩ => ⟨S1x8x16384x16384, .f32⟩
  | .hbm, ⟨78, _⟩ => ⟨S1x8x16384x16384, .f32⟩
  | .hbm, ⟨79, _⟩ => ⟨S1x8x16384x16384, .f32⟩
  | .hbm, ⟨80, _⟩ => ⟨S_, .f32⟩
  | .hbm, ⟨81, _⟩ => ⟨S1x8x16384, .f32⟩
  | .hbm, ⟨82, _⟩ => ⟨S1x8x16384x1, .f32⟩
  | .hbm, ⟨83, _⟩ => ⟨S1x8x16384x1, .f32⟩
  | .hbm, ⟨84, _⟩ => ⟨S1x8x16384x16384, .f32⟩
  | .hbm, ⟨85, _⟩ => ⟨S1x8x16384x16384, .f32⟩
  | .hbm, ⟨86, _⟩ => ⟨S_, .f32⟩
  | .hbm, ⟨87, _⟩ => ⟨S8x16384, .f32⟩
  | .hbm, ⟨88, _⟩ => ⟨S1x8x16384, .f32⟩
  | .hbm, ⟨89, _⟩ => ⟨S1x8x16384x16384, .f32⟩
  | .hbm, ⟨90, _⟩ => ⟨S1x8x16384x16384, .f32⟩
  | .hbm, ⟨91, _⟩ => ⟨S1x8x16384x16384, .f32⟩
  | .hbm, ⟨92, _⟩ => ⟨S_, .f32⟩
  | .hbm, ⟨93, _⟩ => ⟨S1x8x16384x16384, .f32⟩
  | .hbm, ⟨94, _⟩ => ⟨S1x8x16384x16384, .f32⟩
  | .hbm, ⟨95, _⟩ => ⟨S1x8x16384x16384, .f32⟩
  | .hbm, ⟨96, _⟩ => ⟨S_, .f32⟩
  | .hbm, ⟨97, _⟩ => ⟨S1x8x16384, .f32⟩
  | .hbm, ⟨98, _⟩ => ⟨S1x8x1x16384, .f32⟩
  | .hbm, ⟨99, _⟩ => ⟨S_, .f32⟩
  | .hbm, ⟨100, _⟩ => ⟨S8x16384, .f32⟩
  | .hbm, ⟨101, _⟩ => ⟨S1x8x16384, .f32⟩
  | .hbm, ⟨102, _⟩ => ⟨S_, .f32⟩
  | .hbm, ⟨103, _⟩ => ⟨S1x8x16384, .f32⟩
  | .hbm, ⟨104, _⟩ => ⟨S1x8x16384x1, .f32⟩
  | .hbm, ⟨105, _⟩ => ⟨S_, .f32⟩
  | .hbm, ⟨106, _⟩ => ⟨S8x16384, .f32⟩
  | .hbm, ⟨107, _⟩ => ⟨S1x8x16384, .f32⟩
  | .hbm, ⟨108, _⟩ => ⟨S1x8x16384, .f32⟩
  | .hbm, ⟨109, _⟩ => ⟨S1x8x16384x64, .f32⟩
  | .hbm, ⟨110, _⟩ => ⟨S1x16384x8x64, .f32⟩
  | .hbm, ⟨111, _⟩ => ⟨S1x8x16384x64, .f32⟩
  | .hbm, ⟨112, _⟩ => ⟨S1x16384x8x64, .f32⟩
  | .hbm, ⟨113, _⟩ => ⟨S1x16384x8, .f32⟩
  | .hbm, ⟨114, _⟩ => ⟨S16384x8, .f32⟩
  | .hbm, ⟨115, _⟩ => ⟨S16384x512, .f32⟩
  | .hbm, ⟨116, _⟩ => ⟨S16384x512, .f32⟩
  | .hbm, ⟨117, _⟩ => ⟨S16384x8, .f32⟩
  | .hbm, ⟨118, _⟩ => ⟨S8x16384, .f32⟩
  | .hbm, ⟨119, _⟩ => ⟨S8x32x1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_v17_1 : Ref sig .tc := ⟨.hbm, 24, rfl⟩
abbrev main_call0_v2 : Ref sig .tc := ⟨.hbm, 25, rfl⟩
abbrev main_v17_0 : Ref sig .tc := ⟨.hbm, 26, rfl⟩
abbrev main_call0_cst : Ref sig .tc := ⟨.hbm, 27, rfl⟩
abbrev main_v17_2 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_cst : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Kernel3.lean ====
abbrev S16384x512 : Shape := ⟨2, ![16384, 512]⟩
abbrev S16384x8 : Shape := ⟨2, ![16384, 8]⟩
abbrev S8x16384 : Shape := ⟨2, ![8, 16384]⟩
abbrev S8x32x512 : Shape := ⟨3, ![8, 32, 512]⟩
abbrev S8x32x1x512 : Shape := ⟨4, ![8, 32, 1, 512]⟩
abbrev S512x128 : Shape := ⟨2, ![512, 128]⟩
abbrev S16384x128 : Shape := ⟨2, ![16384, 128]⟩
abbrev S2x1x1x512 : Shape := ⟨4, ![2, 1, 1, 512]⟩
abbrev S512x512 : Shape := ⟨2, ![512, 512]⟩
abbrev S1x128 : Shape := ⟨2, ![1, 128]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S128x512 : Shape := ⟨2, ![128, 512]⟩
abbrev S1x1x1x512 : Shape := ⟨4, ![1, 1, 1, 512]⟩

abbrev nBuf : Space → Nat
  | .hbm => 12
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .bf16⟩
  | .hbm, ⟨5, _⟩ => ⟨S16384x512, .bf16⟩
  | .hbm, ⟨6, _⟩ => ⟨S16384x512, .bf16⟩
  | .hbm, ⟨7, _⟩ => ⟨S8x16384, .f32⟩
  | .hbm, ⟨8, _⟩ => ⟨S8x16384, .f32⟩
  | .hbm, ⟨9, _⟩ => ⟨S8x32x512, .f32⟩
  | .hbm, ⟨10, _⟩ => ⟨S16384x512, .f32⟩
  | .hbm, ⟨11, _⟩ => ⟨S8x32x1x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S8x32x512, .f32⟩
  | .local _ .vmem, ⟨7, _⟩ => ⟨S512x128, .f32⟩
  | .local _ .vmem, ⟨8, _⟩ => ⟨S512x128, .f32⟩
  | .local _ .vmem, ⟨9, _⟩ => ⟨S2x1x1x512, .f32⟩
  | .local _ .vmem, ⟨10, _⟩ => ⟨S2x1x1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_8 : BitVec 32 := 1#32
  ⟨c0_i32, v26, c1_i32_8⟩
def k0_mult1 (i : grid0.Coords) (k0_t1 : Fin (k0_t1_loop i).trips) : BitVec 32 :=
  let c0_i32 : BitVec 32 := 0#32
  let c1_i32_8 : BitVec 32 := 1#32
  let arg8 : BitVec 32 := Scf.iv c0_i32 c1_i32_8 k0_t1
  let c512_i32_40 : BitVec 32 := 512#32
  let v140 : BitVec 32 := Scalar.muli arg8 c512_i32_40
  v140
def k0_off1 (i : grid0.Coords) (k0_t1 : Fin (k0_t1_loop i).trips) : Fin 2 → Nat :=
  let c0_i32 : BitVec 32 := 0#32
  let c1_i32_8 : BitVec 32 := 1#32
  let arg8 : BitVec 32 := Scf.iv c0_i32 c1_i32_8 k0_t1
  let c512_i32_40 : BitVec 32 := 512#32
  let v140 : BitVec 32 := Scalar.muli arg8 c512_i32_40
  let v141 : BitVec 32 := v140
  let v142 : Index := Scalar.indexCast v141
  let c0_41 : Index := 0#32
  ![v142.toNat, 0]
def k0_off2 (i : grid0.Coords) (k0_t1 : Fin (k0_t1_loop i).trips) (c0_i32_45 : BitVec 32) : Fin 3 → Nat :=
  let c2_i32_44 : BitVec 32 := 2#32
  let arg0 : BitVec 32 := BitVec.ofNat 32 (i 0).val
  let v149 : BitVec 32 := Scalar.muli c2_i32_44 arg0
  let v150 : BitVec 32 := Scalar.addi v149 c0_i32_45
  let v151 : Index := Scalar.indexCast v150
  let c0_i32 : BitVec 32 := 0#32
  let c1_i32_8 : BitVec 32 := 1#32
  let arg8 : BitVec 32 := Scf.iv c0_i32 c1_i32_8 k0_t1
  let v152 : Index := Scalar.indexCast arg8
  let c0_46 : Index := 0#32
  ![v151.toNat, v152.toNat, 0]
@[reducible] def k0_t2_loop (i : grid0.Coords) : Scf.Loop 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let v23 : BitVec 32 := Scalar.addi c0_i32 v22
  let c1_i32_9 : BitVec 32 := 1#32
  ⟨v26, v23, c1_i32_9⟩
def k0_mult2 (i : grid0.Coords) (k0_t2 : Fin (k0_t2_loop i).trips) : BitVec 32 :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_9 : BitVec 32 := 1#32
  let arg8 : BitVec 32 := Scf.iv v26 c1_i32_9 k0_t2
  let c512_i32_40 : BitVec 32 := 512#32
  let v140 : BitVec 32 := Scalar.muli arg8 c512_i32_40
  v140
def k0_off3 (i : grid0.Coords) (k0_t2 : Fin (k0_t2_loop i).trips) : Fin 2 → Nat :=
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_9 : BitVec 32 := 1#32
  let arg8 : BitVec 32 := Scf.iv v26 c1_i32_9 k0_t2
  let c512_i32_40 : BitVec 32 := 512#32
  let v140 : BitVec 32 := Scalar.muli arg8 c512_i32_40
  let v141 : BitVec 32 := v140
  let v142 : Index := Scalar.indexCast v141
  let c0_41 : Index := 0#32
  ![v142.toNat, 0]
def k0_off4 (i : grid0.Coords) (k0_t2 : Fin (k0_t2_loop i).trips) (c0_i32_45 : BitVec 32) : Fin 3 → Nat :=
  let c2_i32_44 : BitVec 32 := 2#32
  let arg0 : BitVec 32 := BitVec.ofNat 32 (i 0).val
  let v149 : BitVec 32 := Scalar.muli c2_i32_44 arg0
  let v150 : BitVec 32 := Scalar.addi v149 c0_i32_45
  let v151 : Index := Scalar.indexCast v150
  let c0_i32 : BitVec 32 := 0#32
  let arg1 : BitVec 32 := BitVec.ofNat 32 (i 1).val
  let v22 : BitVec 32 := Scalar.subi arg1 c0_i32
  let c1_i32 : BitVec 32 := 1#32
  let v24 : BitVec 32 := Scalar.divsi v22 c1_i32
  let v25 : BitVec 32 := Scalar.muli v24 c1_i32
  let v26 : BitVec 32 := Scalar.addi c0_i32 v25
  let c1_i32_9 : BitVec 32 := 1#32
  let arg8 : BitVec 32 := Scf.iv v26 c1_i32_9 k0_t2
  let v152 : Index := Scalar.indexCast arg8
  let c0_46 : Index := 0#32
  ![v151.toNat, v152.toNat, 0]
def k0_mult3 (i : grid0.Coords) : BitVec 32 :=
  let arg1 : BitVec 32 := BitVec.ofNat 32 (i 1).val
  let c512_i32 : BitVec 32 := 512#32
  let v29 : BitVec 32 := Scalar.muli arg1 c512_i32
  v29
def k0_off5 (i : grid0.Coords) : Fin 2 → Nat :=
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  let c0_10 : Index := 0#32
  ![v31.toNat, 0]
def k0_off6 (i : grid0.Coords) (c0_i32_13 : BitVec 32) : Fin 3 → Nat :=
  let c2_i32 : BitVec 32 := 2#32
  let arg0 : BitVec 32 := BitVec.ofNat 32 (i 0).val
  let v38 : BitVec 32 := Scalar.muli c2_i32 arg0
  let v39 : BitVec 32 := Scalar.addi v38 c0_i32_13
  let v40 : Index := Scalar.indexCast v39
  let arg1 : BitVec 32 := BitVec.ofNat 32 (i 1).val
  let v41 : Index := Scalar.indexCast arg1
  let c0_14 : Index := 0#32
  ![v40.toNat, v41.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S16384x512 : Shape := ⟨2, ![16384, 512]⟩
abbrev S16384x8 : Shape := ⟨2, ![16384, 8]⟩
abbrev S1x16384x8x64 : Shape := ⟨4, ![1, 16384, 8, 64]⟩
abbrev S1x16384x8 : Shape := ⟨3, ![1, 16384, 8]⟩
abbrev S1x8x16384 : Shape := ⟨3, ![1, 8, 16384]⟩
abbrev S16384 : Shape := ⟨1, ![16384]⟩
abbrev S1x8x16384x16384 : Shape := ⟨4, ![1, 8, 16384, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x64x16384 : Shape := ⟨4, ![1, 8, 64, 16384]⟩
abbrev S8x16384 : Shape := ⟨2, ![8, 16384]⟩
abbrev S8x32x1x512 : Shape := ⟨4, ![8, 32, 1, 512]⟩

abbrev nBuf : Space → Nat
  | .hbm => 80
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S1x16384x8x64, .f32⟩
  | .hbm, ⟨5, _⟩ => ⟨S1x16384x8x64, .f32⟩
  | .hbm, ⟨6, _⟩ => ⟨S1x16384x8, .f32⟩
  | .hbm, ⟨7, _⟩ => ⟨S1x8x16384, .f32⟩
  | .hbm, ⟨8, _⟩ => ⟨S16384, .i32⟩
  | .hbm, ⟨9, _⟩ => ⟨S1x8x16384x16384, .f32⟩
  | .hbm, ⟨10, _⟩ => ⟨S1x8x16384x1, .f32⟩
  | .hbm, ⟨11, _⟩ => ⟨S1x8x16384x16384, .f32⟩
  | .hbm, ⟨12, _⟩ => ⟨S1x8x16384x16384, .f32⟩
  | .hbm, ⟨13, _⟩ => ⟨S1x8x1x16384, .f32⟩
  | .hbm, ⟨14, _⟩ => ⟨S1x8x16384x16384, .f32⟩
  | .hbm, ⟨15, _⟩ => ⟨S1x8x16384x16384, .f32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S1x8x16384x16384, .i1⟩
  | .hbm, ⟨24, _⟩ => ⟨S1x8x16384x16384, .f32⟩
  | .hbm, ⟨25, _⟩ => ⟨S1x8x16384x16384, .f32⟩
  | .hbm, ⟨26, _⟩ => ⟨S_, .f32⟩
  | .hbm, ⟨27, _⟩ => ⟨S1x8x16384, .f32⟩
  | .hbm, ⟨28, _⟩ => ⟨S_, .f32⟩
  | .hbm, ⟨29, _⟩ => ⟨S1x8x16384, .f32⟩
  | .hbm, ⟨30, _⟩ => ⟨S1x8x16384, .f32⟩
  | .hbm, ⟨31, _⟩ => ⟨S1x8x16384x1, .f32⟩
  | .hbm, ⟨32, _⟩ => ⟨S1x8x16384x16384, .f32⟩
  | .hbm, ⟨33, _⟩ => ⟨S1x8x16384x16384, .f32⟩
  | .hbm, ⟨34, _⟩ => ⟨S1x8x16384x16384, .f32⟩
  | .hbm, ⟨35, _⟩ => ⟨S_, .f32⟩
  | .hbm, ⟨36, _⟩ => ⟨S1x8x16384, .f32⟩
  | .hbm, ⟨37, _⟩ => ⟨S1x8x16384x1, .f32⟩
  | .hbm, ⟨38, _⟩ => ⟨S1x8x16384x16384, .f32⟩
  | .hbm, ⟨39, _⟩ => ⟨S1x8x16384x16384, .f32⟩
  | .hbm, ⟨40, _⟩ => ⟨S1x16384x8x64, .f32⟩
  | .hbm, ⟨41, _⟩ => ⟨S1x8x64x16384, .f32⟩
  | .hbm, ⟨42, _⟩ => ⟨S1x16384x8x64, .f32⟩
  | .hbm, ⟨43, _⟩ => ⟨S16384x512, .f32⟩
  | .hbm, ⟨44, _⟩ => ⟨S1x16384x8x64, .f32⟩
  | .hbm, ⟨45, _⟩ => ⟨S1x16384x8x64, .f32⟩
  | .hbm, ⟨46, _⟩ => ⟨S1x16384x8, .f32⟩
  | .hbm, ⟨47, _⟩ => ⟨S1x8x16384, .f32⟩
  | .hbm, ⟨48, _⟩ => ⟨S16384, .i32⟩
  | .hbm, ⟨49, _⟩ => ⟨S1x8x16384x16384, .f32⟩
  | .hbm, ⟨50, _⟩ => ⟨S1x8x16384x1, .f32⟩
  | .hbm, ⟨51, _⟩ => ⟨S1x8x16384x16384, .f32⟩
  | .hbm, ⟨52, _⟩ => ⟨S1x8x16384x16384, .f32⟩
  | .hbm, ⟨53, _⟩ => ⟨S1x8x1x16384, .f32⟩
  | .hbm, ⟨54, _⟩ => ⟨S1x8x16384x16384, .f32⟩
  | .hbm, ⟨55, _⟩ => ⟨S1x8x16384x16384, .f32⟩
  | .hbm, ⟨56, _⟩ => ⟨S1x16384, .i32⟩
  | .hbm, ⟨57, _⟩ => ⟨S16384x1, .i32⟩
  | .hbm, ⟨58, _⟩ => ⟨S16384x16384, .i32⟩
  | .hbm, ⟨59, _⟩ => ⟨S16384x16384, .i32⟩
  | .hbm, ⟨60, _⟩ => ⟨S16384x16384, .i1⟩
  | .hbm, ⟨61, _⟩ => ⟨S_, .f32⟩
  | .hbm, ⟨62, _⟩ => ⟨S_, .f32⟩
  | .hbm, ⟨63, _⟩ => ⟨S1x8x16384x16384, .i1⟩
  | .hbm, ⟨64, _⟩ => ⟨S1x8x16384x16384, .f32⟩
  | .hbm, ⟨65, _⟩ => ⟨S1x8x16384x16384, .f32⟩
  | .hbm, ⟨66, _⟩ => ⟨S_, .f32⟩
  | .hbm, ⟨67, _⟩ => ⟨S1x8x16384, .f32⟩
  | .hbm, ⟨68, _⟩ => ⟨S1x8x16384x1, .f32⟩
  | .hbm, ⟨69, _⟩ => ⟨S1x8x16384x16384, .f32⟩
  | .hbm, ⟨70, _⟩ => ⟨S1x8x16384x16384, .f32⟩
  | .hbm, ⟨71, _⟩ => ⟨S1x8x16384x16384, .f32⟩
  | .hbm, ⟨72, _⟩ => ⟨S_, .f32⟩
  | .hbm, ⟨73, _⟩ => ⟨S1x8x16384, .f32⟩
  | .hbm, ⟨74, _⟩ => ⟨S1x8x16384, .f32⟩
  | .hbm, ⟨75, _⟩ => ⟨S1x8x16384, .f32⟩
  | .hbm, ⟨76, _⟩ => ⟨S8x16384, .f32⟩
  | .hbm, ⟨77, _⟩ => ⟨S8x16384, .f32⟩
  | .hbm, ⟨78, _⟩ => ⟨S8x16384, .f32⟩
  | .hbm, ⟨79, _⟩ => ⟨S8x32x1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel4.lean ====
abbrev S16384x1024 : Shape := ⟨2, ![16384, 1024]⟩
abbrev S1024x2816 : Shape := ⟨2, ![1024, 2816]⟩
abbrev S16384x2816 : Shape := ⟨2, ![16384, 2816]⟩
abbrev S1024x1024 : Shape := ⟨2, ![1024, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x1024, .bf16⟩
  | .hbm, ⟨3, _⟩ => ⟨S1024x2816, .bf16⟩
  | .hbm, ⟨4, _⟩ => ⟨S16384x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024x2816 : Shape := ⟨2, ![1024, 2816]⟩
abbrev S16384x2816 : Shape := ⟨2, ![16384, 2816]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel5.lean ====
abbrev S2816x1024 : Shape := ⟨2, ![2816, 1024]⟩
abbrev S16384x1024 : Shape := ⟨2, ![16384, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S16384x1024, .f32⟩
  | .hbm, ⟨2, _⟩ => ⟨S2816x1024, .bf16⟩
  | .hbm, ⟨3, _⟩ => ⟨S16384x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2816x1024 : Shape := ⟨2, ![2816, 1024]⟩
abbrev S16384x1024 : Shape := ⟨2, ![16384, 1024]⟩
abbrev S_ : Shape := ⟨0, ![]⟩
abbrev S16384x2816 : Shape := ⟨2, ![16384, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S16384x1024, .f32⟩
  | .hbm, ⟨2, _⟩ => ⟨S_, .f32⟩
  | .hbm, ⟨3, _⟩ => ⟨S16384x2816, .f32⟩
  | .hbm, ⟨4, _⟩ => ⟨S16384x1024, .f32⟩
  | .hbm, ⟨5, _⟩ => ⟨S16384x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S1024x2816 : Shape := ⟨2, ![1024, 2816]⟩
abbrev S16384x2816 : Shape := ⟨2, ![16384, 2816]⟩
abbrev S16384x1024 : Shape := ⟨2, ![16384, 1024]⟩
abbrev S1024x1408 : Shape := ⟨2, ![1024, 1408]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x2816, .f32⟩
  | .hbm, ⟨1, _⟩ => ⟨S16384x2816, .f32⟩
  | .hbm, ⟨2, _⟩ => ⟨S16384x2816, .bf16⟩
  | .hbm, ⟨3, _⟩ => ⟨S1024x2816, .bf16⟩
  | .hbm, ⟨4, _⟩ => ⟨S16384x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x2816 : Shape := ⟨2, ![1024, 2816]⟩
abbrev S16384x2816 : Shape := ⟨2, ![16384, 2816]⟩
abbrev S_ : Shape := ⟨0, ![]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S16384x2816, .f32⟩
  | .hbm, ⟨2, _⟩ => ⟨S_, .f32⟩
  | .hbm, ⟨3, _⟩ => ⟨S16384x1024, .f32⟩
  | .hbm, ⟨4, _⟩ => ⟨S16384x2816, .f32⟩
  | .hbm, ⟨5, _⟩ => ⟨S16384x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .bf16⟩
  | .hbm, ⟨5, _⟩ => ⟨S_, .f32⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x1024, .bf16⟩
  | .hbm, ⟨3, _⟩ => ⟨S1024x2048, .bf16⟩
  | .hbm, ⟨4, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S16384x1024 : Shape := ⟨2, ![16384, 1024]⟩
abbrev S16384x2048 : Shape := ⟨2, ![16384, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .bf16⟩
  | .hbm, ⟨3, _⟩ => ⟨S16384x2048, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S_, .f32⟩
  | .hbm, ⟨3, _⟩ => ⟨S1024x2048, .f32⟩
  | .hbm, ⟨4, _⟩ => ⟨S16384x2048, .f32⟩
  | .hbm, ⟨5, _⟩ => ⟨S2048x1024, .f32⟩
  | .hbm, ⟨6, _⟩ => ⟨S1024x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S1024x2048 : Shape := ⟨2, ![1024, 2048]⟩
abbrev S16384x2048 : Shape := ⟨2, ![16384, 2048]⟩
abbrev S16384x1024 : Shape := ⟨2, ![16384, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S16384x2048, .f32⟩
  | .hbm, ⟨2, _⟩ => ⟨S16384x2048, .bf16⟩
  | .hbm, ⟨3, _⟩ => ⟨S1024x2048, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S1024x2048 : Shape := ⟨2, ![1024, 2048]⟩
abbrev S16384x2048 : Shape := ⟨2, ![16384, 2048]⟩
abbrev S_ : Shape := ⟨0, ![]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S16384x2048, .f32⟩
  | .hbm, ⟨2, _⟩ => ⟨S_, .f32⟩
  | .hbm, ⟨3, _⟩ => ⟨S16384x1024, .f32⟩
  | .hbm, ⟨4, _⟩ => ⟨S16384x2048, .f32⟩
  | .hbm, ⟨5, _⟩ => ⟨S16384x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S16384x1024 : Shape := ⟨2, ![16384, 1024]⟩
abbrev S1024x1536 : Shape := ⟨2, ![1024, 1536]⟩
abbrev S16384x1536 : Shape := ⟨2, ![16384, 1536]⟩
abbrev S1024x1024 : Shape := ⟨2, ![1024, 1024]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1536, .f32⟩
  | .hbm, ⟨2, _⟩ => ⟨S16384x1024, .bf16⟩
  | .hbm, ⟨3, _⟩ => ⟨S1024x1536, .bf16⟩
  | .hbm, ⟨4, _⟩ => ⟨S16384x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x1024 : Shape := ⟨2, ![16384, 1024]⟩
abbrev S1024x1536 : Shape := ⟨2, ![1024, 1536]⟩
abbrev S16384x1536 : Shape := ⟨2, ![16384, 1536]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1536, .f32⟩
  | .hbm, ⟨2, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S16384x1024 : Shape := ⟨2, ![16384, 1024]⟩
abbrev S16384x1536 : Shape := ⟨2, ![16384, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1536, .f32⟩
  | .hbm, ⟨2, _⟩ => ⟨S16384x1024, .bf16⟩
  | .hbm, ⟨3, _⟩ => ⟨S16384x1536, .bf16⟩
  | .hbm, ⟨4, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16384x1024 : Shape := ⟨2, ![16384, 1024]⟩
abbrev S16384x1536 : Shape := ⟨2, ![16384, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1536, .f32⟩
  | .hbm, ⟨2, _⟩ => ⟨S_, .f32⟩
  | .hbm, ⟨3, _⟩ => ⟨S1024x1536, .f32⟩
  | .hbm, ⟨4, _⟩ => ⟨S16384x1536, .f32⟩
  | .hbm, ⟨5, _⟩ => ⟨S1536x1024, .f32⟩
  | .hbm, ⟨6, _⟩ => ⟨S1024x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S1024x1024 : Shape := ⟨2, ![1024, 1024]⟩
abbrev S16384x1024 : Shape := ⟨2, ![16384, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S1024x1024 : Shape := ⟨2, ![1024, 1024]⟩
abbrev S16384x1024 : Shape := ⟨2, ![16384, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S1024x1536 : Shape := ⟨2, ![1024, 1536]⟩
abbrev S16384x1536 : Shape := ⟨2, ![16384, 1536]⟩
abbrev S16384x1024 : Shape := ⟨2, ![16384, 1024]⟩
abbrev S1024x768 : Shape := ⟨2, ![1024, 768]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x1536, .f32⟩
  | .hbm, ⟨1, _⟩ => ⟨S16384x1536, .f32⟩
  | .hbm, ⟨2, _⟩ => ⟨S16384x1024, .f32⟩
  | .hbm, ⟨3, _⟩ => ⟨S16384x1536, .bf16⟩
  | .hbm, ⟨4, _⟩ => ⟨S1024x1536, .bf16⟩
  | .hbm, ⟨5, _⟩ => ⟨S16384x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S1024x1536 : Shape := ⟨2, ![1024, 1536]⟩
abbrev S16384x1536 : Shape := ⟨2, ![16384, 1536]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S16384x1536, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x1536, .f32⟩
  | .hbm, ⟨6, _⟩ => ⟨S16384x1024, .f32⟩
  | .hbm, ⟨7, _⟩ => ⟨S16384x1024, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel19.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x512, .bf16⟩
  | .hbm, ⟨4, _⟩ => ⟨S512x1024, .bf16⟩
  | .hbm, ⟨5, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel20.lean ====
abbrev S16384x512 : Shape := ⟨2, ![16384, 512]⟩
abbrev S512x1024 : Shape := ⟨2, ![512, 1024]⟩
abbrev S16384x1024 : Shape := ⟨2, ![16384, 1024]⟩
abbrev S1024 : Shape := ⟨1, ![1024]⟩
abbrev S1x1024 : Shape := ⟨2, ![1, 1024]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S1024, .f32⟩
  | .hbm, ⟨4, _⟩ => ⟨S512x1024, .bf16⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S16384x512 : Shape := ⟨2, ![16384, 512]⟩
abbrev S512x1024 : Shape := ⟨2, ![512, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel21.lean ====
abbrev S512x1024 : Shape := ⟨2, ![512, 1024]⟩
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S16384x1024, .f32⟩
  | .hbm, ⟨2, _⟩ => ⟨S512x1024, .bf16⟩
  | .hbm, ⟨3, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S512x1024 : Shape := ⟨2, ![512, 1024]⟩
abbrev S16384x1024 : Shape := ⟨2, ![16384, 1024]⟩
abbrev S_ : Shape := ⟨0, ![]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S16384x1024, .f32⟩
  | .hbm, ⟨2, _⟩ => ⟨S_, .f32⟩
  | .hbm, ⟨3, _⟩ => ⟨S16384x512, .f32⟩
  | .hbm, ⟨4, _⟩ => ⟨S16384x1024, .f32⟩
  | .hbm, ⟨5, _⟩ => ⟨S16384x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel22.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .bf16⟩
  | .hbm, ⟨3, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Dkv.FrameWords.lean ====
/-
  The runs of the key- and value-gradient kernel as printed for float words, with the contents of its outputs named: the body's triple at every grid point, the whole run, the frame.
-/
module

public import proofs.«01_k».proof.Proof.Gen.Kernel2.Frame.RunA
public import Idealize.ShloMosaic.Lib.Claim

@[expose] public section

-- membership in a rectangle of production extents (`View.cover_of_tiled`): the elaborator's structural look
-- recurses once per coordinate of the long axes
set_option maxRecDepth 16384

noncomputable section

namespace Cert.Attn.DkvWords

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (1 store of `S512x128`), so they cover it. -/
theorem cover0_A_7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) (y : S512x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S512x128.size (by sl_kernel_rfl) y

/-- What the run leaves in output 7's staging buffer: its pieces read back over junk. -/
def out0_A_7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) : Vec F S512x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

/-- The run's pieces for output 8 tile its block (1 store of `S512x128`), so they cover it. -/
theorem cover0_A_8 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) (y : S512x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.1 S512x128.size (by sl_kernel_rfl) y

/-- What the run leaves in output 8's staging buffer: its pieces read back over junk. -/
def out0_A_8 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) : Vec F S512x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4 x5 x6).2.1)

/-- The run's pieces for output 9 tile its block (2 stores of `S1x1x1x512`), so they cover it. -/
theorem cover0_A_9 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) (y : S2x1x1x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.2.1 S1x1x1x512.size (by sl_kernel_rfl) y

/-- What the run leaves in output 9's staging buffer: its pieces read back over junk. -/
def out0_A_9 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) : Vec F S2x1x1x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 x0 x1 x2 x3 x4 x5 x6).2.2.1)

/-! ## What the outputs hold after each point -/

/-- What the outputs' staging buffers hold after the body at point `t` (as a tuple, in window order): the run's contents at
    the point's memrefs and input blocks. -/
def outsAt0 (c : Dev nD) (t : Fin cfg0.N) : Vec F S512x128 .f32 × Vec F S512x128 .f32 × Vec F S2x1x1x512 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outsAt0
  unfold out0_A_7 out0_A_8 out0_A_9
  have hc7 := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)
  have hc8 := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)
  have hc9 := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)
  revert hc7 hc8 hc9
  generalize kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) = R
  intro hc7 hc8 hc9
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ hc7
  isplitl [H8]
  · unfold owns; iexists _; isplitr
    swap; · iexact H8
    ipureintro; exact View.read_writes_of_cover _ _ _ _ _ hc8
  unfold owns; iexists _; isplitr
  swap; · iexact H9
  ipureintro; exact View.read_writes_of_cover _ _ _ _ _ hc9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Attn.DkvWords

end
-- ==== Proof.Dkv.Frame.lean ====
/-
  The runs of the key- and value-gradient kernel, with the contents of its outputs named: the body's triple at every grid point, the whole run, the frame.
-/
module

public import proofs.«01_k».proof.Proof.Gen.Kernel2Ideal.Frame.RunA
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Attn.Dkv

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 7 tile its block (1 store of `S512x128`), so they cover it. -/
theorem cover0_A_7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) (y : S512x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).1 S512x128.size (by sl_kernel_rfl) y

/-- What the run leaves in output 7's staging buffer: its pieces read back over junk. -/
def out0_A_7 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) : Vec F S512x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 x5 x6).1)

/-- The run's pieces for output 8 tile its block (1 store of `S512x128`), so they cover it. -/
theorem cover0_A_8 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) (y : S512x128.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.1 S512x128.size (by sl_kernel_rfl) y

/-- What the run leaves in output 8's staging buffer: its pieces read back over junk. -/
def out0_A_8 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) : Vec F S512x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4 x5 x6).2.1)

/-- The run's pieces for output 9 tile its block (2 stores of `S1x1x1x512`), so they cover it. -/
theorem cover0_A_9 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) (y : S2x1x1x512.Idx) :
    ∃ pc ∈ (kernelRun0_A c i arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 x5 x6).2.2.1 S1x1x1x512.size (by sl_kernel_rfl) y

/-- What the run leaves in output 9's staging buffer: its pieces read back over junk. -/
def out0_A_9 (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole)
    (x0 : Vec F S512x128 .bf16) (x1 : Vec F S512x128 .bf16) (x2 : Vec F S16384x128 .bf16) (x3 : Vec F S16384x128 .bf16) (x4 : Vec F S8x32x512 .f32) (x5 : Vec F S8x32x512 .f32) (x6 : Vec F S8x32x512 .f32) : Vec F S2x1x1x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 x0 x1 x2 x3 x4 x5 x6).2.2.1)

/-! ## What the outputs hold after each point -/

/-- What the outputs' staging buffers hold after the body at point `t` (as a tuple, in window order): the run's contents at
    the point's memrefs and input blocks. -/
def outsAt0 (c : Dev nD) (t : Fin cfg0.N) : Vec F S512x128 .f32 × Vec F S512x128 .f32 × Vec F S2x1x1x512 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t))

/-! ## The pipeline's proof data -/

/-- The proof data of the one pipeline on core `c`: the arrays as the region finds them (`V`); after the body at
    point `t` each input's buffer at its block and the outputs' at `outsAt0`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t).1 := by dsimp only [dats]
theorem after0_8 (c : Dev nD) (t : Fin cfg0.N) : (dats m 0 c).after 8 t = (outsAt0 m c t).2.1 := by dsimp only [dats]
theorem after0_9 (c : Dev nD) (t : Fin cfg0.N) : (dats m 0 c).after 9 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outsAt0
  unfold out0_A_7 out0_A_8 out0_A_9
  have hc7 := cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)
  have hc8 := cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)
  have hc9 := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t)
  revert hc7 hc8 hc9
  generalize kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) = R
  intro hc7 hc8 hc9
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (R.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ hc7
  isplitl [H8]
  · unfold owns; iexists _; isplitr
    swap; · iexact H8
    ipureintro; exact View.read_writes_of_cover _ _ _ _ _ hc8
  unfold owns; iexists _; isplitr
  swap; · iexact H9
  ipureintro; exact View.read_writes_of_cover _ _ _ _ _ hc9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v75_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v75_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v75_2) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v75_0) = (dats m 0 c).arrAt 7 cfg0.N
      ∧ r.2.mem ((c : Thread nD τ).loc main_v75_1) = (dats m 0 c).arrAt 8 cfg0.N
      ∧ r.2.mem ((c : Thread nD τ).loc main_v75_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.Attn.Dkv

end
-- ==== Proof.Attn.Spec.lean ====
/-
  Causal attention with a forgetting bias and its gradients, for one head, over the real numbers.

  Row `i` attends to the columns `j ≤ i` with score `⟨q_i, k_j⟩ + c_i - c_j`. The softmax of a row does not
  change when a number is added to the whole row, so `c_i` leaves it: `score` is written without it. The
  definitions below are the textbook forward pass and gradients; the theorems are the identities the two
  programs need: the softmax written with any shift, `delta` as a row sum, and a sum over all rows or
  columns cut into blocks.
-/
module

public import Mathlib.Analysis.SpecialFunctions.Log.Basic
public import Mathlib.Algebra.BigOperators.Fin
public import Mathlib.Algebra.BigOperators.Field
public import Mathlib.Tactic.Ring
public import Mathlib.Tactic.FieldSimp
public import Mathlib.Tactic.Positivity

@[expose] public section

noncomputable section

namespace Cert.Attn

open Real

variable {n d : ℕ}

/-- The score of row `i` against column `j`, without the row's own bias. -/
def score (q k : Fin n → Fin d → ℝ) (c : Fin n → ℝ) (i j : Fin n) : ℝ := (∑ e, q i e * k j e) - c j

/-- The sum of the exponentials of a row's visible scores. -/
def mass (q k : Fin n → Fin d → ℝ) (c : Fin n → ℝ) (i : Fin n) : ℝ :=
  ∑ j, if j ≤ i then exp (score q k c i j) else 0

/-- The attention probability. -/
def prob (q k : Fin n → Fin d → ℝ) (c : Fin n → ℝ) (i j : Fin n) : ℝ :=
  if j ≤ i then exp (score q k c i j) / mass q k c i else 0

/-- The attention's output. -/
def out (q k v : Fin n → Fin d → ℝ) (c : Fin n → ℝ) (i : Fin n) (e : Fin d) : ℝ := ∑ j, prob q k c i j * v j e

/-- The logarithm of a row's mass. -/
def lse (q k : Fin n → Fin d → ℝ) (c : Fin n → ℝ) (i : Fin n) : ℝ := log (mass q k c i)

/-- The gradient of a probability: the output's gradient against a value row. -/
def dprob (v g : Fin n → Fin d → ℝ) (i j : Fin n) : ℝ := ∑ e, g i e * v j e

/-- The output against its gradient. -/
def delta (q k v g : Fin n → Fin d → ℝ) (c : Fin n → ℝ) (i : Fin n) : ℝ := ∑ e, out q k v c i e * g i e

/-- The gradient of a score. -/
def dscore (q k v g : Fin n → Fin d → ℝ) (c : Fin n → ℝ) (i j : Fin n) : ℝ :=
  prob q k c i j * (dprob v g i j - delta q k v g c i)

/-- The gradient of `q`. -/
def dq (q k v g : Fin n → Fin d → ℝ) (c : Fin n → ℝ) (i : Fin n) (e : Fin d) : ℝ := ∑ j, dscore q k v g c i j * k j e
/-- The gradient of `k`. -/
def dk (q k v g : Fin n → Fin d → ℝ) (c : Fin n → ℝ) (j : Fin n) (e : Fin d) : ℝ := ∑ i, dscore q k v g c i j * q i e
/-- The gradient of `v`. -/
def dv (q k g : Fin n → Fin d → ℝ) (c : Fin n → ℝ) (j : Fin n) (e : Fin d) : ℝ := ∑ i, prob q k c i j * g i e
/-- A column's sum of score gradients: minus the gradient of its bias. -/
def dn (q k v g : Fin n → Fin d → ℝ) (c : Fin n → ℝ) (j : Fin n) : ℝ := ∑ i, dscore q k v g c i j

variable (q k v g : Fin n → Fin d → ℝ) (c : Fin n → ℝ)

theorem mass_pos (i : Fin n) : 0 < mass q k c i := by
  refine Finset.sum_pos' (fun j _ => ?_) ⟨i, Finset.mem_univ i, ?_⟩
  · split_ifs
    · exact (exp_pos _).le
    · exact le_rfl
  · rw [if_pos le_rfl]; exact exp_pos _

/-- A probability through the row's log-mass, as the kernel computes it. -/
theorem exp_sub_lse (i j : Fin n) : exp (score q k c i j - lse q k c i) = exp (score q k c i j) / mass q k c i := by
  rw [exp_sub, lse, exp_log (mass_pos q k c i)]

theorem prob_of_le {i j : Fin n} (h : j ≤ i) : prob q k c i j = exp (score q k c i j - lse q k c i) := by
  rw [exp_sub_lse, prob, if_pos h]

theorem prob_of_gt {i j : Fin n} (h : ¬ j ≤ i) : prob q k c i j = 0 := if_neg h

theorem sum_prob (i : Fin n) : ∑ j, prob q k c i j = 1 := by
  have h : ∀ j, prob q k c i j = (if j ≤ i then exp (score q k c i j) else 0) / mass q k c i := fun j => by
    unfold prob; split_ifs <;> simp
  simp_rw [h]
  rw [← Finset.sum_div]
  exact div_self (mass_pos q k c i).ne'

/-- The exponentials of the row's scores, all less one number `μ`, and zero where a column is not visible. -/
def expo (μ : ℝ) (i j : Fin n) : ℝ := if j ≤ i then exp ((score q k c i j + c i) - μ) else 0

theorem expo_eq (μ : ℝ) (i j : Fin n) :
    expo q k c μ i j = exp (c i - μ) * (if j ≤ i then exp (score q k c i j) else 0) := by
  unfold expo
  split_ifs
  · rw [← exp_add]; congr 1; ring
  · simp

theorem sum_expo (μ : ℝ) (i : Fin n) : ∑ j, expo q k c μ i j = exp (c i - μ) * mass q k c i := by
  simp_rw [expo_eq]; rw [← Finset.mul_sum]; rfl

theorem sum_expo_pos (μ : ℝ) (i : Fin n) : 0 < ∑ j, expo q k c μ i j := by
  rw [sum_expo]; exact mul_pos (exp_pos _) (mass_pos q k c i)

/-- The softmax does not depend on the number subtracted. -/
theorem expo_div (μ : ℝ) (i j : Fin n) : expo q k c μ i j / ∑ j, expo q k c μ i j = prob q k c i j := by
  rw [sum_expo, expo_eq, mul_div_mul_left _ _ (exp_pos _).ne']
  unfold prob; split_ifs <;> simp

/-- The row's log-mass does not depend on the number subtracted. -/
theorem log_sum_expo (μ : ℝ) (i : Fin n) : μ + log (∑ j, expo q k c μ i j) - c i = lse q k c i := by
  rw [sum_expo, log_mul (exp_pos _).ne' (mass_pos q k c i).ne', log_exp, lse]; ring

/-- The output against its gradient is the row's sum of probabilities against their gradients. -/
theorem delta_eq (i : Fin n) : delta q k v g c i = ∑ j, prob q k c i j * dprob v g i j := by
  unfold delta out dprob
  simp_rw [Finset.sum_mul, Finset.mul_sum]
  rw [Finset.sum_comm]
  refine Finset.sum_congr rfl fun j _ => Finset.sum_congr rfl fun e _ => ?_
  ring

/-- The gradients of one row's scores sum to zero. -/
theorem sum_dscore (i : Fin n) : ∑ j, dscore q k v g c i j = 0 := by
  unfold dscore
  simp_rw [mul_sub]
  rw [Finset.sum_sub_distrib, ← Finset.sum_mul, sum_prob, ← delta_eq, one_mul, sub_self]

theorem dscore_of_gt {i j : Fin n} (h : ¬ j ≤ i) : dscore q k v g c i j = 0 := by
  rw [dscore, prob_of_gt q k c h, zero_mul]

/-- The gradient of a score as the gradient of the quotient of a row's exponentials gives it. -/
theorem dscore_expo (μ : ℝ) (i j : Fin n) :
    (dprob v g i j / (∑ j, expo q k c μ i j)
      + -(∑ j, dprob v g i j * (1 / ((∑ j, expo q k c μ i j) * ∑ j, expo q k c μ i j)) * expo q k c μ i j)) * expo q k c μ i j
      = dscore q k v g c i j := by
  have hl : (∑ j, expo q k c μ i j) ≠ 0 := (sum_expo_pos q k c μ i).ne'
  have h1 : ∑ j, dprob v g i j * (1 / ((∑ j, expo q k c μ i j) * ∑ j, expo q k c μ i j)) * expo q k c μ i j
      = delta q k v g c i / ∑ j, expo q k c μ i j := by
    rw [delta_eq, Finset.sum_div]
    refine Finset.sum_congr rfl fun j _ => ?_
    rw [← expo_div q k c μ i j]; field_simp
  rw [h1, dscore, ← expo_div q k c μ i j]
  field_simp
  ring

/-! ## Sums cut into blocks -/

/-- Row `r` of block `b`, of `B` blocks of `T` rows. -/
def at' {B T : ℕ} (b : Fin B) (r : Fin T) : Fin (B * T) := finProdFinEquiv (b, r)

theorem at'_val {B T : ℕ} (b : Fin B) (r : Fin T) : (at' b r).val = T * b.val + r.val := by
  simp [at', finProdFinEquiv, Nat.add_comm]

theorem sum_at' {M : Type*} [AddCommMonoid M] {B T : ℕ} (f : Fin (B * T) → M) : ∑ j, f j = ∑ b : Fin B, ∑ r : Fin T, f (at' b r) := by
  rw [← Fintype.sum_prod_type' (f := fun b r => f (at' b r)), ← finProdFinEquiv.sum_comp]; rfl

theorem at'_le {B T : ℕ} (b b' : Fin B) (r r' : Fin T) : at' b' r' ≤ at' b r ↔ b' < b ∨ (b' = b ∧ r' ≤ r) := by
  rw [Fin.le_def, at'_val, at'_val, Fin.lt_def, Fin.ext_iff, Fin.le_def]
  have h := r.isLt
  have h' := r'.isLt
  constructor
  · intro hle
    rcases lt_trichotomy b'.val b.val with hb | hb | hb
    · exact Or.inl hb
    · right; rw [hb] at hle; exact ⟨hb, by omega⟩
    · exfalso
      have : T * (b.val + 1) ≤ T * b'.val := Nat.mul_le_mul_left T hb
      rw [Nat.mul_add, Nat.mul_one] at this; omega
  · rintro (hb | ⟨hb, hr⟩)
    · have : T * (b'.val + 1) ≤ T * b.val := Nat.mul_le_mul_left T hb
      rw [Nat.mul_add, Nat.mul_one] at this; omega
    · rw [hb]; omega

/-- A sum over the columns a row of block `b` sees: the blocks before, and the visible part of its own. -/
theorem sum_row {B T : ℕ} (f : Fin (B * T) → ℝ) (b : Fin B) (r : Fin T)
    (h0 : ∀ j, ¬ j ≤ at' b r → f j = 0) :
    ∑ j, f j = (∑ b' ∈ Finset.univ.filter (· < b), ∑ s, f (at' b' s)) + ∑ s, if s ≤ r then f (at' b s) else 0 := by
  rw [sum_at']
  have hb : ∑ s, f (at' b s) = ∑ s, if s ≤ r then f (at' b s) else 0 :=
    Finset.sum_congr rfl fun s _ => by
      split_ifs with h
      · rfl
      · exact h0 _ (by rw [at'_le]; rintro (h1 | ⟨_, h2⟩); exacts [lt_irrefl _ h1, h h2])
  rw [← hb, ← Finset.sum_filter_add_sum_filter_not Finset.univ (· < b) (fun b' => ∑ s, f (at' b' s))]
  congr 1
  rw [Finset.sum_eq_single b]
  · intro b' hb' hne
    refine Finset.sum_eq_zero fun s _ => h0 _ ?_
    rw [at'_le]; rintro (h1 | ⟨h1, _⟩)
    · exact (Finset.mem_filter.mp hb').2 h1
    · exact hne h1
  · intro h; exact absurd (Finset.mem_filter.mpr ⟨Finset.mem_univ b, lt_irrefl b⟩) h

/-- A sum over the rows that see a column of block `b`: the part of its own block, and the blocks after. -/
theorem sum_col {B T : ℕ} (f : Fin (B * T) → ℝ) (b : Fin B) (r : Fin T)
    (h0 : ∀ i, ¬ at' b r ≤ i → f i = 0) :
    ∑ i, f i = (∑ s, if r ≤ s then f (at' b s) else 0) + ∑ b' ∈ Finset.univ.filter (b < ·), ∑ s, f (at' b' s) := by
  rw [sum_at']
  have hb : ∑ s, f (at' b s) = ∑ s, if r ≤ s then f (at' b s) else 0 :=
    Finset.sum_congr rfl fun s _ => by
      split_ifs with h
      · rfl
      · exact h0 _ (by rw [at'_le]; rintro (h1 | ⟨_, h2⟩); exacts [lt_irrefl _ h1, h h2])
  rw [← hb, ← Finset.sum_filter_add_sum_filter_not Finset.univ (b < ·) (fun b' => ∑ s, f (at' b' s)), add_comm]
  congr 1
  rw [Finset.sum_eq_single b]
  · intro b' hb' hne
    refine Finset.sum_eq_zero fun s _ => h0 _ ?_
    rw [at'_le]; rintro (h1 | ⟨h1, _⟩)
    · exact (Finset.mem_filter.mp hb').2 h1
    · exact hne h1.symm
  · intro h; exact absurd (Finset.mem_filter.mpr ⟨Finset.mem_univ b, lt_irrefl b⟩) h

end Cert.Attn

end
-- ==== Proof.Attn.Real.lean ====
/-
  Extended reals that are real numbers: the operations both programs use — sums, quotients, exponentials,
  row maxima — carried out on the real numbers underneath.
-/
module
public import Idealize.ShloMosaic.Lib.Pointwise
public import Idealize.ShloMosaic.Lib.WordCmp
public import Mathlib.Data.EReal.Operations
@[expose] public section
set_option maxRecDepth 16384
noncomputable section
namespace Cert.Attn
open Idealize.ShloMosaic

/-- A sum of real numbers is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers, the divisor not zero. -/
theorem div_real (x : ℝ) {y : ℝ} (h : y ≠ 0) : Ideal.div (x : EReal) (y : EReal) = ((x / y : ℝ) : EReal) := by
  rw [Ideal.div_coe h, ← EReal.coe_mul, mul_one_div]

/-- The bits of `-∞` read `⊥`. -/
theorem ofBits_negInf : Ideal.ofBits .f32 0xFF800000#32 = (⊥ : EReal) := by
  simp [Ideal.ofBits, Ideal.ieee]

/-- The bits of one read `1`. -/
theorem ofBits_one : Ideal.ofBits .f32 0x3F800000#32 = ((1 : ℝ) : EReal) := by
  simp [Ideal.ofBits, Ideal.ieee]
  rw [← EReal.coe_mul]; norm_num

/-- The bits of zero read `0`. -/
theorem ofBits_zero : Ideal.ofBits .f32 0x00000000#32 = (0 : EReal) := by
  simp [Ideal.ofBits, Ideal.ieee]

/-- The maximum from `-∞` of finitely many values below `∞`, one of them above `-∞`, is a real number. -/
theorem fold_max_real {ι : Type*} (s : Finset ι) (f : ι → EReal) (hlt : ∀ x ∈ s, f x < ⊤) (hx : ∃ x ∈ s, ⊥ < f x) :
    ((s.fold max ⊥ f).toReal : EReal) = s.fold max ⊥ f := by
  apply EReal.coe_toReal
  · exact ((Finset.fold_max_lt _).2 ⟨bot_lt_top, hlt⟩).ne
  · exact ((Finset.lt_fold_max _).2 (Or.inr hx)).ne'

/-- A host sum over a leading and a trailing axis of one element is that element. -/
theorem hostReduceAdd_unit03 (h : (⟨4, ![1, 8, 16384, 1]⟩ : Shape).ReducesTo [0, 3] ⟨2, ![8, 16384]⟩)
    (v : (⟨4, ![1, 8, 16384, 1]⟩ : Shape).Idx → EReal) (init : EReal) (a : Fin 8) (b : Fin 16384) :
    Ideal.hostReduceAdd h v init (ix2 a b) = init + v (ix4 0 a b 0) := by
  show init + ∑ i ∈ Finset.univ.filter (fun i => h.drop i = ix2 a b), v i = _
  rw [show (Finset.univ.filter (fun i => h.drop i = ix2 a b)) = {ix4 0 a b 0} from ?_, Finset.sum_singleton]
  ext i
  have e0 := h.drop_apply_val_of_eq i 0 1
  have e1 := h.drop_apply_val_of_eq i 1 2
  simp only [Finset.mem_filter, Finset.mem_univ, true_and, Finset.mem_singleton]
  constructor
  · intro hi
    rw [hi] at e0 e1
    funext x
    apply Fin.ext
    fin_cases x
    · have := (i 0).isLt; simp at this ⊢; omega
    · exact e0.symm
    · exact e1.symm
    · have := (i 3).isLt; simp at this ⊢; omega
  · rintro rfl
    funext x
    apply Fin.ext
    fin_cases x
    · exact e0
    · exact e1

/-- A host sum over a leading and an inner axis of one element is that element. -/
theorem hostReduceAdd_unit02 (h : (⟨4, ![1, 8, 1, 16384]⟩ : Shape).ReducesTo [0, 2] ⟨2, ![8, 16384]⟩)
    (v : (⟨4, ![1, 8, 1, 16384]⟩ : Shape).Idx → EReal) (init : EReal) (a : Fin 8) (b : Fin 16384) :
    Ideal.hostReduceAdd h v init (ix2 a b) = init + v (ix4 0 a 0 b) := by
  show init + ∑ i ∈ Finset.univ.filter (fun i => h.drop i = ix2 a b), v i = _
  rw [show (Finset.univ.filter (fun i => h.drop i = ix2 a b)) = {ix4 0 a 0 b} from ?_, Finset.sum_singleton]
  ext i
  have e0 := h.drop_apply_val_of_eq i 0 1
  have e1 := h.drop_apply_val_of_eq i 1 3
  simp only [Finset.mem_filter, Finset.mem_univ, true_and, Finset.mem_singleton]
  constructor
  · intro hi
    rw [hi] at e0 e1
    funext x
    apply Fin.ext
    fin_cases x
    · have := (i 0).isLt; simp at this ⊢; omega
    · exact e0.symm
    · have := (i 2).isLt; simp at this ⊢; omega
    · exact e1.symm
  · rintro rfl
    funext x
    apply Fin.ext
    fin_cases x
    · exact e0
    · exact e1

/-- The signed comparison of two row numbers, as the choice it makes. -/
theorem select_sle {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (by omega) (by omega)]
  unfold Scalar.select
  by_cases h : a ≤ b <;> simp [h]

end Cert.Attn
-- ==== Proof.Attn.Ref.lean ====
/-
  The reference's attention and its gradients, read entry by entry: over real arguments each stage is the
  corresponding real quantity of `Attn/Spec.lean` of the row's head.
-/
module
public import proofs.«01_k».proof.Proof.Attn.Spec
public import proofs.«01_k».proof.Proof.Attn.Real
public import proofs.«01_k».proof.Proof.Gen.Reference2Ideal.Read
public import Idealize.ShloMosaic.Lib.Pointwise
@[expose] public section
set_option maxRecDepth 16384
noncomputable section
namespace Cert.Attn.Ref
open Idealize.ShloMosaic Cert.Reference2Ideal Cert.Reference2Ideal.Gen Cert.Reference2Ideal.Read

/-- An array of 16384 rows of 8 heads of 64. -/
abbrev Mat := (⟨S16384x512, .f32⟩ : BufTy).Contents (Elt Ideal)
/-- An array of 16384 rows of 8 heads. -/
abbrev Gates := (⟨S16384x8, .f32⟩ : BufTy).Contents (Elt Ideal)
/-- The real entries of such an array: by head, row and lane. -/
abbrev Heads := Fin 8 → Fin 16384 → Fin 64 → ℝ

/-- The array `x` holds the real numbers `a`. -/
def Holds (x : Mat) (a : Heads) : Prop :=
  ∀ (h : Fin 8) (i : Fin 16384) (e : Fin 64) (p : h.val * 64 + e.val < 512), x (ix2 i ⟨h.val * 64 + e.val, p⟩) = ((a h i e : ℝ) : EReal)
/-- The gate array `x` holds the real numbers `c`. -/
def HoldsGates (x : Gates) (c : Fin 8 → Fin 16384 → ℝ) : Prop :=
  ∀ (h : Fin 8) (i : Fin 16384), x (ix2 i h) = ((c h i : ℝ) : EReal)

variable {x0 x1 x2 x4 : Mat} {x3 : Gates} {q k v g : Heads} {c : Fin 8 → Fin 16384 → ℝ}
variable (hq : Holds x0 q) (hk : Holds x1 k) (hv : Holds x2 v) (hc : HoldsGates x3 c) (hg : Holds x4 g)
variable (h : Fin 8) (i j : Fin 16384) (e : Fin 64)

include hq hk in
/-- The plain products of queries and keys. -/
theorem v5_eq : val_main_v5 x0 x1 (ix4 0 h i j) = ((∑ e, q h i e * k h j e : ℝ) : EReal) := by
  pointwise [val_main_v5, val_main_v0, val_main_v1]
  simp only [hq h i _ _, hk h j _ _, ← EReal.coe_mul, ← coe_sum]

include hq hk hc in
/-- The scores with the forgetting bias. -/
theorem v11_eq : val_main_v11 x0 x1 x3 (ix4 0 h i j) = ((score (q h) (k h) (c h) i j + c h i : ℝ) : EReal) := by
  pointwise [val_main_v11, val_main_v10, val_main_v9, val_main_v8, val_main_v7, val_main_v6, val_main_v3, val_main_v2]
  rw [v5_eq hq hk, hc, hc, ← EReal.coe_add, ← EReal.coe_sub]
  congr 1; unfold score; ring

include hq hk hc in
/-- The scores, `-∞` above the diagonal. -/
theorem v17_eq : val_main_v17_0 x0 x1 x3 (ix4 0 h i j)
    = if j ≤ i then ((score (q h) (k h) (c h) i j + c h i : ℝ) : EReal) else ⊥ := by
  pointwise [val_main_v17_0, val_main_v17_1, val_main_v16, val_main_v15, val_main_v14, val_main_v13, val_main_v12, val_main_v4, val_main_call0_v2, val_main_call0_v0, val_main_cst]
  rw [select_sle (by omega) (by omega), v11_eq hq hk hc]
  simp only [id, Fin.le_def]
  exact congrArg (ite _ _) ofBits_negInf

/-- The row maximum, as a real number. -/
def rowMax (x0 x1 : Mat) (x3 : Gates) (h : Fin 8) (i : Fin 16384) : ℝ :=
  ((Finset.univ : Finset (Fin 16384)).fold max ⊥ (fun j => val_main_v17_0 x0 x1 x3 (ix4 0 h i j))).toReal

include hq hk hc in
/-- The row maximum is a real number: the row's own column is not masked. -/
theorem v18_eq : val_main_v18 x0 x1 x3 (ix3 0 h i) = ((rowMax x0 x1 x3 h i : ℝ) : EReal) := by
  pointwise [val_main_v18, val_main_cst_0]
  rw [ofBits_negInf, rowMax, fold_max_real]
  · intro j _
    rw [v17_eq hq hk hc]
    split_ifs
    · exact EReal.coe_lt_top _
    · exact bot_lt_top
  · exact ⟨i, Finset.mem_univ _, by rw [v17_eq hq hk hc, if_pos le_rfl]; exact EReal.bot_lt_coe _⟩

include hq hk hc in
/-- The shift of a row. -/
theorem v25_eq : val_main_v25 x0 x1 x3 (ix3 0 h i) = ((rowMax x0 x1 x3 h i : ℝ) : EReal) := by
  rw [val_main_v25_apply, val_main_v24_apply, v18_eq hq hk hc]
  show max (Ideal.ofBits .f32 0xFF800000#32) _ = _
  rw [ofBits_negInf, max_eq_right bot_le]

include hq hk hc in
/-- The shifted scores. -/
theorem v37_eq : val_main_v37 x0 x1 x3 (ix4 0 h i j)
    = if j ≤ i then ((score (q h) (k h) (c h) i j + c h i - rowMax x0 x1 x3 h i : ℝ) : EReal) else ⊥ := by
  pointwise [val_main_v37, val_main_v36, val_main_v35]
  rw [v17_eq hq hk hc, v25_eq hq hk hc]
  split_ifs with hij
  · rw [← EReal.coe_sub]
  · rw [sub_eq_add_neg, EReal.bot_add]

include hq hk hc in
/-- The shifted exponentials. -/
theorem v38_eq : val_main_v38 x0 x1 x3 (ix4 0 h i j)
    = ((expo (q h) (k h) (c h) (rowMax x0 x1 x3 h i) i j : ℝ) : EReal) := by
  rw [val_main_v38_apply, v37_eq hq hk hc]
  unfold expo
  split_ifs with hij
  · exact Ideal.exp_coe _
  · exact Ideal.exp_bot

/-- The normaliser of a row under its shift. -/
def norm (x0 x1 : Mat) (x3 : Gates) (q k : Heads) (c : Fin 8 → Fin 16384 → ℝ) (h : Fin 8) (i : Fin 16384) : ℝ :=
  ∑ j, expo (q h) (k h) (c h) (rowMax x0 x1 x3 h i) i j

theorem norm_pos : 0 < norm x0 x1 x3 q k c h i := sum_expo_pos _ _ _ _ _

include hq hk hc in
/-- The row sums of the exponentials. -/
theorem v39_eq : val_main_v39 x0 x1 x3 (ix3 0 h i) = ((norm x0 x1 x3 q k c h i : ℝ) : EReal) := by
  pointwise [val_main_v39, val_main_cst_8]
  simp only [v38_eq hq hk hc, ← coe_sum, ofBits_zero, zero_add]
  rfl

include hq hk hc in
/-- The attention probabilities. -/
theorem v42_eq : val_main_v42 x0 x1 x3 (ix4 0 h i j) = ((prob (q h) (k h) (c h) i j : ℝ) : EReal) := by
  pointwise [val_main_v42, val_main_v41, val_main_v40]
  rw [v38_eq hq hk hc, v39_eq hq hk hc, div_real _ (norm_pos h i).ne']
  exact congrArg _ (expo_div _ _ _ _ _ _)

include hq hk hv hc in
/-- The attention output. -/
theorem v49_eq (p : h.val * 64 + e.val < 512) : val_main_v49 x0 x1 x2 x3 (ix2 i ⟨h.val * 64 + e.val, p⟩)
    = ((out (q h) (k h) (v h) (c h) i e : ℝ) : EReal) := by
  pointwise [val_main_v49, val_main_v48, val_main_v47, val_main_v46]
  simp only [hv h _ _ _, v42_eq hq hk hc, ← EReal.coe_mul, ← coe_sum]
  refine congrArg _ (Finset.sum_congr rfl fun j _ => mul_comm _ _)

include hv hg in
/-- The gradients of the probabilities. -/
theorem v52_eq : val_main_v52 x2 x4 (ix4 0 h i j) = ((dprob (v h) (g h) i j : ℝ) : EReal) := by
  pointwise [val_main_v52, val_main_v51, val_main_v50, val_main_v46]
  simp only [hv h _ _ _, hg h _ _ _, ← EReal.coe_mul, ← coe_sum]
  rfl

include hq hk hc hg in
/-- The gradient of the values. -/
theorem v55_eq (p : h.val * 64 + e.val < 512) : val_main_v55 x0 x1 x3 x4 (ix2 j ⟨h.val * 64 + e.val, p⟩)
    = ((dv (q h) (k h) (g h) (c h) j e : ℝ) : EReal) := by
  pointwise [val_main_v55, val_main_v54, val_main_v53, val_main_v51, val_main_v50]
  simp only [hg h _ _ _, v42_eq hq hk hc, ← EReal.coe_mul, ← coe_sum]
  refine congrArg _ (Finset.sum_congr rfl fun j _ => mul_comm _ _)

include hq hk hc in
/-- One over the square of the normaliser. -/
theorem v45_eq : val_main_v45 x0 x1 x3 (ix4 0 h i 0)
    = ((1 / (norm x0 x1 x3 q k c h i * norm x0 x1 x3 q k c h i) : ℝ) : EReal) := by
  pointwise [val_main_v45, val_main_v44, val_main_v43, val_main_v40, val_main_cst_9]
  have := (norm_pos (x0 := x0) (x1 := x1) (x3 := x3) (q := q) (k := k) (c := c) h i).ne'
  rw [v39_eq hq hk hc, ← EReal.coe_mul, ← EReal.coe_one, div_real _ (mul_ne_zero this this)]

include hq hk hv hc hg in
/-- The row sums the quotient's derivative subtracts. -/
theorem v59_eq : val_main_v59 x0 x1 x2 x3 x4 (ix3 0 h i)
    = ((∑ j, dprob (v h) (g h) i j * (1 / (norm x0 x1 x3 q k c h i * norm x0 x1 x3 q k c h i))
        * expo (q h) (k h) (c h) (rowMax x0 x1 x3 h i) i j : ℝ) : EReal) := by
  pointwise [val_main_v59, val_main_v58, val_main_v57, val_main_v56, val_main_cst_10]
  simp only [v38_eq hq hk hc, v45_eq hq hk hc, v52_eq hv hg, ← EReal.coe_mul, ← coe_sum, ofBits_zero, zero_add]

include hq hk hv hc hg in
/-- Their negatives, on the rows. -/
theorem v64_eq : val_main_v64 x0 x1 x2 x3 x4 (ix2 h i)
    = ((-∑ j, dprob (v h) (g h) i j * (1 / (norm x0 x1 x3 q k c h i * norm x0 x1 x3 q k c h i))
        * expo (q h) (k h) (c h) (rowMax x0 x1 x3 h i) i j : ℝ) : EReal) := by
  have e : val_main_v64 x0 x1 x2 x3 x4 (ix2 h i) = Ideal.ofBits .f32 0x00000000#32 + val_main_v61 x0 x1 x2 x3 x4 (ix4 0 h i 0) :=
    hostReduceAdd_unit03 _ _ _ _ _
  rw [e]
  pointwise [val_main_v61, val_main_v60]
  rw [v59_eq hq hk hv hc hg, ← EReal.coe_neg]

include hq hk hv hc hg in
/-- The gradients of the scores. -/
theorem v69_eq : val_main_v69 x0 x1 x2 x3 x4 (ix4 0 h i j)
    = ((dscore (q h) (k h) (v h) (g h) (c h) i j : ℝ) : EReal) := by
  pointwise [val_main_v69, val_main_v17_1, val_main_v16, val_main_v15, val_main_v14, val_main_v13, val_main_v12, val_main_v4, val_main_v68, val_main_v67, val_main_v66, val_main_v65, val_main_v63, val_main_v62, val_main_v40, val_main_call1_v0, val_main_call1_cst]
  rw [select_sle (by omega) (by omega), v38_eq hq hk hc, v64_eq hq hk hv hc hg, v52_eq hv hg, v39_eq hq hk hc,
    div_real _ (norm_pos h i).ne', ← EReal.coe_add, ← EReal.coe_mul]
  split_ifs with hij
  · exact congrArg _ (dscore_expo _ _ _ _ _ _ _ _)
  · rw [dscore_of_gt _ _ _ _ _ (fun hl => hij hl), EReal.coe_zero]

include hq hk hv hc hg in
/-- The gradient of the keys. -/
theorem v86_eq (p : h.val * 64 + e.val < 512) : val_main_v86 x0 x1 x2 x3 x4 (ix2 j ⟨h.val * 64 + e.val, p⟩)
    = ((dk (q h) (k h) (v h) (g h) (c h) j e : ℝ) : EReal) := by
  pointwise [val_main_v86, val_main_v81, val_main_v80, val_main_v0]
  simp only [hq h _ _ _, v69_eq hq hk hv hc hg, ← EReal.coe_mul, ← coe_sum]
  rfl

include hq hk hv hc hg in
/-- The gradient of the queries. -/
theorem v87_eq (p : h.val * 64 + e.val < 512) : val_main_v87 x0 x1 x2 x3 x4 (ix2 i ⟨h.val * 64 + e.val, p⟩)
    = ((dq (q h) (k h) (v h) (g h) (c h) i e : ℝ) : EReal) := by
  pointwise [val_main_v87, val_main_v83, val_main_v82, val_main_v1]
  simp only [hk h _ _ _, v69_eq hq hk hv hc hg, ← EReal.coe_mul, ← coe_sum]
  rfl

include hq hk hv hc hg in
/-- The column sums of the score gradients, negated. -/
theorem v73_eq : val_main_v73 x0 x1 x2 x3 x4 (ix2 h j)
    = ((-dn (q h) (k h) (v h) (g h) (c h) j : ℝ) : EReal) := by
  have e : val_main_v73 x0 x1 x2 x3 x4 (ix2 h j) = Ideal.ofBits .f32 0x00000000#32 + val_main_v72 x0 x1 x2 x3 x4 (ix4 0 h 0 j) :=
    hostReduceAdd_unit02 _ _ _ _ _
  rw [e]
  pointwise [val_main_v72, val_main_v71, val_main_v70, val_main_cst_12]
  simp only [v69_eq hq hk hv hc hg, ← EReal.coe_neg, ← coe_sum, ofBits_zero, zero_add, Finset.sum_neg_distrib]
  rfl

include hq hk hv hc hg in
/-- The row sums of the score gradients vanish. -/
theorem v77_eq : val_main_v77 x0 x1 x2 x3 x4 (ix2 h i) = 0 := by
  have e : val_main_v77 x0 x1 x2 x3 x4 (ix2 h i) = Ideal.ofBits .f32 0x00000000#32 + val_main_v76 x0 x1 x2 x3 x4 (ix4 0 h i 0) :=
    hostReduceAdd_unit03 _ _ _ _ _
  rw [e]
  pointwise [val_main_v76, val_main_v75, val_main_cst_14]
  simp only [v69_eq hq hk hv hc hg, ← coe_sum, ofBits_zero, zero_add, sum_dscore, EReal.coe_zero]

include hq hk hv hc hg in
/-- Minus the gradient of the forgetting bias: the column sums of the score gradients. -/
theorem v89_eq : val_main_v89 x0 x1 x2 x3 x4 (ix2 h j)
    = ((dn (q h) (k h) (v h) (g h) (c h) j : ℝ) : EReal) := by
  pointwise [val_main_v89, val_main_v88, val_main_v85, val_main_v84, val_main_v79, val_main_v78, val_main_v74]
  rw [v73_eq hq hk hv hc hg, v77_eq hq hk hv hc hg, add_zero, ← EReal.coe_neg, neg_neg]

end Cert.Attn.Ref
-- ==== Proof.Attn.Finite.lean ====
/-
  Arguments whose entries are all finite hold real numbers.
-/
module
public import proofs.«01_k».proof.Proof.Attn.Ref
public import Idealize.ShloMosaic.Lib.Pointwise.Tactic
public import Idealize.ShloMosaic.Lib.IdealHost
@[expose] public section
noncomputable section
namespace Cert.Attn
open Idealize.ShloMosaic Cert.Attn.Ref

theorem ofBits_top : Ideal.ofBits .f32 0x7F800000#32 = ⊤ := by simp [Ideal.ofBits, Ideal.ieee]

/-- A value whose magnitude is below infinity is a real number. -/
theorem real_of_olt {x : EReal} (h : Ideal.cmp .olt (max x (-x)) (Ideal.ofBits .f32 0x7F800000#32) = 1#1) : x = ((x.toReal : ℝ) : EReal) := by
  rw [ofBits_top] at h
  have h' : max x (-x) < ⊤ := by
    by_contra hn
    simp [Ideal.cmp, hn] at h
  refine (EReal.coe_toReal (fun e => ?_) (fun e => ?_)).symm
  · subst e; exact absurd h' (by simp)
  · subst e; exact absurd h' (by simp)

variable {S T : Shape} {d : Fin T.rank → Fin S.rank}

/-- An array that passes the finiteness test holds a real number everywhere. -/
theorem real_of_test (x : FVec Ideal S .f32) (hb : T.BroadcastsInDim S d)
    (h : cmpf .olt (Host.absf x) (broadcastInDim S d hb (constant (F := Ideal) T .f32 0x7F800000#32)) = fun _ => 1#1) (i : S.Idx) :
    (x i : EReal) = (((x i : EReal).toReal : ℝ) : EReal) :=
  real_of_olt (congrFun h i)

/-- The real entries of an array. -/
def headsOf (x : Mat) : Heads := fun h i e => EReal.toReal (x (ix2 i ⟨h.val * 64 + e.val, by omega⟩))
/-- The real entries of a gate array. -/
def gatesOf (x : Gates) : Fin 8 → Fin 16384 → ℝ := fun h i => EReal.toReal (x (ix2 i h))

theorem holds_headsOf {x : Mat} (hx : ∀ i, x i = (((x i : EReal).toReal : ℝ) : EReal)) : Holds x (headsOf x) := fun _ _ _ _ => hx _
theorem holds_gatesOf {x : Gates} (hx : ∀ i, x i = (((x i : EReal).toReal : ℝ) : EReal)) : HoldsGates x (gatesOf x) := fun _ _ => hx _

end Cert.Attn
end
-- ==== Proof.Attn.Tile.lean ====
/-
  One tile of attention over the real numbers: 512 rows against 512 columns of a pair of heads whose lanes lie
  side by side, 64 and 64. Each head's products run over all 128 lanes with the other head's lanes set to
  zero: `lo` and `hi` are the two selections.
-/
module
public import proofs.«01_k».proof.Proof.Attn.Spec
public import proofs.«01_k».proof.Proof.Attn.Real
public import Idealize.ShloMosaic.Lib.Pipeline.ValueKit.Tiles
@[expose] public section
set_option maxRecDepth 16384
noncomputable section
namespace Cert.Attn
open Idealize.ShloMosaic

/-- One on the first head's lanes, zero on the second's. -/
def lo (l : Fin 128) : ℝ := if l.val < 64 then 1 else 0
/-- One on the second head's lanes, zero on the first's. -/
def hi (l : Fin 128) : ℝ := if l.val < 64 then 0 else 1
/-- The selection of head `u` of the pair. -/
def sel (u : Fin 2) : Fin 128 → ℝ := if u = 0 then lo else hi

/-- A tile of 512 rows of 128 lanes. -/
abbrev Tile := Fin 512 → Fin 128 → ℝ
/-- A column of 512 numbers. -/
abbrev Col := Fin 512 → ℝ

/-- The tile's scores. -/
def sc (w : Fin 128 → ℝ) (Q K : Tile) (C : Col) (r s : Fin 512) : ℝ := (∑ l, (w l * Q r l) * K s l) + C s
/-- The tile's gradient of probabilities. -/
def dp (w : Fin 128 → ℝ) (G V : Tile) (r s : Fin 512) : ℝ := ∑ l, (w l * G r l) * V s l
/-- The tile's gradient of scores, below the diagonal. -/
def ds (w : Fin 128 → ℝ) (Q K : Tile) (C L : Col) (G V : Tile) (D : Col) (r s : Fin 512) : ℝ :=
  Real.exp (sc w Q K C r s - L r) * (dp w G V r s - D r)
/-- The tile's gradient of scores, on the diagonal. -/
def dsDiag (w : Fin 128 → ℝ) (Q K : Tile) (C L : Col) (G V : Tile) (D : Col) (r s : Fin 512) : ℝ :=
  (if s ≤ r then Real.exp (sc w Q K C r s - L r) else 0) * (dp w G V r s - D r)

/-- The matrix holds these real numbers. -/
def Mx {m n : ℕ} (v : (⟨2, ![m, n]⟩ : Shape).Idx → EReal) (f : Fin m → Fin n → ℝ) : Prop := ∀ r l, v (ix2 r l) = ((f r l : ℝ) : EReal)
/-- The one-column matrix holds these real numbers. -/
def Cx {m : ℕ} (v : (⟨2, ![m, 1]⟩ : Shape).Idx → EReal) (f : Fin m → ℝ) : Prop := ∀ r, v (ix2 r 0) = ((f r : ℝ) : EReal)
/-- The single row holds these real numbers. -/
def Rx {n : ℕ} (v : (⟨3, ![1, 1, n]⟩ : Shape).Idx → EReal) (f : Fin n → ℝ) : Prop := ∀ s, v (ix3 0 0 s) = ((f s : ℝ) : EReal)
/-- A tile's matrix against the selected lanes of another tile's rows. -/
def mm (w : Fin 128 → ℝ) (S : Fin 512 → Fin 512 → ℝ) (K : Tile) : Tile := fun r l => ∑ s, w l * (S r s * K s l)

/-- The lane mask of the first head. -/
theorem select_lane_lt (l : Fin 128) (x y : EReal) :
    Scalar.select (IntOp.cmpi .slt (BitVec.ofNat 32 l.val) 64#32) x y = if l.val < 64 then x else y := by
  rw [show (64#32 : BitVec 32) = BitVec.ofNat 32 64 from rfl, WordCmp.cmpi_slt_ofNat (by omega) (by omega)]
  unfold Scalar.select
  by_cases h : l.val < 64 <;> simp [h]

/-- The lane mask of the second head. -/
theorem select_lane_ge (l : Fin 128) (x y : EReal) :
    Scalar.select (IntOp.cmpi .sge (BitVec.ofNat 32 l.val) 64#32) x y = if l.val < 64 then y else x := by
  have : IntOp.cmpi .sge (BitVec.ofNat 32 l.val) 64#32 = IntOp.cmpi .sle (BitVec.ofNat 32 64) (BitVec.ofNat 32 l.val) := rfl
  rw [this, select_sle (by omega) (by omega)]
  by_cases h : l.val < 64
  · rw [if_neg (by omega), if_pos h]
  · rw [if_pos (by omega), if_neg h]

theorem lo_coe (l : Fin 128) (a : ℝ) : (if l.val < 64 then (a : EReal) else 0) = ((lo l * a : ℝ) : EReal) := by
  unfold lo; split_ifs <;> simp
theorem hi_coe (l : Fin 128) (a : ℝ) : (if l.val < 64 then 0 else (a : EReal)) = ((hi l * a : ℝ) : EReal) := by
  unfold hi; split_ifs <;> simp

theorem sum_lanes (f : Fin 128 → ℝ) :
    ∑ l, f l = (∑ e : Fin 64, f ⟨e.val, by omega⟩) + ∑ e : Fin 64, f ⟨64 + e.val, by omega⟩ := by
  rw [show (∑ l : Fin 128, f l) = ∑ l : Fin (64 + 64), f l from rfl, Fin.sum_univ_add]; rfl

theorem sum_lo (f : Fin 128 → ℝ) : ∑ l, lo l * f l = ∑ e : Fin 64, f ⟨e.val, by omega⟩ := by
  rw [sum_lanes]
  simp [lo]
theorem sum_hi (f : Fin 128 → ℝ) : ∑ l, hi l * f l = ∑ e : Fin 64, f ⟨64 + e.val, by omega⟩ := by
  rw [sum_lanes]
  simp [hi]

/-! ## Loads of one tile -/

/-- An array of 16384 rows holds, tile by tile, these real numbers. -/
def Rows (x : (⟨2, ![16384, 128]⟩ : Shape).Idx → EReal) (K : ℕ → Tile) : Prop :=
  ∀ (b : ℕ) (hb : b < 32) (r : Fin 512) (l : Fin 128), x (ix2 ⟨512 * b + r.val, by omega⟩ l) = ((K b r l : ℝ) : EReal)
/-- An array of 8 heads of 32 tiles of 512 holds these real numbers. -/
def Bias (x : (⟨3, ![8, 32, 512]⟩ : Shape).Idx → EReal) (C : ℕ → ℕ → Col) : Prop :=
  ∀ (h : Fin 8) (b : Fin 32) (s : Fin 512), x (ix3 h b s) = ((C h.val b.val s : ℝ) : EReal)

theorem Rows.ld {x : (⟨2, ![16384, 128]⟩ : Shape).Idx → EReal} {K : ℕ → Tile} (hx : Rows x K) {off : Fin 2 → ℕ} {b : ℕ} (hb : b < 32)
    (ho : off = ![512 * b, 0]) (inb) : Mx (View.ld (Val := Elt Ideal) (e' := .bf16) (S := ⟨2, ![16384, 128]⟩) x (Rect.unit off ![512, 128] inb)) (K b) := by
  intro r l
  subst ho
  rw [View.ld_unit_apply_of (i := ix2 ⟨512 * b + r.val, by omega⟩ l)]
  · exact hx b hb r l
  · intro a; fin_cases a <;> simp

theorem Bias.ld {x : (⟨3, ![8, 32, 512]⟩ : Shape).Idx → EReal} {C : ℕ → ℕ → Col} (hx : Bias x C) {off : Fin 3 → ℕ} {h b : ℕ} (hh : h < 8) (hb : b < 32)
    (ho : off = ![h, b, 0]) (inb) : Rx (View.ld (Val := Elt Ideal) (e' := .f32) (S := ⟨3, ![8, 32, 512]⟩) x (Rect.unit off ![1, 1, 512] inb)) (C h b) := by
  intro s
  subst ho
  rw [View.ld_unit_apply_of (i := ix3 ⟨h, hh⟩ ⟨b, hb⟩ s)]
  · exact hx ⟨h, hh⟩ ⟨b, hb⟩ s
  · intro a; fin_cases a <;> simp

/-- Two rows of one head each, the second stored last, read back at the first head. -/
theorem canon_two_0 (w0 w1 : Vec Ideal ⟨4, ![1, 1, 1, 512]⟩ .f32) (inb0 inb1) (r : Fin 512) :
    View.canon (Val := Elt Ideal) (e := .f32) (s := ⟨4, ![2, 1, 1, 512]⟩)
      [⟨Rect.unit ![1, 0, 0, 0] ![1, 1, 1, 512] inb1, w1⟩, ⟨Rect.unit ![0, 0, 0, 0] ![1, 1, 1, 512] inb0, w0⟩] (ix4 0 0 0 r) = w0 (ix4 0 0 0 r) := by
  rw [View.canon_cons_of_not_mem]
  · rw [show (ix4 0 0 0 r : (⟨4, ![2, 1, 1, 512]⟩ : Shape).Idx) = (Rect.unit ![0, 0, 0, 0] ![1, 1, 1, 512] inb0).emb (ix4 0 0 0 r) from ?_]
    · exact View.canon_cons_emb _ _ _ _
    · funext a; apply Fin.ext; rw [Rect.emb_apply]; fin_cases a <;> simp
  · intro h
    have := ((Rect.mem_set_unit (inb := inb1)).mp h (0 : Fin 4)).1
    simp at this

/-- The same, read back at the second head. -/
theorem canon_two_1 (w0 w1 : Vec Ideal ⟨4, ![1, 1, 1, 512]⟩ .f32) (inb0 inb1) (r : Fin 512) :
    View.canon (Val := Elt Ideal) (e := .f32) (s := ⟨4, ![2, 1, 1, 512]⟩)
      [⟨Rect.unit ![1, 0, 0, 0] ![1, 1, 1, 512] inb1, w1⟩, ⟨Rect.unit ![0, 0, 0, 0] ![1, 1, 1, 512] inb0, w0⟩] (ix4 1 0 0 r) = w1 (ix4 0 0 0 r) := by
  rw [show (ix4 1 0 0 r : (⟨4, ![2, 1, 1, 512]⟩ : Shape).Idx) = (Rect.unit ![1, 0, 0, 0] ![1, 1, 1, 512] inb1).emb (ix4 0 0 0 r) from ?_]
  · exact View.canon_cons_emb _ _ _ _
  · funext a; apply Fin.ext; rw [Rect.emb_apply]; fin_cases a <;> simp

end Cert.Attn
end
-- ==== Proof.Attn.Lanes.lean ====
/-
  Attention over 8 heads laid out in tiles: four pairs of heads side by side on 128 lanes, 32 tiles of 512 rows.
  Tile by tile the sums are those of the heads' own attention.
-/
module
public import proofs.«01_k».proof.Proof.Attn.Tile
@[expose] public section
set_option maxRecDepth 16384
noncomputable section
namespace Cert.Attn

/-- Row `r` of tile `b`. -/
def row (b : Fin 32) (r : Fin 512) : Fin 16384 := ⟨512 * b.val + r.val, by omega⟩
theorem row_at (b : Fin 32) (r : Fin 512) : row b r = Fin.cast (by norm_num) (at' b r : Fin (32 * 512)) := Fin.ext (at'_val b r).symm

/-- `sum_row` over a range of any name. -/
theorem sum_row' {n B T : ℕ} (hn : B * T = n) (f : Fin n → ℝ) (b : Fin B) (r : Fin T) (h0 : ∀ j, ¬ j ≤ Fin.cast hn (at' b r) → f j = 0) :
    ∑ j, f j = (∑ b' ∈ Finset.univ.filter (· < b), ∑ s, f (Fin.cast hn (at' b' s))) + ∑ s, if s ≤ r then f (Fin.cast hn (at' b s)) else 0 := by
  subst hn
  exact sum_row f b r h0
/-- `sum_col` over a range of any name. -/
theorem sum_col' {n B T : ℕ} (hn : B * T = n) (f : Fin n → ℝ) (b : Fin B) (r : Fin T) (h0 : ∀ j, ¬ Fin.cast hn (at' b r) ≤ j → f j = 0) :
    ∑ j, f j = (∑ s, if r ≤ s then f (Fin.cast hn (at' b s)) else 0) + ∑ b' ∈ Finset.univ.filter (b < ·), ∑ s, f (Fin.cast hn (at' b' s)) := by
  subst hn
  exact sum_col f b r h0

/-- The head on a lane of a pair. -/
def hd (p : Fin 4) (l : Fin 128) : Fin 8 := ⟨2 * p.val + l.val / 64, by omega⟩
/-- The place of a lane in its head. -/
def ln (l : Fin 128) : Fin 64 := ⟨l.val % 64, by omega⟩
/-- The first head of a pair. -/
def h0 (p : Fin 4) : Fin 8 := ⟨2 * p.val, by omega⟩
/-- The second head of a pair. -/
def h1 (p : Fin 4) : Fin 8 := ⟨2 * p.val + 1, by omega⟩

/-- The tile of a pair's rows. -/
def lanes (a : Fin 8 → Fin 16384 → Fin 64 → ℝ) (p : Fin 4) (b : ℕ) : Tile := fun r l =>
  if h : b < 32 then a (hd p l) (row ⟨b, h⟩ r) (ln l) else 0
/-- The tile of a head's column of numbers. -/
def cols (a : Fin 8 → Fin 16384 → ℝ) (h b : ℕ) : Col := fun s =>
  if hh : h < 8 ∧ b < 32 then a ⟨h, hh.1⟩ (row ⟨b, hh.2⟩ s) else 0

/-- The heads' outputs. -/
def outs (q k v : Fin 8 → Fin 16384 → Fin 64 → ℝ) (c : Fin 8 → Fin 16384 → ℝ) : Fin 8 → Fin 16384 → Fin 64 → ℝ := fun h => out (q h) (k h) (v h) (c h)
/-- The heads' log-masses. -/
def lses (q k : Fin 8 → Fin 16384 → Fin 64 → ℝ) (c : Fin 8 → Fin 16384 → ℝ) : Fin 8 → Fin 16384 → ℝ := fun h => lse (q h) (k h) (c h)
/-- The heads' products of outputs and their gradients. -/
def deltas (q k v g : Fin 8 → Fin 16384 → Fin 64 → ℝ) (c : Fin 8 → Fin 16384 → ℝ) : Fin 8 → Fin 16384 → ℝ := fun h => delta (q h) (k h) (v h) (g h) (c h)
/-- The gates with their sign turned. -/
def neg (c : Fin 8 → Fin 16384 → ℝ) : Fin 8 → Fin 16384 → ℝ := fun h i => -c h i

variable (a : Fin 8 → Fin 16384 → Fin 64 → ℝ) (f : Fin 8 → Fin 16384 → ℝ) (p : Fin 4) (b : Fin 32) (r : Fin 512)

theorem lanes_eq (l : Fin 128) : lanes a p b.val r l = a (hd p l) (row b r) (ln l) := dif_pos b.isLt
theorem cols_0 : cols f (2 * p.val) b.val r = f (h0 p) (row b r) := dif_pos ⟨by omega, b.isLt⟩
theorem cols_1 : cols f (2 * p.val + 1) b.val r = f (h1 p) (row b r) := dif_pos ⟨by omega, b.isLt⟩

theorem lanes_lo (e : Fin 64) : lanes a p b.val r ⟨e.val, by omega⟩ = a (h0 p) (row b r) e := by
  rw [lanes_eq]; congr 1
  · congr 1; apply Fin.ext; show 2 * p.val + e.val / 64 = 2 * p.val; omega
  · apply Fin.ext; show e.val % 64 = e.val; omega
theorem lanes_hi (e : Fin 64) : lanes a p b.val r ⟨64 + e.val, by omega⟩ = a (h1 p) (row b r) e := by
  rw [lanes_eq]; congr 1
  · congr 1; apply Fin.ext; show 2 * p.val + (64 + e.val) / 64 = 2 * p.val + 1; omega
  · apply Fin.ext; show (64 + e.val) % 64 = e.val; omega

/-- A product over the first head's lanes. -/
theorem dot_lo (x y : Fin 8 → Fin 16384 → Fin 64 → ℝ) (b' : Fin 32) (s : Fin 512) :
    ∑ l, (lo l * lanes x p b.val r l) * lanes y p b'.val s l = ∑ e, x (h0 p) (row b r) e * y (h0 p) (row b' s) e := by
  simp_rw [mul_assoc]
  rw [sum_lo (fun l => lanes x p b.val r l * lanes y p b'.val s l)]
  exact Finset.sum_congr rfl fun e _ => by rw [lanes_lo, lanes_lo]
/-- A product over the second head's lanes. -/
theorem dot_hi (x y : Fin 8 → Fin 16384 → Fin 64 → ℝ) (b' : Fin 32) (s : Fin 512) :
    ∑ l, (hi l * lanes x p b.val r l) * lanes y p b'.val s l = ∑ e, x (h1 p) (row b r) e * y (h1 p) (row b' s) e := by
  simp_rw [mul_assoc]
  rw [sum_hi (fun l => lanes x p b.val r l * lanes y p b'.val s l)]
  exact Finset.sum_congr rfl fun e _ => by rw [lanes_hi, lanes_hi]

theorem row_le (b b' : Fin 32) (r s : Fin 512) : row b' s ≤ row b r ↔ b' < b ∨ (b' = b ∧ s ≤ r) := by
  rw [row_at, row_at, ← at'_le b b' r s]; exact Iff.rfl
theorem row_le_of_lt {b b' : Fin 32} (h : b' < b) (r s : Fin 512) : row b' s ≤ row b r := (row_le b b' r s).2 (Or.inl h)
theorem row_le_diag (b : Fin 32) (r s : Fin 512) : row b s ≤ row b r ↔ s ≤ r := by
  rw [row_le]; simp

/-- A sum over the tiles before `j`. -/
theorem sum_before (F : ℕ → ℝ) (j : Fin 32) : ∑ b ∈ Finset.range j.val, F b = ∑ b ∈ Finset.univ.filter (· < j), F b.val := by
  rw [← Nat.Iio_eq_range, ← Fin.map_valEmbedding_Iio, Finset.sum_map]
  refine Finset.sum_congr ?_ fun _ _ => rfl
  ext x; simp

/-- A sum over the columns a row sees: the tiles before its own, and its own. -/
theorem sum_tiles (F : Fin 16384 → ℝ) (G : ℕ → Fin 512 → ℝ) (j : Fin 32) (r : Fin 512) (h0 : ∀ i, ¬ i ≤ row j r → F i = 0)
    (hG : ∀ b : Fin 32, b < j → ∀ s, G b.val s = F (row b s)) (D : Fin 512 → ℝ) (hD : ∀ s, D s = F (row j s)) :
    (∑ b ∈ Finset.range j.val, ∑ s, G b s) + ∑ s, D s = ∑ i, F i := by
  rw [sum_before (fun b => ∑ s, G b s)]
  rw [sum_row' (n := 16384) (B := 32) (T := 512) (by norm_num) F j r (fun i hi => h0 i (by rw [row_at]; exact hi))]
  congr 1
  · refine Finset.sum_congr rfl fun b hb => Finset.sum_congr rfl fun s _ => ?_
    rw [hG b (Finset.mem_filter.mp hb).2, row_at]
  · refine Finset.sum_congr rfl fun s _ => ?_
    split_ifs with h
    · rw [hD, row_at]
    · rw [hD]; exact h0 _ (by rw [row_le_diag]; exact h)

end Cert.Attn
end
-- ==== Proof.Attn.RefFwd.lean ====
/-
  The reference's forward pass over real arguments: the heads' outputs and each row's log-mass.
-/
module
public import proofs.«01_k».proof.Proof.Attn.Ref
public import proofs.«01_k».proof.Proof.Gen.Reference3Ideal.Read
@[expose] public section
set_option maxRecDepth 16384
noncomputable section
namespace Cert.Attn.Ref
open Idealize.ShloMosaic Cert.Reference3Ideal Cert.Reference3Ideal.Gen

variable {x0 x1 x2 x4 : Mat} {x3 : Gates} {q k v g : Heads} {c : Fin 8 → Fin 16384 → ℝ}

/-- The forward pass is the one inside the gradients' program. -/
theorem fwd_eq : Cert.Reference3Ideal.Read.val_main_v32 x0 x1 x2 x3 = Cert.Reference2Ideal.Read.val_main_v49 x0 x1 x2 x3 := rfl
/-- So are its masked scores, computed again for the log-masses. -/
theorem masked_eq : Cert.Reference3Ideal.Read.val_main_v50 x0 x1 x3 = Cert.Reference2Ideal.Read.val_main_v17_0 x0 x1 x3 := rfl
theorem max_eq : Cert.Reference3Ideal.Read.val_main_v51 x0 x1 x3 = Cert.Reference2Ideal.Read.val_main_v18 x0 x1 x3 := rfl

variable (hq : Holds x0 q) (hk : Holds x1 k) (hv : Holds x2 v) (hc : HoldsGates x3 c)

include hq hk hv hc in
/-- The heads' outputs. -/
theorem fwd_holds : Holds (Cert.Reference3Ideal.Read.val_main_v32 x0 x1 x2 x3) (fun h => out (q h) (k h) (v h) (c h)) :=
  fun h i e p => by rw [fwd_eq]; exact v49_eq hq hk hv hc h i e p

include hq hk hc in
/-- The exponentials of the scores less their row's maximum. -/
theorem w55_eq (h : Fin 8) (i j : Fin 16384) : Cert.Reference3Ideal.Read.val_main_v55 x0 x1 x3 (ix4 0 h i j)
    = ((expo (q h) (k h) (c h) (rowMax x0 x1 x3 h i) i j : ℝ) : EReal) := by
  have e : Cert.Reference3Ideal.Read.val_main_v54 x0 x1 x3 (ix4 0 h i j)
      = if j ≤ i then ((score (q h) (k h) (c h) i j + c h i - rowMax x0 x1 x3 h i : ℝ) : EReal) else ⊥ := by
    pointwise [Cert.Reference3Ideal.Read.val_main_v54, Cert.Reference3Ideal.Read.val_main_v53, Cert.Reference3Ideal.Read.val_main_v52]
    rw [masked_eq, max_eq, v17_eq hq hk hc, v18_eq hq hk hc]
    split_ifs with hij
    · rw [← EReal.coe_sub]
    · rw [sub_eq_add_neg, EReal.bot_add]
  rw [Cert.Reference3Ideal.Read.val_main_v55_apply, e]
  unfold expo
  split_ifs with hij
  · exact Ideal.exp_coe _
  · exact Ideal.exp_bot

include hq hk hc in
/-- Their sums. -/
theorem w56_eq (h : Fin 8) (i : Fin 16384) : Cert.Reference3Ideal.Read.val_main_v56 x0 x1 x3 (ix3 0 h i)
    = ((norm x0 x1 x3 q k c h i : ℝ) : EReal) := by
  pointwise [Cert.Reference3Ideal.Read.val_main_v56, Cert.Reference3Ideal.Read.val_main_cst_5]
  simp only [w55_eq hq hk hc, ← coe_sum, ofBits_zero, zero_add]
  rfl

include hq hk hc in
/-- Each row's log-mass. -/
theorem lse_eq (h : Fin 8) (i : Fin 16384) : Cert.Reference3Ideal.Read.val_main_v61 x0 x1 x3 (ix2 h i)
    = ((lse (q h) (k h) (c h) i : ℝ) : EReal) := by
  have e0 : Cert.Reference3Ideal.Read.idx_main_v59 (ix2 h i) = ix3 0 h i := by
    have h0 := h.isLt
    have h1 := i.isLt
    funext a
    match a with
    | ⟨0, _⟩ => rfl
    | ⟨1, _⟩ => exact Fin.ext (by show (h.val * 16384 + i.val) / 16384 % 8 = h.val; omega)
    | ⟨2, _⟩ => exact Fin.ext (by show (h.val * 16384 + i.val) % 16384 = i.val; omega)
  have e1 : Cert.Reference3Ideal.Read.idx_main_v60 (ix2 h i) = ix2 i h := by
    funext a
    match a with
    | ⟨0, _⟩ => rfl
    | ⟨1, _⟩ => rfl
  rw [Cert.Reference3Ideal.Read.val_main_v61_apply, Cert.Reference3Ideal.Read.val_main_v59_apply, Cert.Reference3Ideal.Read.val_main_v60_apply,
    Cert.Reference3Ideal.Read.val_main_v58_apply, Cert.Reference3Ideal.Read.val_main_v57_apply, e0, e1, w56_eq hq hk hc, max_eq, v18_eq hq hk hc, hc h i,
    ← log_sum_expo (q h) (k h) (c h) (rowMax x0 x1 x3 h i) i]
  show ((rowMax x0 x1 x3 h i : ℝ) : EReal) + Ideal.log ((norm x0 x1 x3 q k c h i : ℝ) : EReal) - ((c h i : ℝ) : EReal) = _
  rw [Ideal.log_coe, if_neg (not_le.2 (norm_pos h i)), ← EReal.coe_add, ← EReal.coe_sub]
  rfl

end Cert.Attn.Ref
end
-- ==== Proof.Attn.Arrays.lean ====
/-
  Blocks of an array that holds real numbers: which lanes of which rows a tile of 512 rows and 128 lanes is.
-/
module
public import proofs.«01_k».proof.Proof.Attn.Lanes
public import proofs.«01_k».proof.Proof.Attn.RefFwd
@[expose] public section
set_option maxRecDepth 16384
noncomputable section
namespace Cert.Attn
open Idealize.ShloMosaic Cert.Attn.Ref

/-- An entry of an array of heads, at its lane of the pair's tile. -/
theorem Ref.Holds.at {x : (⟨2, ![16384, 512]⟩ : Shape).Idx → EReal} {a : Heads} (hx : Holds x a) (p : Fin 4) (b : Fin 32) (r : Fin 512) (l : Fin 128)
    (i : (⟨2, ![16384, 512]⟩ : Shape).Idx) (h0 : (i 0).val = b.val * 512 + r.val) (h1 : (i 1).val = p.val * 128 + l.val) :
    x i = ((lanes a p b.val r l : ℝ) : EReal) := by
  rw [lanes_eq, ← hx (hd p l) (row b r) (ln l) (by show (2 * p.val + l.val / 64) * 64 + l.val % 64 < 512; omega)]
  congr 1
  funext u
  match u with
  | ⟨0, _⟩ => exact Fin.ext (by show (i 0).val = 512 * b.val + r.val; omega)
  | ⟨1, _⟩ => exact Fin.ext (by show (i 1).val = (2 * p.val + l.val / 64) * 64 + l.val % 64; omega)

/-- Head by head and row by row, the array holds these numbers. -/
def HoldsRows (x : (⟨2, ![8, 16384]⟩ : Shape).Idx → EReal) (f : Fin 8 → Fin 16384 → ℝ) : Prop :=
  ∀ h i, x (ix2 h i) = ((f h i : ℝ) : EReal)

/-- Cut into tiles of 512. -/
theorem HoldsRows.tiles {x : (⟨2, ![8, 16384]⟩ : Shape).Idx → EReal} {f : Fin 8 → Fin 16384 → ℝ} (hx : HoldsRows x f)
    (hc : (⟨2, ![8, 16384]⟩ : Shape).ShapeCasts ⟨3, ![8, 32, 512]⟩) (h : Fin 8) (b : Fin 32) (s : Fin 512) :
    shapeCast ⟨3, ![8, 32, 512]⟩ x hc (ix3 h b s) = ((cols f h.val b.val s : ℝ) : EReal) := by
  rw [show cols f h.val b.val s = f h (row b s) from dif_pos ⟨h.isLt, b.isLt⟩, ← hx h (row b s)]
  refine shapeCast_apply x hc _ _ ?_
  rw [Shape.rowMajor_val_two, Shape.rowMajor_val_three]
  show h.val * 16384 + (512 * b.val + s.val) = (h.val * 32 + b.val) * 512 + s.val
  omega

/-- Head by head and tile by tile, the array holds these numbers. -/
def HoldsTiles (x : (⟨4, ![8, 32, 1, 512]⟩ : Shape).Idx → EReal) (f : Fin 8 → Fin 16384 → ℝ) : Prop :=
  ∀ (h : Fin 8) (b : Fin 32) (s : Fin 512), x (ix4 h b 0 s) = ((f h (row b s) : ℝ) : EReal)

/-- An entry of such an array. -/
theorem HoldsTiles.at {x : (⟨4, ![8, 32, 1, 512]⟩ : Shape).Idx → EReal} {f : Fin 8 → Fin 16384 → ℝ} (hx : HoldsTiles x f) (h b : ℕ) (s : Fin 512)
    (i : (⟨4, ![8, 32, 1, 512]⟩ : Shape).Idx) (e0 : (i 0).val = h) (e1 : (i 1).val = b) (e3 : (i 3).val = s.val) :
    x i = ((cols f h b s : ℝ) : EReal) := by
  have hi : i = ix4 (i 0 : Fin 8) (i 1 : Fin 32) 0 s := by
    funext u
    match u with
    | ⟨0, _⟩ => rfl
    | ⟨1, _⟩ => rfl
    | ⟨2, _⟩ => exact Subsingleton.elim (α := Fin 1) _ _
    | ⟨3, _⟩ => exact Fin.ext e3
  subst e0 e1
  rw [show cols f (i 0).val (i 1).val s = f (i 0 : Fin 8) (row (i 1 : Fin 32) s) from dif_pos ⟨(i 0).isLt, (i 1).isLt⟩, ← hx (i 0) (i 1) s]
  exact congrArg x hi

/-- The rows cut into tiles, as a four-axis array. -/
theorem HoldsRows.tiles4 {x : (⟨2, ![8, 16384]⟩ : Shape).Idx → EReal} {f : Fin 8 → Fin 16384 → ℝ} (hx : HoldsRows x f)
    (hc : (⟨2, ![8, 16384]⟩ : Shape).ShapeCasts ⟨4, ![8, 32, 1, 512]⟩) : HoldsTiles (shapeCast ⟨4, ![8, 32, 1, 512]⟩ x hc) f := by
  intro h b s
  rw [← hx h (row b s)]
  refine shapeCast_apply x hc _ _ ?_
  rw [Shape.rowMajor_val_two, Shape.rowMajor_val_four]
  show h.val * 16384 + (512 * b.val + s.val) = ((h.val * 32 + b.val) * 1 + 0) * 512 + s.val
  omega

/-- The gates with their sign turned, head by head. -/
def negRows (x : Gates) (ht : (⟨2, ![16384, 8]⟩ : Shape).Transposes [1, 0] ⟨2, ![8, 16384]⟩) : (⟨2, ![8, 16384]⟩ : Shape).Idx → EReal :=
  Host.negf (F := Ideal) (φ := .f32) (transpose ⟨2, ![8, 16384]⟩ [1, 0] x ht)

theorem negRows_holds {x : Gates} {c : Fin 8 → Fin 16384 → ℝ} (hx : HoldsGates x c) (ht) : HoldsRows (negRows x ht) (neg c) := by
  intro h i
  show -(transpose ⟨2, ![8, 16384]⟩ [1, 0] x ht (ix2 h i)) = _
  rw [transpose_apply [1, 0] x ht (ix2 h i) (ix2 i h) (fun b => match b with
    | ⟨0, _⟩ => rfl
    | ⟨1, _⟩ => rfl), hx h i, ← EReal.coe_neg]
  rfl

end Cert.Attn
end
-- ==== Proof.Dq.Host.lean ====
/-
  The query-gradient kernel's operands as the host prepares them.
-/
module
public import proofs.«01_k».proof.Proof.Attn.Arrays
public import proofs.«01_k».proof.Proof.Gen.KernelIdeal.Frame
public import Idealize.ShloMosaic.Lib.Pipeline.ValueKit.Geometry
public import Idealize.ShloMosaic.Lib.StableHlo.RunRead
@[expose] public section
set_option maxRecDepth 16384
noncomputable section
namespace Cert.Attn.Dq
open Cert.KernelIdeal Cert.KernelIdeal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

/-- The queries in the narrow format are the queries. -/
theorem V_v62 : (V m c main_v62 : S16384x512.Idx → EReal) = m ((c : Thread nD τ).loc main_arg0) := by
  simp only [V, hostOps0, hostOps0_1, hostOps0_2, hostOps0_3, hostOps0_4, List.flatten_cons, List.flatten_nil, List.append_nil, List.cons_append, List.nil_append]
  after_reads_simp
  rfl

/-- The keys in the narrow format are the keys. -/
theorem V_v63 : (V m c main_v63 : S16384x512.Idx → EReal) = m ((c : Thread nD τ).loc main_arg1) := by
  simp only [V, hostOps0, hostOps0_1, hostOps0_2, hostOps0_3, hostOps0_4, List.flatten_cons, List.flatten_nil, List.append_nil, List.cons_append, List.nil_append]
  after_reads_simp
  rfl

/-- The values in the narrow format are the values. -/
theorem V_v64 : (V m c main_v64 : S16384x512.Idx → EReal) = m ((c : Thread nD τ).loc main_arg2) := by
  simp only [V, hostOps0, hostOps0_1, hostOps0_2, hostOps0_3, hostOps0_4, List.flatten_cons, List.flatten_nil, List.append_nil, List.cons_append, List.nil_append]
  after_reads_simp
  rfl

/-- The host computes the attention output as the reference does. -/
theorem V_v32 : (V m c main_v32 : S16384x512.Idx → EReal) = Cert.Reference3Ideal.Read.val_main_v32 (F := Ideal) (m ((c : Thread nD τ).loc main_arg0)) (m ((c : Thread nD τ).loc main_arg1)) (m ((c : Thread nD τ).loc main_arg2)) (m ((c : Thread nD τ).loc main_arg3)) := by
  simp only [V, hostOps0, hostOps0_1, hostOps0_2, hostOps0_3, hostOps0_4, List.flatten_cons, List.flatten_nil, List.append_nil, List.cons_append, List.nil_append]
  after_reads_simp
  rfl

/-- The gates with their sign turned, head by head, in tiles. -/
theorem V_v67 : (V m c main_v67 : S8x32x512.Idx → EReal) = shapeCast S8x32x512 (negRows (m ((c : Thread nD τ).loc main_arg3)) transposes_S16384x8_S8x16384_1_0) shapeCasts_S8x16384_S8x32x512 := by
  simp only [V, hostOps0, hostOps0_1, hostOps0_2, hostOps0_3, hostOps0_4, List.flatten_cons, List.flatten_nil, List.append_nil, List.cons_append, List.nil_append]
  after_reads_simp
  rfl

/-- The log-masses, in tiles. -/
theorem V_v68 : (V m c main_v68 : S8x32x512.Idx → EReal) = shapeCast S8x32x512 (Cert.Reference3Ideal.Read.val_main_v61 (F := Ideal) (m ((c : Thread nD τ).loc main_arg0)) (m ((c : Thread nD τ).loc main_arg1)) (m ((c : Thread nD τ).loc main_arg3))) shapeCasts_S8x16384_S8x32x512 := by
  simp only [V, hostOps0, hostOps0_1, hostOps0_2, hostOps0_3, hostOps0_4, List.flatten_cons, List.flatten_nil, List.append_nil, List.cons_append, List.nil_append]
  after_reads_simp
  rfl

end Cert.Attn.Dq
end
-- ==== Proof.Dq.Stage.lean ====
/-
  What the query-gradient kernel's windows stage.
-/
module
public import proofs.«01_k».proof.Proof.Attn.Arrays
public import proofs.«01_k».proof.Proof.Dq.Host
public import Idealize.ShloMosaic.Lib.Pipeline.ValueKit.Geometry
public import Idealize.ShloMosaic.Lib.StableHlo.RunRead
@[expose] public section
set_option maxRecDepth 16384
noncomputable section
namespace Cert.Attn.Dq
open Cert.KernelIdeal Cert.KernelIdeal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

theorem idx0 : ∀ t : Fin cfg0.N, win0_0.index t = ![(grid0.coords t 1).val, (grid0.coords t 0).val] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![0, (grid0.coords t 0).val] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![(grid0.coords t 1).val, (grid0.coords t 0).val] := (by decide +kernel : ∀ t : Fin grid0.N, _)
theorem idx5 : ∀ t : Fin cfg0.N, win0_5.index t = ![(grid0.coords t 1).val, (grid0.coords t 0).val] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![(grid0.coords t 1).val, (grid0.coords t 0).val] := (by decide +kernel : ∀ t : Fin grid0.N, _)
theorem idx8 : ∀ t : Fin cfg0.N, win0_8.index t = ![(grid0.coords t 0).val, (grid0.coords t 1).val, 0, 0] := (by decide +kernel : ∀ t : Fin grid0.N, _)
theorem idx9 : ∀ t : Fin cfg0.N, win0_9.index t = ![(grid0.coords t 1).val, (grid0.coords t 0).val] := (by decide +kernel : ∀ t : Fin grid0.N, _)

theorem blk0 {a : Heads} (ha : Holds (m ((c : Thread nD τ).loc main_arg0)) a) (t : Fin cfg0.N) :
    Mx (iblk m c 0 t) (lanes a (grid0.coords t 0) (grid0.coords t 1).val) := by
  intro r l
  blk_simp [iblk, idx0]
  rw [V_v62]
  exact ha.at (grid0.coords t 0) (grid0.coords t 1) r l _ (by blk_simp [idx0]) (by blk_simp [idx0])
theorem blk1 {a : Heads} (ha : Holds (m ((c : Thread nD τ).loc main_arg1)) a) (t : Fin cfg0.N) :
    Rows (iblk m c 1 t) (lanes a (grid0.coords t 0)) := by
  intro b hb r l
  blk_simp [iblk, idx1]
  rw [V_v63]
  exact ha.at (grid0.coords t 0) ⟨b, hb⟩ r l _ (by blk_simp [idx1]; show 512 * b + r.val = b * 512 + r.val; omega) (by blk_simp [idx1])
theorem blk2 {a : Heads} (ha : Holds (m ((c : Thread nD τ).loc main_arg2)) a) (t : Fin cfg0.N) :
    Rows (iblk m c 2 t) (lanes a (grid0.coords t 0)) := by
  intro b hb r l
  blk_simp [iblk, idx2]
  rw [V_v64]
  exact ha.at (grid0.coords t 0) ⟨b, hb⟩ r l _ (by blk_simp [idx2]; show 512 * b + r.val = b * 512 + r.val; omega) (by blk_simp [idx2])
theorem blk3 {f : Fin 8 → Fin 16384 → ℝ} (hf : HoldsRows (negRows (m ((c : Thread nD τ).loc main_arg3)) transposes_S16384x8_S8x16384_1_0) f) (t : Fin cfg0.N) :
    Bias (iblk m c 3 t) (cols f) := by
  intro h b s
  have e : ((cfg0.win 3).blk t).view.emb (ix3 h b s) = ix3 h b s := by
    funext u
    apply Fin.ext
    match u with
    | ⟨0, _⟩ => blk_simp [idx3]
    | ⟨1, _⟩ => blk_simp [idx3]
    | ⟨2, _⟩ => blk_simp [idx3]
  have st : ∀ x : S8x32x512.Idx → EReal, ((cfg0.win 3).blk t).view.read (Elt Ideal) x (ix3 h b s) = x (ix3 h b s) := fun x => congrArg x e
  have hV : (V m c (Pipeline.arrRef spec0 3) : S8x32x512.Idx → EReal) = _ := V_v67 m c
  generalize hy : negRows (m ((c : Thread nD τ).loc main_arg3)) transposes_S16384x8_S8x16384_1_0 = y at hf hV
  unfold iblk
  rw [hV]
  exact (st _).trans (hf.tiles _ h b s)
theorem blk4 {a : Heads} (ha : Holds (Cert.Reference3Ideal.Read.val_main_v32 (F := Ideal) (m ((c : Thread nD τ).loc main_arg0)) (m ((c : Thread nD τ).loc main_arg1)) (m ((c : Thread nD τ).loc main_arg2)) (m ((c : Thread nD τ).loc main_arg3))) a) (t : Fin cfg0.N) :
    Mx (iblk m c 4 t) (lanes a (grid0.coords t 0) (grid0.coords t 1).val) := by
  intro r l
  blk_simp [iblk, idx4]
  rw [V_v32]
  exact ha.at (grid0.coords t 0) (grid0.coords t 1) r l _ (by blk_simp [idx4]) (by blk_simp [idx4])
theorem blk5 {a : Heads} (ha : Holds (m ((c : Thread nD τ).loc main_arg4)) a) (t : Fin cfg0.N) :
    Mx (iblk m c 5 t) (lanes a (grid0.coords t 0) (grid0.coords t 1).val) := by
  intro r l
  blk_simp [iblk, idx5]
  rw [V_main_arg4]
  exact ha.at (grid0.coords t 0) (grid0.coords t 1) r l _ (by blk_simp [idx5]) (by blk_simp [idx5])
theorem blk6 {f : Fin 8 → Fin 16384 → ℝ} (hf : HoldsRows (Cert.Reference3Ideal.Read.val_main_v61 (F := Ideal) (m ((c : Thread nD τ).loc main_arg0)) (m ((c : Thread nD τ).loc main_arg1)) (m ((c : Thread nD τ).loc main_arg3))) f) (t : Fin cfg0.N) :
    Bias (iblk m c 6 t) (cols f) := by
  intro h b s
  have e : ((cfg0.win 6).blk t).view.emb (ix3 h b s) = ix3 h b s := by
    funext u
    apply Fin.ext
    match u with
    | ⟨0, _⟩ => blk_simp [idx6]
    | ⟨1, _⟩ => blk_simp [idx6]
    | ⟨2, _⟩ => blk_simp [idx6]
  have st : ∀ x : S8x32x512.Idx → EReal, ((cfg0.win 6).blk t).view.read (Elt Ideal) x (ix3 h b s) = x (ix3 h b s) := fun x => congrArg x e
  have hV : (V m c (Pipeline.arrRef spec0 6) : S8x32x512.Idx → EReal) = _ := V_v68 m c
  generalize hy : Cert.Reference3Ideal.Read.val_main_v61 (F := Ideal) (m ((c : Thread nD τ).loc main_arg0)) (m ((c : Thread nD τ).loc main_arg1)) (m ((c : Thread nD τ).loc main_arg3)) = y at hf hV
  unfold iblk
  rw [hV]
  exact (st _).trans (hf.tiles _ h b s)

end Cert.Attn.Dq
end
-- ==== Proof.Dq.Pay.lean ====
/-
  The arithmetic of one tile of the query-gradient kernel, over real arguments.
-/
module
public import proofs.«01_k».proof.Proof.Attn.Tile
public import proofs.«01_k».proof.Proof.Gen.KernelIdeal.Skeleton
public import Idealize.ShloMosaic.Lib.Pointwise
@[expose] public section
set_option maxRecDepth 16384
noncomputable section
namespace Cert.Attn.Dq
open Idealize.ShloMosaic Cert.KernelIdeal Cert.KernelIdeal.Gen

variable {v18 v26 v22 v30 kt vt : FVec Ideal S512x128 .bf16} {x4 x5 acc : FVec Ideal S512x128 .f32} {v36 v52 a : FVec Ideal S512x1 .f32} {ct : FVec Ideal S1x1x512 .f32}
variable {Q K G V O A : Tile} {C L D X : Col}

theorem pay23 {x0 : FVec Ideal S512x128 .bf16} (h : Mx x0 Q) : Mx (k0_pay23 (F := Ideal) x0) (fun r l => lo l * Q r l) := by
  intro r l
  pointwise [k0_pay23, k0_pay18, k0_pay21]
  rw [h r l, select_lane_lt]; exact lo_coe _ _

theorem pay24 {x0 : FVec Ideal S512x128 .bf16} (h : Mx x0 Q) : Mx (k0_pay24 (F := Ideal) x0) (fun r l => hi l * Q r l) := by
  intro r l
  pointwise [k0_pay24, k0_pay18, k0_pay22]
  rw [h r l, select_lane_ge]; exact hi_coe _ _

theorem pay25 (h : Mx x5 G) : Mx (k0_pay25 (F := Ideal) x5) (fun r l => lo l * G r l) := by
  intro r l
  pointwise [k0_pay25, k0_pay20, k0_pay21]
  rw [h r l, select_lane_lt]; exact lo_coe _ _

theorem pay26 (h : Mx x5 G) : Mx (k0_pay26 (F := Ideal) x5) (fun r l => hi l * G r l) := by
  intro r l
  pointwise [k0_pay26, k0_pay20, k0_pay22]
  rw [h r l, select_lane_ge]; exact hi_coe _ _

theorem pay27 (h5 : Mx x5 G) (h4 : Mx x4 O) : Cx (k0_pay27 (F := Ideal) x5 x4) (fun r => ∑ l, lo l * (O r l * G r l)) := by
  intro r
  pointwise [k0_pay27, k0_pay19, k0_pay21]
  simp only [h5 r _, h4 r _, select_lane_lt, ← EReal.coe_mul, lo_coe, ← coe_sum]

theorem pay30 (h5 : Mx x5 G) (h4 : Mx x4 O) : Cx (k0_pay30 (F := Ideal) (k0_pay19 (F := Ideal) x5 x4) k0_pay28 k0_pay29) (fun r => ∑ l, hi l * (O r l * G r l)) := by
  intro r
  pointwise [k0_pay30, k0_pay19, k0_pay22, k0_pay28, k0_pay29]
  simp only [h5 r _, h4 r _, select_lane_ge, ← EReal.coe_mul, hi_coe, ← coe_sum]

theorem pay31 (h : Rx ct L) : Cx (k0_pay31 (F := Ideal) ct) L := by
  intro r
  pointwise [k0_pay31]
  exact h r
theorem pay32 (h : Rx ct L) : Cx (k0_pay32 (F := Ideal) ct) L := by
  intro r
  pointwise [k0_pay32]
  exact h r

theorem pay6 {w : Fin 128 → ℝ} (hQ : Mx v18 (fun r l => w l * Q r l)) (hG : Mx v26 (fun r l => w l * G r l)) (hD : Cx v36 D) (hL : Cx v52 L)
    (hK : Mx kt K) (hV : Mx vt V) (hC : Rx ct C) : Mx (k0_pay6 (F := Ideal) v18 v26 v36 v52 kt vt ct) (ds w Q K C L G V D) := by
  intro r s
  pointwise [k0_pay6, k0_pay4, k0_pay5]
  simp only [hQ r _, hG r _, hK s _, hV s _, hD r, hL r, hC s, ← EReal.coe_mul, ← coe_sum, ← EReal.coe_add, ← EReal.coe_sub, Ideal.exp_coe]
  rfl

theorem pay7 {w : Fin 128 → ℝ} (hQ : Mx v18 (fun r l => w l * Q r l)) (hG : Mx v26 (fun r l => w l * G r l)) (hD : Cx v36 D) (hL : Cx v52 L) (ha : Cx a X)
    (hK : Mx kt K) (hV : Mx vt V) (hC : Rx ct C) : Cx (k0_pay7 (F := Ideal) v18 v26 v36 v52 a kt vt ct) (fun r => X r + ∑ s, ds w Q K C L G V D r s) := by
  intro r
  pointwise [k0_pay7]
  simp only [pay6 hQ hG hD hL hK hV hC r _, ha r, ← coe_sum, ← EReal.coe_add]

theorem pay8 (hQ : Mx v18 (fun r l => lo l * Q r l)) (hG : Mx v26 (fun r l => lo l * G r l)) (hD : Cx v36 D) (hL : Cx v52 L) (hA : Mx acc A)
    (hK : Mx kt K) (hV : Mx vt V) (hC : Rx ct C) :
    Mx (k0_pay8 (F := Ideal) k0_pay21 v18 v26 v36 v52 acc kt vt ct) (fun r l => A r l + mm lo (ds lo Q K C L G V D) K r l) := by
  intro r l
  pointwise [k0_pay8, k0_pay4, k0_pay21]
  simp only [pay6 hQ hG hD hL hK hV hC r _, hA r l, hK _ l, select_lane_lt, lo_coe, ← EReal.coe_mul, ← coe_sum, ← EReal.coe_add]
  rfl

theorem pay35 (h5 : Mx x5 G) (h4 : Mx x4 O) (hQ : Mx v22 (fun r l => hi l * Q r l)) (hG : Mx v30 (fun r l => hi l * G r l)) (hL : Cx v52 L)
    (hK : Mx kt K) (hV : Mx vt V) (hC : Rx ct C) :
    Mx (k0_pay35 (F := Ideal) (k0_pay19 x5 x4) v30 k0_pay28 k0_pay29 (k0_pay5 vt) (k0_pay9 v22 kt ct) (k0_pay10 v52))
      (ds hi Q K C L G V (fun r => ∑ l, hi l * (O r l * G r l))) := by
  intro r s
  pointwise [k0_pay35, k0_pay5, k0_pay9, k0_pay10, k0_pay4]
  simp only [pay30 h5 h4 r, hQ r _, hG r _, hK s _, hV s _, hL r, hC s, ← EReal.coe_mul, ← coe_sum, ← EReal.coe_add, ← EReal.coe_sub, Ideal.exp_coe]
  rfl

theorem pay36 (h5 : Mx x5 G) (h4 : Mx x4 O) (hQ : Mx v22 (fun r l => hi l * Q r l)) (hG : Mx v30 (fun r l => hi l * G r l)) (hL : Cx v52 L)
    (ha : Cx a X) (hK : Mx kt K) (hV : Mx vt V) (hC : Rx ct C) :
    Cx (k0_pay36 (F := Ideal) (k0_pay19 x5 x4) v30 k0_pay28 k0_pay29 a (k0_pay5 vt) (k0_pay9 v22 kt ct) (k0_pay10 v52))
      (fun r => X r + ∑ s, ds hi Q K C L G V (fun r => ∑ l, hi l * (O r l * G r l)) r s) := by
  intro r
  pointwise [k0_pay36]
  simp only [pay35 h5 h4 hQ hG hL hK hV hC r _, ha r, ← coe_sum, ← EReal.coe_add]

theorem pay37 (h5 : Mx x5 G) (h4 : Mx x4 O) (hQ : Mx v22 (fun r l => hi l * Q r l)) (hG : Mx v30 (fun r l => hi l * G r l)) (hL : Cx v52 L)
    (hA : Mx acc A) (hK : Mx kt K) (hV : Mx vt V) (hC : Rx ct C) :
    Mx (k0_pay37 (F := Ideal) (k0_pay19 x5 x4) k0_pay22 v30 k0_pay28 k0_pay29 (k0_pay4 kt) (k0_pay5 vt) acc (k0_pay9 v22 kt ct) (k0_pay10 v52))
      (fun r l => A r l + mm hi (ds hi Q K C L G V (fun r => ∑ l, hi l * (O r l * G r l))) K r l) := by
  intro r l
  pointwise [k0_pay37, k0_pay4, k0_pay22]
  simp only [pay35 h5 h4 hQ hG hL hK hV hC r _, hA r l, hK _ l, select_lane_ge, hi_coe, ← EReal.coe_mul, ← coe_sum, ← EReal.coe_add]
  rfl

variable {row col : IVec S512x512 32} (hrow : ∀ r s, row (ix2 r s) = BitVec.ofNat 32 r.val) (hcol : ∀ r s, col (ix2 r s) = BitVec.ofNat 32 s.val)

include hrow hcol in
theorem pay44 (hQ : Mx v18 (fun r l => lo l * Q r l)) (hG : Mx v26 (fun r l => lo l * G r l)) (hD : Cx v36 D) (hL : Cx v52 L)
    (hK : Mx kt K) (hV : Mx vt V) (hC : Rx ct C) :
    Mx (k0_pay44 (F := Ideal) row col v26 v36 v52 (k0_pay42 vt) (k0_pay43 v18 kt) ct) (dsDiag lo Q K C L G V D) := by
  intro r s
  pointwise [k0_pay44, k0_pay42, k0_pay43, k0_pay41]
  rw [hrow, hcol, select_sle (by omega) (by omega)]
  simp only [hQ r _, hG r _, hK s _, hV s _, hD r, hL r, hC s, ← EReal.coe_mul, ← coe_sum, ← EReal.coe_add, ← EReal.coe_sub, Ideal.exp_coe]
  unfold dsDiag
  simp only [Fin.le_def]
  split_ifs
  · rfl
  · rw [zero_mul]; rfl

include hrow hcol in
theorem pay45 (hQ : Mx v18 (fun r l => lo l * Q r l)) (hG : Mx v26 (fun r l => lo l * G r l)) (hD : Cx v36 D) (hL : Cx v52 L) (ha : Cx a X)
    (hK : Mx kt K) (hV : Mx vt V) (hC : Rx ct C) :
    Cx (k0_pay45 (F := Ideal) row col v26 v36 v52 a (k0_pay42 vt) (k0_pay43 v18 kt) ct) (fun r => X r + ∑ s, dsDiag lo Q K C L G V D r s) := by
  intro r
  pointwise [k0_pay45]
  simp only [pay44 hrow hcol hQ hG hD hL hK hV hC r _, ha r, ← coe_sum, ← EReal.coe_add]

include hrow hcol in
theorem pay46 (hQ : Mx v18 (fun r l => lo l * Q r l)) (hG : Mx v26 (fun r l => lo l * G r l)) (hD : Cx v36 D) (hL : Cx v52 L) (hA : Mx acc A)
    (hK : Mx kt K) (hV : Mx vt V) (hC : Rx ct C) :
    Mx (k0_pay46 (F := Ideal) row col k0_pay21 v26 v36 v52 acc (k0_pay41 kt) (k0_pay42 vt) (k0_pay43 v18 kt) ct)
      (fun r l => A r l + mm lo (dsDiag lo Q K C L G V D) K r l) := by
  intro r l
  pointwise [k0_pay46, k0_pay41, k0_pay21]
  simp only [pay44 hrow hcol hQ hG hD hL hK hV hC r _, hA r l, hK _ l, select_lane_lt, lo_coe, ← EReal.coe_mul, ← coe_sum, ← EReal.coe_add]
  rfl

include hrow hcol in
theorem pay47 (hQ : Mx v22 (fun r l => hi l * Q r l)) (hG : Mx v30 (fun r l => hi l * G r l)) (hD : Cx v36 D) (hL : Cx v52 L)
    (hK : Mx kt K) (hV : Mx vt V) (hC : Rx ct C) :
    Mx (k0_pay47 (F := Ideal) row col v22 v30 v36 v52 (k0_pay41 kt) (k0_pay42 vt) ct) (dsDiag hi Q K C L G V D) := by
  intro r s
  pointwise [k0_pay47, k0_pay42, k0_pay41]
  rw [hrow, hcol, select_sle (by omega) (by omega)]
  simp only [hQ r _, hG r _, hK s _, hV s _, hD r, hL r, hC s, ← EReal.coe_mul, ← coe_sum, ← EReal.coe_add, ← EReal.coe_sub, Ideal.exp_coe]
  unfold dsDiag
  simp only [Fin.le_def]
  split_ifs
  · rfl
  · rw [zero_mul]; rfl

theorem pay1 {S : Fin 512 → Fin 512 → ℝ} {p : FVec Ideal S512x512 .f32} (hK : Mx kt K) (hA : Mx acc A) (hp : Mx p S) :
    Mx (k0_pay1 (F := Ideal) k0_pay22 (k0_pay41 kt) acc p) (fun r l => A r l + mm hi S K r l) := by
  intro r l
  pointwise [k0_pay1, k0_pay41, k0_pay22]
  simp only [hp r _, hA r l, hK _ l, select_lane_ge, hi_coe, ← EReal.coe_mul, ← coe_sum, ← EReal.coe_add]
  rfl

theorem pay2 {b : FVec Ideal S512x1 .f32} (ha : Cx a X) (hb : Cx b D) (r : Fin 512) :
    k0_pay2 (F := Ideal) a b (ix4 0 0 0 r) = ((X r + D r : ℝ) : EReal) := by
  pointwise [k0_pay2]
  rw [ha r, hb r, ← EReal.coe_add]

theorem pay3 {b : FVec Ideal S512x1 .f32} {S : Fin 512 → Fin 512 → ℝ} {p : FVec Ideal S512x512 .f32} (ha : Cx a X) (hb : Cx b D) (hp : Mx p S) (r : Fin 512) :
    k0_pay3 (F := Ideal) a b p (ix4 0 0 0 r) = ((X r + (D r + ∑ s, S r s) : ℝ) : EReal) := by
  pointwise [k0_pay3]
  simp only [ha r, hb r, hp r _, ← coe_sum, ← EReal.coe_add]

end Cert.Attn.Dq
end
-- ==== Proof.Dq.Loop.lean ====
/-
  The loop of one point of the query-gradient kernel: the running sums after `n` tiles, over real arguments.
-/
module
public import proofs.«01_k».proof.Proof.Dq.Pay
public import proofs.«01_k».proof.Proof.Gen.KernelIdeal.Loops
public import Idealize.ShloMosaic.Lib.Affine
@[expose] public section
set_option maxRecDepth 16384
noncomputable section
namespace Cert.Attn.Dq
open Idealize.ShloMosaic Cert.KernelIdeal Cert.KernelIdeal.Gen Idealize.ShloMosaic.TcCoe

/-- The loop runs over the tiles before the point's own. -/
theorem trips_eq (i : grid0.Coords) : (k0_t1_loop i).trips = (i 1).val := by
  have h_c0_i32_20 : Affine.IsInt 0#32 (0) := Affine.ofNat _ (by omega)
  have r_i1 : (i 1).val < 32 := (i 1).isLt
  have h_arg1 : Affine.IsInt (BitVec.ofNat 32 (i 1).val) (((i 1).val : Int)) := Affine.ofNat _ (by omega)
  have h_v65 : Affine.IsInt _ (((i 1).val : Int)) := Affine.subi h_arg1 h_c0_i32_20 (by omega)
  have h_c1_i32_21 : Affine.IsInt 1#32 (1) := Affine.ofNat _ (by omega)
  have h_v67 : Affine.IsInt _ (((i 1).val : Int)) := Affine.divsi h_v65 h_c1_i32_21 (by omega)
  have h_v68 : Affine.IsInt _ (((i 1).val : Int)) := Affine.muli h_v67 h_c1_i32_21 (by omega)
  have h_v69 : Affine.IsInt _ (((i 1).val : Int)) := Affine.addi h_c0_i32_20 h_v68 (by omega)
  have h_c1_i32_22 : Affine.IsInt 1#32 (1) := Affine.ofNat _ (by omega)
  exact Affine.trips_eq h_c0_i32_20 h_v69 h_c1_i32_22 _ (by omega)

variable (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S8x32x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S2x1x1x512 .f32) (harg10 : arg10.IsWhole) (arg11 : Memref sig .tc .vmem S512x128 .bf16) (harg11 : arg11.IsWhole)  {x0 : Vec Ideal S512x128 .bf16} {x1 x2 : Vec Ideal S16384x128 .bf16} {x3 : Vec Ideal S8x32x512 .f32} {x4 x5 : Vec Ideal S512x128 .f32} {v47 v57 : Vec Ideal S1x1x512 .f32}
variable {Q G O : Tile} {K V : ℕ → Tile} {C : ℕ → ℕ → Col} {L0 L1 : Col}

/-- The first head's output against its gradient. -/
def d0 (O G : Tile) : Col := fun r => ∑ l, lo l * (O r l * G r l)
/-- The second head's output against its gradient. -/
def d1 (O G : Tile) : Col := fun r => ∑ l, hi l * (O r l * G r l)
/-- The first head's gradient of scores at tile `b`. -/
def s0 (p : ℕ) (Q G O : Tile) (K V : ℕ → Tile) (C : ℕ → ℕ → Col) (L : Col) (b : ℕ) : Fin 512 → Fin 512 → ℝ :=
  ds lo Q (K b) (C (2 * p) b) L G (V b) (d0 O G)
/-- The second head's gradient of scores at tile `b`. -/
def s1 (p : ℕ) (Q G O : Tile) (K V : ℕ → Tile) (C : ℕ → ℕ → Col) (L : Col) (b : ℕ) : Fin 512 → Fin 512 → ℝ :=
  ds hi Q (K b) (C (2 * p + 1) b) L G (V b) (d1 O G)

/-- What the loop carries after `n` tiles. -/
def Inv (p : ℕ) (Q G O : Tile) (K V : ℕ → Tile) (C : ℕ → ℕ → Col) (L0 L1 : Col) (n : ℕ)
    (st : FVec Ideal S512x128 .f32 × FVec Ideal S512x1 .f32 × FVec Ideal S512x1 .f32) : Prop :=
  Mx st.1 (fun r l => ∑ b ∈ Finset.range n, (mm lo (s0 p Q G O K V C L0 b) (K b) r l + mm hi (s1 p Q G O K V C L1 b) (K b) r l))
  ∧ Cx st.2.1 (fun r => ∑ b ∈ Finset.range n, ∑ s, s0 p Q G O K V C L0 b r s)
  ∧ Cx st.2.2 (fun r => ∑ b ∈ Finset.range n, ∑ s, s1 p Q G O K V C L1 b r s)

variable (h0 : Mx x0 Q) (h1 : Rows x1 K) (h2 : Rows x2 V) (h3 : Bias x3 C) (h4 : Mx x4 O) (h5 : Mx x5 G) (h47 : Rx v47 L0) (h57 : Rx v57 L1)

include h0 h1 h2 h3 h4 h5 h47 h57 in
/-- One tile. -/
theorem trip (k : Fin (k0_t1_loop i).trips) (acc : FVec Ideal S512x128 .f32 × FVec Ideal S512x1 .f32 × FVec Ideal S512x1 .f32)
    (ha : Inv (i 0).val Q G O K V C L0 L1 k.val acc) :
    Inv (i 0).val Q G O K V C L0 L1 (k.val + 1) (tripR_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (k0_pay19 x5 x4) k0_pay21 k0_pay22 (k0_pay23 x0) (k0_pay24 x0) (k0_pay25 x5) (k0_pay26 x5) (k0_pay27 x5 x4) k0_pay28 k0_pay29 v47 v57 (harg3.unread x1) (harg4.unread x2) (harg5.unread x3) k acc) := by
  obtain ⟨hA, hX, hY⟩ := ha
  have hk : k.val < 32 := lt_of_lt_of_le k.isLt ((k0_t1_abs i).2.1.trans (by norm_num))
  have hi0 : (i 0).val < 4 := (i 0).isLt
  have e3 : ∀ r : Fin 2, 2 * (i 0).val + r.val < 8 := fun r => by omega
  unfold tripR_k0_t1 trip_k0_t1
  dsimp only
  sl_unfold_words
  simp only [View.readAt_eq_ld, harg3.read_unread, harg4.read_unread, harg5.read_unread]
  have hK := h1.ld hk (k0_off2_eq i k) (k0_off2_inb i k)
  have hV := h2.ld hk (k0_off2_eq i k) (k0_off2_inb i k)
  have hC0 := h3.ld (e3 0) hk (k0_off3_eq i k 0) (k0_off3_inb i k 0)
  have hC1 := h3.ld (e3 1) hk (k0_off3_eq i k 1) (k0_off3_inb i k 1)
  refine ⟨?_, ?_, ?_⟩
  · intro r l
    refine (pay37 h5 h4 (pay24 h0) (pay26 h5) (pay32 h57) (pay8 (pay23 h0) (pay25 h5) (pay27 h5 h4) (pay31 h47) hA hK hV hC0) hK hV hC1 r l).trans (congrArg _ ?_)
    simp only [Finset.sum_range_succ, ← add_assoc]; rfl
  · intro r
    refine (pay7 (pay23 h0) (pay25 h5) (pay27 h5 h4) (pay31 h47) hX hK hV hC0 r).trans (congrArg _ ?_)
    simp only [Finset.sum_range_succ]; rfl
  · intro r
    refine (pay36 h5 h4 (pay24 h0) (pay26 h5) (pay32 h57) hY hK hV hC1 r).trans (congrArg _ ?_)
    simp only [Finset.sum_range_succ]; rfl

include h0 h1 h2 h3 h4 h5 h47 h57 in
/-- What the loop carries after `n` tiles. -/
theorem st_inv (n : ℕ) (hn : n ≤ (k0_t1_loop i).trips) :
    Inv (i 0).val Q G O K V C L0 L1 n (st_k0_t1 (F := Ideal) Variants.none c none i arg2 harg2 arg3 harg3 arg4 harg4 arg5 harg5 arg6 harg6 arg7 harg7 arg8 harg8 arg9 harg9 arg10 harg10 arg11 harg11 (BitVec.ofNat 32 (i 0).val) (BitVec.ofNat 32 (i 1).val) (k0_pay19 x5 x4) k0_pay21 k0_pay22 (k0_pay23 x0) (k0_pay24 x0) (k0_pay25 x5) (k0_pay26 x5) (k0_pay27 x5 x4) k0_pay28 k0_pay29 v47 v57 (harg3.unread x1) (harg4.unread x2) (harg5.unread x3) (k0_pay34, k0_pay33, k0_pay33) n) := by
  induction n with
  | zero =>
    rw [st_k0_t1_zero]
    refine ⟨?_, ?_, ?_⟩
    · intro r l; pointwise [k0_pay34]; simp
    · intro r; pointwise [k0_pay33]; simp
    · intro r; pointwise [k0_pay33]; simp
  | succ n ih =>
    rw [st_k0_t1_succ (k := ⟨n, hn⟩)]
    exact trip c i arg2 harg2 arg3 harg3 arg4 harg4 arg5 harg5 arg6 harg6 arg7 harg7 arg8 harg8 arg9 harg9 arg10 harg10 arg11 harg11 h0 h1 h2 h3 h4 h5 h47 h57 ⟨n, hn⟩ _ (ih (by omega))

end Cert.Attn.Dq
end
-- ==== Proof.Dq.Block.lean ====
/-
  One point of the query-gradient kernel: the three blocks it writes, over real arguments.
-/
module
public import proofs.«01_k».proof.Proof.Dq.Loop
public import proofs.«01_k».proof.Proof.Gen.KernelIdeal.Frame
public import Idealize.ShloMosaic.Lib.LoopRemainder
public import Idealize.ShloMosaic.Lib.Pipeline.ValueKit.Tiles
@[expose] public section
set_option maxRecDepth 16384
noncomputable section
namespace Cert.Attn.Dq
open Idealize.ShloMosaic Cert.KernelIdeal Cert.KernelIdeal.Gen Idealize.ShloMosaic.TcCoe

theorem hz : (![0, 0] : Fin 2 → Nat) = fun _ => 0 := funext fun a => by fin_cases a <;> rfl

variable (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S8x32x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S2x1x1x512 .f32) (harg10 : arg10.IsWhole) (arg11 : Memref sig .tc .vmem S512x128 .bf16) (harg11 : arg11.IsWhole)  {x0 : Vec Ideal S512x128 .bf16} {x1 x2 : Vec Ideal S16384x128 .bf16} {x3 x6 : Vec Ideal S8x32x512 .f32} {x4 x5 : Vec Ideal S512x128 .f32}
variable {Q G O : Tile} {K V : ℕ → Tile} {C L : ℕ → ℕ → Col}
variable (h0 : Mx x0 Q) (h1 : Rows x1 K) (h2 : Rows x2 V) (h3 : Bias x3 C) (h4 : Mx x4 O) (h5 : Mx x5 G) (h6 : Bias x6 L)

/-- The first head's gradient of scores on the diagonal tile. -/
def t0 (p j : ℕ) (Q G O : Tile) (K V : ℕ → Tile) (C L : ℕ → ℕ → Col) : Fin 512 → Fin 512 → ℝ :=
  dsDiag lo Q (K j) (C (2 * p) j) (L (2 * p) j) G (V j) (d0 O G)
/-- The second head's gradient of scores on the diagonal tile. -/
def t1 (p j : ℕ) (Q G O : Tile) (K V : ℕ → Tile) (C L : ℕ → ℕ → Col) : Fin 512 → Fin 512 → ℝ :=
  dsDiag hi Q (K j) (C (2 * p + 1) j) (L (2 * p + 1) j) G (V j) (d1 O G)

/-- The real block of query gradients. -/
def blkDq (p j : ℕ) (Q G O : Tile) (K V : ℕ → Tile) (C L : ℕ → ℕ → Col) : Tile := fun r l =>
  (∑ b ∈ Finset.range j, (mm lo (s0 p Q G O K V C (L (2 * p) j) b) (K b) r l + mm hi (s1 p Q G O K V C (L (2 * p + 1) j) b) (K b) r l))
    + mm lo (t0 p j Q G O K V C L) (K j) r l + mm hi (t1 p j Q G O K V C L) (K j) r l
/-- The real row of the first head's corrected `delta`. -/
def blkDelta0 (p j : ℕ) (Q G O : Tile) (K V : ℕ → Tile) (C L : ℕ → ℕ → Col) : Col := fun r =>
  d0 O G r + ((∑ b ∈ Finset.range j, ∑ s, s0 p Q G O K V C (L (2 * p) j) b r s) + ∑ s, t0 p j Q G O K V C L r s)
/-- The real row of the second head's corrected `delta`. -/
def blkDelta1 (p j : ℕ) (Q G O : Tile) (K V : ℕ → Tile) (C L : ℕ → ℕ → Col) : Col := fun r =>
  d1 O G r + ((∑ b ∈ Finset.range j, ∑ s, s1 p Q G O K V C (L (2 * p + 1) j) b r s) + ∑ s, t1 p j Q G O K V C L r s)

/-- The row numbers of a tile. -/
theorem iota_row (r s : Fin 512) : iota Kind.tc S512x512 32 [0] iota_S512x512_d0_w32 (ix2 r s) = BitVec.ofNat 32 r.val := by
  pointwise
/-- The column numbers of a tile. -/
theorem iota_col (r s : Fin 512) : iota Kind.tc S512x512 32 [1] iota_S512x512_d1_w32 (ix2 r s) = BitVec.ofNat 32 s.val := by
  pointwise

include h5 in
/-- The third output is the gradient block itself. -/
theorem out9 : Mx (out0_A_9 (F := Ideal) c i arg2 harg2 arg3 harg3 arg4 harg4 arg5 harg5 arg6 harg6 arg7 harg7 arg8 harg8 arg9 harg9 arg10 harg10 arg11 harg11 x0 x1 x2 x3 x4 x5 x6) G := by
  intro r l
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero hz]
  simp only [View.readAt_eq_ld, harg7.read_unread, View.ld_unit_zero (S := S512x128) hz]
  pointwise [k0_pay20]
  exact h5 r l

include h0 h1 h2 h3 h4 h5 h6 in
/-- The block of query gradients. -/
theorem out7 : Mx (out0_A_7 (F := Ideal) c i arg2 harg2 arg3 harg3 arg4 harg4 arg5 harg5 arg6 harg6 arg7 harg7 arg8 harg8 arg9 harg9 arg10 harg10 arg11 harg11 x0 x1 x2 x3 x4 x5 x6) (blkDq (i 0).val (i 1).val Q G O K V C L) := by
  have hi1 : (i 1).val < 32 := (i 1).isLt
  have hi0 : (i 0).val < 4 := (i 0).isLt
  have e3 : ∀ r : Fin 2, 2 * (i 0).val + r.val < 8 := fun r => by omega
  have hK := h1.ld hi1 (k0_off6_eq i) (k0_off6_inb i)
  have hV := h2.ld hi1 (k0_off6_eq i) (k0_off6_inb i)
  have hC0 := h3.ld (e3 0) hi1 (k0_off1_eq i 0) (k0_off1_inb i 0)
  have hC1 := h3.ld (e3 1) hi1 (k0_off1_eq i 1) (k0_off1_inb i 1)
  have hL0 := h6.ld (e3 0) hi1 (k0_off1_eq i 0) (k0_off1_inb i 0)
  have hL1 := h6.ld (e3 1) hi1 (k0_off1_eq i 1) (k0_off1_inb i 1)
  obtain ⟨hA, hX, hY⟩ := st_inv c i arg2 harg2 arg3 harg3 arg4 harg4 arg5 harg5 arg6 harg6 arg7 harg7 arg8 harg8 arg9 harg9 arg10 harg10 arg11 harg11 h0 h1 h2 h3 h4 h5 hL0 hL1 (k0_t1_loop i).trips le_rfl
  rw [trips_eq i] at hA hX hY
  have ht : Scf.trips 0#32 (Scalar.addi 0#32 (Scalar.muli (Scalar.divsi (Scalar.subi (BitVec.ofNat 32 (i 1).val) 0#32) 1#32) 1#32)) 1#32 = (i 1).val :=
    trips_eq i
  intro r l
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x128) hz, Scf.rem_trips, st_k0_t2_zero, ht]
  refine (pay1 hK (pay46 iota_row iota_col (pay23 h0) (pay25 h5) (pay27 h5 h4) (pay31 hL0) hA hK hV hC0)
    (pay47 iota_row iota_col (pay24 h0) (pay26 h5) (pay30 h5 h4) (pay32 hL1) hK hV hC1) r l).trans (congrArg _ ?_)
  rfl
include h0 h1 h2 h3 h4 h5 h6 in
/-- The block of corrected `delta`: one row for each head. -/
theorem out8 (r : Fin 512) : out0_A_8 (F := Ideal) c i arg2 harg2 arg3 harg3 arg4 harg4 arg5 harg5 arg6 harg6 arg7 harg7 arg8 harg8 arg9 harg9 arg10 harg10 arg11 harg11 x0 x1 x2 x3 x4 x5 x6 (ix4 0 0 0 r) = ((blkDelta0 (i 0).val (i 1).val Q G O K V C L r : ℝ) : EReal)
    ∧ out0_A_8 (F := Ideal) c i arg2 harg2 arg3 harg3 arg4 harg4 arg5 harg5 arg6 harg6 arg7 harg7 arg8 harg8 arg9 harg9 arg10 harg10 arg11 harg11 x0 x1 x2 x3 x4 x5 x6 (ix4 1 0 0 r) = ((blkDelta1 (i 0).val (i 1).val Q G O K V C L r : ℝ) : EReal) := by
  have hi1 : (i 1).val < 32 := (i 1).isLt
  have hi0 : (i 0).val < 4 := (i 0).isLt
  have e3 : ∀ r : Fin 2, 2 * (i 0).val + r.val < 8 := fun r => by omega
  have hK := h1.ld hi1 (k0_off6_eq i) (k0_off6_inb i)
  have hV := h2.ld hi1 (k0_off6_eq i) (k0_off6_inb i)
  have hC0 := h3.ld (e3 0) hi1 (k0_off1_eq i 0) (k0_off1_inb i 0)
  have hC1 := h3.ld (e3 1) hi1 (k0_off1_eq i 1) (k0_off1_inb i 1)
  have hL0 := h6.ld (e3 0) hi1 (k0_off1_eq i 0) (k0_off1_inb i 0)
  have hL1 := h6.ld (e3 1) hi1 (k0_off1_eq i 1) (k0_off1_inb i 1)
  obtain ⟨hA, hX, hY⟩ := st_inv c i arg2 harg2 arg3 harg3 arg4 harg4 arg5 harg5 arg6 harg6 arg7 harg7 arg8 harg8 arg9 harg9 arg10 harg10 arg11 harg11 h0 h1 h2 h3 h4 h5 hL0 hL1 (k0_t1_loop i).trips le_rfl
  rw [trips_eq i] at hA hX hY
  have ht : Scf.trips 0#32 (Scalar.addi 0#32 (Scalar.muli (Scalar.divsi (Scalar.subi (BitVec.ofNat 32 (i 1).val) 0#32) 1#32) 1#32)) 1#32 = (i 1).val :=
    trips_eq i
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S512x128) hz, Scf.rem_trips, st_k0_t2_zero, ht]
  constructor
  · refine (canon_two_0 _ _ _ _ r).trans ?_
    exact (pay2 (pay27 h5 h4) (pay45 iota_row iota_col (pay23 h0) (pay25 h5) (pay27 h5 h4) (pay31 hL0) hX hK hV hC0) r).trans (congrArg _ rfl)
  · refine (canon_two_1 _ _ _ _ r).trans ?_
    exact (pay3 (pay30 h5 h4) hY (pay47 iota_row iota_col (pay24 h0) (pay26 h5) (pay30 h5 h4) (pay32 hL1) hK hV hC1) r).trans (congrArg _ rfl)

end Cert.Attn.Dq
end
-- ==== Proof.Dq.Heads.lean ====
/-
  The query-gradient kernel's real block: the gradients of the heads' own attention.
-/
module
public import proofs.«01_k».proof.Proof.Attn.Lanes
public import proofs.«01_k».proof.Proof.Dq.Block
@[expose] public section
set_option maxRecDepth 16384
noncomputable section
namespace Cert.Attn.Dq

variable (q k v g : Fin 8 → Fin 16384 → Fin 64 → ℝ) (c : Fin 8 → Fin 16384 → ℝ) (p : Fin 4) (j : Fin 32)

theorem d0_eq (r : Fin 512) : d0 (lanes (outs q k v c) p j.val) (lanes g p j.val) r = delta (q (h0 p)) (k (h0 p)) (v (h0 p)) (g (h0 p)) (c (h0 p)) (row j r) := by
  unfold d0 delta
  rw [sum_lo (fun l => lanes (outs q k v c) p j.val r l * lanes g p j.val r l)]
  exact Finset.sum_congr rfl fun e _ => by rw [lanes_lo, lanes_lo]; rfl

theorem sc0_eq (b : Fin 32) (r s : Fin 512) : sc lo (lanes q p j.val) (lanes k p b.val) (cols (neg c) (2 * p.val) b.val) r s
    = score (q (h0 p)) (k (h0 p)) (c (h0 p)) (row j r) (row b s) := by
  unfold sc score
  rw [dot_lo, cols_0, neg, sub_eq_add_neg]

theorem dp0_eq (b : Fin 32) (r s : Fin 512) : dp lo (lanes g p j.val) (lanes v p b.val) r s = dprob (v (h0 p)) (g (h0 p)) (row j r) (row b s) := by
  unfold dp dprob
  rw [dot_lo]

/-- Before the diagonal the kernel's gradient of scores is the head's. -/
theorem s0_eq (b : Fin 32) (r s : Fin 512) (h : b < j) :
    s0 p.val (lanes q p j.val) (lanes g p j.val) (lanes (outs q k v c) p j.val) (lanes k p) (lanes v p) (cols (neg c)) (cols (lses q k c) (2 * p.val) j.val) b.val r s
      = dscore (q (h0 p)) (k (h0 p)) (v (h0 p)) (g (h0 p)) (c (h0 p)) (row j r) (row b s) := by
  unfold s0 ds dscore
  rw [sc0_eq, dp0_eq, d0_eq, cols_0, prob_of_le _ _ _ (row_le_of_lt h r s)]
  rfl

/-- On the diagonal the kernel's gradient of scores is the head's. -/
theorem t0_eq (r s : Fin 512) :
    t0 p.val j.val (lanes q p j.val) (lanes g p j.val) (lanes (outs q k v c) p j.val) (lanes k p) (lanes v p) (cols (neg c)) (cols (lses q k c)) r s
      = dscore (q (h0 p)) (k (h0 p)) (v (h0 p)) (g (h0 p)) (c (h0 p)) (row j r) (row j s) := by
  unfold t0 dsDiag dscore
  rw [sc0_eq, dp0_eq, d0_eq, cols_0]
  congr 1
  split_ifs with h
  · rw [prob_of_le _ _ _ ((row_le_diag j r s).2 h)]; rfl
  · rw [prob_of_gt _ _ _ (fun h' => h ((row_le_diag j r s).1 h'))]

/-- The corrected `delta` is the plain one: a row's score gradients sum to zero. -/
theorem delta0 (r : Fin 512) :
    blkDelta0 p.val j.val (lanes q p j.val) (lanes g p j.val) (lanes (outs q k v c) p j.val) (lanes k p) (lanes v p) (cols (neg c)) (cols (lses q k c)) r
      = delta (q (h0 p)) (k (h0 p)) (v (h0 p)) (g (h0 p)) (c (h0 p)) (row j r) := by
  unfold blkDelta0
  rw [sum_tiles (fun i => dscore (q (h0 p)) (k (h0 p)) (v (h0 p)) (g (h0 p)) (c (h0 p)) (row j r) i) _ j r (fun i hi => dscore_of_gt _ _ _ _ _ hi)
    (fun b hb s => s0_eq q k v g c p j b r s hb) _ (fun s => t0_eq q k v g c p j r s), sum_dscore, d0_eq, add_zero]

theorem dq0 (r : Fin 512) (l : Fin 128) :
    (∑ b ∈ Finset.range j.val, ∑ s, s0 p.val (lanes q p j.val) (lanes g p j.val) (lanes (outs q k v c) p j.val) (lanes k p) (lanes v p) (cols (neg c)) (cols (lses q k c) (2 * p.val) j.val) b r s * lanes k p b s l)
      + ∑ s, t0 p.val j.val (lanes q p j.val) (lanes g p j.val) (lanes (outs q k v c) p j.val) (lanes k p) (lanes v p) (cols (neg c)) (cols (lses q k c)) r s * lanes k p j.val s l
      = ∑ i, dscore (q (h0 p)) (k (h0 p)) (v (h0 p)) (g (h0 p)) (c (h0 p)) (row j r) i * k (hd p l) i (ln l) :=
  sum_tiles (fun i => dscore (q (h0 p)) (k (h0 p)) (v (h0 p)) (g (h0 p)) (c (h0 p)) (row j r) i * k (hd p l) i (ln l)) _ j r
    (fun i hi => by rw [dscore_of_gt _ _ _ _ _ hi, zero_mul])
    (fun b hb s => by rw [s0_eq q k v g c p j b r s hb, lanes_eq]) _ (fun s => by rw [t0_eq q k v g c p j r s, lanes_eq])

theorem d1_eq (r : Fin 512) : d1 (lanes (outs q k v c) p j.val) (lanes g p j.val) r = delta (q (h1 p)) (k (h1 p)) (v (h1 p)) (g (h1 p)) (c (h1 p)) (row j r) := by
  unfold d1 delta
  rw [sum_hi (fun l => lanes (outs q k v c) p j.val r l * lanes g p j.val r l)]
  exact Finset.sum_congr rfl fun e _ => by rw [lanes_hi, lanes_hi]; rfl

theorem sc1_eq (b : Fin 32) (r s : Fin 512) : sc hi (lanes q p j.val) (lanes k p b.val) (cols (neg c) (2 * p.val + 1) b.val) r s
    = score (q (h1 p)) (k (h1 p)) (c (h1 p)) (row j r) (row b s) := by
  unfold sc score
  rw [dot_hi, cols_1, neg, sub_eq_add_neg]

theorem dp1_eq (b : Fin 32) (r s : Fin 512) : dp hi (lanes g p j.val) (lanes v p b.val) r s = dprob (v (h1 p)) (g (h1 p)) (row j r) (row b s) := by
  unfold dp dprob
  rw [dot_hi]

/-- Before the diagonal the kernel's gradient of scores is the head's. -/
theorem s1_eq (b : Fin 32) (r s : Fin 512) (h : b < j) :
    s1 p.val (lanes q p j.val) (lanes g p j.val) (lanes (outs q k v c) p j.val) (lanes k p) (lanes v p) (cols (neg c)) (cols (lses q k c) (2 * p.val + 1) j.val) b.val r s
      = dscore (q (h1 p)) (k (h1 p)) (v (h1 p)) (g (h1 p)) (c (h1 p)) (row j r) (row b s) := by
  unfold s1 ds dscore
  rw [sc1_eq, dp1_eq, d1_eq, cols_1, prob_of_le _ _ _ (row_le_of_lt h r s)]
  rfl

/-- On the diagonal the kernel's gradient of scores is the head's. -/
theorem t1_eq (r s : Fin 512) :
    t1 p.val j.val (lanes q p j.val) (lanes g p j.val) (lanes (outs q k v c) p j.val) (lanes k p) (lanes v p) (cols (neg c)) (cols (lses q k c)) r s
      = dscore (q (h1 p)) (k (h1 p)) (v (h1 p)) (g (h1 p)) (c (h1 p)) (row j r) (row j s) := by
  unfold t1 dsDiag dscore
  rw [sc1_eq, dp1_eq, d1_eq, cols_1]
  congr 1
  split_ifs with h
  · rw [prob_of_le _ _ _ ((row_le_diag j r s).2 h)]; rfl
  · rw [prob_of_gt _ _ _ (fun h' => h ((row_le_diag j r s).1 h'))]

/-- The corrected `delta` is the plain one: a row's score gradients sum to zero. -/
theorem delta1 (r : Fin 512) :
    blkDelta1 p.val j.val (lanes q p j.val) (lanes g p j.val) (lanes (outs q k v c) p j.val) (lanes k p) (lanes v p) (cols (neg c)) (cols (lses q k c)) r
      = delta (q (h1 p)) (k (h1 p)) (v (h1 p)) (g (h1 p)) (c (h1 p)) (row j r) := by
  unfold blkDelta1
  rw [sum_tiles (fun i => dscore (q (h1 p)) (k (h1 p)) (v (h1 p)) (g (h1 p)) (c (h1 p)) (row j r) i) _ j r (fun i hi => dscore_of_gt _ _ _ _ _ hi)
    (fun b hb s => s1_eq q k v g c p j b r s hb) _ (fun s => t1_eq q k v g c p j r s), sum_dscore, d1_eq, add_zero]

theorem dq1 (r : Fin 512) (l : Fin 128) :
    (∑ b ∈ Finset.range j.val, ∑ s, s1 p.val (lanes q p j.val) (lanes g p j.val) (lanes (outs q k v c) p j.val) (lanes k p) (lanes v p) (cols (neg c)) (cols (lses q k c) (2 * p.val + 1) j.val) b r s * lanes k p b s l)
      + ∑ s, t1 p.val j.val (lanes q p j.val) (lanes g p j.val) (lanes (outs q k v c) p j.val) (lanes k p) (lanes v p) (cols (neg c)) (cols (lses q k c)) r s * lanes k p j.val s l
      = ∑ i, dscore (q (h1 p)) (k (h1 p)) (v (h1 p)) (g (h1 p)) (c (h1 p)) (row j r) i * k (hd p l) i (ln l) :=
  sum_tiles (fun i => dscore (q (h1 p)) (k (h1 p)) (v (h1 p)) (g (h1 p)) (c (h1 p)) (row j r) i * k (hd p l) i (ln l)) _ j r
    (fun i hi => by rw [dscore_of_gt _ _ _ _ _ hi, zero_mul])
    (fun b hb s => by rw [s1_eq q k v g c p j b r s hb, lanes_eq]) _ (fun s => by rw [t1_eq q k v g c p j r s, lanes_eq])

/-- The block of query gradients is the tile of the heads' query gradients. -/
theorem blkDq_eq :
    blkDq p.val j.val (lanes q p j.val) (lanes g p j.val) (lanes (outs q k v c) p j.val) (lanes k p) (lanes v p) (cols (neg c)) (cols (lses q k c))
      = lanes (fun h => dq (q h) (k h) (v h) (g h) (c h)) p j.val := by
  funext r l
  rw [lanes_eq]
  have e0 := dq0 q k v g c p j r l
  have e1 := dq1 q k v g c p j r l
  unfold blkDq mm
  by_cases h : l.val < 64
  · have hh : hd p l = h0 p := Fin.ext (by show 2 * p.val + l.val / 64 = 2 * p.val; omega)
    simp only [lo, hi, if_pos h, one_mul, zero_mul, Finset.sum_const_zero, add_zero]
    rw [e0, hh]; rfl
  · have hh : hd p l = h1 p := Fin.ext (by show 2 * p.val + l.val / 64 = 2 * p.val + 1; omega)
    simp only [lo, hi, if_neg h, one_mul, zero_mul, Finset.sum_const_zero, add_zero, zero_add]
    rw [e1, hh]; rfl

end Cert.Attn.Dq
end
-- ==== Proof.Dq.Array.lean ====
/-
  The query-gradient kernel's result arrays.
-/
module
public import proofs.«01_k».proof.Proof.Attn.Arrays
public import proofs.«01_k».proof.Proof.Dq.Stage
public import proofs.«01_k».proof.Proof.Dq.Heads
public import proofs.«01_k».proof.Proof.Gen.KernelIdeal.Value
public import Idealize.ShloMosaic.Lib.Pipeline.ValueKit.Geometry
public import Idealize.ShloMosaic.Lib.StableHlo.RunRead
@[expose] public section
set_option maxRecDepth 16384
noncomputable section
namespace Cert.Attn.Dq
open Cert.KernelIdeal Cert.KernelIdeal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

variable {q k v g : Heads} {gt : Fin 8 → Fin 16384 → ℝ}
variable (hq : Holds (m ((c : Thread nD τ).loc main_arg0)) q) (hk : Holds (m ((c : Thread nD τ).loc main_arg1)) k) (hv : Holds (m ((c : Thread nD τ).loc main_arg2)) v) (hc : HoldsGates (m ((c : Thread nD τ).loc main_arg3)) gt) (hg : Holds (m ((c : Thread nD τ).loc main_arg4)) g)

include hq hk hv hc hg in
/-- The tile of query gradients a grid point writes. -/
theorem tile7 (t : Fin cfg0.N) : Mx (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t))
    (lanes (fun h => dq (q h) (k h) (v h) (g h) (gt h)) (grid0.coords t 0) (grid0.coords t 1).val) := by
  have h := out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 m c hq t) (blk1 m c hk t) (blk2 m c hv t) (blk3 m c (negRows_holds hc _) t) (blk4 m c (fwd_holds hq hk hv hc) t) (blk5 m c hg t) (blk6 m c (fun h i => lse_eq hq hk hc h i) t)
  have e := blkDq_eq q k v g gt (grid0.coords t 0) (grid0.coords t 1)
  exact fun r l => (h r l).trans (congrArg _ (congrFun (congrFun e r) l))

include hq hk hv hc hg in
/-- The rows of `delta` a grid point writes. -/
theorem tile8 (t : Fin cfg0.N) (r : Fin 512) : out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (ix4 0 0 0 r)
      = ((cols (deltas q k v g gt) (2 * (grid0.coords t 0).val) (grid0.coords t 1).val r : ℝ) : EReal)
    ∧ out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (ix4 1 0 0 r)
      = ((cols (deltas q k v g gt) (2 * (grid0.coords t 0).val + 1) (grid0.coords t 1).val r : ℝ) : EReal) := by
  have e0 := cols_0 (deltas q k v g gt) (grid0.coords t 0) (grid0.coords t 1) r
  have e1 := cols_1 (deltas q k v g gt) (grid0.coords t 0) (grid0.coords t 1) r
  have d0 := delta0 q k v g gt (grid0.coords t 0) (grid0.coords t 1) r
  have d1 := delta1 q k v g gt (grid0.coords t 0) (grid0.coords t 1) r
  have h := out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 m c hq t) (blk1 m c hk t) (blk2 m c hv t) (blk3 m c (negRows_holds hc _) t) (blk4 m c (fwd_holds hq hk hv hc) t) (blk5 m c hg t) (blk6 m c (fun h i => lse_eq hq hk hc h i) t) r
  exact ⟨h.1.trans (congrArg _ (d0.trans e0.symm)), h.2.trans (congrArg _ (d1.trans e1.symm))⟩

include hg in
/-- The tile of output gradients a grid point hands on. -/
theorem tile9 (t : Fin cfg0.N) : Mx (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t))
    (lanes g (grid0.coords t 0) (grid0.coords t 1).val) :=
  out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)  (blk5 m c hg t)

include hq hk hv hc hg in
/-- The array of query gradients. -/
theorem array7 (G : S16384x512.Idx → EReal) (hG : Holds G (fun h => dq (q h) (k h) (v h) (g h) (gt h))) : (dats m 0 c).arrAt 7 cfg0.N = G := by
  refine (dats m 0 c).arrAt_eq_of_covers 7 _ (by decide +kernel) fun t hf y => ?_
  have hy : ∃ (r : Fin 512) (l : Fin 128), y = ix2 r l := ⟨y 0, y 1, by funext u; match u with | ⟨0, _⟩ => rfl | ⟨1, _⟩ => rfl⟩
  obtain ⟨r, l, rfl⟩ := hy
  refine Eq.trans ?_ (hG.at (grid0.coords t 0) (grid0.coords t 1) r l (((cfg0.win 7).blk t).view.emb (ix2 r l)) (by blk_simp [idx7]) (by blk_simp [idx7])).symm
  refine Eq.trans ?_ (tile7 m c hq hk hv hc hg t r l)
  blk_simp
  rw [after0_7]
  simp only [outsAt0]

include hg in
/-- The array of output gradients handed on. -/
theorem array9 (G : S16384x512.Idx → EReal) (hG : Holds G g) : (dats m 0 c).arrAt 9 cfg0.N = G := by
  refine (dats m 0 c).arrAt_eq_of_covers 9 _ (by decide +kernel) fun t hf y => ?_
  have hy : ∃ (r : Fin 512) (l : Fin 128), y = ix2 r l := ⟨y 0, y 1, by funext u; match u with | ⟨0, _⟩ => rfl | ⟨1, _⟩ => rfl⟩
  obtain ⟨r, l, rfl⟩ := hy
  refine Eq.trans ?_ (hG.at (grid0.coords t 0) (grid0.coords t 1) r l (((cfg0.win 9).blk t).view.emb (ix2 r l)) (by blk_simp [idx9]) (by blk_simp [idx9])).symm
  refine Eq.trans ?_ (tile9 m c hg t r l)
  blk_simp
  rw [after0_9]
  simp only [outsAt0]

include hq hk hv hc hg in
/-- The array of `delta`. -/
theorem array8 (G : S8x32x1x512.Idx → EReal) (hG : HoldsTiles G (deltas q k v g gt)) : (dats m 0 c).arrAt 8 cfg0.N = G := by
  refine (dats m 0 c).arrAt_eq_of_covers 8 _ (by decide +kernel) fun t hf y => ?_
  have hy : ∃ (u : Fin 2) (r : Fin 512), y = ix4 u 0 0 r := ⟨y 0, y 3, by
    funext u
    match u with
    | ⟨0, _⟩ => rfl
    | ⟨1, _⟩ => exact Subsingleton.elim (α := Fin 1) _ _
    | ⟨2, _⟩ => exact Subsingleton.elim (α := Fin 1) _ _
    | ⟨3, _⟩ => rfl⟩
  obtain ⟨u, r, rfl⟩ := hy
  refine Eq.trans ?_ (hG.at (2 * (grid0.coords t 0).val + u.val) (grid0.coords t 1).val r (((cfg0.win 8).blk t).view.emb (ix4 u 0 0 r))
    (by blk_simp [idx8]; omega) (by blk_simp [idx8]; rfl) (by blk_simp [idx8])).symm
  match u with
  | ⟨0, _⟩ =>
    refine Eq.trans ?_ (tile8 m c hq hk hv hc hg t r).1
    blk_simp
    rw [after0_8]
    simp only [outsAt0]
  | ⟨1, _⟩ =>
    refine Eq.trans ?_ (tile8 m c hq hk hv hc hg t r).2
    blk_simp
    rw [after0_8]
    simp only [outsAt0]

end Cert.Attn.Dq
end
-- ==== Proof.Dq.Ref.lean ====
/-
  The reference of the query-gradient call returns the gradients of `Spec`.
-/
module
public import proofs.«01_k».proof.Proof.Attn.Arrays
public import proofs.«01_k».proof.Proof.Gen.ReferenceIdeal.Read
public import Idealize.ShloMosaic.Lib.Pointwise.Tactic
@[expose] public section
set_option maxRecDepth 16384
noncomputable section
namespace Cert.Attn.Dq
open Idealize.ShloMosaic Cert.ReferenceIdeal Cert.ReferenceIdeal.Read Cert.Attn.Ref

variable {x0 x1 x2 x4 : Mat} {x3 : Gates} {q k v g : Heads} {c : Fin 8 → Fin 16384 → ℝ}
variable (hq : Holds x0 q) (hk : Holds x1 k) (hv : Holds x2 v) (hc : HoldsGates x3 c) (hg : Holds x4 g)

/-- The two references compute the query gradients by the same operations. -/
theorem v90_same : val_main_v90 x0 x1 x2 x3 x4 = Cert.Reference2Ideal.Read.val_main_v87 x0 x1 x2 x3 x4 := rfl

include hq hk hv hc hg in
theorem ref_dq : Holds (val_main_v90 x0 x1 x2 x3 x4) (fun h => dq (q h) (k h) (v h) (g h) (c h)) := fun h i e p =>
  (congrFun v90_same _).trans (v87_eq hq hk hv hc hg h i e p)

theorem v49_same : val_main_v49 x0 x1 x2 x3 = Cert.Reference2Ideal.Read.val_main_v49 x0 x1 x2 x3 := rfl

include hq hk hv hc hg in
/-- Head by head, the rows' inner products of output and output gradient. -/
theorem ref_delta_rows : HoldsRows (val_main_v91 x0 x1 x2 x3 x4) (deltas q k v g c) := by
  intro h i
  have e : ∀ e : Fin 64, val_main_v51 x0 x1 x2 x3 x4 (ix3 i h e) = ((out (q h) (k h) (v h) (c h) i e * g h i e : ℝ) : EReal) := by
    intro e
    rw [EReal.coe_mul, ← v49_eq hq hk hv hc h i e (by omega), ← hg h i e (by omega), ← v49_same]
    refine shapeCast_apply _ _ _ (ix2 i ⟨h.val * 64 + e.val, by omega⟩) ?_
    rw [Shape.rowMajor_val_two, Shape.rowMajor_val_three]
    show i.val * 512 + (h.val * 64 + e.val) = (i.val * 8 + h.val) * 64 + e.val
    omega
  have e1 : idx_main_v91 (ix2 h i) = ix2 i h := by
    funext a
    match a with
    | ⟨0, _⟩ => rfl
    | ⟨1, _⟩ => rfl
  rw [val_main_v91_apply, e1, val_main_v52_apply]
  have e2 : ∀ e : Fin 64, idx_main_v52 (ix2 i h) e = ix3 i h e := fun e => by
    funext a
    match a with
    | ⟨0, _⟩ => rfl
    | ⟨1, _⟩ => rfl
    | ⟨2, _⟩ => rfl
  simp only [e2, e, ← coe_sum]
  rw [show (val_main_cst_10 (F := Ideal)) (Shape.Idx.first Gen.h_S_) = (0 : EReal) from Ideal.ofBits_zero .f32, zero_add]
  rfl

include hq hk hv hc hg in
theorem ref_delta : HoldsTiles (val_main_v92 x0 x1 x2 x3 x4) (deltas q k v g c) := (ref_delta_rows hq hk hv hc hg).tiles4 _

end Cert.Attn.Dq
end
-- ==== Proof.Dq.Claim.lean ====
/-
  The query-gradient kernel returns what its reference returns.
-/
module
public import proofs.«01_k».proof.Proof.Attn.Finite
public import proofs.«01_k».proof.Proof.Dq.Array
public import proofs.«01_k».proof.Proof.Dq.Ref
public import proofs.«01_k».proof.Proof.Gen.Pre_finite
public import proofs.«01_k».proof.Defs
@[expose] public section
set_option maxRecDepth 16384
noncomputable section
namespace Cert.Attn.Dq
open Idealize.ShloMosaic Idealize.ShloMosaic.TcCoe Idealize.SL.Sem Cert.Attn.Ref

/-- From finite arguments the kernel returns the reference's query gradients, its rows of `delta` and the output gradients. -/
theorem algebraic : Cert.algebraic_KernelIdeal_ReferenceIdeal_pre_finite := by
  intro m ρ m' ρ' hpre hagree
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m ρ, ?_⟩
  refine (θ_run Cert.ReferenceIdeal.defs _ _).mono (fun _ h c => ?_) (Cert.ReferenceIdeal.Value.run m' ρ')
  obtain ⟨h90, h92, h93, ha⟩ := h c
  obtain ⟨a0, a1, a2, a3, a4⟩ := hagree c
  obtain ⟨p0, p1, p2, p3, p4⟩ := hpre c
  have hq := holds_headsOf (real_of_test _ _ p0)
  have hk := holds_headsOf (real_of_test _ _ p1)
  have hv := holds_headsOf (real_of_test _ _ p2)
  have hc := holds_gatesOf (real_of_test _ _ p3)
  have hg := holds_headsOf (real_of_test _ _ p4)
  have e0 : ∀ x0 x1 x2 x3 x4, x0 = m ((c.tc : Thread Cert.KernelIdeal.nD Cert.KernelIdeal.τ).loc Cert.KernelIdeal.main_arg0) → x1 = m ((c.tc : Thread Cert.KernelIdeal.nD Cert.KernelIdeal.τ).loc Cert.KernelIdeal.main_arg1) → x2 = m ((c.tc : Thread Cert.KernelIdeal.nD Cert.KernelIdeal.τ).loc Cert.KernelIdeal.main_arg2)
      → x3 = m ((c.tc : Thread Cert.KernelIdeal.nD Cert.KernelIdeal.τ).loc Cert.KernelIdeal.main_arg3) → x4 = m ((c.tc : Thread Cert.KernelIdeal.nD Cert.KernelIdeal.τ).loc Cert.KernelIdeal.main_arg4)
      → Cert.ReferenceIdeal.Read.val_main_v90 (F := Ideal) x0 x1 x2 x3 x4 = (Cert.KernelIdeal.Gen.dats m 0 c).arrAt 7 Cert.KernelIdeal.cfg0.N := by
    rintro _ _ _ _ _ rfl rfl rfl rfl rfl
    exact (array7 m c hq hk hv hc hg _ (ref_dq hq hk hv hc hg)).symm
  have e1 : ∀ x0 x1 x2 x3 x4, x0 = m ((c.tc : Thread Cert.KernelIdeal.nD Cert.KernelIdeal.τ).loc Cert.KernelIdeal.main_arg0) → x1 = m ((c.tc : Thread Cert.KernelIdeal.nD Cert.KernelIdeal.τ).loc Cert.KernelIdeal.main_arg1) → x2 = m ((c.tc : Thread Cert.KernelIdeal.nD Cert.KernelIdeal.τ).loc Cert.KernelIdeal.main_arg2)
      → x3 = m ((c.tc : Thread Cert.KernelIdeal.nD Cert.KernelIdeal.τ).loc Cert.KernelIdeal.main_arg3) → x4 = m ((c.tc : Thread Cert.KernelIdeal.nD Cert.KernelIdeal.τ).loc Cert.KernelIdeal.main_arg4)
      → Cert.ReferenceIdeal.Read.val_main_v92 (F := Ideal) x0 x1 x2 x3 x4 = (Cert.KernelIdeal.Gen.dats m 0 c).arrAt 8 Cert.KernelIdeal.cfg0.N := by
    rintro _ _ _ _ _ rfl rfl rfl rfl rfl
    exact (array8 m c hq hk hv hc hg _ (ref_delta hq hk hv hc hg)).symm
  have e2 : ∀ x4, x4 = m ((c.tc : Thread Cert.KernelIdeal.nD Cert.KernelIdeal.τ).loc Cert.KernelIdeal.main_arg4)
      → Cert.ReferenceIdeal.Read.val_main_v93 (F := Ideal) x4 = (Cert.KernelIdeal.Gen.dats m 0 c).arrAt 9 Cert.KernelIdeal.cfg0.N := by
    rintro _ rfl
    exact (array9 m c hg _ hg).symm
  exact ⟨(h90.trans (Cert.ReferenceIdeal.Read.val_main_v90_eq m' c)).trans (e0 _ _ _ _ _ a0 a1 a2 a3 a4),
    (h92.trans (Cert.ReferenceIdeal.Read.val_main_v92_eq m' c)).trans (e1 _ _ _ _ _ a0 a1 a2 a3 a4),
    h93.trans (e2 _ a4), ha⟩

end Cert.Attn.Dq
end
-- ==== Proof.Dkv.Host.lean ====
/-
  The key- and value-gradient kernel's operands as the host prepares them.
-/
module
public import proofs.«01_k».proof.Proof.Attn.Arrays
public import proofs.«01_k».proof.Proof.Dkv.Frame
public import proofs.«01_k».proof.Proof.Gen.ReferenceIdeal.Read
public import Idealize.ShloMosaic.Lib.Pipeline.ValueKit.Geometry
public import Idealize.ShloMosaic.Lib.StableHlo.RunRead
@[expose] public section
set_option maxRecDepth 16384
noncomputable section
namespace Cert.Attn.Dkv
open Cert.Kernel2Ideal Cert.Kernel2Ideal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

/-- The queries in the narrow format are the queries. -/
theorem V_v65 : (V m c main_v65 : S16384x512.Idx → EReal) = m ((c : Thread nD τ).loc main_arg0) := by
  simp only [V, hostOps0, hostOps0_1, hostOps0_2, hostOps0_3, hostOps0_4, List.flatten_cons, List.flatten_nil, List.append_nil, List.cons_append, List.nil_append]
  after_reads_simp
  rfl

/-- The keys in the narrow format are the keys. -/
theorem V_v66 : (V m c main_v66 : S16384x512.Idx → EReal) = m ((c : Thread nD τ).loc main_arg1) := by
  simp only [V, hostOps0, hostOps0_1, hostOps0_2, hostOps0_3, hostOps0_4, List.flatten_cons, List.flatten_nil, List.append_nil, List.cons_append, List.nil_append]
  after_reads_simp
  rfl

/-- The values in the narrow format are the values. -/
theorem V_v67 : (V m c main_v67 : S16384x512.Idx → EReal) = m ((c : Thread nD τ).loc main_arg2) := by
  simp only [V, hostOps0, hostOps0_1, hostOps0_2, hostOps0_3, hostOps0_4, List.flatten_cons, List.flatten_nil, List.append_nil, List.cons_append, List.nil_append]
  after_reads_simp
  rfl

/-- The output gradients in the narrow format are the output gradients. -/
theorem V_v71 : (V m c main_v71 : S16384x512.Idx → EReal) = m ((c : Thread nD τ).loc main_arg4) := by
  simp only [V, hostOps0, hostOps0_1, hostOps0_2, hostOps0_3, hostOps0_4, List.flatten_cons, List.flatten_nil, List.append_nil, List.cons_append, List.nil_append]
  after_reads_simp
  rfl

/-- The gates with their sign turned, head by head, in tiles. -/
theorem V_v70 : (V m c main_v70 : S8x32x512.Idx → EReal) = shapeCast S8x32x512 (negRows (m ((c : Thread nD τ).loc main_arg3)) transposes_S16384x8_S8x16384_1_0) shapeCasts_S8x16384_S8x32x512 := by
  simp only [V, hostOps0, hostOps0_1, hostOps0_2, hostOps0_3, hostOps0_4, List.flatten_cons, List.flatten_nil, List.append_nil, List.cons_append, List.nil_append]
  after_reads_simp
  rfl

/-- The log-masses, in tiles. -/
theorem V_v72 : (V m c main_v72 : S8x32x512.Idx → EReal) = shapeCast S8x32x512 (Cert.Reference3Ideal.Read.val_main_v61 (F := Ideal) (m ((c : Thread nD τ).loc main_arg0)) (m ((c : Thread nD τ).loc main_arg1)) (m ((c : Thread nD τ).loc main_arg3))) shapeCasts_S8x16384_S8x32x512 := by
  simp only [V, hostOps0, hostOps0_1, hostOps0_2, hostOps0_3, hostOps0_4, List.flatten_cons, List.flatten_nil, List.append_nil, List.cons_append, List.nil_append]
  after_reads_simp
  rfl

/-- The inner products of outputs and output gradients, in tiles. -/
theorem V_v74 : (V m c main_v74 : S8x32x512.Idx → EReal) = shapeCast S8x32x512 (Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4))) shapeCasts_S8x16384_S8x32x512 := by
  simp only [V, hostOps0, hostOps0_1, hostOps0_2, hostOps0_3, hostOps0_4, List.flatten_cons, List.flatten_nil, List.append_nil, List.cons_append, List.nil_append]
  after_reads_simp
  rfl

end Cert.Attn.Dkv
end
-- ==== Proof.Dkv.Stage.lean ====
/-
  What the key- and value-gradient kernel's windows stage.
-/
module
public import proofs.«01_k».proof.Proof.Attn.Arrays
public import proofs.«01_k».proof.Proof.Dkv.Host
public import Idealize.ShloMosaic.Lib.Pipeline.ValueKit.Geometry
public import Idealize.ShloMosaic.Lib.StableHlo.RunRead
@[expose] public section
set_option maxRecDepth 16384
noncomputable section
namespace Cert.Attn.Dkv
open Cert.Kernel2Ideal Cert.Kernel2Ideal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

theorem idx0 : ∀ t : Fin cfg0.N, win0_0.index t = ![(grid0.coords t 1).val, (grid0.coords t 0).val] := (by decide +kernel : ∀ t : Fin grid0.N, _)
theorem idx1 : ∀ t : Fin cfg0.N, win0_1.index t = ![(grid0.coords t 1).val, (grid0.coords t 0).val] := (by decide +kernel : ∀ t : Fin grid0.N, _)
theorem idx2 : ∀ t : Fin cfg0.N, win0_2.index t = ![0, (grid0.coords t 0).val] := (by decide +kernel : ∀ t : Fin grid0.N, _)
theorem idx3 : ∀ t : Fin cfg0.N, win0_3.index t = ![0, (grid0.coords t 0).val] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![(grid0.coords t 1).val, (grid0.coords t 0).val] := (by decide +kernel : ∀ t : Fin grid0.N, _)
theorem idx8 : ∀ t : Fin cfg0.N, win0_8.index t = ![(grid0.coords t 1).val, (grid0.coords t 0).val] := (by decide +kernel : ∀ t : Fin grid0.N, _)
theorem idx9 : ∀ t : Fin cfg0.N, win0_9.index t = ![(grid0.coords t 0).val, (grid0.coords t 1).val, 0, 0] := (by decide +kernel : ∀ t : Fin grid0.N, _)

theorem blk0 {a : Heads} (ha : Holds (m ((c : Thread nD τ).loc main_arg1)) a) (t : Fin cfg0.N) :
    Mx (iblk m c 0 t) (lanes a (grid0.coords t 0) (grid0.coords t 1).val) := by
  intro r l
  blk_simp [iblk, idx0]
  rw [V_v66]
  exact ha.at (grid0.coords t 0) (grid0.coords t 1) r l _ (by blk_simp [idx0]) (by blk_simp [idx0])
theorem blk1 {a : Heads} (ha : Holds (m ((c : Thread nD τ).loc main_arg2)) a) (t : Fin cfg0.N) :
    Mx (iblk m c 1 t) (lanes a (grid0.coords t 0) (grid0.coords t 1).val) := by
  intro r l
  blk_simp [iblk, idx1]
  rw [V_v67]
  exact ha.at (grid0.coords t 0) (grid0.coords t 1) r l _ (by blk_simp [idx1]) (by blk_simp [idx1])
theorem blk2 {a : Heads} (ha : Holds (m ((c : Thread nD τ).loc main_arg0)) a) (t : Fin cfg0.N) :
    Rows (iblk m c 2 t) (lanes a (grid0.coords t 0)) := by
  intro b hb r l
  blk_simp [iblk, idx2]
  rw [V_v65]
  exact ha.at (grid0.coords t 0) ⟨b, hb⟩ r l _ (by blk_simp [idx2]; show 512 * b + r.val = b * 512 + r.val; omega) (by blk_simp [idx2])
theorem blk3 {a : Heads} (ha : Holds (m ((c : Thread nD τ).loc main_arg4)) a) (t : Fin cfg0.N) :
    Rows (iblk m c 3 t) (lanes a (grid0.coords t 0)) := by
  intro b hb r l
  blk_simp [iblk, idx3]
  rw [V_v71]
  exact ha.at (grid0.coords t 0) ⟨b, hb⟩ r l _ (by blk_simp [idx3]; show 512 * b + r.val = b * 512 + r.val; omega) (by blk_simp [idx3])
theorem blk4 {f : Fin 8 → Fin 16384 → ℝ} (hf : HoldsRows (negRows (m ((c : Thread nD τ).loc main_arg3)) transposes_S16384x8_S8x16384_1_0) f) (t : Fin cfg0.N) :
    Bias (iblk m c 4 t) (cols f) := by
  intro h b s
  have e : ((cfg0.win 4).blk t).view.emb (ix3 h b s) = ix3 h b s := by
    funext u
    apply Fin.ext
    match u with
    | ⟨0, _⟩ => blk_simp [idx4]
    | ⟨1, _⟩ => blk_simp [idx4]
    | ⟨2, _⟩ => blk_simp [idx4]
  have st : ∀ x : S8x32x512.Idx → EReal, ((cfg0.win 4).blk t).view.read (Elt Ideal) x (ix3 h b s) = x (ix3 h b s) := fun x => congrArg x e
  have hV : (V m c (Pipeline.arrRef spec0 4) : S8x32x512.Idx → EReal) = _ := V_v70 m c
  generalize hy : negRows (m ((c : Thread nD τ).loc main_arg3)) transposes_S16384x8_S8x16384_1_0 = y at hf hV
  unfold iblk
  rw [hV]
  exact (st _).trans (hf.tiles _ h b s)
theorem blk5 {f : Fin 8 → Fin 16384 → ℝ} (hf : HoldsRows (Cert.Reference3Ideal.Read.val_main_v61 (F := Ideal) (m ((c : Thread nD τ).loc main_arg0)) (m ((c : Thread nD τ).loc main_arg1)) (m ((c : Thread nD τ).loc main_arg3))) f) (t : Fin cfg0.N) :
    Bias (iblk m c 5 t) (cols f) := by
  intro h b s
  have e : ((cfg0.win 5).blk t).view.emb (ix3 h b s) = ix3 h b s := by
    funext u
    apply Fin.ext
    match u with
    | ⟨0, _⟩ => blk_simp [idx5]
    | ⟨1, _⟩ => blk_simp [idx5]
    | ⟨2, _⟩ => blk_simp [idx5]
  have st : ∀ x : S8x32x512.Idx → EReal, ((cfg0.win 5).blk t).view.read (Elt Ideal) x (ix3 h b s) = x (ix3 h b s) := fun x => congrArg x e
  have hV : (V m c (Pipeline.arrRef spec0 5) : S8x32x512.Idx → EReal) = _ := V_v72 m c
  generalize hy : Cert.Reference3Ideal.Read.val_main_v61 (F := Ideal) (m ((c : Thread nD τ).loc main_arg0)) (m ((c : Thread nD τ).loc main_arg1)) (m ((c : Thread nD τ).loc main_arg3)) = y at hf hV
  unfold iblk
  rw [hV]
  exact (st _).trans (hf.tiles _ h b s)
theorem blk6 {f : Fin 8 → Fin 16384 → ℝ} (hf : HoldsRows (Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4))) f) (t : Fin cfg0.N) :
    Bias (iblk m c 6 t) (cols f) := by
  intro h b s
  have e : ((cfg0.win 6).blk t).view.emb (ix3 h b s) = ix3 h b s := by
    funext u
    apply Fin.ext
    match u with
    | ⟨0, _⟩ => blk_simp [idx6]
    | ⟨1, _⟩ => blk_simp [idx6]
    | ⟨2, _⟩ => blk_simp [idx6]
  have st : ∀ x : S8x32x512.Idx → EReal, ((cfg0.win 6).blk t).view.read (Elt Ideal) x (ix3 h b s) = x (ix3 h b s) := fun x => congrArg x e
  have hV : (V m c (Pipeline.arrRef spec0 6) : S8x32x512.Idx → EReal) = _ := V_v74 m c
  generalize hy : Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = y at hf hV
  unfold iblk
  rw [hV]
  exact (st _).trans (hf.tiles _ h b s)

end Cert.Attn.Dkv
end
-- ==== Proof.Dkv.Pay.lean ====
/-
  The arithmetic of one tile of the key-and-value-gradient kernel, over real arguments. Its tiles lie with the
  keys down the rows and the queries across the columns.
-/
module
public import proofs.«01_k».proof.Proof.Attn.Tile
public import proofs.«01_k».proof.Proof.Gen.Kernel2Ideal.Skeleton
public import Idealize.ShloMosaic.Lib.Pointwise
@[expose] public section
set_option maxRecDepth 16384
noncomputable section
namespace Cert.Attn.Dkv
open Idealize.ShloMosaic Cert.Kernel2Ideal Cert.Kernel2Ideal.Gen

/-- The tile's probabilities, keys down the rows, all queries after all keys. -/
def pT (w : Fin 128 → ℝ) (K Q : Tile) (C L : Col) (s r : Fin 512) : ℝ := Real.exp ((∑ l, (w l * K s l) * Q r l) + C s - L r)
/-- The tile's gradient of scores, all queries after all keys. -/
def dT (w : Fin 128 → ℝ) (K V Q G : Tile) (C L D : Col) (s r : Fin 512) : ℝ := pT w K Q C L s r * (dp w V G s r - D r)
/-- The tile's probabilities on the diagonal. -/
def pD (w : Fin 128 → ℝ) (K Q : Tile) (C L : Col) (s r : Fin 512) : ℝ := if s ≤ r then pT w K Q C L s r else 0
/-- The tile's gradient of scores on the diagonal. -/
def dD (w : Fin 128 → ℝ) (K V Q G : Tile) (C L D : Col) (s r : Fin 512) : ℝ := pD w K Q C L s r * (dp w V G s r - D r)

variable {kh vh qt gt : FVec Ideal S512x128 .bf16} {acc : FVec Ideal S512x128 .f32} {cc a : FVec Ideal S512x1 .f32} {lt dt : FVec Ideal S1x1x512 .f32}
variable {Q K G V A : Tile} {C L D X : Col} {w : Fin 128 → ℝ}

theorem pay32 {x : FVec Ideal S512x128 .bf16} (h : Mx x K) : Mx (k0_pay32 (F := Ideal) x) (fun r l => lo l * K r l) := by
  intro r l
  pointwise [k0_pay32, k0_pay28, k0_pay30]
  rw [h r l, select_lane_lt]; exact lo_coe _ _

theorem pay33 {x : FVec Ideal S512x128 .bf16} (h : Mx x K) : Mx (k0_pay33 (F := Ideal) x) (fun r l => hi l * K r l) := by
  intro r l
  pointwise [k0_pay33, k0_pay28, k0_pay31]
  rw [h r l, select_lane_ge]; exact hi_coe _ _

theorem pay34 {x : FVec Ideal S512x128 .bf16} (h : Mx x K) : Mx (k0_pay34 (F := Ideal) x) (fun r l => lo l * K r l) := by
  intro r l
  pointwise [k0_pay34, k0_pay29, k0_pay30]
  rw [h r l, select_lane_lt]; exact lo_coe _ _

theorem pay35 {x : FVec Ideal S512x128 .bf16} (h : Mx x K) : Mx (k0_pay35 (F := Ideal) x) (fun r l => hi l * K r l) := by
  intro r l
  pointwise [k0_pay35, k0_pay29, k0_pay31]
  rw [h r l, select_lane_ge]; exact hi_coe _ _

theorem pay36 (h : Rx lt C) : Cx (k0_pay36 (F := Ideal) lt) C := by
  intro r
  pointwise [k0_pay36]
  exact h r

theorem pay37 (h : Rx lt C) : Cx (k0_pay37 (F := Ideal) lt) C := by
  intro r
  pointwise [k0_pay37]
  exact h r

theorem pay14 (h : Mx qt Q) : Mx (k0_pay14 (F := Ideal) qt) Q := by
  intro r l
  pointwise [k0_pay14]
  exact h r l

theorem pay15 (h : Mx qt Q) : Mx (k0_pay15 (F := Ideal) qt) Q := by
  intro r l
  pointwise [k0_pay15]
  exact h r l

theorem pay40 (h : Mx qt Q) : Mx (k0_pay40 (F := Ideal) qt) Q := by
  intro r l
  pointwise [k0_pay40]
  exact h r l

theorem pay41 (h : Mx qt Q) : Mx (k0_pay41 (F := Ideal) qt) Q := by
  intro r l
  pointwise [k0_pay41]
  exact h r l

theorem pay2 (hK : Mx kh (fun r l => w l * K r l)) (hC : Cx cc C) (hQ : Mx qt Q) (hL : Rx lt L) : Mx (k0_pay2 (F := Ideal) kh cc qt lt) (pT w K Q C L) := by
  intro s r
  pointwise [k0_pay2]
  simp only [hK s _, hQ r _, hC s, hL r, ← EReal.coe_mul, ← coe_sum, ← EReal.coe_add, ← EReal.coe_sub, Ideal.exp_coe]
  rfl

theorem pay16 (hK : Mx kh (fun r l => w l * K r l)) (hC : Cx cc C) (hQ : Mx qt Q) (hL : Rx lt L) : Mx (k0_pay16 (F := Ideal) kh cc qt lt) (pT w K Q C L) := by
  intro s r
  pointwise [k0_pay16, k0_pay14]
  simp only [hK s _, hQ r _, hC s, hL r, ← EReal.coe_mul, ← coe_sum, ← EReal.coe_add, ← EReal.coe_sub, Ideal.exp_coe]
  rfl

theorem pay3 (hK : Mx kh (fun r l => w l * K r l)) (hV : Mx vh (fun r l => w l * V r l)) (hC : Cx cc C) (hQ : Mx qt Q) (hL : Rx lt L) (hG : Mx gt G) (hD : Rx dt D) : Mx (k0_pay3 (F := Ideal) kh vh cc qt gt lt dt) (dT w K V Q G C L D) := by
  intro s r
  pointwise [k0_pay3]
  simp only [pay2 hK hC hQ hL s r, hV s _, hG r _, hD r, ← EReal.coe_mul, ← coe_sum, ← EReal.coe_sub]
  rfl

theorem pay17 (hK : Mx kh (fun r l => w l * K r l)) (hV : Mx vh (fun r l => w l * V r l)) (hC : Cx cc C) (hQ : Mx qt Q) (hL : Rx lt L) (hG : Mx gt G) (hD : Rx dt D) : Mx (k0_pay17 (F := Ideal) kh vh cc qt gt lt dt) (dT w K V Q G C L D) := by
  intro s r
  pointwise [k0_pay17, k0_pay15]
  simp only [pay16 hK hC hQ hL s r, hV s _, hG r _, hD r, ← EReal.coe_mul, ← coe_sum, ← EReal.coe_sub]
  rfl

theorem pay4 (hK : Mx kh (fun r l => w l * K r l)) (hC : Cx cc C) (hQ : Mx qt Q) (hL : Rx lt L) (hG : Mx gt G) (hA : Mx acc A) : Mx (k0_pay4 (F := Ideal) k0_pay31 kh cc qt gt acc lt) (fun s l => A s l + mm hi (pT w K Q C L) G s l) := by
  intro s l
  pointwise [k0_pay4, k0_pay31]
  simp only [pay2 hK hC hQ hL s _, hA s l, hG _ l, select_lane_ge, hi_coe, ← EReal.coe_mul, ← coe_sum, ← EReal.coe_add]
  rfl

theorem pay18 (hK : Mx kh (fun r l => w l * K r l)) (hC : Cx cc C) (hQ : Mx qt Q) (hL : Rx lt L) (hG : Mx gt G) (hA : Mx acc A) : Mx (k0_pay18 (F := Ideal) k0_pay30 kh cc acc qt gt lt) (fun s l => A s l + mm lo (pT w K Q C L) G s l) := by
  intro s l
  pointwise [k0_pay18, k0_pay30, k0_pay15]
  simp only [pay16 hK hC hQ hL s _, hA s l, hG _ l, select_lane_lt, lo_coe, ← EReal.coe_mul, ← coe_sum, ← EReal.coe_add]
  rfl

theorem pay5 (hK : Mx kh (fun r l => w l * K r l)) (hV : Mx vh (fun r l => w l * V r l)) (hC : Cx cc C) (hQ : Mx qt Q) (hL : Rx lt L) (hG : Mx gt G) (hD : Rx dt D) (hA : Mx acc A) : Mx (k0_pay5 (F := Ideal) k0_pay31 kh vh cc qt gt acc lt dt) (fun s l => A s l + mm hi (dT w K V Q G C L D) Q s l) := by
  intro s l
  pointwise [k0_pay5, k0_pay31]
  simp only [pay3 hK hV hC hQ hL hG hD s _, hA s l, hQ _ l, select_lane_ge, hi_coe, ← EReal.coe_mul, ← coe_sum, ← EReal.coe_add]
  rfl

theorem pay19 (hK : Mx kh (fun r l => w l * K r l)) (hV : Mx vh (fun r l => w l * V r l)) (hC : Cx cc C) (hQ : Mx qt Q) (hL : Rx lt L) (hG : Mx gt G) (hD : Rx dt D) (hA : Mx acc A) : Mx (k0_pay19 (F := Ideal) k0_pay30 kh vh cc acc qt gt lt dt) (fun s l => A s l + mm lo (dT w K V Q G C L D) Q s l) := by
  intro s l
  pointwise [k0_pay19, k0_pay30, k0_pay14]
  simp only [pay17 hK hV hC hQ hL hG hD s _, hA s l, hQ _ l, select_lane_lt, lo_coe, ← EReal.coe_mul, ← coe_sum, ← EReal.coe_add]
  rfl

theorem pay6 (hK : Mx kh (fun r l => w l * K r l)) (hV : Mx vh (fun r l => w l * V r l)) (hC : Cx cc C) (hQ : Mx qt Q) (hL : Rx lt L) (hG : Mx gt G) (hD : Rx dt D) (ha : Cx a X) : Cx (k0_pay6 (F := Ideal) kh vh cc a qt gt lt dt) (fun s => X s + ∑ r, dT w K V Q G C L D s r) := by
  intro s
  pointwise [k0_pay6]
  simp only [pay3 hK hV hC hQ hL hG hD s _, ha s, ← coe_sum, ← EReal.coe_add]

theorem pay20 (hK : Mx kh (fun r l => w l * K r l)) (hV : Mx vh (fun r l => w l * V r l)) (hC : Cx cc C) (hQ : Mx qt Q) (hL : Rx lt L) (hG : Mx gt G) (hD : Rx dt D) (ha : Cx a X) : Cx (k0_pay20 (F := Ideal) kh vh cc a qt gt lt dt) (fun s => X s + ∑ r, dT w K V Q G C L D s r) := by
  intro s
  pointwise [k0_pay20]
  simp only [pay17 hK hV hC hQ hL hG hD s _, ha s, ← coe_sum, ← EReal.coe_add]

variable {row col : IVec S512x512 32} (hrow : ∀ r s, row (ix2 r s) = BitVec.ofNat 32 r.val) (hcol : ∀ r s, col (ix2 r s) = BitVec.ofNat 32 s.val)

include hrow hcol in
theorem pay42 (hK : Mx kh (fun r l => w l * K r l)) (hC : Cx cc C) (hQ : Mx qt Q) (hL : Rx lt L) : Mx (k0_pay42 (F := Ideal) row col kh cc qt lt) (pD w K Q C L) := by
  intro s r
  pointwise [k0_pay42, k0_pay40]
  rw [hrow, hcol, select_sle (by omega) (by omega)]
  simp only [hK s _, hQ r _, hC s, hL r, ← EReal.coe_mul, ← coe_sum, ← EReal.coe_add, ← EReal.coe_sub, Ideal.exp_coe]
  unfold pD pT
  simp only [Fin.le_def]
  split_ifs <;> rfl

include hrow hcol in
theorem pay47 (hK : Mx kh (fun r l => w l * K r l)) (hC : Cx cc C) (hQ : Mx qt Q) (hL : Rx lt L) : Mx (k0_pay47 (F := Ideal) row col kh cc qt lt) (pD w K Q C L) := by
  intro s r
  pointwise [k0_pay47]
  rw [hrow, hcol, select_sle (by omega) (by omega)]
  simp only [hK s _, hQ r _, hC s, hL r, ← EReal.coe_mul, ← coe_sum, ← EReal.coe_add, ← EReal.coe_sub, Ideal.exp_coe]
  unfold pD pT
  simp only [Fin.le_def]
  split_ifs <;> rfl

include hrow hcol in
theorem pay43 (hK : Mx kh (fun r l => w l * K r l)) (hV : Mx vh (fun r l => w l * V r l)) (hC : Cx cc C) (hQ : Mx qt Q) (hL : Rx lt L) (hG : Mx gt G) (hD : Rx dt D) : Mx (k0_pay43 (F := Ideal) row col kh vh cc qt gt lt dt) (dD w K V Q G C L D) := by
  intro s r
  pointwise [k0_pay43, k0_pay41]
  simp only [pay42 hrow hcol hK hC hQ hL s r, hV s _, hG r _, hD r, ← EReal.coe_mul, ← coe_sum, ← EReal.coe_sub]
  rfl

include hrow hcol in
theorem pay48 (hK : Mx kh (fun r l => w l * K r l)) (hV : Mx vh (fun r l => w l * V r l)) (hC : Cx cc C) (hQ : Mx qt Q) (hL : Rx lt L) (hG : Mx gt G) (hD : Rx dt D) : Mx (k0_pay48 (F := Ideal) row col kh vh cc qt gt lt dt) (dD w K V Q G C L D) := by
  intro s r
  pointwise [k0_pay48]
  simp only [pay47 hrow hcol hK hC hQ hL s r, hV s _, hG r _, hD r, ← EReal.coe_mul, ← coe_sum, ← EReal.coe_sub]
  rfl

include hrow hcol in
theorem pay45 (hK : Mx kh (fun r l => w l * K r l)) (hV : Mx vh (fun r l => w l * V r l)) (hC : Cx cc C) (hQ : Mx qt Q) (hL : Rx lt L) (hG : Mx gt G) (hD : Rx dt D) : Mx (k0_pay45 (F := Ideal) row col kh vh cc qt gt lt dt) (dD w K V Q G C L D) := by
  intro s r
  pointwise [k0_pay45]
  exact pay43 hrow hcol hK hV hC hQ hL hG hD s r

include hrow hcol in
theorem pay44 (hK : Mx kh (fun r l => w l * K r l)) (hC : Cx cc C) (hQ : Mx qt Q) (hL : Rx lt L) (hG : Mx gt G) : Mx (k0_pay44 (F := Ideal) row col k0_pay30 kh cc qt gt lt) (mm lo (pD w K Q C L) G) := by
  intro s l
  pointwise [k0_pay44, k0_pay30, k0_pay41, k0_pay38]
  simp only [pay42 hrow hcol hK hC hQ hL s _, hG _ l, select_lane_lt, lo_coe, ← EReal.coe_mul, ← coe_sum, zero_add]
  rfl

include hrow hcol in
theorem pay49 (hK : Mx kh (fun r l => w l * K r l)) (hC : Cx cc C) (hQ : Mx qt Q) (hL : Rx lt L) (hG : Mx gt G) (hA : Mx acc A) : Mx (k0_pay49 (F := Ideal) row col k0_pay31 kh cc qt gt acc lt) (fun s l => A s l + mm hi (pD w K Q C L) G s l) := by
  intro s l
  pointwise [k0_pay49, k0_pay31]
  simp only [pay47 hrow hcol hK hC hQ hL s _, hA s l, hG _ l, select_lane_ge, hi_coe, ← EReal.coe_mul, ← coe_sum, ← EReal.coe_add]
  rfl

include hrow hcol in
theorem pay50 {S : Fin 512 → Fin 512 → ℝ} {p : FVec Ideal S512x512 .bf16} (hK : Mx kh (fun r l => w l * K r l)) (hV : Mx vh (fun r l => w l * V r l)) (hC : Cx cc C) (hQ : Mx qt Q) (hL : Rx lt L) (hG : Mx gt G) (hD : Rx dt D) (hp : Mx p S) : Mx (k0_pay50 (F := Ideal) row col k0_pay30 k0_pay31 kh vh cc k0_pay38 qt gt p lt dt) (fun s l => mm lo S Q s l + mm hi (dD w K V Q G C L D) Q s l) := by
  intro s l
  pointwise [k0_pay50, k0_pay30, k0_pay31, k0_pay38]
  simp only [pay48 hrow hcol hK hV hC hQ hL hG hD s _, hp s _, hQ _ l, select_lane_lt, lo_coe, select_lane_ge, hi_coe, ← EReal.coe_mul, ← coe_sum, ← EReal.coe_add, zero_add]
  rfl

theorem pay46 {S : Fin 512 → Fin 512 → ℝ} {p : FVec Ideal S512x512 .f32} (hp : Mx p S) : Cx (k0_pay46 (F := Ideal) k0_pay39 p) (fun s => ∑ r, S s r) := by
  intro s
  pointwise [k0_pay46, k0_pay39]
  simp only [hp s _, ← coe_sum, zero_add]

theorem pay1 {S : Fin 512 → Fin 512 → ℝ} {p : FVec Ideal S512x512 .f32} (hp : Mx p S) : Cx (k0_pay1 (F := Ideal) k0_pay39 p) (fun s => ∑ r, S s r) := by
  intro s
  pointwise [k0_pay1, k0_pay39]
  simp only [hp s _, ← coe_sum, zero_add]

theorem pay12 (ha : Cx a X) (s : Fin 512) : k0_pay12 (F := Ideal) a (ix4 0 0 0 s) = ((X s : ℝ) : EReal) := by
  pointwise [k0_pay12]
  exact ha s

theorem pay13 (ha : Cx a X) (s : Fin 512) : k0_pay13 (F := Ideal) a (ix4 0 0 0 s) = ((X s : ℝ) : EReal) := by
  pointwise [k0_pay13]
  exact ha s

end Cert.Attn.Dkv
end
-- ==== Proof.Dkv.Loop.lean ====
/-
  The loop of one point of the key-and-value-gradient kernel: the running sums after `n` tiles, over real arguments.
-/
module
public import proofs.«01_k».proof.Proof.Dkv.Pay
public import proofs.«01_k».proof.Proof.Gen.Kernel2Ideal.Loops
public import Idealize.ShloMosaic.Lib.Affine
@[expose] public section
set_option maxRecDepth 16384
noncomputable section
namespace Cert.Attn.Dkv
open Idealize.ShloMosaic Cert.Kernel2Ideal Cert.Kernel2Ideal.Gen Idealize.ShloMosaic.TcCoe

/-- The loop runs over the tiles after the point's own. -/
theorem trips_eq (i : grid0.Coords) : (k0_t1_loop i).trips = 31 - (i 1).val := by
  have r_i1 : (i 1).val < 32 := (i 1).isLt
  have h_arg1 : Affine.IsInt (BitVec.ofNat 32 (i 1).val) (((i 1).val : Int)) := Affine.ofNat _ (by omega)
  have h_one : Affine.IsInt 1#32 (1) := Affine.ofNat _ (by omega)
  have h_lb : Affine.IsInt _ (((i 1).val : Int) + 1) := Affine.addi h_arg1 h_one (by omega)
  have h_all : Affine.IsInt 32#32 (32) := Affine.ofNat _ (by omega)
  have h_len : Affine.IsInt _ (-((i 1).val : Int) + 31) := Affine.subi h_all h_lb (by omega)
  have h_div : Affine.IsInt _ (-((i 1).val : Int) + 31) := Affine.divsi h_len h_one (by omega)
  have h_mul : Affine.IsInt _ (-((i 1).val : Int) + 31) := Affine.muli h_div h_one (by omega)
  have h_ub : Affine.IsInt _ (32) := Affine.addi h_lb h_mul (by omega)
  exact Affine.trips_eq h_lb h_ub h_one _ (by omega)

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole) {x0 x1 : Vec Ideal S512x128 .bf16} {x2 x3 : Vec Ideal S16384x128 .bf16} {x5 x6 : Vec Ideal S8x32x512 .f32} {ca cb : Vec Ideal S1x1x512 .f32} {w137 : BitVec 32}
variable {Kt Vt : Tile} {Q G : ℕ → Tile} {C0 C1 : Col} {L D : ℕ → ℕ → Col} {A B : Tile} {X Y : Col}

/-- The gradient of scores of one head of the pair against the queries of tile `b`. -/
def st (w : Fin 128 → ℝ) (h : ℕ) (Kt Vt : Tile) (Q G : ℕ → Tile) (C : Col) (L D : ℕ → ℕ → Col) (b : ℕ) : Fin 512 → Fin 512 → ℝ :=
  dT w Kt Vt (Q b) (G b) C (L h b) (D h b)
/-- The probabilities of one head of the pair against the queries of tile `b`. -/
def pt (w : Fin 128 → ℝ) (h : ℕ) (Kt : Tile) (Q : ℕ → Tile) (C : Col) (L : ℕ → ℕ → Col) (b : ℕ) : Fin 512 → Fin 512 → ℝ :=
  pT w Kt (Q b) C (L h b)

/-- What the loop carries after `n` tiles from what it carried at first. -/
def Inv (p j : ℕ) (Kt Vt : Tile) (Q G : ℕ → Tile) (C0 C1 : Col) (L D : ℕ → ℕ → Col) (A B : Tile) (X Y : Col) (n : ℕ)
    (s : FVec Ideal S512x128 .f32 × FVec Ideal S512x128 .f32 × FVec Ideal S512x1 .f32 × FVec Ideal S512x1 .f32) : Prop :=
  Mx s.1 (fun r l => A r l + ∑ b ∈ Finset.range n, (mm lo (st lo (2 * p) Kt Vt Q G C0 L D (j + b + 1)) (Q (j + b + 1)) r l + mm hi (st hi (2 * p + 1) Kt Vt Q G C1 L D (j + b + 1)) (Q (j + b + 1)) r l))
  ∧ Mx s.2.1 (fun r l => B r l + ∑ b ∈ Finset.range n, (mm lo (pt lo (2 * p) Kt Q C0 L (j + b + 1)) (G (j + b + 1)) r l + mm hi (pt hi (2 * p + 1) Kt Q C1 L (j + b + 1)) (G (j + b + 1)) r l))
  ∧ Cx s.2.2.1 (fun r => X r + ∑ b ∈ Finset.range n, ∑ t, st lo (2 * p) Kt Vt Q G C0 L D (j + b + 1) r t)
  ∧ Cx s.2.2.2 (fun r => Y r + ∑ b ∈ Finset.range n, ∑ t, st hi (2 * p + 1) Kt Vt Q G C1 L D (j + b + 1) r t)

variable (h0 : Mx x0 Kt) (h1 : Mx x1 Vt) (h2 : Rows x2 Q) (h3 : Rows x3 G) (hca : Rx ca C0) (hcb : Rx cb C1) (h5 : Bias x5 L) (h6 : Bias x6 D)

include h0 h1 h2 h3 hca hcb h5 h6 in
/-- One tile. -/
theorem trip (k : Fin (k0_t1_loop i).trips) (acc : FVec Ideal S512x128 .f32 × FVec Ideal S512x128 .f32 × FVec Ideal S512x1 .f32 × FVec Ideal S512x1 .f32)
    (ha : Inv (i 0).val (i 1).val Kt Vt Q G C0 C1 L D A B X Y k.val acc) :
    Inv (i 0).val (i 1).val Kt Vt Q G C0 C1 L D A B X Y (k.val + 1) (tripR_k0_t1 (F := Ideal) Variants.none c none i arg2 harg2 arg3 harg3 arg4 harg4 arg5 harg5 arg6 harg6 arg7 harg7 arg8 harg8 arg9 harg9 arg10 harg10 arg11 harg11 (BitVec.ofNat 32 (i 0).val) k0_pay30 k0_pay31 (k0_pay32 x0) (k0_pay33 x0) (k0_pay34 x1) (k0_pay35 x1) (k0_pay36 ca) (k0_pay37 cb) w137 (harg4.unread x2) (harg5.unread x3) (harg7.unread x5) (harg8.unread x6) k acc) := by
  obtain ⟨hA, hB, hX, hY⟩ := ha
  have hk : (i 1).val + k.val + 1 < 32 := by have := lt_of_lt_of_eq k.isLt (trips_eq i); omega
  have hi0 : (i 0).val < 4 := (i 0).isLt
  have e3 : ∀ r : Fin 2, 2 * (i 0).val + r.val < 8 := fun r => by omega
  have e2 : k0_off3 i k = ![512 * ((i 1).val + k.val + 1), 0] := by rw [k0_off3_eq]; congr 1; ring
  unfold tripR_k0_t1 trip_k0_t1
  dsimp only
  sl_unfold_words
  simp only [View.readAt_eq_ld, harg4.read_unread, harg5.read_unread, harg7.read_unread, harg8.read_unread]
  have hQ := h2.ld hk e2 (k0_off3_inb i k)
  have hG := h3.ld hk e2 (k0_off3_inb i k)
  have hL0 := h5.ld (e3 0) hk (k0_off4_eq i k 0) (k0_off4_inb i k 0)
  have hL1 := h5.ld (e3 1) hk (k0_off4_eq i k 1) (k0_off4_inb i k 1)
  have hD0 := h6.ld (e3 0) hk (k0_off4_eq i k 0) (k0_off4_inb i k 0)
  have hD1 := h6.ld (e3 1) hk (k0_off4_eq i k 1) (k0_off4_inb i k 1)
  refine ⟨?_, ?_, ?_, ?_⟩
  · intro r l
    refine (pay5 (pay33 h0) (pay35 h1) (pay37 hcb) (pay14 hQ) hL1 (pay15 hG) hD1 (pay19 (pay32 h0) (pay34 h1) (pay36 hca) hQ hL0 hG hD0 hA) r l).trans (congrArg _ ?_)
    simp only [Finset.sum_range_succ, ← add_assoc]; rfl
  · intro r l
    refine (pay4 (pay33 h0) (pay37 hcb) (pay14 hQ) hL1 (pay15 hG) (pay18 (pay32 h0) (pay36 hca) hQ hL0 hG hB) r l).trans (congrArg _ ?_)
    simp only [Finset.sum_range_succ, ← add_assoc]; rfl
  · intro r
    refine (pay20 (pay32 h0) (pay34 h1) (pay36 hca) hQ hL0 hG hD0 hX r).trans (congrArg _ ?_)
    simp only [Finset.sum_range_succ, ← add_assoc]; rfl
  · intro r
    refine (pay6 (pay33 h0) (pay35 h1) (pay37 hcb) (pay14 hQ) hL1 (pay15 hG) hD1 hY r).trans (congrArg _ ?_)
    simp only [Finset.sum_range_succ, ← add_assoc]; rfl

include h0 h1 h2 h3 hca hcb h5 h6 in
/-- What the loop carries after `n` tiles. -/
theorem st_inv {init : FVec Ideal S512x128 .f32 × FVec Ideal S512x128 .f32 × FVec Ideal S512x1 .f32 × FVec Ideal S512x1 .f32}
    (hA : Mx init.1 A) (hB : Mx init.2.1 B) (hX : Cx init.2.2.1 X) (hY : Cx init.2.2.2 Y) (n : ℕ) (hn : n ≤ (k0_t1_loop i).trips) :
    Inv (i 0).val (i 1).val Kt Vt Q G C0 C1 L D A B X Y n (st_k0_t1 (F := Ideal) Variants.none c none i arg2 harg2 arg3 harg3 arg4 harg4 arg5 harg5 arg6 harg6 arg7 harg7 arg8 harg8 arg9 harg9 arg10 harg10 arg11 harg11 (BitVec.ofNat 32 (i 0).val) k0_pay30 k0_pay31 (k0_pay32 x0) (k0_pay33 x0) (k0_pay34 x1) (k0_pay35 x1) (k0_pay36 ca) (k0_pay37 cb) w137 (harg4.unread x2) (harg5.unread x3) (harg7.unread x5) (harg8.unread x6) init n) := by
  induction n with
  | zero =>
    rw [st_k0_t1_zero]
    refine ⟨?_, ?_, ?_, ?_⟩
    · intro r l; simpa using hA r l
    · intro r l; simpa using hB r l
    · intro r; simpa using hX r
    · intro r; simpa using hY r
  | succ n ih =>
    rw [st_k0_t1_succ (k := ⟨n, hn⟩)]
    exact trip c i arg2 harg2 arg3 harg3 arg4 harg4 arg5 harg5 arg6 harg6 arg7 harg7 arg8 harg8 arg9 harg9 arg10 harg10 arg11 harg11 h0 h1 h2 h3 hca hcb h5 h6 ⟨n, hn⟩ _ (ih (by omega))

end Cert.Attn.Dkv
end
-- ==== Proof.Dkv.Block.lean ====
/-
  One point of the key-and-value-gradient kernel: the three blocks it writes, over real arguments.
-/
module
public import proofs.«01_k».proof.Proof.Dkv.Loop
public import proofs.«01_k».proof.Proof.Dkv.Frame
public import Idealize.ShloMosaic.Lib.LoopRemainder
public import Idealize.ShloMosaic.Lib.Pipeline.ValueKit.Tiles
@[expose] public section
set_option maxRecDepth 16384
noncomputable section
namespace Cert.Attn.Dkv
open Idealize.ShloMosaic Cert.Kernel2Ideal Cert.Kernel2Ideal.Gen Idealize.ShloMosaic.TcCoe

theorem hz : (![0, 0] : Fin 2 → Nat) = fun _ => 0 := funext fun a => by fin_cases a <;> rfl

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S8x32x512 .f32) (harg6 : arg6.IsWhole) (arg7 : Memref sig .tc .vmem S8x32x512 .f32) (harg7 : arg7.IsWhole) (arg8 : Memref sig .tc .vmem S8x32x512 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S2x1x1x512 .f32) (harg11 : arg11.IsWhole) {x0 x1 : Vec Ideal S512x128 .bf16} {x2 x3 : Vec Ideal S16384x128 .bf16} {x4 x5 x6 : Vec Ideal S8x32x512 .f32}
variable {Kt Vt : Tile} {Q G : ℕ → Tile} {C L D : ℕ → ℕ → Col}
variable (h0 : Mx x0 Kt) (h1 : Mx x1 Vt) (h2 : Rows x2 Q) (h3 : Rows x3 G) (h4 : Bias x4 C) (h5 : Bias x5 L) (h6 : Bias x6 D)

/-- The gradient of scores of one head of the pair on the diagonal tile. -/
def sd (w : Fin 128 → ℝ) (h j : ℕ) (Kt Vt : Tile) (Q G : ℕ → Tile) (C L D : ℕ → ℕ → Col) : Fin 512 → Fin 512 → ℝ :=
  dD w Kt Vt (Q j) (G j) (C h j) (L h j) (D h j)
/-- The probabilities of one head of the pair on the diagonal tile. -/
def pd (w : Fin 128 → ℝ) (h j : ℕ) (Kt : Tile) (Q : ℕ → Tile) (C L : ℕ → ℕ → Col) : Fin 512 → Fin 512 → ℝ :=
  pD w Kt (Q j) (C h j) (L h j)

/-- The real block of key gradients. -/
def blkDk (p j : ℕ) (Kt Vt : Tile) (Q G : ℕ → Tile) (C L D : ℕ → ℕ → Col) : Tile := fun r l =>
  (mm lo (sd lo (2 * p) j Kt Vt Q G C L D) (Q j) r l + mm hi (sd hi (2 * p + 1) j Kt Vt Q G C L D) (Q j) r l)
    + ∑ b ∈ Finset.range (31 - j), (mm lo (st lo (2 * p) Kt Vt Q G (C (2 * p) j) L D (j + b + 1)) (Q (j + b + 1)) r l + mm hi (st hi (2 * p + 1) Kt Vt Q G (C (2 * p + 1) j) L D (j + b + 1)) (Q (j + b + 1)) r l)
/-- The real block of value gradients. -/
def blkDv (p j : ℕ) (Kt : Tile) (Q G : ℕ → Tile) (C L : ℕ → ℕ → Col) : Tile := fun r l =>
  (mm lo (pd lo (2 * p) j Kt Q C L) (G j) r l + mm hi (pd hi (2 * p + 1) j Kt Q C L) (G j) r l)
    + ∑ b ∈ Finset.range (31 - j), (mm lo (pt lo (2 * p) Kt Q (C (2 * p) j) L (j + b + 1)) (G (j + b + 1)) r l + mm hi (pt hi (2 * p + 1) Kt Q (C (2 * p + 1) j) L (j + b + 1)) (G (j + b + 1)) r l)
/-- The real row of one head's sums of score gradients. -/
def blkDn (w : Fin 128 → ℝ) (h j : ℕ) (Kt Vt : Tile) (Q G : ℕ → Tile) (C L D : ℕ → ℕ → Col) : Col := fun r =>
  (∑ t, sd w h j Kt Vt Q G C L D r t) + ∑ b ∈ Finset.range (31 - j), ∑ t, st w h Kt Vt Q G (C h j) L D (j + b + 1) r t

/-- The row numbers of a tile. -/
theorem iota_row (r s : Fin 512) : iota Kind.tc S512x512 32 [0] iota_S512x512_d0_w32 (ix2 r s) = BitVec.ofNat 32 r.val := by
  pointwise
/-- The column numbers of a tile. -/
theorem iota_col (r s : Fin 512) : iota Kind.tc S512x512 32 [1] iota_S512x512_d1_w32 (ix2 r s) = BitVec.ofNat 32 s.val := by
  pointwise

include h0 h1 h2 h3 h4 h5 h6 in
/-- What the diagonal tile and the loop leave. -/
theorem point (w137 : BitVec 32) :
    Inv (i 0).val (i 1).val Kt Vt Q G (C (2 * (i 0).val) (i 1).val) (C (2 * (i 0).val + 1) (i 1).val) L D
      (fun r l => mm lo (sd lo (2 * (i 0).val) (i 1).val Kt Vt Q G C L D) (Q (i 1).val) r l + mm hi (sd hi (2 * (i 0).val + 1) (i 1).val Kt Vt Q G C L D) (Q (i 1).val) r l)
      (fun r l => mm lo (pd lo (2 * (i 0).val) (i 1).val Kt Q C L) (G (i 1).val) r l + mm hi (pd hi (2 * (i 0).val + 1) (i 1).val Kt Q C L) (G (i 1).val) r l)
      (fun r => ∑ t, sd lo (2 * (i 0).val) (i 1).val Kt Vt Q G C L D r t) (fun r => ∑ t, sd hi (2 * (i 0).val + 1) (i 1).val Kt Vt Q G C L D r t) (31 - (i 1).val)
      (st_k0_t1 (F := Ideal) Variants.none c none i arg2 harg2 arg3 harg3 arg4 harg4 arg5 harg5 arg6 harg6 arg7 harg7 arg8 harg8 arg9 harg9 arg10 harg10 arg11 harg11 (BitVec.ofNat 32 (i 0).val) k0_pay30 k0_pay31 (k0_pay32 x0) (k0_pay33 x0) (k0_pay34 x1) (k0_pay35 x1) (k0_pay36 (View.ld (Val := Elt Ideal) (e' := .f32) (S := S8x32x512) x4 (Rect.unit (k0_off1 i 0#32) S1x1x512.size (k0_off1_inb i 0)))) (k0_pay37 (View.ld (Val := Elt Ideal) (e' := .f32) (S := S8x32x512) x4 (Rect.unit (k0_off1 i 1#32) S1x1x512.size (k0_off1_inb i 1)))) w137 (harg4.unread x2) (harg5.unread x3) (harg7.unread x5) (harg8.unread x6) ((k0_pay50 (iota Kind.tc S512x512 32 [0] iota_S512x512_d0_w32) (iota Kind.tc S512x512 32 [1] iota_S512x512_d1_w32) k0_pay30 k0_pay31 (k0_pay33 x0) (k0_pay35 x1) (k0_pay37 (View.ld (Val := Elt Ideal) (e' := .f32) (S := S8x32x512) x4 (Rect.unit (k0_off1 i 1#32) S1x1x512.size (k0_off1_inb i 1)))) k0_pay38 (k0_pay40 (View.ld (Val := Elt Ideal) (e' := .bf16) (S := S16384x128) x2 (Rect.unit (k0_off2 i) S512x128.size (k0_off2_inb i)))) (k0_pay41 (View.ld (Val := Elt Ideal) (e' := .bf16) (S := S16384x128) x3 (Rect.unit (k0_off2 i) S512x128.size (k0_off2_inb i)))) (k0_pay45 (iota Kind.tc S512x512 32 [0] iota_S512x512_d0_w32) (iota Kind.tc S512x512 32 [1] iota_S512x512_d1_w32) (k0_pay32 x0) (k0_pay34 x1) (k0_pay36 (View.ld (Val := Elt Ideal) (e' := .f32) (S := S8x32x512) x4 (Rect.unit (k0_off1 i 0#32) S1x1x512.size (k0_off1_inb i 0)))) (View.ld (Val := Elt Ideal) (e' := .bf16) (S := S16384x128) x2 (Rect.unit (k0_off2 i) S512x128.size (k0_off2_inb i))) (View.ld (Val := Elt Ideal) (e' := .bf16) (S := S16384x128) x3 (Rect.unit (k0_off2 i) S512x128.size (k0_off2_inb i))) (View.ld (Val := Elt Ideal) (e' := .f32) (S := S8x32x512) x5 (Rect.unit (k0_off1 i 0#32) S1x1x512.size (k0_off1_inb i 0))) (View.ld (Val := Elt Ideal) (e' := .f32) (S := S8x32x512) x6 (Rect.unit (k0_off1 i 0#32) S1x1x512.size (k0_off1_inb i 0)))) (View.ld (Val := Elt Ideal) (e' := .f32) (S := S8x32x512) x5 (Rect.unit (k0_off1 i 1#32) S1x1x512.size (k0_off1_inb i 1))) (View.ld (Val := Elt Ideal) (e' := .f32) (S := S8x32x512) x6 (Rect.unit (k0_off1 i 1#32) S1x1x512.size (k0_off1_inb i 1)))), (k0_pay49 (iota Kind.tc S512x512 32 [0] iota_S512x512_d0_w32) (iota Kind.tc S512x512 32 [1] iota_S512x512_d1_w32) k0_pay31 (k0_pay33 x0) (k0_pay37 (View.ld (Val := Elt Ideal) (e' := .f32) (S := S8x32x512) x4 (Rect.unit (k0_off1 i 1#32) S1x1x512.size (k0_off1_inb i 1)))) (k0_pay40 (View.ld (Val := Elt Ideal) (e' := .bf16) (S := S16384x128) x2 (Rect.unit (k0_off2 i) S512x128.size (k0_off2_inb i)))) (k0_pay41 (View.ld (Val := Elt Ideal) (e' := .bf16) (S := S16384x128) x3 (Rect.unit (k0_off2 i) S512x128.size (k0_off2_inb i)))) (k0_pay44 (iota Kind.tc S512x512 32 [0] iota_S512x512_d0_w32) (iota Kind.tc S512x512 32 [1] iota_S512x512_d1_w32) k0_pay30 (k0_pay32 x0) (k0_pay36 (View.ld (Val := Elt Ideal) (e' := .f32) (S := S8x32x512) x4 (Rect.unit (k0_off1 i 0#32) S1x1x512.size (k0_off1_inb i 0)))) (View.ld (Val := Elt Ideal) (e' := .bf16) (S := S16384x128) x2 (Rect.unit (k0_off2 i) S512x128.size (k0_off2_inb i))) (View.ld (Val := Elt Ideal) (e' := .bf16) (S := S16384x128) x3 (Rect.unit (k0_off2 i) S512x128.size (k0_off2_inb i))) (View.ld (Val := Elt Ideal) (e' := .f32) (S := S8x32x512) x5 (Rect.unit (k0_off1 i 0#32) S1x1x512.size (k0_off1_inb i 0)))) (View.ld (Val := Elt Ideal) (e' := .f32) (S := S8x32x512) x5 (Rect.unit (k0_off1 i 1#32) S1x1x512.size (k0_off1_inb i 1)))), k0_pay46 k0_pay39 (k0_pay43 (iota Kind.tc S512x512 32 [0] iota_S512x512_d0_w32) (iota Kind.tc S512x512 32 [1] iota_S512x512_d1_w32) (k0_pay32 x0) (k0_pay34 x1) (k0_pay36 (View.ld (Val := Elt Ideal) (e' := .f32) (S := S8x32x512) x4 (Rect.unit (k0_off1 i 0#32) S1x1x512.size (k0_off1_inb i 0)))) (View.ld (Val := Elt Ideal) (e' := .bf16) (S := S16384x128) x2 (Rect.unit (k0_off2 i) S512x128.size (k0_off2_inb i))) (View.ld (Val := Elt Ideal) (e' := .bf16) (S := S16384x128) x3 (Rect.unit (k0_off2 i) S512x128.size (k0_off2_inb i))) (View.ld (Val := Elt Ideal) (e' := .f32) (S := S8x32x512) x5 (Rect.unit (k0_off1 i 0#32) S1x1x512.size (k0_off1_inb i 0))) (View.ld (Val := Elt Ideal) (e' := .f32) (S := S8x32x512) x6 (Rect.unit (k0_off1 i 0#32) S1x1x512.size (k0_off1_inb i 0)))), k0_pay1 k0_pay39 (k0_pay48 (iota Kind.tc S512x512 32 [0] iota_S512x512_d0_w32) (iota Kind.tc S512x512 32 [1] iota_S512x512_d1_w32) (k0_pay33 x0) (k0_pay35 x1) (k0_pay37 (View.ld (Val := Elt Ideal) (e' := .f32) (S := S8x32x512) x4 (Rect.unit (k0_off1 i 1#32) S1x1x512.size (k0_off1_inb i 1)))) (k0_pay40 (View.ld (Val := Elt Ideal) (e' := .bf16) (S := S16384x128) x2 (Rect.unit (k0_off2 i) S512x128.size (k0_off2_inb i)))) (k0_pay41 (View.ld (Val := Elt Ideal) (e' := .bf16) (S := S16384x128) x3 (Rect.unit (k0_off2 i) S512x128.size (k0_off2_inb i)))) (View.ld (Val := Elt Ideal) (e' := .f32) (S := S8x32x512) x5 (Rect.unit (k0_off1 i 1#32) S1x1x512.size (k0_off1_inb i 1))) (View.ld (Val := Elt Ideal) (e' := .f32) (S := S8x32x512) x6 (Rect.unit (k0_off1 i 1#32) S1x1x512.size (k0_off1_inb i 1))))) (31 - (i 1).val)) := by
  have hi1 : (i 1).val < 32 := (i 1).isLt
  have hi0 : (i 0).val < 4 := (i 0).isLt
  have e3 : ∀ r : Fin 2, 2 * (i 0).val + r.val < 8 := fun r => by omega
  have hQ := h2.ld hi1 (k0_off2_eq i) (k0_off2_inb i)
  have hG := h3.ld hi1 (k0_off2_eq i) (k0_off2_inb i)
  have hC0 := h4.ld (e3 0) hi1 (k0_off1_eq i 0) (k0_off1_inb i 0)
  have hC1 := h4.ld (e3 1) hi1 (k0_off1_eq i 1) (k0_off1_inb i 1)
  have hL0 := h5.ld (e3 0) hi1 (k0_off1_eq i 0) (k0_off1_inb i 0)
  have hL1 := h5.ld (e3 1) hi1 (k0_off1_eq i 1) (k0_off1_inb i 1)
  have hD0 := h6.ld (e3 0) hi1 (k0_off1_eq i 0) (k0_off1_inb i 0)
  have hD1 := h6.ld (e3 1) hi1 (k0_off1_eq i 1) (k0_off1_inb i 1)
  exact st_inv c i arg2 harg2 arg3 harg3 arg4 harg4 arg5 harg5 arg6 harg6 arg7 harg7 arg8 harg8 arg9 harg9 arg10 harg10 arg11 harg11 h0 h1 h2 h3 hC0 hC1 h5 h6
    (pay50 iota_row iota_col (pay33 h0) (pay35 h1) (pay37 hC1) (pay40 hQ) hL1 (pay41 hG) hD1 (pay45 iota_row iota_col (pay32 h0) (pay34 h1) (pay36 hC0) hQ hL0 hG hD0))
    (pay49 iota_row iota_col (pay33 h0) (pay37 hC1) (pay40 hQ) hL1 (pay41 hG) (pay44 iota_row iota_col (pay32 h0) (pay36 hC0) hQ hL0 hG))
    (pay46 (pay43 iota_row iota_col (pay32 h0) (pay34 h1) (pay36 hC0) hQ hL0 hG hD0))
    (pay1 (pay48 iota_row iota_col (pay33 h0) (pay35 h1) (pay37 hC1) (pay40 hQ) hL1 (pay41 hG) hD1))
    (31 - (i 1).val) (le_of_eq (trips_eq i).symm)

include h0 h1 h2 h3 h4 h5 h6 in
/-- The block of key gradients. -/
theorem out7 : Mx (out0_A_7 (F := Ideal) c i arg2 harg2 arg3 harg3 arg4 harg4 arg5 harg5 arg6 harg6 arg7 harg7 arg8 harg8 arg9 harg9 arg10 harg10 arg11 harg11 x0 x1 x2 x3 x4 x5 x6) (blkDk (i 0).val (i 1).val Kt Vt Q G C L D) := by
  have P := point c i arg2 harg2 arg3 harg3 arg4 harg4 arg5 harg5 arg6 harg6 arg7 harg7 arg8 harg8 arg9 harg9 arg10 harg10 arg11 harg11 h0 h1 h2 h3 h4 h5 h6 (Scalar.addi (BitVec.ofNat 32 (i 1).val) 1#32)
  have ht : Scf.trips (Scalar.addi (BitVec.ofNat 32 (i 1).val) 1#32) (Scalar.addi (Scalar.addi (BitVec.ofNat 32 (i 1).val) 1#32) (Scalar.muli (Scalar.divsi (Scalar.subi 32#32 (Scalar.addi (BitVec.ofNat 32 (i 1).val) 1#32)) 1#32) 1#32)) 1#32 = 31 - (i 1).val :=
    trips_eq i
  intro r l
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x128) hz, Scf.rem_trips, st_k0_t2_zero, ht]
  exact P.1 r l

include h0 h1 h2 h3 h4 h5 h6 in
/-- The block of value gradients. -/
theorem out8 : Mx (out0_A_8 (F := Ideal) c i arg2 harg2 arg3 harg3 arg4 harg4 arg5 harg5 arg6 harg6 arg7 harg7 arg8 harg8 arg9 harg9 arg10 harg10 arg11 harg11 x0 x1 x2 x3 x4 x5 x6) (blkDv (i 0).val (i 1).val Kt Q G C L) := by
  have P := point c i arg2 harg2 arg3 harg3 arg4 harg4 arg5 harg5 arg6 harg6 arg7 harg7 arg8 harg8 arg9 harg9 arg10 harg10 arg11 harg11 h0 h1 h2 h3 h4 h5 h6 (Scalar.addi (BitVec.ofNat 32 (i 1).val) 1#32)
  have ht : Scf.trips (Scalar.addi (BitVec.ofNat 32 (i 1).val) 1#32) (Scalar.addi (Scalar.addi (BitVec.ofNat 32 (i 1).val) 1#32) (Scalar.muli (Scalar.divsi (Scalar.subi 32#32 (Scalar.addi (BitVec.ofNat 32 (i 1).val) 1#32)) 1#32) 1#32)) 1#32 = 31 - (i 1).val :=
    trips_eq i
  intro r l
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x128) hz, Scf.rem_trips, st_k0_t2_zero, ht]
  exact P.2.1 r l

include h0 h1 h2 h3 h4 h5 h6 in
/-- The block of sums of score gradients: one row for each head. -/
theorem out9 (r : Fin 512) : out0_A_9 (F := Ideal) c i arg2 harg2 arg3 harg3 arg4 harg4 arg5 harg5 arg6 harg6 arg7 harg7 arg8 harg8 arg9 harg9 arg10 harg10 arg11 harg11 x0 x1 x2 x3 x4 x5 x6 (ix4 0 0 0 r) = ((blkDn lo (2 * (i 0).val) (i 1).val Kt Vt Q G C L D r : ℝ) : EReal)
    ∧ out0_A_9 (F := Ideal) c i arg2 harg2 arg3 harg3 arg4 harg4 arg5 harg5 arg6 harg6 arg7 harg7 arg8 harg8 arg9 harg9 arg10 harg10 arg11 harg11 x0 x1 x2 x3 x4 x5 x6 (ix4 1 0 0 r) = ((blkDn hi (2 * (i 0).val + 1) (i 1).val Kt Vt Q G C L D r : ℝ) : EReal) := by
  have P := point c i arg2 harg2 arg3 harg3 arg4 harg4 arg5 harg5 arg6 harg6 arg7 harg7 arg8 harg8 arg9 harg9 arg10 harg10 arg11 harg11 h0 h1 h2 h3 h4 h5 h6 (Scalar.addi (BitVec.ofNat 32 (i 1).val) 1#32)
  have ht : Scf.trips (Scalar.addi (BitVec.ofNat 32 (i 1).val) 1#32) (Scalar.addi (Scalar.addi (BitVec.ofNat 32 (i 1).val) 1#32) (Scalar.muli (Scalar.divsi (Scalar.subi 32#32 (Scalar.addi (BitVec.ofNat 32 (i 1).val) 1#32)) 1#32) 1#32)) 1#32 = 31 - (i 1).val :=
    trips_eq i
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S512x128) hz, Scf.rem_trips, st_k0_t2_zero, ht]
  constructor
  · exact (canon_two_0 _ _ _ _ r).trans (pay12 P.2.2.1 r)
  · exact (canon_two_1 _ _ _ _ r).trans (pay13 P.2.2.2 r)

end Cert.Attn.Dkv
end
-- ==== Proof.Dkv.Heads.lean ====
/-
  The key-and-value-gradient kernel's real blocks: the gradients of the heads' own attention.
-/
module
public import proofs.«01_k».proof.Proof.Attn.Lanes
public import proofs.«01_k».proof.Proof.Dkv.Block
@[expose] public section
set_option maxRecDepth 16384
noncomputable section
namespace Cert.Attn.Dkv

/-- A sum over the tiles after `j`. -/
theorem sum_after (F : ℕ → ℝ) (j : Fin 32) : ∑ b ∈ Finset.range (31 - j.val), F (j.val + b + 1) = ∑ b ∈ Finset.univ.filter (j < ·), F b.val := by
  refine Finset.sum_bij (fun b hb => (⟨j.val + b + 1, by have := Finset.mem_range.mp hb; omega⟩ : Fin 32)) ?_ ?_ ?_ ?_
  · intro b hb
    exact Finset.mem_filter.mpr ⟨Finset.mem_univ _, Fin.lt_def.mpr (by show j.val < j.val + b + 1; omega)⟩
  · intro b hb b' hb' h
    have := congrArg Fin.val h
    simp only at this
    omega
  · intro b hb
    have h := Fin.lt_def.mp (Finset.mem_filter.mp hb).2
    have := b.isLt
    exact ⟨b.val - j.val - 1, Finset.mem_range.mpr (by omega), Fin.ext (by show j.val + (b.val - j.val - 1) + 1 = b.val; omega)⟩
  · intro b hb; rfl

/-- A sum over the rows that see a column: its own tile, and the tiles after. -/
theorem sum_tiles_after (F : Fin 16384 → ℝ) (G : ℕ → Fin 512 → ℝ) (j : Fin 32) (s : Fin 512) (h0 : ∀ i, ¬ row j s ≤ i → F i = 0)
    (hG : ∀ b : Fin 32, j < b → ∀ r, G b.val r = F (row b r)) (D : Fin 512 → ℝ) (hD : ∀ r, D r = F (row j r)) :
    (∑ r, D r) + ∑ b ∈ Finset.range (31 - j.val), ∑ r, G (j.val + b + 1) r = ∑ i, F i := by
  rw [sum_after (fun b => ∑ r, G b r)]
  rw [sum_col' (n := 16384) (B := 32) (T := 512) (by norm_num) F j s (fun i hi => h0 i (by rw [row_at]; exact hi))]
  congr 1
  · refine Finset.sum_congr rfl fun r _ => ?_
    split_ifs with h
    · rw [hD, row_at]
    · rw [hD]; exact h0 _ (by rw [row_le_diag]; exact h)
  · refine Finset.sum_congr rfl fun b hb => Finset.sum_congr rfl fun r _ => ?_
    rw [hG b (Finset.mem_filter.mp hb).2, row_at]

variable (q k v g : Fin 8 → Fin 16384 → Fin 64 → ℝ) (c : Fin 8 → Fin 16384 → ℝ) (p : Fin 4) (j : Fin 32)

/-- The kernel's exponential is that of the head's score less the row's log-mass. -/
theorem p0_eq (b : Fin 32) (s r : Fin 512) : pT lo (lanes k p j.val) (lanes q p b.val) (cols (neg c) (2 * p.val) j.val) (cols (lses q k c) (2 * p.val) b.val) s r
    = Real.exp (score (q (h0 p)) (k (h0 p)) (c (h0 p)) (row b r) (row j s) - lse (q (h0 p)) (k (h0 p)) (c (h0 p)) (row b r)) := by
  unfold pT score
  rw [dot_lo, cols_0, cols_0, neg, sub_eq_add_neg (∑ e, _) _, Finset.sum_congr rfl fun e _ => mul_comm (k (h0 p) (row j s) e) _]
  rfl

theorem dp0_eq (b : Fin 32) (s r : Fin 512) : dp lo (lanes v p j.val) (lanes g p b.val) s r = dprob (v (h0 p)) (g (h0 p)) (row b r) (row j s) := by
  unfold dp dprob
  rw [dot_lo]
  exact Finset.sum_congr rfl fun e _ => mul_comm _ _

/-- After the diagonal the kernel's probabilities are the head's. -/
theorem pt0_eq (b : Fin 32) (s r : Fin 512) (hb : j < b) : pt lo (2 * p.val) (lanes k p j.val) (lanes q p) (cols (neg c) (2 * p.val) j.val) (cols (lses q k c)) b.val s r = prob (q (h0 p)) (k (h0 p)) (c (h0 p)) (row b r) (row j s) := by
  unfold pt
  rw [p0_eq, prob_of_le _ _ _ (row_le_of_lt hb r s)]

/-- After the diagonal the kernel's gradient of scores is the head's. -/
theorem st0_eq (b : Fin 32) (s r : Fin 512) (hb : j < b) : st lo (2 * p.val) (lanes k p j.val) (lanes v p j.val) (lanes q p) (lanes g p) (cols (neg c) (2 * p.val) j.val) (cols (lses q k c)) (cols (deltas q k v g c)) b.val s r = dscore (q (h0 p)) (k (h0 p)) (v (h0 p)) (g (h0 p)) (c (h0 p)) (row b r) (row j s) := by
  have e := pt0_eq q k c p j b s r hb
  unfold pt at e
  unfold st dT dscore
  rw [e, dp0_eq, cols_0]
  rfl

/-- On the diagonal the kernel's probabilities are the head's. -/
theorem pd0_eq (s r : Fin 512) : pd lo (2 * p.val) j.val (lanes k p j.val) (lanes q p) (cols (neg c)) (cols (lses q k c)) s r = prob (q (h0 p)) (k (h0 p)) (c (h0 p)) (row j r) (row j s) := by
  unfold pd pD
  split_ifs with hs
  · rw [p0_eq, prob_of_le _ _ _ ((row_le_diag j r s).2 hs)]
  · rw [prob_of_gt _ _ _ (fun h' => hs ((row_le_diag j r s).1 h'))]

/-- On the diagonal the kernel's gradient of scores is the head's. -/
theorem sd0_eq (s r : Fin 512) : sd lo (2 * p.val) j.val (lanes k p j.val) (lanes v p j.val) (lanes q p) (lanes g p) (cols (neg c)) (cols (lses q k c)) (cols (deltas q k v g c)) s r = dscore (q (h0 p)) (k (h0 p)) (v (h0 p)) (g (h0 p)) (c (h0 p)) (row j r) (row j s) := by
  have e := pd0_eq q k c p j s r
  unfold pd at e
  unfold sd dD dscore
  rw [e, dp0_eq, cols_0]
  rfl

/-- The row of sums of score gradients is the head's. -/
theorem dn0 (s : Fin 512) : blkDn lo (2 * p.val) j.val (lanes k p j.val) (lanes v p j.val) (lanes q p) (lanes g p) (cols (neg c)) (cols (lses q k c)) (cols (deltas q k v g c)) s
    = dn (q (h0 p)) (k (h0 p)) (v (h0 p)) (g (h0 p)) (c (h0 p)) (row j s) :=
  sum_tiles_after (fun i => dscore (q (h0 p)) (k (h0 p)) (v (h0 p)) (g (h0 p)) (c (h0 p)) i (row j s)) (fun b r => st lo (2 * p.val) (lanes k p j.val) (lanes v p j.val) (lanes q p) (lanes g p) (cols (neg c) (2 * p.val) j.val) (cols (lses q k c)) (cols (deltas q k v g c)) b s r) j s (fun i hi => dscore_of_gt _ _ _ _ _ hi)
    (fun b hb r => st0_eq q k v g c p j b s r hb) _ (fun r => sd0_eq q k v g c p j s r)

theorem dk0 (s : Fin 512) (l : Fin 128) :
    (∑ r, sd lo (2 * p.val) j.val (lanes k p j.val) (lanes v p j.val) (lanes q p) (lanes g p) (cols (neg c)) (cols (lses q k c)) (cols (deltas q k v g c)) s r * lanes q p j.val r l) + ∑ b ∈ Finset.range (31 - j.val), ∑ r, st lo (2 * p.val) (lanes k p j.val) (lanes v p j.val) (lanes q p) (lanes g p) (cols (neg c) (2 * p.val) j.val) (cols (lses q k c)) (cols (deltas q k v g c)) (j.val + b + 1) s r * lanes q p (j.val + b + 1) r l
      = ∑ i, dscore (q (h0 p)) (k (h0 p)) (v (h0 p)) (g (h0 p)) (c (h0 p)) i (row j s) * q (hd p l) i (ln l) :=
  sum_tiles_after (fun i => dscore (q (h0 p)) (k (h0 p)) (v (h0 p)) (g (h0 p)) (c (h0 p)) i (row j s) * q (hd p l) i (ln l)) (fun b r => st lo (2 * p.val) (lanes k p j.val) (lanes v p j.val) (lanes q p) (lanes g p) (cols (neg c) (2 * p.val) j.val) (cols (lses q k c)) (cols (deltas q k v g c)) b s r * lanes q p b r l) j s
    (fun i hi => by rw [dscore_of_gt _ _ _ _ _ hi, zero_mul])
    (fun b hb r => by rw [st0_eq q k v g c p j b s r hb, lanes_eq]) _ (fun r => by rw [sd0_eq q k v g c p j s r, lanes_eq])

theorem dv0 (s : Fin 512) (l : Fin 128) :
    (∑ r, pd lo (2 * p.val) j.val (lanes k p j.val) (lanes q p) (cols (neg c)) (cols (lses q k c)) s r * lanes g p j.val r l) + ∑ b ∈ Finset.range (31 - j.val), ∑ r, pt lo (2 * p.val) (lanes k p j.val) (lanes q p) (cols (neg c) (2 * p.val) j.val) (cols (lses q k c)) (j.val + b + 1) s r * lanes g p (j.val + b + 1) r l
      = ∑ i, prob (q (h0 p)) (k (h0 p)) (c (h0 p)) i (row j s) * g (hd p l) i (ln l) :=
  sum_tiles_after (fun i => prob (q (h0 p)) (k (h0 p)) (c (h0 p)) i (row j s) * g (hd p l) i (ln l)) (fun b r => pt lo (2 * p.val) (lanes k p j.val) (lanes q p) (cols (neg c) (2 * p.val) j.val) (cols (lses q k c)) b s r * lanes g p b r l) j s
    (fun i hi => by rw [prob_of_gt _ _ _ hi, zero_mul])
    (fun b hb r => by rw [pt0_eq q k c p j b s r hb, lanes_eq]) _ (fun r => by rw [pd0_eq q k c p j s r, lanes_eq])

/-- The kernel's exponential is that of the head's score less the row's log-mass. -/
theorem p1_eq (b : Fin 32) (s r : Fin 512) : pT hi (lanes k p j.val) (lanes q p b.val) (cols (neg c) (2 * p.val + 1) j.val) (cols (lses q k c) (2 * p.val + 1) b.val) s r
    = Real.exp (score (q (h1 p)) (k (h1 p)) (c (h1 p)) (row b r) (row j s) - lse (q (h1 p)) (k (h1 p)) (c (h1 p)) (row b r)) := by
  unfold pT score
  rw [dot_hi, cols_1, cols_1, neg, sub_eq_add_neg (∑ e, _) _, Finset.sum_congr rfl fun e _ => mul_comm (k (h1 p) (row j s) e) _]
  rfl

theorem dp1_eq (b : Fin 32) (s r : Fin 512) : dp hi (lanes v p j.val) (lanes g p b.val) s r = dprob (v (h1 p)) (g (h1 p)) (row b r) (row j s) := by
  unfold dp dprob
  rw [dot_hi]
  exact Finset.sum_congr rfl fun e _ => mul_comm _ _

/-- After the diagonal the kernel's probabilities are the head's. -/
theorem pt1_eq (b : Fin 32) (s r : Fin 512) (hb : j < b) : pt hi (2 * p.val + 1) (lanes k p j.val) (lanes q p) (cols (neg c) (2 * p.val + 1) j.val) (cols (lses q k c)) b.val s r = prob (q (h1 p)) (k (h1 p)) (c (h1 p)) (row b r) (row j s) := by
  unfold pt
  rw [p1_eq, prob_of_le _ _ _ (row_le_of_lt hb r s)]

/-- After the diagonal the kernel's gradient of scores is the head's. -/
theorem st1_eq (b : Fin 32) (s r : Fin 512) (hb : j < b) : st hi (2 * p.val + 1) (lanes k p j.val) (lanes v p j.val) (lanes q p) (lanes g p) (cols (neg c) (2 * p.val + 1) j.val) (cols (lses q k c)) (cols (deltas q k v g c)) b.val s r = dscore (q (h1 p)) (k (h1 p)) (v (h1 p)) (g (h1 p)) (c (h1 p)) (row b r) (row j s) := by
  have e := pt1_eq q k c p j b s r hb
  unfold pt at e
  unfold st dT dscore
  rw [e, dp1_eq, cols_1]
  rfl

/-- On the diagonal the kernel's probabilities are the head's. -/
theorem pd1_eq (s r : Fin 512) : pd hi (2 * p.val + 1) j.val (lanes k p j.val) (lanes q p) (cols (neg c)) (cols (lses q k c)) s r = prob (q (h1 p)) (k (h1 p)) (c (h1 p)) (row j r) (row j s) := by
  unfold pd pD
  split_ifs with hs
  · rw [p1_eq, prob_of_le _ _ _ ((row_le_diag j r s).2 hs)]
  · rw [prob_of_gt _ _ _ (fun h' => hs ((row_le_diag j r s).1 h'))]

/-- On the diagonal the kernel's gradient of scores is the head's. -/
theorem sd1_eq (s r : Fin 512) : sd hi (2 * p.val + 1) j.val (lanes k p j.val) (lanes v p j.val) (lanes q p) (lanes g p) (cols (neg c)) (cols (lses q k c)) (cols (deltas q k v g c)) s r = dscore (q (h1 p)) (k (h1 p)) (v (h1 p)) (g (h1 p)) (c (h1 p)) (row j r) (row j s) := by
  have e := pd1_eq q k c p j s r
  unfold pd at e
  unfold sd dD dscore
  rw [e, dp1_eq, cols_1]
  rfl

/-- The row of sums of score gradients is the head's. -/
theorem dn1 (s : Fin 512) : blkDn hi (2 * p.val + 1) j.val (lanes k p j.val) (lanes v p j.val) (lanes q p) (lanes g p) (cols (neg c)) (cols (lses q k c)) (cols (deltas q k v g c)) s
    = dn (q (h1 p)) (k (h1 p)) (v (h1 p)) (g (h1 p)) (c (h1 p)) (row j s) :=
  sum_tiles_after (fun i => dscore (q (h1 p)) (k (h1 p)) (v (h1 p)) (g (h1 p)) (c (h1 p)) i (row j s)) (fun b r => st hi (2 * p.val + 1) (lanes k p j.val) (lanes v p j.val) (lanes q p) (lanes g p) (cols (neg c) (2 * p.val + 1) j.val) (cols (lses q k c)) (cols (deltas q k v g c)) b s r) j s (fun i hi => dscore_of_gt _ _ _ _ _ hi)
    (fun b hb r => st1_eq q k v g c p j b s r hb) _ (fun r => sd1_eq q k v g c p j s r)

theorem dk1 (s : Fin 512) (l : Fin 128) :
    (∑ r, sd hi (2 * p.val + 1) j.val (lanes k p j.val) (lanes v p j.val) (lanes q p) (lanes g p) (cols (neg c)) (cols (lses q k c)) (cols (deltas q k v g c)) s r * lanes q p j.val r l) + ∑ b ∈ Finset.range (31 - j.val), ∑ r, st hi (2 * p.val + 1) (lanes k p j.val) (lanes v p j.val) (lanes q p) (lanes g p) (cols (neg c) (2 * p.val + 1) j.val) (cols (lses q k c)) (cols (deltas q k v g c)) (j.val + b + 1) s r * lanes q p (j.val + b + 1) r l
      = ∑ i, dscore (q (h1 p)) (k (h1 p)) (v (h1 p)) (g (h1 p)) (c (h1 p)) i (row j s) * q (hd p l) i (ln l) :=
  sum_tiles_after (fun i => dscore (q (h1 p)) (k (h1 p)) (v (h1 p)) (g (h1 p)) (c (h1 p)) i (row j s) * q (hd p l) i (ln l)) (fun b r => st hi (2 * p.val + 1) (lanes k p j.val) (lanes v p j.val) (lanes q p) (lanes g p) (cols (neg c) (2 * p.val + 1) j.val) (cols (lses q k c)) (cols (deltas q k v g c)) b s r * lanes q p b r l) j s
    (fun i hi => by rw [dscore_of_gt _ _ _ _ _ hi, zero_mul])
    (fun b hb r => by rw [st1_eq q k v g c p j b s r hb, lanes_eq]) _ (fun r => by rw [sd1_eq q k v g c p j s r, lanes_eq])

theorem dv1 (s : Fin 512) (l : Fin 128) :
    (∑ r, pd hi (2 * p.val + 1) j.val (lanes k p j.val) (lanes q p) (cols (neg c)) (cols (lses q k c)) s r * lanes g p j.val r l) + ∑ b ∈ Finset.range (31 - j.val), ∑ r, pt hi (2 * p.val + 1) (lanes k p j.val) (lanes q p) (cols (neg c) (2 * p.val + 1) j.val) (cols (lses q k c)) (j.val + b + 1) s r * lanes g p (j.val + b + 1) r l
      = ∑ i, prob (q (h1 p)) (k (h1 p)) (c (h1 p)) i (row j s) * g (hd p l) i (ln l) :=
  sum_tiles_after (fun i => prob (q (h1 p)) (k (h1 p)) (c (h1 p)) i (row j s) * g (hd p l) i (ln l)) (fun b r => pt hi (2 * p.val + 1) (lanes k p j.val) (lanes q p) (cols (neg c) (2 * p.val + 1) j.val) (cols (lses q k c)) b s r * lanes g p b r l) j s
    (fun i hi => by rw [prob_of_gt _ _ _ hi, zero_mul])
    (fun b hb r => by rw [pt1_eq q k c p j b s r hb, lanes_eq]) _ (fun r => by rw [pd1_eq q k c p j s r, lanes_eq])

/-- The block of key gradients is the tile of the heads' key gradients. -/
theorem blkDk_eq : blkDk p.val j.val (lanes k p j.val) (lanes v p j.val) (lanes q p) (lanes g p) (cols (neg c)) (cols (lses q k c)) (cols (deltas q k v g c)) = lanes (fun h => dk (q h) (k h) (v h) (g h) (c h)) p j.val := by
  funext s l
  rw [lanes_eq]
  have e0 := dk0 q k v g c p j s l
  have e1 := dk1 q k v g c p j s l
  unfold blkDk mm
  by_cases h : l.val < 64
  · have hh : hd p l = h0 p := Fin.ext (by show 2 * p.val + l.val / 64 = 2 * p.val; omega)
    simp only [lo, hi, if_pos h, one_mul, zero_mul, Finset.sum_const_zero, add_zero]
    rw [e0, hh]; rfl
  · have hh : hd p l = h1 p := Fin.ext (by show 2 * p.val + l.val / 64 = 2 * p.val + 1; omega)
    simp only [lo, hi, if_neg h, one_mul, zero_mul, Finset.sum_const_zero, zero_add]
    rw [e1, hh]; rfl

/-- The block of value gradients is the tile of the heads' value gradients. -/
theorem blkDv_eq : blkDv p.val j.val (lanes k p j.val) (lanes q p) (lanes g p) (cols (neg c)) (cols (lses q k c)) = lanes (fun h => dv (q h) (k h) (g h) (c h)) p j.val := by
  funext s l
  rw [lanes_eq]
  have e0 := dv0 q k g c p j s l
  have e1 := dv1 q k g c p j s l
  unfold blkDv mm
  by_cases h : l.val < 64
  · have hh : hd p l = h0 p := Fin.ext (by show 2 * p.val + l.val / 64 = 2 * p.val; omega)
    simp only [lo, hi, if_pos h, one_mul, zero_mul, Finset.sum_const_zero, add_zero]
    rw [e0, hh]; rfl
  · have hh : hd p l = h1 p := Fin.ext (by show 2 * p.val + l.val / 64 = 2 * p.val + 1; omega)
    simp only [lo, hi, if_neg h, one_mul, zero_mul, Finset.sum_const_zero, zero_add]
    rw [e1, hh]; rfl

end Cert.Attn.Dkv
end
-- ==== Proof.Dkv.Array.lean ====
/-
  The key- and value-gradient kernel's result arrays.
-/
module
public import proofs.«01_k».proof.Proof.Attn.Arrays
public import proofs.«01_k».proof.Proof.Dkv.Stage
public import proofs.«01_k».proof.Proof.Dkv.Heads
public import proofs.«01_k».proof.Proof.Dkv.Block
public import proofs.«01_k».proof.Proof.Dq.Ref
public import Idealize.ShloMosaic.Lib.Pipeline.ValueKit.Geometry
public import Idealize.ShloMosaic.Lib.StableHlo.RunRead
@[expose] public section
set_option maxRecDepth 16384
noncomputable section
namespace Cert.Attn.Dkv
open Cert.Kernel2Ideal Cert.Kernel2Ideal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

variable {q k v g : Heads} {gt : Fin 8 → Fin 16384 → ℝ}
variable (hq : Holds (m ((c : Thread nD τ).loc main_arg0)) q) (hk : Holds (m ((c : Thread nD τ).loc main_arg1)) k) (hv : Holds (m ((c : Thread nD τ).loc main_arg2)) v) (hc : HoldsGates (m ((c : Thread nD τ).loc main_arg3)) gt) (hg : Holds (m ((c : Thread nD τ).loc main_arg4)) g)

include hq hk hv hc hg in
/-- The tile of key gradients a grid point writes. -/
theorem tile7 (t : Fin cfg0.N) : Mx (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t))
    (lanes (fun h => dk (q h) (k h) (v h) (g h) (gt h)) (grid0.coords t 0) (grid0.coords t 1).val) := by
  have h := out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 m c hk t) (blk1 m c hv t) (blk2 m c hq t) (blk3 m c hg t) (blk4 m c (negRows_holds hc _) t) (blk5 m c (fun h i => lse_eq hq hk hc h i) t) (blk6 m c (Cert.Attn.Dq.ref_delta_rows hq hk hv hc hg) t)
  have e := blkDk_eq q k v g gt (grid0.coords t 0) (grid0.coords t 1)
  exact fun r l => (h r l).trans (congrArg _ (congrFun (congrFun e r) l))

include hq hk hv hc hg in
/-- The array of key gradients. -/
theorem array7 (G : S16384x512.Idx → EReal) (hG : Holds G (fun h => dk (q h) (k h) (v h) (g h) (gt h))) : (dats m 0 c).arrAt 7 cfg0.N = G := by
  refine (dats m 0 c).arrAt_eq_of_covers 7 _ (by decide +kernel) fun t hf y => ?_
  have hy : ∃ (r : Fin 512) (l : Fin 128), y = ix2 r l := ⟨y 0, y 1, by funext u; match u with | ⟨0, _⟩ => rfl | ⟨1, _⟩ => rfl⟩
  obtain ⟨r, l, rfl⟩ := hy
  refine Eq.trans ?_ (hG.at (grid0.coords t 0) (grid0.coords t 1) r l (((cfg0.win 7).blk t).view.emb (ix2 r l)) (by blk_simp [idx7]) (by blk_simp [idx7])).symm
  refine Eq.trans ?_ (tile7 m c hq hk hv hc hg t r l)
  blk_simp
  rw [after0_7]
  simp only [outsAt0]

include hq hk hv hc hg in
/-- The tile of value gradients a grid point writes. -/
theorem tile8 (t : Fin cfg0.N) : Mx (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t))
    (lanes (fun h => dv (q h) (k h) (g h) (gt h)) (grid0.coords t 0) (grid0.coords t 1).val) := by
  have h := out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 m c hk t) (blk1 m c hv t) (blk2 m c hq t) (blk3 m c hg t) (blk4 m c (negRows_holds hc _) t) (blk5 m c (fun h i => lse_eq hq hk hc h i) t) (blk6 m c (Cert.Attn.Dq.ref_delta_rows hq hk hv hc hg) t)
  have e := blkDv_eq q k g gt (grid0.coords t 0) (grid0.coords t 1)
  exact fun r l => (h r l).trans (congrArg _ (congrFun (congrFun e r) l))

include hq hk hv hc hg in
/-- The array of value gradients. -/
theorem array8 (G : S16384x512.Idx → EReal) (hG : Holds G (fun h => dv (q h) (k h) (g h) (gt h))) : (dats m 0 c).arrAt 8 cfg0.N = G := by
  refine (dats m 0 c).arrAt_eq_of_covers 8 _ (by decide +kernel) fun t hf y => ?_
  have hy : ∃ (r : Fin 512) (l : Fin 128), y = ix2 r l := ⟨y 0, y 1, by funext u; match u with | ⟨0, _⟩ => rfl | ⟨1, _⟩ => rfl⟩
  obtain ⟨r, l, rfl⟩ := hy
  refine Eq.trans ?_ (hG.at (grid0.coords t 0) (grid0.coords t 1) r l (((cfg0.win 8).blk t).view.emb (ix2 r l)) (by blk_simp [idx8]) (by blk_simp [idx8])).symm
  refine Eq.trans ?_ (tile8 m c hq hk hv hc hg t r l)
  blk_simp
  rw [after0_8]
  simp only [outsAt0]

include hq hk hv hc hg in
/-- The rows of gate gradients a grid point writes. -/
theorem tile9 (t : Fin cfg0.N) (r : Fin 512) : out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (ix4 0 0 0 r)
      = ((cols (fun h => dn (q h) (k h) (v h) (g h) (gt h)) (2 * (grid0.coords t 0).val) (grid0.coords t 1).val r : ℝ) : EReal)
    ∧ out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (ix4 1 0 0 r)
      = ((cols (fun h => dn (q h) (k h) (v h) (g h) (gt h)) (2 * (grid0.coords t 0).val + 1) (grid0.coords t 1).val r : ℝ) : EReal) := by
  have e0 := cols_0 (fun h => dn (q h) (k h) (v h) (g h) (gt h)) (grid0.coords t 0) (grid0.coords t 1) r
  have e1 := cols_1 (fun h => dn (q h) (k h) (v h) (g h) (gt h)) (grid0.coords t 0) (grid0.coords t 1) r
  have d0 := dn0 q k v g gt (grid0.coords t 0) (grid0.coords t 1) r
  have d1 := dn1 q k v g gt (grid0.coords t 0) (grid0.coords t 1) r
  have h := out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (blk0 m c hk t) (blk1 m c hv t) (blk2 m c hq t) (blk3 m c hg t) (blk4 m c (negRows_holds hc _) t) (blk5 m c (fun h i => lse_eq hq hk hc h i) t) (blk6 m c (Cert.Attn.Dq.ref_delta_rows hq hk hv hc hg) t) r
  exact ⟨h.1.trans (congrArg _ (d0.trans e0.symm)), h.2.trans (congrArg _ (d1.trans e1.symm))⟩

include hq hk hv hc hg in
/-- The array of gate gradients. -/
theorem array9 (G : S8x32x1x512.Idx → EReal) (hG : HoldsTiles G (fun h => dn (q h) (k h) (v h) (g h) (gt h))) : (dats m 0 c).arrAt 9 cfg0.N = G := by
  refine (dats m 0 c).arrAt_eq_of_covers 9 _ (by decide +kernel) fun t hf y => ?_
  have hy : ∃ (u : Fin 2) (r : Fin 512), y = ix4 u 0 0 r := ⟨y 0, y 3, by
    funext u
    match u with
    | ⟨0, _⟩ => rfl
    | ⟨1, _⟩ => exact Subsingleton.elim (α := Fin 1) _ _
    | ⟨2, _⟩ => exact Subsingleton.elim (α := Fin 1) _ _
    | ⟨3, _⟩ => rfl⟩
  obtain ⟨u, r, rfl⟩ := hy
  refine Eq.trans ?_ (hG.at (2 * (grid0.coords t 0).val + u.val) (grid0.coords t 1).val r (((cfg0.win 9).blk t).view.emb (ix4 u 0 0 r))
    (by blk_simp [idx9]; omega) (by blk_simp [idx9]; rfl) (by blk_simp [idx9])).symm
  match u with
  | ⟨0, _⟩ =>
    refine Eq.trans ?_ (tile9 m c hq hk hv hc hg t r).1
    blk_simp
    rw [after0_9]
    simp only [outsAt0]
  | ⟨1, _⟩ =>
    refine Eq.trans ?_ (tile9 m c hq hk hv hc hg t r).2
    blk_simp
    rw [after0_9]
    simp only [outsAt0]

end Cert.Attn.Dkv
end
-- ==== Proof.Dkv.Ref.lean ====
/-
  The reference of the key- and value-gradient call returns the gradients of `Spec`.
-/
module
public import proofs.«01_k».proof.Proof.Attn.Arrays
@[expose] public section
set_option maxRecDepth 16384
noncomputable section
namespace Cert.Attn.Dkv
open Idealize.ShloMosaic Cert.Reference2Ideal Cert.Reference2Ideal.Read Cert.Attn.Ref

variable {x0 x1 x2 x4 : Mat} {x3 : Gates} {q k v g : Heads} {c : Fin 8 → Fin 16384 → ℝ}
variable (hq : Holds x0 q) (hk : Holds x1 k) (hv : Holds x2 v) (hc : HoldsGates x3 c) (hg : Holds x4 g)

include hq hk hv hc hg in
/-- The gradients of the keys. -/
theorem ref_dk : Holds (val_main_v86 x0 x1 x2 x3 x4) (fun h => dk (q h) (k h) (v h) (g h) (c h)) := fun h i e p =>
  v86_eq hq hk hv hc hg h i e p

include hq hk hc hg in
/-- The gradients of the values. -/
theorem ref_dv : Holds (val_main_v55 x0 x1 x3 x4) (fun h => dv (q h) (k h) (g h) (c h)) := fun h i e p =>
  v55_eq hq hk hc hg h i e p

include hq hk hv hc hg in
/-- The gradients of the forget gates' sums with their sign turned, in tiles. -/
theorem ref_dn : HoldsTiles (val_main_v90 x0 x1 x2 x3 x4) (fun h => dn (q h) (k h) (v h) (g h) (c h)) :=
  HoldsRows.tiles4 (x := val_main_v89 x0 x1 x2 x3 x4) (fun h j => v89_eq hq hk hv hc hg h j) _

end Cert.Attn.Dkv
end
-- ==== Proof.Dkv.Claim.lean ====
/-
  The key- and value-gradient kernel returns what its reference returns.
-/
module
public import proofs.«01_k».proof.Proof.Attn.Finite
public import proofs.«01_k».proof.Proof.Dkv.Array
public import proofs.«01_k».proof.Proof.Dkv.Ref
public import proofs.«01_k».proof.Proof.Gen.Pre_finite
public import proofs.«01_k».proof.Defs
@[expose] public section
set_option maxRecDepth 16384
set_option maxHeartbeats 1000000
noncomputable section
namespace Cert.Attn.Dkv
open Idealize.ShloMosaic Idealize.ShloMosaic.TcCoe Idealize.SL.Sem Cert.Attn.Ref

/-- From finite arguments the kernel returns the reference's gradients of the keys, the values and the forget gates' sums. -/
theorem algebraic : Cert.algebraic_Kernel2Ideal_Reference2Ideal_pre_finite := by
  intro m ρ m' ρ' hpre hagree
  refine ⟨fun c => (Cert.Attn.Dkv.dats m 0 c).arrAt 7 Cert.Kernel2Ideal.cfg0.N, fun c => (Cert.Attn.Dkv.dats m 0 c).arrAt 8 Cert.Kernel2Ideal.cfg0.N, fun c => (Cert.Attn.Dkv.dats m 0 c).arrAt 9 Cert.Kernel2Ideal.cfg0.N, Cert.Attn.Dkv.run_blocks m ρ, ?_⟩
  refine (θ_run Cert.Reference2Ideal.defs _ _).mono (fun _ h c => ?_) (Cert.Reference2Ideal.Value.run m' ρ')
  obtain ⟨r0, r1, r2, ha⟩ := h c
  obtain ⟨a0, a1, a2, a3, a4⟩ := hagree c
  obtain ⟨p0, p1, p2, p3, p4⟩ := hpre c
  have hq := holds_headsOf (real_of_test _ _ p0)
  have hk := holds_headsOf (real_of_test _ _ p1)
  have hv := holds_headsOf (real_of_test _ _ p2)
  have hc := holds_gatesOf (real_of_test _ _ p3)
  have hg := holds_headsOf (real_of_test _ _ p4)
  have e0 : ∀ x0 x1 x2 x3 x4, x0 = m ((c.tc : Thread Cert.Kernel2Ideal.nD Cert.Kernel2Ideal.τ).loc Cert.Kernel2Ideal.main_arg0) → x1 = m ((c.tc : Thread Cert.Kernel2Ideal.nD Cert.Kernel2Ideal.τ).loc Cert.Kernel2Ideal.main_arg1) → x2 = m ((c.tc : Thread Cert.Kernel2Ideal.nD Cert.Kernel2Ideal.τ).loc Cert.Kernel2Ideal.main_arg2) → x3 = m ((c.tc : Thread Cert.Kernel2Ideal.nD Cert.Kernel2Ideal.τ).loc Cert.Kernel2Ideal.main_arg3) → x4 = m ((c.tc : Thread Cert.Kernel2Ideal.nD Cert.Kernel2Ideal.τ).loc Cert.Kernel2Ideal.main_arg4)
      → Cert.Reference2Ideal.Read.val_main_v86 (F := Ideal) x0 x1 x2 x3 x4 = (Cert.Attn.Dkv.dats m 0 c).arrAt 7 Cert.Kernel2Ideal.cfg0.N := by
    rintro _ _ _ _ _ rfl rfl rfl rfl rfl
    exact (array7 m c hq hk hv hc hg _ (ref_dk hq hk hv hc hg)).symm
  have e1 : ∀ x0 x1 x3 x4, x0 = m ((c.tc : Thread Cert.Kernel2Ideal.nD Cert.Kernel2Ideal.τ).loc Cert.Kernel2Ideal.main_arg0) → x1 = m ((c.tc : Thread Cert.Kernel2Ideal.nD Cert.Kernel2Ideal.τ).loc Cert.Kernel2Ideal.main_arg1) → x3 = m ((c.tc : Thread Cert.Kernel2Ideal.nD Cert.Kernel2Ideal.τ).loc Cert.Kernel2Ideal.main_arg3) → x4 = m ((c.tc : Thread Cert.Kernel2Ideal.nD Cert.Kernel2Ideal.τ).loc Cert.Kernel2Ideal.main_arg4)
      → Cert.Reference2Ideal.Read.val_main_v55 (F := Ideal) x0 x1 x3 x4 = (Cert.Attn.Dkv.dats m 0 c).arrAt 8 Cert.Kernel2Ideal.cfg0.N := by
    rintro _ _ _ _ rfl rfl rfl rfl
    exact (array8 m c hq hk hv hc hg _ (ref_dv hq hk hc hg)).symm
  have e2 : ∀ x0 x1 x2 x3 x4, x0 = m ((c.tc : Thread Cert.Kernel2Ideal.nD Cert.Kernel2Ideal.τ).loc Cert.Kernel2Ideal.main_arg0) → x1 = m ((c.tc : Thread Cert.Kernel2Ideal.nD Cert.Kernel2Ideal.τ).loc Cert.Kernel2Ideal.main_arg1) → x2 = m ((c.tc : Thread Cert.Kernel2Ideal.nD Cert.Kernel2Ideal.τ).loc Cert.Kernel2Ideal.main_arg2) → x3 = m ((c.tc : Thread Cert.Kernel2Ideal.nD Cert.Kernel2Ideal.τ).loc Cert.Kernel2Ideal.main_arg3) → x4 = m ((c.tc : Thread Cert.Kernel2Ideal.nD Cert.Kernel2Ideal.τ).loc Cert.Kernel2Ideal.main_arg4)
      → Cert.Reference2Ideal.Read.val_main_v90 (F := Ideal) x0 x1 x2 x3 x4 = (Cert.Attn.Dkv.dats m 0 c).arrAt 9 Cert.Kernel2Ideal.cfg0.N := by
    rintro _ _ _ _ _ rfl rfl rfl rfl rfl
    exact (array9 m c hq hk hv hc hg _ (ref_dn hq hk hv hc hg)).symm
  exact ⟨(r0.trans (Cert.Reference2Ideal.Read.val_main_v86_eq m' c)).trans (e0 _ _ _ _ _ a0 a1 a2 a3 a4),
    (r1.trans (Cert.Reference2Ideal.Read.val_main_v55_eq m' c)).trans (e1 _ _ _ _ a0 a1 a3 a4),
    (r2.trans (Cert.Reference2Ideal.Read.val_main_v90_eq m' c)).trans (e2 _ _ _ _ _ a0 a1 a2 a3 a4), ha⟩

end Cert.Attn.Dkv
end
-- ==== Proof.Fwd.Host.lean ====
/-
  The forward kernel's operands as the host prepares them.
-/
module
public import proofs.«01_k».proof.Proof.Attn.Arrays
public import proofs.«01_k».proof.Proof.Gen.Kernel3Ideal.Frame
public import Idealize.ShloMosaic.Lib.Pipeline.ValueKit.Geometry
public import Idealize.ShloMosaic.Lib.StableHlo.RunRead
@[expose] public section
set_option maxRecDepth 16384
noncomputable section
namespace Cert.Attn.Fwd
open Cert.Kernel3Ideal Cert.Kernel3Ideal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

/-- The queries in the narrow format are the queries. -/
theorem V_v0 : (V m c main_v0 : S16384x512.Idx → EReal) = m ((c : Thread nD τ).loc main_arg0) := by
  simp only [V, hostOps0, List.flatten_cons, List.flatten_nil, List.append_nil, List.cons_append, List.nil_append]
  after_reads_simp
  rfl

/-- The keys in the narrow format are the keys. -/
theorem V_v1 : (V m c main_v1 : S16384x512.Idx → EReal) = m ((c : Thread nD τ).loc main_arg1) := by
  simp only [V, hostOps0, List.flatten_cons, List.flatten_nil, List.append_nil, List.cons_append, List.nil_append]
  after_reads_simp
  rfl

/-- The values in the narrow format are the values. -/
theorem V_v2 : (V m c main_v2 : S16384x512.Idx → EReal) = m ((c : Thread nD τ).loc main_arg2) := by
  simp only [V, hostOps0, List.flatten_cons, List.flatten_nil, List.append_nil, List.cons_append, List.nil_append]
  after_reads_simp
  rfl

/-- The gates with their sign turned, head by head, in tiles. -/
theorem V_v5 : (V m c main_v5 : S8x32x512.Idx → EReal) = shapeCast S8x32x512 (negRows (m ((c : Thread nD τ).loc main_arg3)) transposes_S16384x8_S8x16384_1_0) shapeCasts_S8x16384_S8x32x512 := by
  simp only [V, hostOps0, List.flatten_cons, List.flatten_nil, List.append_nil, List.cons_append, List.nil_append]
  after_reads_simp
  rfl

end Cert.Attn.Fwd
end
-- ==== Proof.Fwd.Stage.lean ====
/-
  What the forward kernel's windows stage.
-/
module
public import proofs.«01_k».proof.Proof.Attn.Arrays
public import proofs.«01_k».proof.Proof.Fwd.Host
public import Idealize.ShloMosaic.Lib.Pipeline.ValueKit.Geometry
public import Idealize.ShloMosaic.Lib.StableHlo.RunRead
@[expose] public section
set_option maxRecDepth 16384
noncomputable section
namespace Cert.Attn.Fwd
open Cert.Kernel3Ideal Cert.Kernel3Ideal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

theorem idx0 : ∀ t : Fin cfg0.N, win0_0.index t = ![(grid0.coords t 1).val, (grid0.coords t 0).val] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![0, (grid0.coords t 0).val] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![(grid0.coords t 1).val, (grid0.coords t 0).val] := (by decide +kernel : ∀ t : Fin grid0.N, _)
theorem idx5 : ∀ t : Fin cfg0.N, win0_5.index t = ![(grid0.coords t 0).val, (grid0.coords t 1).val, 0, 0] := (by decide +kernel : ∀ t : Fin grid0.N, _)

theorem blk0 {a : Heads} (ha : Holds (m ((c : Thread nD τ).loc main_arg0)) a) (t : Fin cfg0.N) :
    Mx (iblk m c 0 t) (lanes a (grid0.coords t 0) (grid0.coords t 1).val) := by
  intro r l
  blk_simp [iblk, idx0]
  rw [V_v0]
  exact ha.at (grid0.coords t 0) (grid0.coords t 1) r l _ (by blk_simp [idx0]) (by blk_simp [idx0])
theorem blk1 {a : Heads} (ha : Holds (m ((c : Thread nD τ).loc main_arg1)) a) (t : Fin cfg0.N) :
    Rows (iblk m c 1 t) (lanes a (grid0.coords t 0)) := by
  intro b hb r l
  blk_simp [iblk, idx1]
  rw [V_v1]
  exact ha.at (grid0.coords t 0) ⟨b, hb⟩ r l _ (by blk_simp [idx1]; show 512 * b + r.val = b * 512 + r.val; omega) (by blk_simp [idx1])
theorem blk2 {a : Heads} (ha : Holds (m ((c : Thread nD τ).loc main_arg2)) a) (t : Fin cfg0.N) :
    Rows (iblk m c 2 t) (lanes a (grid0.coords t 0)) := by
  intro b hb r l
  blk_simp [iblk, idx2]
  rw [V_v2]
  exact ha.at (grid0.coords t 0) ⟨b, hb⟩ r l _ (by blk_simp [idx2]; show 512 * b + r.val = b * 512 + r.val; omega) (by blk_simp [idx2])
theorem blk3 {f : Fin 8 → Fin 16384 → ℝ} (hf : HoldsRows (negRows (m ((c : Thread nD τ).loc main_arg3)) transposes_S16384x8_S8x16384_1_0) f) (t : Fin cfg0.N) :
    Bias (iblk m c 3 t) (cols f) := by
  intro h b s
  have e : ((cfg0.win 3).blk t).view.emb (ix3 h b s) = ix3 h b s := by
    funext u
    apply Fin.ext
    match u with
    | ⟨0, _⟩ => blk_simp [idx3]
    | ⟨1, _⟩ => blk_simp [idx3]
    | ⟨2, _⟩ => blk_simp [idx3]
  have st : ∀ x : S8x32x512.Idx → EReal, ((cfg0.win 3).blk t).view.read (Elt Ideal) x (ix3 h b s) = x (ix3 h b s) := fun x => congrArg x e
  have hV : (V m c (Pipeline.arrRef spec0 3) : S8x32x512.Idx → EReal) = _ := V_v5 m c
  generalize hy : negRows (m ((c : Thread nD τ).loc main_arg3)) transposes_S16384x8_S8x16384_1_0 = y at hf hV
  unfold iblk
  rw [hV]
  exact (st _).trans (hf.tiles _ h b s)

end Cert.Attn.Fwd
end
-- ==== Proof.Attn.Online.lean ====
/-
  A row's softmax computed tile by tile: a running maximum from `-∞`, a running sum of exponentials and a running
  sum of weighted values. The three stay related however the maximum moves, so any real number may stand for it.
-/
module
public import proofs.«01_k».proof.Proof.Attn.Lanes
public import proofs.«01_k».proof.Proof.Attn.Real
@[expose] public section
set_option maxRecDepth 16384
noncomputable section
namespace Cert.Attn
open Idealize.ShloMosaic

/-- The sum of the exponentials of a row's scores in its first `n` tiles, less `M`. -/
def ssum (n : ℕ) (T : ℕ → Fin 512 → ℝ) (M : ℝ) : ℝ := ∑ b ∈ Finset.range n, ∑ s, Real.exp (T b s - M)
/-- The sum of the values in the first `n` tiles, weighted by these exponentials. -/
def asum (n : ℕ) (T V : ℕ → Fin 512 → ℝ) (M : ℝ) : ℝ := ∑ b ∈ Finset.range n, ∑ s, Real.exp (T b s - M) * V b s

theorem ssum_shift (n : ℕ) (T : ℕ → Fin 512 → ℝ) (M M' : ℝ) : Real.exp (M - M') * ssum n T M = ssum n T M' := by
  unfold ssum
  simp only [Finset.mul_sum, ← Real.exp_add]
  refine Finset.sum_congr rfl fun b _ => Finset.sum_congr rfl fun s _ => congrArg _ ?_
  ring
theorem asum_shift (n : ℕ) (T V : ℕ → Fin 512 → ℝ) (M M' : ℝ) : asum n T V M * Real.exp (M - M') = asum n T V M' := by
  unfold asum
  simp only [Finset.sum_mul]
  refine Finset.sum_congr rfl fun b _ => Finset.sum_congr rfl fun s _ => ?_
  rw [mul_right_comm, ← Real.exp_add]
  congr 2
  ring

/-- The running numbers of a row after `n` tiles: nothing yet, or the sums less some real number. -/
def Run (n : ℕ) (T : ℕ → Fin 512 → ℝ) (V : ℕ → Tile) (w : Fin 128 → Prop) (m l : EReal) (acc : Fin 128 → EReal) : Prop :=
  (n = 0 ∧ m = ⊥ ∧ l = 0 ∧ ∀ x, w x → acc x = 0)
  ∨ ∃ M : ℝ, m = (M : EReal) ∧ l = ((ssum n T M : ℝ) : EReal) ∧ ∀ x, w x → acc x = ((asum n T (fun b s => V b s x) M : ℝ) : EReal)

variable {n : ℕ} {T : ℕ → Fin 512 → ℝ} {V : ℕ → Tile} {w : Fin 128 → Prop} {m l : EReal} {acc acc' : Fin 128 → EReal} {e p : Fin 512 → EReal} {m' l' a : EReal}

/-- Only the head's own lanes count. -/
theorem Run.congr (h : Run n T V w m l acc) (e : ∀ x, w x → acc' x = acc x) : Run n T V w m l acc' := by
  rcases h with ⟨h0, h1, h2, ha⟩ | ⟨M, h1, h2, ha⟩
  · exact Or.inl ⟨h0, h1, h2, fun x hx => (e x hx).trans (ha x hx)⟩
  · exact Or.inr ⟨M, h1, h2, fun x hx => (e x hx).trans (ha x hx)⟩

/-- The running sums moved to another number. -/
theorem Run.base (h : Run n T V w m l acc) (M' : ℝ) : Ideal.exp (m - (M' : EReal)) * l = ((ssum n T M' : ℝ) : EReal)
    ∧ ∀ x, w x → acc x * Ideal.exp (m - (M' : EReal)) = ((asum n T (fun b s => V b s x) M' : ℝ) : EReal) := by
  rcases h with ⟨rfl, rfl, rfl, ha⟩ | ⟨M, rfl, rfl, ha⟩
  · have e : (⊥ : EReal) - (M' : EReal) = ⊥ := by rw [sub_eq_add_neg, EReal.bot_add]
    rw [e, Ideal.exp_bot]
    refine ⟨?_, fun x hx => ?_⟩
    · simp [ssum]
    · rw [ha x hx]; simp [asum]
  · rw [← EReal.coe_sub, Ideal.exp_coe]
    refine ⟨?_, fun x hx => ?_⟩
    · rw [← EReal.coe_mul, ssum_shift]
    · rw [ha x hx, ← EReal.coe_mul, asum_shift]

/-- The new maximum is a real number. -/
theorem Run.max_real (h : Run n T V w m l acc) (ht : ∀ s, e s < ⊤) (s0 : Fin 512) (hs : ⊥ < e s0) :
    ∃ M' : ℝ, max m ((Finset.univ : Finset (Fin 512)).fold max ⊥ e) = (M' : EReal) := by
  rw [← fold_max_real Finset.univ e (fun s _ => ht s) ⟨s0, Finset.mem_univ _, hs⟩]
  rcases h with ⟨rfl, rfl, rfl, ha⟩ | ⟨M, rfl, rfl, ha⟩
  · exact ⟨_, max_eq_right bot_le⟩
  · exact ⟨_, (EReal.coe_strictMono.monotone.map_max).symm⟩

/-- One full tile. -/
theorem Run.step (h : Run n T V w m l acc) (he : ∀ s, e s = ((T n s : ℝ) : EReal))
    (hm : m' = max m ((Finset.univ : Finset (Fin 512)).fold max ⊥ e)) (hp : ∀ s, p s = Ideal.exp (e s - m')) (ha : a = Ideal.exp (m - m'))
    (hl : l' = a * l + ∑ s, p s) (hacc : ∀ x, w x → acc' x = acc x * a + ∑ s, p s * ((V n s x : ℝ) : EReal)) :
    Run (n + 1) T V w m' l' acc' := by
  obtain ⟨M', hM⟩ := h.max_real (fun s => (he s).trans_lt (EReal.coe_lt_top _)) 0 ((EReal.bot_lt_coe _).trans_eq (he 0).symm)
  rw [hM] at hm
  subst hm
  obtain ⟨b1, b2⟩ := h.base M'
  have hp' : ∀ s, p s = ((Real.exp (T n s - M') : ℝ) : EReal) := fun s => by rw [hp s, he s, ← EReal.coe_sub, Ideal.exp_coe]
  refine Or.inr ⟨M', rfl, ?_, fun x hx => ?_⟩
  · rw [hl, ha, b1]
    simp only [hp', ← coe_sum, ← EReal.coe_add]
    rw [ssum, ssum, Finset.sum_range_succ]
  · rw [hacc x hx, ha, b2 x hx]
    simp only [hp', ← EReal.coe_mul, ← coe_sum, ← EReal.coe_add]
    rw [asum, asum, Finset.sum_range_succ]

/-- A row's whole mass less `M`: the tiles before, and the last up to the row's own column. -/
def den (n : ℕ) (T : ℕ → Fin 512 → ℝ) (r : Fin 512) (M : ℝ) : ℝ := ssum n T M + ∑ s, if s ≤ r then Real.exp (T n s - M) else 0
/-- A row's weighted values less `M`. -/
def num (n : ℕ) (T V : ℕ → Fin 512 → ℝ) (r : Fin 512) (M : ℝ) : ℝ := asum n T V M + ∑ s, (if s ≤ r then Real.exp (T n s - M) else 0) * V n s

theorem den_pos (n : ℕ) (T : ℕ → Fin 512 → ℝ) (r : Fin 512) (M : ℝ) : 0 < den n T r M := by
  have h1 : 0 ≤ ssum n T M := Finset.sum_nonneg fun b _ => Finset.sum_nonneg fun s _ => (Real.exp_pos _).le
  have h2 : 0 < ∑ s, if s ≤ r then Real.exp (T n s - M) else 0 := by
    refine Finset.sum_pos' (fun s _ => ?_) ⟨r, Finset.mem_univ r, ?_⟩
    · split_ifs
      · exact (Real.exp_pos _).le
      · exact le_rfl
    · rw [if_pos le_rfl]; exact Real.exp_pos _
  exact add_pos_of_nonneg_of_pos h1 h2
theorem den_shift (n : ℕ) (T : ℕ → Fin 512 → ℝ) (r : Fin 512) (M : ℝ) : den n T r M = Real.exp (-M) * den n T r 0 := by
  unfold den
  rw [mul_add, ← ssum_shift n T 0 M, zero_sub, Finset.mul_sum]
  congr 1
  refine Finset.sum_congr rfl fun s _ => ?_
  rw [mul_ite, mul_zero, ← Real.exp_add]
  congr 2
  ring
theorem num_shift (n : ℕ) (T V : ℕ → Fin 512 → ℝ) (r : Fin 512) (M : ℝ) : num n T V r M = Real.exp (-M) * num n T V r 0 := by
  unfold num
  rw [mul_add, ← asum_shift n T V 0 M, zero_sub, mul_comm, Finset.mul_sum]
  congr 1
  refine Finset.sum_congr rfl fun s _ => ?_
  rw [← mul_assoc, mul_ite, mul_zero, ← Real.exp_add]
  congr 3
  ring
/-- The quotient does not depend on the number. -/
theorem num_div_den (n : ℕ) (T V : ℕ → Fin 512 → ℝ) (r : Fin 512) (M : ℝ) : num n T V r M / den n T r M = num n T V r 0 / den n T r 0 := by
  rw [num_shift n T V r M, den_shift n T r M, mul_div_mul_left _ _ (Real.exp_pos _).ne']
/-- The log-mass does not depend on the number. -/
theorem add_log_den (n : ℕ) (T : ℕ → Fin 512 → ℝ) (r : Fin 512) (M : ℝ) : M + Real.log (den n T r M) = Real.log (den n T r 0) := by
  rw [den_shift n T r M, Real.log_mul (Real.exp_pos _).ne' (den_pos n T r 0).ne', Real.log_exp, add_neg_cancel_left]
/-- The logarithm the kernel takes. -/
theorem log_den (n : ℕ) (T : ℕ → Fin 512 → ℝ) (r : Fin 512) (M : ℝ) :
    (M : EReal) + Ideal.log ((den n T r M : ℝ) : EReal) = ((Real.log (den n T r 0) : ℝ) : EReal) := by
  rw [Ideal.log_coe, if_neg (den_pos n T r M).not_ge, ← EReal.coe_add, add_log_den]
/-- The quotient the kernel takes. -/
theorem div_den (n : ℕ) (T V : ℕ → Fin 512 → ℝ) (r : Fin 512) (M : ℝ) :
    Ideal.div ((num n T V r M : ℝ) : EReal) ((den n T r M : ℝ) : EReal) = ((num n T V r 0 / den n T r 0 : ℝ) : EReal) := by
  rw [div_real _ (den_pos n T r M).ne', num_div_den]

/-- The last tile, of which row `r` sees the columns up to its own. -/
theorem Run.diag (h : Run n T V w m l acc) (r : Fin 512) (he : ∀ s, e s = if s ≤ r then ((T n s : ℝ) : EReal) else ⊥)
    (hm : m' = max m ((Finset.univ : Finset (Fin 512)).fold max ⊥ e)) (hp : ∀ s, p s = Ideal.exp (e s - m')) (ha : a = Ideal.exp (m - m'))
    (hl : l' = a * l + ∑ s, p s) (hacc : ∀ x, w x → acc' x = acc x * a + ∑ s, p s * ((V n s x : ℝ) : EReal)) :
    ∃ M : ℝ, m' = (M : EReal) ∧ l' = ((den n T r M : ℝ) : EReal)
      ∧ ∀ x, w x → acc' x = ((num n T (fun b s => V b s x) r M : ℝ) : EReal) := by
  obtain ⟨M', hM⟩ := h.max_real (e := e) (fun s => by rw [he s]; split_ifs; exacts [EReal.coe_lt_top _, bot_lt_top]) r (by rw [he r, if_pos le_rfl]; exact EReal.bot_lt_coe _)
  rw [hM] at hm
  subst hm
  obtain ⟨b1, b2⟩ := h.base M'
  have hp' : ∀ s, p s = (((if s ≤ r then Real.exp (T n s - M') else 0) : ℝ) : EReal) := fun s => by
    rw [hp s, he s]
    split_ifs
    · rw [← EReal.coe_sub, Ideal.exp_coe]
    · rw [sub_eq_add_neg, EReal.bot_add, Ideal.exp_bot, EReal.coe_zero]
  refine ⟨M', rfl, ?_, fun x hx => ?_⟩
  · rw [hl, ha, b1]
    simp only [hp', ← coe_sum, ← EReal.coe_add]
    rfl
  · rw [hacc x hx, ha, b2 x hx]
    simp only [hp', ← EReal.coe_mul, ← coe_sum, ← EReal.coe_add]
    rfl

end Cert.Attn
end
-- ==== Proof.Fwd.Pay.lean ====
/-
  The arithmetic of one tile of the forward kernel: scores, running maximum, running sum, weighted values.
-/
module
public import proofs.«01_k».proof.Proof.Attn.Online
public import proofs.«01_k».proof.Proof.Gen.Kernel3Ideal.Skeleton
public import Idealize.ShloMosaic.Lib.Pointwise
@[expose] public section
set_option maxRecDepth 16384
noncomputable section
namespace Cert.Attn.Fwd
open Idealize.ShloMosaic Cert.Kernel3Ideal Cert.Kernel3Ideal.Gen

variable {qh kt vt : FVec Ideal S512x128 .bf16} {acc : FVec Ideal S512x128 .f32} {m l : FVec Ideal S512x1 .f32} {ct : FVec Ideal S1x1x512 .f32}
variable {Q K W : Tile} {C : Col} {w : Fin 128 → ℝ}

theorem pay23 {x : FVec Ideal S512x128 .bf16} (h : Mx x Q) : Mx (k0_pay23 (F := Ideal) x) (fun r l => lo l * Q r l) := by
  intro r l
  pointwise [k0_pay23, k0_pay20, k0_pay21]
  rw [h r l, select_lane_lt]; exact lo_coe _ _

theorem pay24 {x : FVec Ideal S512x128 .bf16} (h : Mx x Q) : Mx (k0_pay24 (F := Ideal) x) (fun r l => hi l * Q r l) := by
  intro r l
  pointwise [k0_pay24, k0_pay20, k0_pay22]
  rw [h r l, select_lane_ge]; exact hi_coe _ _

theorem pay3 (h : Mx vt W) : Mx (k0_pay3 (F := Ideal) vt) W := by
  intro r l
  pointwise [k0_pay3]
  exact h r l

theorem pay4 (hQ : Mx qh (fun r l => w l * Q r l)) (hK : Mx kt K) (hC : Rx ct C) : Mx (k0_pay4 (F := Ideal) qh kt ct) (sc w Q K C) := by
  intro r s
  pointwise [k0_pay4, k0_pay2]
  simp only [hQ r _, hK s _, hC s, ← EReal.coe_mul, ← coe_sum, ← EReal.coe_add]
  rfl

theorem pay5_at (r : Fin 512) : k0_pay5 (F := Ideal) qh m kt ct (ix2 r 0) = max (m (ix2 r 0)) ((Finset.univ : Finset (Fin 512)).fold max ⊥ (fun s => k0_pay4 (F := Ideal) qh kt ct (ix2 r s))) := by
  pointwise [k0_pay5]
  rw [ofBits_negInf]

theorem pay6_at (r s : Fin 512) : k0_pay6 (F := Ideal) qh m kt ct (ix2 r s) = Ideal.exp (k0_pay4 (F := Ideal) qh kt ct (ix2 r s) - k0_pay5 (F := Ideal) qh m kt ct (ix2 r 0)) := by
  pointwise [k0_pay6]

theorem pay7_at (r : Fin 512) : k0_pay7 (F := Ideal) qh m kt ct (ix2 r 0) = Ideal.exp (m (ix2 r 0) - k0_pay5 (F := Ideal) qh m kt ct (ix2 r 0)) := by
  pointwise [k0_pay7]

theorem pay8_at (r : Fin 512) : k0_pay8 (F := Ideal) qh m l kt ct (ix2 r 0) = k0_pay7 (F := Ideal) qh m kt ct (ix2 r 0) * l (ix2 r 0) + ∑ s, k0_pay6 (F := Ideal) qh m kt ct (ix2 r s) := by
  pointwise [k0_pay8]

theorem pay9_at (r : Fin 512) (x : Fin 128) : k0_pay9 (F := Ideal) k0_pay21 qh m acc kt vt ct (ix2 r x)
    = acc (ix2 r x) * (if x.val < 64 then k0_pay7 (F := Ideal) qh m kt ct (ix2 r 0) else 1) + ∑ s, k0_pay6 (F := Ideal) qh m kt ct (ix2 r s) * (if x.val < 64 then vt (ix2 s x) else 0) := by
  pointwise [k0_pay9, k0_pay21, k0_pay3]
  simp only [select_lane_lt, ofBits_one, mul_ite, mul_zero, EReal.coe_one]

/-! ## The second head of the pair -/

variable {S : FVec Ideal S512x512 .f32} {old : FVec Ideal S512x128 .f32}

theorem pay30 (hQ : Mx qh (fun r l => w l * Q r l)) (hK : Mx kt K) (hC : Rx ct C) : Mx (k0_pay30 (F := Ideal) (k0_pay10 qh kt) ct) (sc w Q K C) := by
  intro r s
  pointwise [k0_pay30, k0_pay10, k0_pay2]
  simp only [hQ r _, hK s _, hC s, ← EReal.coe_mul, ← coe_sum, ← EReal.coe_add]
  rfl

theorem pay31_at (r : Fin 512) : k0_pay31 (F := Ideal) m S ct (ix2 r 0) = max (m (ix2 r 0)) ((Finset.univ : Finset (Fin 512)).fold max ⊥ (fun s => k0_pay30 (F := Ideal) S ct (ix2 r s))) := by
  pointwise [k0_pay31]
  rw [ofBits_negInf]

theorem pay32_at (r s : Fin 512) : k0_pay32 (F := Ideal) m S ct (ix2 r s) = Ideal.exp (k0_pay30 (F := Ideal) S ct (ix2 r s) - k0_pay31 (F := Ideal) m S ct (ix2 r 0)) := by
  pointwise [k0_pay32]

theorem pay33_at (r : Fin 512) : k0_pay33 (F := Ideal) m S ct (ix2 r 0) = Ideal.exp (m (ix2 r 0) - k0_pay31 (F := Ideal) m S ct (ix2 r 0)) := by
  pointwise [k0_pay33]

theorem pay34_at (r : Fin 512) : k0_pay34 (F := Ideal) m l S ct (ix2 r 0) = k0_pay33 (F := Ideal) m S ct (ix2 r 0) * l (ix2 r 0) + ∑ s, k0_pay32 (F := Ideal) m S ct (ix2 r s) := by
  pointwise [k0_pay34]

theorem pay35_at (r : Fin 512) (x : Fin 128) : k0_pay35 (F := Ideal) m vt old S ct (ix2 r x)
    = old (ix2 r x) * (if x.val < 64 then 1 else k0_pay33 (F := Ideal) m S ct (ix2 r 0)) + ∑ s, k0_pay32 (F := Ideal) m S ct (ix2 r s) * (if x.val < 64 then 0 else vt (ix2 s x)) := by
  pointwise [k0_pay35, k0_pay22]
  simp only [select_lane_ge, ofBits_one, mul_ite, mul_zero, EReal.coe_one]

/-! ## The diagonal tile -/

variable {row col : IVec S512x512 32} (hrow : ∀ r s, row (ix2 r s) = BitVec.ofNat 32 r.val) (hcol : ∀ r s, col (ix2 r s) = BitVec.ofNat 32 s.val)

/-- The number `mask` stands for `-∞`. -/
theorem mask_eq : (Named.named κ "mask" 0xF149F2CA#32 : Ideal .f32) = (⊥ : EReal) := by
  rfl

include hrow hcol in
theorem pay45 {x : FVec Ideal S512x128 .bf16} (hQ : Mx x Q) (hK : Mx kt K) (hC : Rx ct C) (r s : Fin 512) :
    k0_pay45 (F := Ideal) row col (k0_pay44 x kt) ct (ix2 r s) = if s ≤ r then ((sc lo Q K C r s : ℝ) : EReal) else ⊥ := by
  pointwise [k0_pay45, k0_pay44, k0_pay42]
  rw [hrow, hcol, select_sle (by omega) (by omega)]
  simp only [pay23 hQ r _, hK s _, hC s, ← EReal.coe_mul, ← coe_sum, ← EReal.coe_add]
  rfl

theorem pay46_at (r : Fin 512) : k0_pay46 (F := Ideal) row col m S ct (ix2 r 0) = max (m (ix2 r 0)) ((Finset.univ : Finset (Fin 512)).fold max ⊥ (fun s => k0_pay45 (F := Ideal) row col S ct (ix2 r s))) := by
  pointwise [k0_pay46]
  rw [ofBits_negInf]

theorem pay47_at (r s : Fin 512) : k0_pay47 (F := Ideal) row col m S ct (ix2 r s) = Ideal.exp (k0_pay45 (F := Ideal) row col S ct (ix2 r s) - k0_pay46 (F := Ideal) row col m S ct (ix2 r 0)) := by
  pointwise [k0_pay47]

theorem pay48_at (r : Fin 512) : k0_pay48 (F := Ideal) row col m S ct (ix2 r 0) = Ideal.exp (m (ix2 r 0) - k0_pay46 (F := Ideal) row col m S ct (ix2 r 0)) := by
  pointwise [k0_pay48]

theorem pay49_at (r : Fin 512) : k0_pay49 (F := Ideal) row col m l S ct (ix2 r 0) = k0_pay48 (F := Ideal) row col m S ct (ix2 r 0) * l (ix2 r 0) + ∑ s, k0_pay47 (F := Ideal) row col m S ct (ix2 r s) := by
  pointwise [k0_pay49]

theorem pay50_at (r : Fin 512) (x : Fin 128) : k0_pay50 (F := Ideal) row col k0_pay21 m acc vt S ct (ix2 r x)
    = acc (ix2 r x) * (if x.val < 64 then k0_pay48 (F := Ideal) row col m S ct (ix2 r 0) else 1) + ∑ s, k0_pay47 (F := Ideal) row col m S ct (ix2 r s) * (if x.val < 64 then vt (ix2 s x) else 0) := by
  pointwise [k0_pay50, k0_pay21]
  simp only [select_lane_lt, ofBits_one, mul_ite, mul_zero, EReal.coe_one]

variable {bits : IVec S512x512 1} {z : EReal}

include hrow hcol in
theorem pay53 {x : FVec Ideal S512x128 .bf16} (hQ : Mx x Q) (hK : Mx kt K) (hC : Rx ct C) (r s : Fin 512) :
    k0_pay53 (F := Ideal) (k0_pay51 (k0_pay24 x) (k0_pay42 kt) ct) (k0_pay52 row col) ⊥ (ix2 r s) = if s ≤ r then ((sc hi Q K C r s : ℝ) : EReal) else ⊥ := by
  pointwise [k0_pay53, k0_pay51, k0_pay52, k0_pay42]
  rw [hrow, hcol, select_sle (by omega) (by omega)]
  simp only [pay24 hQ r _, hK s _, hC s, ← EReal.coe_mul, ← coe_sum, ← EReal.coe_add]
  rfl

theorem pay54_at (r : Fin 512) : k0_pay54 (F := Ideal) m S bits z (ix2 r 0) = max (m (ix2 r 0)) ((Finset.univ : Finset (Fin 512)).fold max ⊥ (fun s => k0_pay53 (F := Ideal) S bits z (ix2 r s))) := by
  pointwise [k0_pay54]
  rw [ofBits_negInf]

theorem pay55_at (r s : Fin 512) : k0_pay55 (F := Ideal) m S bits z (ix2 r s) = Ideal.exp (k0_pay53 (F := Ideal) S bits z (ix2 r s) - k0_pay54 (F := Ideal) m S bits z (ix2 r 0)) := by
  pointwise [k0_pay55]

theorem pay56_at (r : Fin 512) : k0_pay56 (F := Ideal) m S bits z (ix2 r 0) = Ideal.exp (m (ix2 r 0) - k0_pay54 (F := Ideal) m S bits z (ix2 r 0)) := by
  pointwise [k0_pay56]

theorem pay57_at (r : Fin 512) : k0_pay57 (F := Ideal) m l S bits z (ix2 r 0) = k0_pay56 (F := Ideal) m S bits z (ix2 r 0) * l (ix2 r 0) + ∑ s, k0_pay55 (F := Ideal) m S bits z (ix2 r s) := by
  pointwise [k0_pay57]

theorem pay58_at {l0 : FVec Ideal S512x1 .f32} (r : Fin 512) (x : Fin 128) : k0_pay58 (F := Ideal) k0_pay21 k0_pay22 m l vt l0 old S bits z (ix2 r x)
    = Ideal.div (old (ix2 r x) * (if x.val < 64 then 1 else k0_pay56 (F := Ideal) m S bits z (ix2 r 0)) + ∑ s, k0_pay55 (F := Ideal) m S bits z (ix2 r s) * (if x.val < 64 then 0 else vt (ix2 s x)))
        (if x.val < 64 then l0 (ix2 r 0) else k0_pay57 (F := Ideal) m l S bits z (ix2 r 0)) := by
  pointwise [k0_pay58, k0_pay21, k0_pay22]
  simp only [select_lane_lt, select_lane_ge, ofBits_one, mul_ite, mul_zero, EReal.coe_one]

theorem pay43 (h : Mx vt W) : Mx (k0_pay43 (F := Ideal) vt) W := by
  intro r l
  pointwise [k0_pay43]
  exact h r l

theorem pay59_at {l0 : FVec Ideal S512x1 .f32} (r : Fin 512) : k0_pay59 (F := Ideal) m l0 (ix4 0 0 0 r) = m (ix2 r 0) + Ideal.log (l0 (ix2 r 0)) := by
  pointwise [k0_pay59]

theorem pay1_at {l0 : FVec Ideal S512x1 .f32} (r : Fin 512) : k0_pay1 (F := Ideal) m l0 (ix4 0 0 0 r) = m (ix2 r 0) + l0 (ix2 r 0) := by
  pointwise [k0_pay1]

theorem pay60_at (r : Fin 512) : k0_pay60 (F := Ideal) m l S bits z (ix2 r 0) = Ideal.log (k0_pay57 (F := Ideal) m l S bits z (ix2 r 0)) := by
  pointwise [k0_pay60]

/-- The kernel starts from `-∞`, zero and zero. -/
theorem start_m (r : Fin 512) : k0_pay25 (F := Ideal) (ix2 r 0) = (⊥ : EReal) := by
  pointwise [k0_pay25]
  exact mask_eq
theorem start_m' (r : Fin 512) : k0_pay27 (F := Ideal) (ix2 r 0) = (⊥ : EReal) := by
  pointwise [k0_pay27]
  exact mask_eq
theorem start_l (r : Fin 512) : k0_pay26 (F := Ideal) (ix2 r 0) = (0 : EReal) := by
  pointwise [k0_pay26]
theorem start_l' (r : Fin 512) : k0_pay28 (F := Ideal) (ix2 r 0) = (0 : EReal) := by
  pointwise [k0_pay28]
theorem start_acc (r : Fin 512) (x : Fin 128) : k0_pay29 (F := Ideal) (ix2 r x) = (0 : EReal) := by
  pointwise [k0_pay29]

end Cert.Attn.Fwd
end
-- ==== Proof.Fwd.Loop.lean ====
/-
  The loop of one point of the forward kernel: for each row and each head of the pair, the running maximum, sum and
  weighted values after `n` tiles.
-/
module
public import proofs.«01_k».proof.Proof.Fwd.Pay
public import proofs.«01_k».proof.Proof.Gen.Kernel3Ideal.Loops
public import Idealize.ShloMosaic.Lib.Affine
@[expose] public section
set_option maxRecDepth 16384
noncomputable section
namespace Cert.Attn.Fwd
open Idealize.ShloMosaic Cert.Kernel3Ideal Cert.Kernel3Ideal.Gen Idealize.ShloMosaic.TcCoe

/-! ## One tile, one row -/

section tile
variable {qh kt vt : FVec Ideal S512x128 .bf16} {acc old : FVec Ideal S512x128 .f32} {m l l0 : FVec Ideal S512x1 .f32} {ct : FVec Ideal S1x1x512 .f32} {S : FVec Ideal S512x512 .f32}
variable {Q K : Tile} {C : Col} {w : Fin 128 → ℝ} {n : ℕ} {T : ℕ → Fin 512 → ℝ} {V : ℕ → Tile} {r : Fin 512}

/-- A full tile of the first head. -/
theorem tile0 (h : Run n T V (fun x => x.val < 64) (m (ix2 r 0)) (l (ix2 r 0)) (fun x => acc (ix2 r x)))
    (hQ : Mx qh (fun r l => w l * Q r l)) (hK : Mx kt K) (hC : Rx ct C) (hV : Mx vt (V n)) (hT : ∀ s, T n s = sc w Q K C r s) :
    Run (n + 1) T V (fun x => x.val < 64) (k0_pay5 (F := Ideal) qh m kt ct (ix2 r 0)) (k0_pay8 (F := Ideal) qh m l kt ct (ix2 r 0)) (fun x => k0_pay9 (F := Ideal) k0_pay21 qh m acc kt vt ct (ix2 r x)) :=
  h.step (e := fun s => k0_pay4 (F := Ideal) qh kt ct (ix2 r s)) (p := fun s => k0_pay6 (F := Ideal) qh m kt ct (ix2 r s)) (a := k0_pay7 (F := Ideal) qh m kt ct (ix2 r 0))
    (fun s => (pay4 hQ hK hC r s).trans (by rw [hT])) (pay5_at r) (pay6_at r) (pay7_at r) (pay8_at r)
    (fun x hx => by simp only [pay9_at, if_pos hx, hV _ x])

/-- The first head leaves the second's lanes. -/
theorem keep0 {x : Fin 128} (hx : ¬ x.val < 64) : k0_pay9 (F := Ideal) k0_pay21 qh m acc kt vt ct (ix2 r x) = acc (ix2 r x) := by
  simp only [pay9_at, if_neg hx, mul_zero, mul_one, Finset.sum_const_zero, add_zero]

/-- A full tile of the second head. -/
theorem tile1 (h : Run n T V (fun x => ¬ x.val < 64) (m (ix2 r 0)) (l (ix2 r 0)) (fun x => old (ix2 r x)))
    (hQ : Mx qh (fun r l => w l * Q r l)) (hK : Mx kt K) (hC : Rx ct C) (hV : Mx vt (V n)) (hT : ∀ s, T n s = sc w Q K C r s) :
    Run (n + 1) T V (fun x => ¬ x.val < 64) (k0_pay31 (F := Ideal) m (k0_pay10 qh kt) ct (ix2 r 0)) (k0_pay34 (F := Ideal) m l (k0_pay10 qh kt) ct (ix2 r 0)) (fun x => k0_pay35 (F := Ideal) m vt old (k0_pay10 qh kt) ct (ix2 r x)) :=
  h.step (e := fun s => k0_pay30 (F := Ideal) (k0_pay10 qh kt) ct (ix2 r s)) (p := fun s => k0_pay32 (F := Ideal) m (k0_pay10 qh kt) ct (ix2 r s)) (a := k0_pay33 (F := Ideal) m (k0_pay10 qh kt) ct (ix2 r 0))
    (fun s => (pay30 hQ hK hC r s).trans (by rw [hT])) (pay31_at r) (pay32_at r) (pay33_at r) (pay34_at r)
    (fun x hx => by simp only [pay35_at, if_neg hx, hV _ x])

/-- The second head leaves the first's lanes. -/
theorem keep1 {x : Fin 128} (hx : x.val < 64) : k0_pay35 (F := Ideal) m vt old S ct (ix2 r x) = old (ix2 r x) := by
  simp only [pay35_at, if_pos hx, mul_zero, mul_one, Finset.sum_const_zero, add_zero]

end tile

/-! ## What one trip computes, in the words of its arithmetic -/

section words
variable (i : grid0.Coords) (arg3 : Memref sig .tc .vmem S16384x128 .bf16) (arg4 : Memref sig .tc .vmem S16384x128 .bf16) (arg5 : Memref sig .tc .vmem S8x32x512 .f32) (x0 : Vec Ideal S512x128 .bf16)
  (X3 : BufTy.Contents (Elt Ideal) arg3.view.ty) (X4 : BufTy.Contents (Elt Ideal) arg4.view.ty) (X5 : BufTy.Contents (Elt Ideal) arg5.view.ty) (k : Fin (k0_t1_loop i).trips) (acc : FVec Ideal S512x1 .f32 × FVec Ideal S512x1 .f32 × FVec Ideal S512x1 .f32 × FVec Ideal S512x1 .f32 × FVec Ideal S512x128 .f32)

/-- The tile a trip loads. -/
abbrev kAt : FVec Ideal S512x128 .bf16 := View.readAt (Elt Ideal) arg3.view (Rect.unit (s := S16384x128) (k0_off1 i k) S512x128.size (k0_off1_inb i k)).toLoadRect X3
/-- The row a trip loads. -/
abbrev cAt : FVec Ideal S1x1x512 .f32 := View.readAt (Elt Ideal) arg5.view (Rect.unit (s := S8x32x512) (k0_off2 i k 0#32) S1x1x512.size (k0_off2_inb i k 0)).toLoadRect X5

/-- The first head's new maximum. -/
theorem w159 : trip_k0_t1.sl.v159 (F := Ideal) i arg3 arg5 x0 X3 X5 k acc = k0_pay5 (k0_pay23 x0) acc.1 (kAt i arg3 X3 k) (cAt i arg5 X5 k) := by
  rfl
/-- The first head's new sum. -/
theorem w168 : trip_k0_t1.sl.v168 (F := Ideal) i arg3 arg5 x0 X3 X5 k acc = k0_pay8 (k0_pay23 x0) acc.1 acc.2.1 (kAt i arg3 X3 k) (cAt i arg5 X5 k) := by
  rfl
/-- The second head's products. -/
theorem w183 : trip_k0_t1.sl.v183 (F := Ideal) i arg3 x0 X3 k = k0_pay10 (k0_pay24 x0) (kAt i arg3 X3 k) := by
  rfl
/-- The tile of values. -/
theorem w147 : trip_k0_t1.sl.v147 (F := Ideal) i arg4 X4 k = k0_pay3 (kAt i arg4 X4 k) := by
  rfl
/-- The weighted values after the first head. -/
theorem w182 : trip_k0_t1.sl.v182 (F := Ideal) i arg3 arg4 arg5 x0 X3 X4 X5 k acc = k0_pay9 k0_pay21 (k0_pay23 x0) acc.1 acc.2.2.2.2 (kAt i arg3 X3 k) (kAt i arg4 X4 k) (cAt i arg5 X5 k) := by
  rfl

end words

/-! ## The loop -/

/-- The loop runs over the tiles before the point's own. -/
theorem trips_eq (i : grid0.Coords) : (k0_t1_loop i).trips = (i 1).val := by
  have h_c0 : Affine.IsInt 0#32 (0) := Affine.ofNat _ (by omega)
  have r_i1 : (i 1).val < 32 := (i 1).isLt
  have h_arg1 : Affine.IsInt (BitVec.ofNat 32 (i 1).val) (((i 1).val : Int)) := Affine.ofNat _ (by omega)
  have h_len : Affine.IsInt _ (((i 1).val : Int)) := Affine.subi h_arg1 h_c0 (by omega)
  have h_one : Affine.IsInt 1#32 (1) := Affine.ofNat _ (by omega)
  have h_div : Affine.IsInt _ (((i 1).val : Int)) := Affine.divsi h_len h_one (by omega)
  have h_mul : Affine.IsInt _ (((i 1).val : Int)) := Affine.muli h_div h_one (by omega)
  have h_ub : Affine.IsInt _ (((i 1).val : Int)) := Affine.addi h_c0 h_mul (by omega)
  exact Affine.trips_eq h_c0 h_ub h_one _ (by omega)

variable (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S8x32x512 .f32) (harg5 : arg5.IsWhole) (arg6 : Memref sig .tc .vmem S512x128 .f32) (harg6 : arg6.IsWhole) (arg7 : Memref sig .tc .vmem S2x1x1x512 .f32) (harg7 : arg7.IsWhole) {x0 : Vec Ideal S512x128 .bf16} {x1 x2 : Vec Ideal S16384x128 .bf16} {x3 : Vec Ideal S8x32x512 .f32}
variable {Q : Tile} {K V : ℕ → Tile} {C : ℕ → ℕ → Col}

/-- The scores of row `r` of the first head. -/
def T0 (p : ℕ) (Q : Tile) (K : ℕ → Tile) (C : ℕ → ℕ → Col) (r : Fin 512) (b : ℕ) (s : Fin 512) : ℝ := sc lo Q (K b) (C (2 * p) b) r s
/-- The scores of row `r` of the second head. -/
def T1 (p : ℕ) (Q : Tile) (K : ℕ → Tile) (C : ℕ → ℕ → Col) (r : Fin 512) (b : ℕ) (s : Fin 512) : ℝ := sc hi Q (K b) (C (2 * p + 1) b) r s

/-- What the loop carries after `n` tiles. -/
def Inv (p : ℕ) (Q : Tile) (K V : ℕ → Tile) (C : ℕ → ℕ → Col) (n : ℕ)
    (st : FVec Ideal S512x1 .f32 × FVec Ideal S512x1 .f32 × FVec Ideal S512x1 .f32 × FVec Ideal S512x1 .f32 × FVec Ideal S512x128 .f32) : Prop :=
  ∀ r, Run n (T0 p Q K C r) V (fun x => x.val < 64) (st.1 (ix2 r 0)) (st.2.1 (ix2 r 0)) (fun x => st.2.2.2.2 (ix2 r x))
    ∧ Run n (T1 p Q K C r) V (fun x => ¬ x.val < 64) (st.2.2.1 (ix2 r 0)) (st.2.2.2.1 (ix2 r 0)) (fun x => st.2.2.2.2 (ix2 r x))

variable (h0 : Mx x0 Q) (h1 : Rows x1 K) (h2 : Rows x2 V) (h3 : Bias x3 C)

include h0 h1 h2 h3 in
/-- One tile. -/
theorem trip (k : Fin (k0_t1_loop i).trips) (acc : FVec Ideal S512x1 .f32 × FVec Ideal S512x1 .f32 × FVec Ideal S512x1 .f32 × FVec Ideal S512x1 .f32 × FVec Ideal S512x128 .f32)
    (ha : Inv (i 0).val Q K V C k.val acc) :
    Inv (i 0).val Q K V C (k.val + 1) (tripR_k0_t1 (F := Ideal) Variants.none c none i arg2 harg2 arg3 harg3 arg4 harg4 arg5 harg5 arg6 harg6 arg7 harg7 (BitVec.ofNat 32 (i 0).val) x0 (harg3.unread x1) (harg4.unread x2) (harg5.unread x3) k acc) := by
  have hk : k.val < 32 := lt_of_lt_of_le k.isLt ((k0_t1_abs i).2.1.trans (by norm_num))
  have hi0 : (i 0).val < 4 := (i 0).isLt
  have e3 : ∀ r : Fin 2, 2 * (i 0).val + r.val < 8 := fun r => by omega
  unfold tripR_k0_t1 trip_k0_t1
  dsimp only
  rw [w159, w168, w183, w147, w182]
  simp only [View.readAt_eq_ld, harg3.read_unread, harg4.read_unread, harg5.read_unread]
  have hK := h1.ld hk (k0_off1_eq i k) (k0_off1_inb i k)
  have hV := h2.ld hk (k0_off1_eq i k) (k0_off1_inb i k)
  have hC0 := h3.ld (e3 0) hk (k0_off2_eq i k 0) (k0_off2_inb i k 0)
  have hC1 := h3.ld (e3 1) hk (k0_off2_eq i k 1) (k0_off2_inb i k 1)
  intro r
  obtain ⟨a0, a1⟩ := ha r
  constructor
  · exact (tile0 a0 (pay23 h0) hK hC0 hV (fun s => rfl)).congr (fun x hx => keep1 hx)
  · exact tile1 (a1.congr (fun x hx => keep0 hx)) (pay24 h0) hK hC1 (pay3 hV) (fun s => rfl)

include h0 h1 h2 h3 in
/-- What the loop carries after `n` tiles. -/
theorem st_inv (n : ℕ) (hn : n ≤ (k0_t1_loop i).trips) :
    Inv (i 0).val Q K V C n (st_k0_t1 (F := Ideal) Variants.none c none i arg2 harg2 arg3 harg3 arg4 harg4 arg5 harg5 arg6 harg6 arg7 harg7 (BitVec.ofNat 32 (i 0).val) x0 (harg3.unread x1) (harg4.unread x2) (harg5.unread x3) (k0_pay25, k0_pay26, k0_pay27, k0_pay28, k0_pay29) n) := by
  induction n with
  | zero =>
    rw [st_k0_t1_zero]
    exact fun r => ⟨Or.inl ⟨rfl, start_m r, start_l r, fun x _ => start_acc r x⟩, Or.inl ⟨rfl, start_m' r, start_l' r, fun x _ => start_acc r x⟩⟩
  | succ n ih =>
    rw [st_k0_t1_succ (k := ⟨n, hn⟩)]
    exact trip c i arg2 harg2 arg3 harg3 arg4 harg4 arg5 harg5 arg6 harg6 arg7 harg7 h0 h1 h2 h3 ⟨n, hn⟩ _ (ih (by omega))

end Cert.Attn.Fwd
end
-- ==== Proof.Fwd.Diag.lean ====
/-
  The diagonal tile of the forward kernel, one row: the two heads' outputs and log-masses from what the loop left.
-/
module
public import proofs.«01_k».proof.Proof.Fwd.Pay
@[expose] public section
set_option maxRecDepth 16384
noncomputable section
namespace Cert.Attn.Fwd
open Idealize.ShloMosaic Cert.Kernel3Ideal Cert.Kernel3Ideal.Gen

variable {x kt vt : FVec Ideal S512x128 .bf16} {acc old : FVec Ideal S512x128 .f32} {m l m1 l1 l0 : FVec Ideal S512x1 .f32} {ct cu : FVec Ideal S1x1x512 .f32}
variable {row col : IVec S512x512 32} (hrow : ∀ r s, row (ix2 r s) = BitVec.ofNat 32 r.val) (hcol : ∀ r s, col (ix2 r s) = BitVec.ofNat 32 s.val)
variable {Q K : Tile} {C D : Col} {n : ℕ} {T U : ℕ → Fin 512 → ℝ} {V : ℕ → Tile} {r : Fin 512}

include hrow hcol in
/-- The first head's diagonal. -/
theorem diag0 (h : Run n T V (fun x => x.val < 64) (m (ix2 r 0)) (l (ix2 r 0)) (fun x => acc (ix2 r x)))
    (hQ : Mx x Q) (hK : Mx kt K) (hC : Rx ct C) (hV : Mx vt (V n)) (hT : ∀ s, T n s = sc lo Q K C r s) :
    ∃ M : ℝ, k0_pay46 (F := Ideal) row col m (k0_pay44 x kt) ct (ix2 r 0) = (M : EReal)
      ∧ k0_pay49 (F := Ideal) row col m l (k0_pay44 x kt) ct (ix2 r 0) = ((den n T r M : ℝ) : EReal)
      ∧ ∀ y : Fin 128, y.val < 64 → k0_pay50 (F := Ideal) row col k0_pay21 m acc (k0_pay43 vt) (k0_pay44 x kt) ct (ix2 r y) = ((num n T (fun b s => V b s y) r M : ℝ) : EReal) :=
  h.diag r (e := fun s => k0_pay45 (F := Ideal) row col (k0_pay44 x kt) ct (ix2 r s)) (p := fun s => k0_pay47 (F := Ideal) row col m (k0_pay44 x kt) ct (ix2 r s)) (a := k0_pay48 (F := Ideal) row col m (k0_pay44 x kt) ct (ix2 r 0))
    (fun s => (pay45 hrow hcol hQ hK hC r s).trans (by rw [hT])) (pay46_at r) (pay47_at r) (pay48_at r) (pay49_at r)
    (acc' := fun y => k0_pay50 (F := Ideal) row col k0_pay21 m acc (k0_pay43 vt) (k0_pay44 x kt) ct (ix2 r y))
    (fun y hy => by simp only [pay50_at, if_pos hy, pay43 hV _ y])

/-- It leaves the second head's lanes. -/
theorem keepD {S : FVec Ideal S512x512 .f32} {y : Fin 128} (hy : ¬ y.val < 64) : k0_pay50 (F := Ideal) row col k0_pay21 m acc vt S ct (ix2 r y) = acc (ix2 r y) := by
  simp only [pay50_at, if_neg hy, mul_zero, mul_one, Finset.sum_const_zero, add_zero]

include hrow hcol in
/-- The second head's diagonal: its maximum, its mass, and its outputs. -/
theorem diag1 (h : Run n U V (fun x => ¬ x.val < 64) (m1 (ix2 r 0)) (l1 (ix2 r 0)) (fun x => old (ix2 r x)))
    (hQ : Mx x Q) (hK : Mx kt K) (hC : Rx cu D) (hV : Mx vt (V n)) (hT : ∀ s, U n s = sc hi Q K D r s) :
    ∃ M : ℝ, k0_pay54 (F := Ideal) m1 (k0_pay51 (k0_pay24 x) (k0_pay42 kt) cu) (k0_pay52 row col) ⊥ (ix2 r 0) = (M : EReal)
      ∧ k0_pay57 (F := Ideal) m1 l1 (k0_pay51 (k0_pay24 x) (k0_pay42 kt) cu) (k0_pay52 row col) ⊥ (ix2 r 0) = ((den n U r M : ℝ) : EReal)
      ∧ ∀ y : Fin 128, ¬ y.val < 64 → k0_pay58 (F := Ideal) k0_pay21 k0_pay22 m1 l1 (k0_pay43 vt) l0 old (k0_pay51 (k0_pay24 x) (k0_pay42 kt) cu) (k0_pay52 row col) ⊥ (ix2 r y)
          = ((num n U (fun b s => V b s y) r 0 / den n U r 0 : ℝ) : EReal) := by
  obtain ⟨M, e1, e2, e3⟩ := h.diag r (e := fun s => k0_pay53 (F := Ideal) (k0_pay51 (k0_pay24 x) (k0_pay42 kt) cu) (k0_pay52 row col) ⊥ (ix2 r s))
    (p := fun s => k0_pay55 (F := Ideal) m1 (k0_pay51 (k0_pay24 x) (k0_pay42 kt) cu) (k0_pay52 row col) ⊥ (ix2 r s))
    (a := k0_pay56 (F := Ideal) m1 (k0_pay51 (k0_pay24 x) (k0_pay42 kt) cu) (k0_pay52 row col) ⊥ (ix2 r 0))
    (fun s => (pay53 hrow hcol hQ hK hC r s).trans (by rw [hT])) (pay54_at r) (pay55_at r) (pay56_at r) (pay57_at r)
    (acc' := fun y => old (ix2 r y) * k0_pay56 (F := Ideal) m1 (k0_pay51 (k0_pay24 x) (k0_pay42 kt) cu) (k0_pay52 row col) ⊥ (ix2 r 0)
      + ∑ s, k0_pay55 (F := Ideal) m1 (k0_pay51 (k0_pay24 x) (k0_pay42 kt) cu) (k0_pay52 row col) ⊥ (ix2 r s) * ((V n s y : ℝ) : EReal))
    (fun y _ => rfl)
  refine ⟨M, e1, e2, fun y hy => ?_⟩
  rw [pay58_at]
  simp only [if_neg hy, pay43 hV _ y]
  rw [e2, e3 y hy, div_den]

/-- The first head's outputs. -/
theorem outs0 {S : FVec Ideal S512x512 .f32} {bits : IVec S512x512 1} {z : EReal} {M : ℝ} {y : Fin 128} (hy : y.val < 64)
    (h1 : old (ix2 r y) = ((num n T (fun b s => V b s y) r M : ℝ) : EReal)) (h2 : l0 (ix2 r 0) = ((den n T r M : ℝ) : EReal)) :
    k0_pay58 (F := Ideal) k0_pay21 k0_pay22 m1 l1 vt l0 old S bits z (ix2 r y) = ((num n T (fun b s => V b s y) r 0 / den n T r 0 : ℝ) : EReal) := by
  rw [pay58_at]
  simp only [if_pos hy, mul_zero, mul_one, Finset.sum_const_zero, add_zero]
  rw [h1, h2, div_den]

end Cert.Attn.Fwd
end
-- ==== Proof.Fwd.Block.lean ====
/-
  One point of the forward kernel: the two blocks it writes, over real arguments.
-/
module
public import proofs.«01_k».proof.Proof.Fwd.Loop
public import proofs.«01_k».proof.Proof.Fwd.Diag
public import proofs.«01_k».proof.Proof.Gen.Kernel3Ideal.Frame
public import Idealize.ShloMosaic.Lib.LoopRemainder
public import Idealize.ShloMosaic.Lib.Pipeline.ValueKit.Tiles
@[expose] public section
set_option maxRecDepth 16384
noncomputable section
namespace Cert.Attn.Fwd
open Idealize.ShloMosaic Cert.Kernel3Ideal Cert.Kernel3Ideal.Gen Idealize.ShloMosaic.TcCoe

theorem hz : (![0, 0] : Fin 2 → Nat) = fun _ => 0 := funext fun a => by fin_cases a <;> rfl

variable (c : Dev nD) (i : grid0.Coords) (arg2 : Memref sig .tc .vmem S512x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S8x32x512 .f32) (harg5 : arg5.IsWhole) (arg6 : Memref sig .tc .vmem S512x128 .f32) (harg6 : arg6.IsWhole) (arg7 : Memref sig .tc .vmem S2x1x1x512 .f32) (harg7 : arg7.IsWhole) {x0 : Vec Ideal S512x128 .bf16} {x1 x2 : Vec Ideal S16384x128 .bf16} {x3 : Vec Ideal S8x32x512 .f32}
variable {Q : Tile} {K V : ℕ → Tile} {C : ℕ → ℕ → Col}
variable (h0 : Mx x0 Q) (h1 : Rows x1 K) (h2 : Rows x2 V) (h3 : Bias x3 C)

/-- The real block of outputs. -/
def blkO (p j : ℕ) (Q : Tile) (K V : ℕ → Tile) (C : ℕ → ℕ → Col) : Tile := fun r y =>
  if y.val < 64 then num j (T0 p Q K C r) (fun b s => V b s y) r 0 / den j (T0 p Q K C r) r 0
  else num j (T1 p Q K C r) (fun b s => V b s y) r 0 / den j (T1 p Q K C r) r 0

/-- The row numbers of a tile. -/
theorem iota_row (r s : Fin 512) : iota Kind.tc S512x512 32 [0] iota_S512x512_d0_w32 (ix2 r s) = BitVec.ofNat 32 r.val := by
  pointwise
/-- The column numbers of a tile. -/
theorem iota_col (r s : Fin 512) : iota Kind.tc S512x512 32 [1] iota_S512x512_d1_w32 (ix2 r s) = BitVec.ofNat 32 s.val := by
  pointwise

include h0 h1 h2 h3 in
/-- The block of outputs. -/
theorem out4 : Mx (out0_A_4 (F := Ideal) c i arg2 harg2 arg3 harg3 arg4 harg4 arg5 harg5 arg6 harg6 arg7 harg7 x0 x1 x2 x3) (blkO (i 0).val (i 1).val Q K V C) := by
  have hi1 : (i 1).val < 32 := (i 1).isLt
  have hi0 : (i 0).val < 4 := (i 0).isLt
  have e3 : ∀ r : Fin 2, 2 * (i 0).val + r.val < 8 := fun r => by omega
  have hK := h1.ld hi1 (k0_off5_eq i) (k0_off5_inb i)
  have hV := h2.ld hi1 (k0_off5_eq i) (k0_off5_inb i)
  have hC0 := h3.ld (e3 0) hi1 (k0_off6_eq i 0) (k0_off6_inb i 0)
  have hC1 := h3.ld (e3 1) hi1 (k0_off6_eq i 1) (k0_off6_inb i 1)
  have hI := st_inv c i arg2 harg2 arg3 harg3 arg4 harg4 arg5 harg5 arg6 harg6 arg7 harg7 h0 h1 h2 h3 (k0_t1_loop i).trips le_rfl
  rw [trips_eq i] at hI
  have ht : Scf.trips (k0_t1_loop i).lb (k0_t1_loop i).ub (k0_t1_loop i).st = (i 1).val := trips_eq i
  have ht2 : Scf.trips (k0_t2_loop i).lb (k0_t2_loop i).ub (k0_t2_loop i).st = 0 := Scf.rem_trips _ _
  intro r y
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  rw [View.canon_unit_zero hz]
  unfold kernelRun0_A.sl.r_3 kernelRun0_A.sl.r_4 kernelRun0_A.sl.r_7 kernelRun0_A.sl.r_10 kernelRun0_A.sl.r_11 kernelRun0_A.sl.r_12 kernelRun0_A.sl.cst_25 kernelRun0_A.sl.v2 kernelRun0_A.sl.v3
  unfold kernelRun0_A.sl.r kernelRun0_A.sl.r_1 kernelRun0_A.sl.r_2 kernelRun0_A.sl.r_5 kernelRun0_A.sl.r_6 kernelRun0_A.sl.r_7 kernelRun0_A.sl.r_8
  simp only [View.readAt_eq_ld, harg2.read_unread, harg3.read_unread, harg4.read_unread, harg5.read_unread, View.ld_unit_zero (S := S512x128) hz, ht2, st_k0_t2_zero, ht, mask_eq]
  obtain ⟨a0, a1⟩ := hI r
  obtain ⟨M, f1, f2, f3⟩ := diag0 iota_row iota_col a0 h0 hK hC0 hV (fun s => rfl)
  unfold blkO
  by_cases hy : y.val < 64
  · rw [if_pos hy]
    exact outs0 hy (f3 y hy) f2
  · rw [if_neg hy]
    obtain ⟨M1, g1, g2, g3⟩ := diag1 iota_row iota_col (a1.congr (fun x hx => keepD hx)) h0 hK hC1 hV (fun s => rfl)
    exact g3 y hy

include h0 h1 h2 h3 in
/-- The block of log-masses: one row for each head. -/
theorem out5 (r : Fin 512) : out0_A_5 (F := Ideal) c i arg2 harg2 arg3 harg3 arg4 harg4 arg5 harg5 arg6 harg6 arg7 harg7 x0 x1 x2 x3 (ix4 0 0 0 r) = ((Real.log (den (i 1).val (T0 (i 0).val Q K C r) r 0) : ℝ) : EReal)
    ∧ out0_A_5 (F := Ideal) c i arg2 harg2 arg3 harg3 arg4 harg4 arg5 harg5 arg6 harg6 arg7 harg7 x0 x1 x2 x3 (ix4 1 0 0 r) = ((Real.log (den (i 1).val (T1 (i 0).val Q K C r) r 0) : ℝ) : EReal) := by
  have hi1 : (i 1).val < 32 := (i 1).isLt
  have hi0 : (i 0).val < 4 := (i 0).isLt
  have e3 : ∀ r : Fin 2, 2 * (i 0).val + r.val < 8 := fun r => by omega
  have hK := h1.ld hi1 (k0_off5_eq i) (k0_off5_inb i)
  have hV := h2.ld hi1 (k0_off5_eq i) (k0_off5_inb i)
  have hC0 := h3.ld (e3 0) hi1 (k0_off6_eq i 0) (k0_off6_inb i 0)
  have hC1 := h3.ld (e3 1) hi1 (k0_off6_eq i 1) (k0_off6_inb i 1)
  have hI := st_inv c i arg2 harg2 arg3 harg3 arg4 harg4 arg5 harg5 arg6 harg6 arg7 harg7 h0 h1 h2 h3 (k0_t1_loop i).trips le_rfl
  rw [trips_eq i] at hI
  have ht : Scf.trips (k0_t1_loop i).lb (k0_t1_loop i).ub (k0_t1_loop i).st = (i 1).val := trips_eq i
  have ht2 : Scf.trips (k0_t2_loop i).lb (k0_t2_loop i).ub (k0_t2_loop i).st = 0 := Scf.rem_trips _ _
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  unfold kernelRun0_A.sl.r_13 kernelRun0_A.sl.r_14 kernelRun0_A.sl.r_9
  unfold kernelRun0_A.sl.r_3 kernelRun0_A.sl.r_4 kernelRun0_A.sl.r_10 kernelRun0_A.sl.r_12 kernelRun0_A.sl.cst_25 kernelRun0_A.sl.v2 kernelRun0_A.sl.v3
  unfold kernelRun0_A.sl.r kernelRun0_A.sl.r_1 kernelRun0_A.sl.r_2 kernelRun0_A.sl.r_6 kernelRun0_A.sl.r_8
  simp only [View.readAt_eq_ld, harg2.read_unread, harg3.read_unread, harg4.read_unread, harg5.read_unread, View.ld_unit_zero (S := S512x128) hz, ht2, st_k0_t2_zero, ht, mask_eq]
  obtain ⟨a0, a1⟩ := hI r
  constructor
  · refine (canon_two_0 _ _ _ _ r).trans ?_
    obtain ⟨M, f1, f2, f3⟩ := diag0 iota_row iota_col a0 h0 hK hC0 hV (fun s => rfl)
    exact (pay59_at r).trans ((congrArg₂ (fun a b => a + Ideal.log b) f1 f2).trans (log_den _ _ r M))
  · refine (canon_two_1 _ _ _ _ r).trans ?_
    obtain ⟨M, g1, g2, g3⟩ := diag1 (l0 := k0_pay26) iota_row iota_col a1 h0 hK hC1 hV (fun s => rfl)
    refine (pay1_at r).trans ?_
    rw [pay60_at]
    exact (congrArg₂ (fun a b => a + Ideal.log b) g1 g2).trans (log_den _ _ r M)

end Cert.Attn.Fwd
end
-- ==== Proof.Fwd.Heads.lean ====
/-
  The forward kernel's real blocks: the outputs and log-masses of the heads' own attention.
-/
module
public import proofs.«01_k».proof.Proof.Dq.Heads
public import proofs.«01_k».proof.Proof.Fwd.Block
@[expose] public section
set_option maxRecDepth 16384
noncomputable section
namespace Cert.Attn.Fwd

variable (q k v : Fin 8 → Fin 16384 → Fin 64 → ℝ) (c : Fin 8 → Fin 16384 → ℝ) (p : Fin 4) (j : Fin 32)

/-- The first head's weight of a column in an earlier tile. -/
theorem w0_lt (r s : Fin 512) (b : Fin 32) (hb : b < j) : Real.exp (T0 p.val (lanes q p j.val) (lanes k p) (cols (neg c)) r b.val s - 0)
    = if row b s ≤ row j r then Real.exp (score (q (h0 p)) (k (h0 p)) (c (h0 p)) (row j r) (row b s)) else 0 := by
  unfold T0
  rw [Dq.sc0_eq, if_pos (row_le_of_lt hb r s), sub_zero]

/-- The first head's weight of a column in the row's own tile. -/
theorem w0_diag (r s : Fin 512) : (if s ≤ r then Real.exp (T0 p.val (lanes q p j.val) (lanes k p) (cols (neg c)) r j.val s - 0) else 0)
    = if row j s ≤ row j r then Real.exp (score (q (h0 p)) (k (h0 p)) (c (h0 p)) (row j r) (row j s)) else 0 := by
  unfold T0
  rw [Dq.sc0_eq, sub_zero]
  simp only [row_le_diag]

/-- The first head's sum of weights is the row's mass. -/
theorem den0 (r : Fin 512) : den j.val (T0 p.val (lanes q p j.val) (lanes k p) (cols (neg c)) r) r 0 = mass (q (h0 p)) (k (h0 p)) (c (h0 p)) (row j r) :=
  sum_tiles (fun i => if i ≤ row j r then Real.exp (score (q (h0 p)) (k (h0 p)) (c (h0 p)) (row j r) i) else 0) _ j r (fun _ hi => if_neg hi) (fun b hb s => w0_lt q k c p j r s b hb) _ (fun s => w0_diag q k c p j r s)

/-- The first head's weighted values over the mass are the row's output. -/
theorem quot0 (r : Fin 512) (y : Fin 128) : num j.val (T0 p.val (lanes q p j.val) (lanes k p) (cols (neg c)) r) (fun b s => lanes v p b s y) r 0 / den j.val (T0 p.val (lanes q p j.val) (lanes k p) (cols (neg c)) r) r 0
    = ∑ i, prob (q (h0 p)) (k (h0 p)) (c (h0 p)) (row j r) i * v (hd p y) i (ln y) := by
  have e : num j.val (T0 p.val (lanes q p j.val) (lanes k p) (cols (neg c)) r) (fun b s => lanes v p b s y) r 0 = ∑ i, (fun i => if i ≤ row j r then Real.exp (score (q (h0 p)) (k (h0 p)) (c (h0 p)) (row j r) i) else 0) i * v (hd p y) i (ln y) :=
    sum_tiles (fun i => (fun i => if i ≤ row j r then Real.exp (score (q (h0 p)) (k (h0 p)) (c (h0 p)) (row j r) i) else 0) i * v (hd p y) i (ln y)) _ j r (fun i hi => by simp only [if_neg hi, zero_mul])
      (fun b hb s => by rw [w0_lt q k c p j r s b hb]; dsimp only; rw [lanes_eq]) _ (fun s => by rw [w0_diag q k c p j r s]; dsimp only; rw [lanes_eq])
  rw [e, den0, Finset.sum_div]
  refine Finset.sum_congr rfl fun i _ => ?_
  dsimp only
  unfold prob
  by_cases hi : i ≤ row j r
  · rw [if_pos hi, if_pos hi, mul_div_right_comm]
  · rw [if_neg hi, if_neg hi, zero_mul, zero_div]

/-- The second head's weight of a column in an earlier tile. -/
theorem w1_lt (r s : Fin 512) (b : Fin 32) (hb : b < j) : Real.exp (T1 p.val (lanes q p j.val) (lanes k p) (cols (neg c)) r b.val s - 0)
    = if row b s ≤ row j r then Real.exp (score (q (h1 p)) (k (h1 p)) (c (h1 p)) (row j r) (row b s)) else 0 := by
  unfold T1
  rw [Dq.sc1_eq, if_pos (row_le_of_lt hb r s), sub_zero]

/-- The second head's weight of a column in the row's own tile. -/
theorem w1_diag (r s : Fin 512) : (if s ≤ r then Real.exp (T1 p.val (lanes q p j.val) (lanes k p) (cols (neg c)) r j.val s - 0) else 0)
    = if row j s ≤ row j r then Real.exp (score (q (h1 p)) (k (h1 p)) (c (h1 p)) (row j r) (row j s)) else 0 := by
  unfold T1
  rw [Dq.sc1_eq, sub_zero]
  simp only [row_le_diag]

/-- The second head's sum of weights is the row's mass. -/
theorem den1 (r : Fin 512) : den j.val (T1 p.val (lanes q p j.val) (lanes k p) (cols (neg c)) r) r 0 = mass (q (h1 p)) (k (h1 p)) (c (h1 p)) (row j r) :=
  sum_tiles (fun i => if i ≤ row j r then Real.exp (score (q (h1 p)) (k (h1 p)) (c (h1 p)) (row j r) i) else 0) _ j r (fun _ hi => if_neg hi) (fun b hb s => w1_lt q k c p j r s b hb) _ (fun s => w1_diag q k c p j r s)

/-- The second head's weighted values over the mass are the row's output. -/
theorem quot1 (r : Fin 512) (y : Fin 128) : num j.val (T1 p.val (lanes q p j.val) (lanes k p) (cols (neg c)) r) (fun b s => lanes v p b s y) r 0 / den j.val (T1 p.val (lanes q p j.val) (lanes k p) (cols (neg c)) r) r 0
    = ∑ i, prob (q (h1 p)) (k (h1 p)) (c (h1 p)) (row j r) i * v (hd p y) i (ln y) := by
  have e : num j.val (T1 p.val (lanes q p j.val) (lanes k p) (cols (neg c)) r) (fun b s => lanes v p b s y) r 0 = ∑ i, (fun i => if i ≤ row j r then Real.exp (score (q (h1 p)) (k (h1 p)) (c (h1 p)) (row j r) i) else 0) i * v (hd p y) i (ln y) :=
    sum_tiles (fun i => (fun i => if i ≤ row j r then Real.exp (score (q (h1 p)) (k (h1 p)) (c (h1 p)) (row j r) i) else 0) i * v (hd p y) i (ln y)) _ j r (fun i hi => by simp only [if_neg hi, zero_mul])
      (fun b hb s => by rw [w1_lt q k c p j r s b hb]; dsimp only; rw [lanes_eq]) _ (fun s => by rw [w1_diag q k c p j r s]; dsimp only; rw [lanes_eq])
  rw [e, den1, Finset.sum_div]
  refine Finset.sum_congr rfl fun i _ => ?_
  dsimp only
  unfold prob
  by_cases hi : i ≤ row j r
  · rw [if_pos hi, if_pos hi, mul_div_right_comm]
  · rw [if_neg hi, if_neg hi, zero_mul, zero_div]

/-- The block of outputs is the tile of the heads' outputs. -/
theorem blkO_eq : blkO p.val j.val (lanes q p j.val) (lanes k p) (lanes v p) (cols (neg c)) = lanes (fun h => out (q h) (k h) (v h) (c h)) p j.val := by
  funext r l
  rw [lanes_eq]
  unfold blkO
  by_cases h : l.val < 64
  · have hh : hd p l = h0 p := Fin.ext (by show 2 * p.val + l.val / 64 = 2 * p.val; omega)
    rw [if_pos h, quot0, hh]; rfl
  · have hh : hd p l = h1 p := Fin.ext (by show 2 * p.val + l.val / 64 = 2 * p.val + 1; omega)
    rw [if_neg h, quot1, hh]; rfl

end Cert.Attn.Fwd
end
-- ==== Proof.Fwd.Array.lean ====
/-
  The forward kernel's result arrays.
-/
module
public import proofs.«01_k».proof.Proof.Attn.Arrays
public import proofs.«01_k».proof.Proof.Fwd.Stage
public import proofs.«01_k».proof.Proof.Fwd.Heads
public import proofs.«01_k».proof.Proof.Fwd.Block
public import Idealize.ShloMosaic.Lib.Pipeline.ValueKit.Geometry
public import Idealize.ShloMosaic.Lib.StableHlo.RunRead
@[expose] public section
set_option maxRecDepth 16384
noncomputable section
namespace Cert.Attn.Fwd
open Cert.Kernel3Ideal Cert.Kernel3Ideal.Gen Idealize.ShloMosaic Idealize.ShloMosaic.TcCoe Idealize.SL.Sem Cert.Attn.Ref
open Idealize.ShloMosaic.Pipeline (Dat)

variable (m : (ℓ : Loc nD τ sig) → Buf (Elt Ideal) ℓ) (c : Dev nD)

variable {q k v : Heads} {gt : Fin 8 → Fin 16384 → ℝ}
variable (hq : Holds (m ((c : Thread nD τ).loc main_arg0)) q) (hk : Holds (m ((c : Thread nD τ).loc main_arg1)) k) (hv : Holds (m ((c : Thread nD τ).loc main_arg2)) v) (hc : HoldsGates (m ((c : Thread nD τ).loc main_arg3)) gt)

include hq hk hv hc in
/-- The tile of outputs a grid point writes. -/
theorem tile4 (t : Fin cfg0.N) : Mx (out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t))
    (lanes (fun h => out (q h) (k h) (v h) (gt h)) (grid0.coords t 0) (grid0.coords t 1).val) := by
  have h := out4 c (grid0.coords t) (ms0_0 t) (hs0_0 t) (ms0_1 t) (hs0_1 t) (ms0_2 t) (hs0_2 t) (ms0_3 t) (hs0_3 t) (ms0_4 t) (hs0_4 t) (ms0_5 t) (hs0_5 t) (blk0 m c hq t) (blk1 m c hk t) (blk2 m c hv t) (blk3 m c (negRows_holds hc _) t)
  have e := blkO_eq q k v gt (grid0.coords t 0) (grid0.coords t 1)
  exact fun r l => (h r l).trans (congrArg _ (congrFun (congrFun e r) l))

include hq hk hv hc in
/-- The array of outputs. -/
theorem array4 (G : S16384x512.Idx → EReal) (hG : Holds G (fun h => out (q h) (k h) (v h) (gt h))) : (dats m 0 c).arrAt 4 cfg0.N = G := by
  refine (dats m 0 c).arrAt_eq_of_covers 4 _ (by decide +kernel) fun t hf y => ?_
  have hy : ∃ (r : Fin 512) (l : Fin 128), y = ix2 r l := ⟨y 0, y 1, by funext u; match u with | ⟨0, _⟩ => rfl | ⟨1, _⟩ => rfl⟩
  obtain ⟨r, l, rfl⟩ := hy
  refine Eq.trans ?_ (hG.at (grid0.coords t 0) (grid0.coords t 1) r l (((cfg0.win 4).blk t).view.emb (ix2 r l)) (by blk_simp [idx4]) (by blk_simp [idx4])).symm
  refine Eq.trans ?_ (tile4 m c hq hk hv hc t r l)
  blk_simp
  rw [after0_4]
  simp only [outsAt0]

include hq hk hv hc in
/-- The rows of log-masses a grid point writes. -/
theorem tile5 (t : Fin cfg0.N) (r : Fin 512) : out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (ix4 0 0 0 r)
      = ((cols (fun h => lse (q h) (k h) (gt h)) (2 * (grid0.coords t 0).val) (grid0.coords t 1).val r : ℝ) : EReal)
    ∧ out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (ix4 1 0 0 r)
      = ((cols (fun h => lse (q h) (k h) (gt h)) (2 * (grid0.coords t 0).val + 1) (grid0.coords t 1).val r : ℝ) : EReal) := by
  have e0 := cols_0 (fun h => lse (q h) (k h) (gt h)) (grid0.coords t 0) (grid0.coords t 1) r
  have e1 := cols_1 (fun h => lse (q h) (k h) (gt h)) (grid0.coords t 0) (grid0.coords t 1) r
  have d0 := congrArg Real.log (den0 q k gt (grid0.coords t 0) (grid0.coords t 1) r)
  have d1 := congrArg Real.log (den1 q k gt (grid0.coords t 0) (grid0.coords t 1) r)
  have h := out5 c (grid0.coords t) (ms0_0 t) (hs0_0 t) (ms0_1 t) (hs0_1 t) (ms0_2 t) (hs0_2 t) (ms0_3 t) (hs0_3 t) (ms0_4 t) (hs0_4 t) (ms0_5 t) (hs0_5 t) (blk0 m c hq t) (blk1 m c hk t) (blk2 m c hv t) (blk3 m c (negRows_holds hc _) t) r
  exact ⟨h.1.trans (congrArg _ (d0.trans e0.symm)), h.2.trans (congrArg _ (d1.trans e1.symm))⟩

include hq hk hv hc in
/-- The array of log-masses. -/
theorem array5 (G : S8x32x1x512.Idx → EReal) (hG : HoldsTiles G (fun h => lse (q h) (k h) (gt h))) : (dats m 0 c).arrAt 5 cfg0.N = G := by
  refine (dats m 0 c).arrAt_eq_of_covers 5 _ (by decide +kernel) fun t hf y => ?_
  have hy : ∃ (u : Fin 2) (r : Fin 512), y = ix4 u 0 0 r := ⟨y 0, y 3, by
    funext u
    match u with
    | ⟨0, _⟩ => rfl
    | ⟨1, _⟩ => exact Subsingleton.elim (α := Fin 1) _ _
    | ⟨2, _⟩ => exact Subsingleton.elim (α := Fin 1) _ _
    | ⟨3, _⟩ => rfl⟩
  obtain ⟨u, r, rfl⟩ := hy
  refine Eq.trans ?_ (hG.at (2 * (grid0.coords t 0).val + u.val) (grid0.coords t 1).val r (((cfg0.win 5).blk t).view.emb (ix4 u 0 0 r))
    (by blk_simp [idx5]; omega) (by blk_simp [idx5]; rfl) (by blk_simp [idx5])).symm
  match u with
  | ⟨0, _⟩ =>
    refine Eq.trans ?_ (tile5 m c hq hk hv hc t r).1
    blk_simp
    rw [after0_5]
    simp only [outsAt0]
  | ⟨1, _⟩ =>
    refine Eq.trans ?_ (tile5 m c hq hk hv hc t r).2
    blk_simp
    rw [after0_5]
    simp only [outsAt0]

end Cert.Attn.Fwd
end
-- ==== Proof.Fwd.Value.lean ====
/-
  The forward kernel's run with the contents of its two results named.
-/
module
public import proofs.«01_k».proof.Proof.Gen.Kernel3Ideal.Frame
public import Idealize.ShloMosaic.Lib.Pipeline.Value
@[expose] public section
set_option maxRecDepth 16384
noncomputable section
namespace Cert.Attn.Fwd
open Cert.Kernel3Ideal Cert.Kernel3Ideal.Gen Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- After the run the array of outputs is what the grid points wrote into window 4. -/
theorem post4 (r : PUnit × MemSt nD τ sig (Elt F)) (h : Pipeline.FramePost cfgs (dats m) 0 (V m) r) (c : Dev nD) :
    r.2.mem ((c : Thread nD τ).loc main_v6_0) = (dats m 0 c).arrAt 4 cfg0.N :=
  (h c).1 4

/-- After the run the array of log-masses is what the grid points wrote into window 5. -/
theorem post5 (r : PUnit × MemSt nD τ sig (Elt F)) (h : Pipeline.FramePost cfgs (dats m) 0 (V m) r) (c : Dev nD) :
    r.2.mem ((c : Thread nD τ).loc main_v6_1) = (dats m 0 c).arrAt 5 cfg0.N :=
  (h c).1 5

/-- After the run argument 0 is as launched. -/
theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run argument 1 is as launched. -/
theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the run argument 2 is as launched. -/
theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the run argument 3 is as launched. -/
theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run with its two results named, the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 4 cfg0.N
      ∧ r.2.mem ((c : Thread nD τ).loc main_v6_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c, post5 m r h c, kept0 m r h c, kept1 m r h c, kept2 m r h c, kept3 m r h c⟩)
    (run_main m ρ)

end Cert.Attn.Fwd
end
-- ==== Proof.Fwd.Claim.lean ====
/-
  The forward kernel returns what its reference returns.
-/
module
public import proofs.«01_k».proof.Proof.Attn.Finite
public import proofs.«01_k».proof.Proof.Fwd.Array
public import proofs.«01_k».proof.Proof.Fwd.Value
public import proofs.«01_k».proof.Proof.Attn.RefFwd
public import proofs.«01_k».proof.Proof.Gen.Pre_finite4
public import proofs.«01_k».proof.Defs
@[expose] public section
set_option maxRecDepth 16384
set_option maxHeartbeats 1000000
noncomputable section
namespace Cert.Attn.Fwd
open Idealize.ShloMosaic Idealize.ShloMosaic.TcCoe Idealize.SL.Sem Cert.Attn.Ref

/-- From finite arguments the kernel returns the reference's attention outputs and log-masses. -/
theorem algebraic : Cert.algebraic_Kernel3Ideal_Reference3Ideal_pre_finite4 := by
  intro m ρ m' ρ' hpre hagree
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N, Cert.Attn.Fwd.run_blocks m ρ, ?_⟩
  refine (θ_run Cert.Reference3Ideal.defs _ _).mono (fun _ h c => ?_) (Cert.Reference3Ideal.Value.run m' ρ')
  obtain ⟨r0, r1, ha⟩ := h c
  obtain ⟨a0, a1, a2, a3⟩ := hagree c
  obtain ⟨p0, p1, p2, p3⟩ := hpre c
  have hq := holds_headsOf (real_of_test _ _ p0)
  have hk := holds_headsOf (real_of_test _ _ p1)
  have hv := holds_headsOf (real_of_test _ _ p2)
  have hc := holds_gatesOf (real_of_test _ _ p3)
  have e0 : ∀ x0 x1 x2 x3, x0 = m ((c.tc : Thread Cert.Kernel3Ideal.nD Cert.Kernel3Ideal.τ).loc Cert.Kernel3Ideal.main_arg0) → x1 = m ((c.tc : Thread Cert.Kernel3Ideal.nD Cert.Kernel3Ideal.τ).loc Cert.Kernel3Ideal.main_arg1) → x2 = m ((c.tc : Thread Cert.Kernel3Ideal.nD Cert.Kernel3Ideal.τ).loc Cert.Kernel3Ideal.main_arg2) → x3 = m ((c.tc : Thread Cert.Kernel3Ideal.nD Cert.Kernel3Ideal.τ).loc Cert.Kernel3Ideal.main_arg3)
      → Cert.Reference3Ideal.Read.val_main_v32 (F := Ideal) x0 x1 x2 x3 = (Cert.Kernel3Ideal.Gen.dats m 0 c).arrAt 4 Cert.Kernel3Ideal.cfg0.N := by
    rintro _ _ _ _ rfl rfl rfl rfl
    exact (array4 m c hq hk hv hc _ (fwd_holds hq hk hv hc)).symm
  have e1 : ∀ x0 x1 x3, x0 = m ((c.tc : Thread Cert.Kernel3Ideal.nD Cert.Kernel3Ideal.τ).loc Cert.Kernel3Ideal.main_arg0) → x1 = m ((c.tc : Thread Cert.Kernel3Ideal.nD Cert.Kernel3Ideal.τ).loc Cert.Kernel3Ideal.main_arg1) → x3 = m ((c.tc : Thread Cert.Kernel3Ideal.nD Cert.Kernel3Ideal.τ).loc Cert.Kernel3Ideal.main_arg3)
      → Cert.Reference3Ideal.Read.val_main_v62 (F := Ideal) x0 x1 x3 = (Cert.Kernel3Ideal.Gen.dats m 0 c).arrAt 5 Cert.Kernel3Ideal.cfg0.N := by
    rintro _ _ _ rfl rfl rfl
    exact (array5 m c hq hk hv hc _ (HoldsRows.tiles4 (x := Cert.Reference3Ideal.Read.val_main_v61 (F := Ideal) _ _ _) (fun h i => lse_eq hq hk hc h i) _)).symm
  exact ⟨(r0.trans (Cert.Reference3Ideal.Read.val_main_v32_eq m' c)).trans (e0 _ _ _ _ a0 a1 a2 a3),
    (r1.trans (Cert.Reference3Ideal.Read.val_main_v62_eq m' c)).trans (e1 _ _ _ a0 a1 a3), ha⟩

end Cert.Attn.Fwd
end
-- ==== Proof.Mm.Up.lean ====
/-
  The up projection: its run against the plain product.
-/
module
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.Up
open Cert.Kernel4Ideal Cert.Kernel4Ideal.Gen Idealize.ShloMosaic Idealize.ShloMosaic.TcCoe Idealize.SL.Sem

theorem hz : (![0, 0] : Fin 2 → Nat) = fun _ => 0 := funext fun a => by fin_cases a <;> rfl

/-- A tile's product is the sum over the inner index. -/
theorem pay_at (x : Vec Ideal S1024x1024 .bf16) (y : Vec Ideal S1024x1408 .bf16) (r : Fin 1024) (l : Fin 1408) :
    k0_pay1 (F := Ideal) x y (ValueIdx.ix2 r l) = ∑ k : Fin 1024, x (ValueIdx.ix2 r k) * y (ValueIdx.ix2 k l) := by
  pointwise [k0_pay1]
  rfl

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The weights in the narrow format are the weights. -/
theorem V_v1 : (V m c main_v1 : S1024x2816.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![(grid0.coords t 0).val, (grid0.coords t 2).val] := (by decide +kernel : ∀ t : Fin grid0.N, _)
theorem idx1 : ∀ t : Fin cfg0.N, win0_1.index t = ![(grid0.coords t 2).val, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem one : ∀ t : Fin cfg0.N, (grid0.coords t 2).val = 0 := (by decide +kernel : ∀ t : Fin grid0.N, _)

/-- The array of products. -/
theorem array : (dats m 0 c).arrAt 2 cfg0.N
    = Cert.Reference4Ideal.Read.val_main_v0 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1408), y = ValueIdx.ix2 r l := ⟨y 0, y 1, by funext u; match u with | ⟨0, _⟩ => rfl | ⟨1, _⟩ => rfl⟩
  obtain ⟨r, l, rfl⟩ := hy
  rw [Cert.Reference4Ideal.Read.val_main_v0_apply]
  blk_simp
  rw [after0_2]
  unfold out0_2
  rw [View.canon_unit_zero hz, View.ld_unit_zero (S := S1024x1024) hz, View.ld_unit_zero (S := S1024x1408) hz]
  refine (pay_at _ _ r l).trans (Finset.sum_congr rfl fun k _ => ?_)
  congr 1
  · blk_simp [iblk, idx0]
    rw [V_v0]
    congr 1
    funext u
    apply Fin.ext
    match u with
    | ⟨0, _⟩ =>
      change _ = (((win0_2.blk t).view.emb (ValueIdx.ix2 r l)) 0).val
      blk_simp [idx0, idx2]
      try rfl
    | ⟨1, _⟩ =>
      change _ = k.val
      blk_simp [idx0, idx2, one]
      try rfl
  · blk_simp [iblk, idx1]
    rw [V_v1]
    congr 1
    funext u
    apply Fin.ext
    match u with
    | ⟨0, _⟩ =>
      change _ = k.val
      blk_simp [idx1, idx2, one]
      try rfl
    | ⟨1, _⟩ =>
      change _ = (((win0_2.blk t).view.emb (ValueIdx.ix2 r l)) 1).val
      blk_simp [idx1, idx2]
      try rfl

end Cert.Mm.Up
end
-- ==== Proof.Mm.DownDx.lean ====
/-
  The down projection's input gradient: its run against the derivative of the plain product.
-/
module
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.DownDx
open Cert.Kernel5Ideal Cert.Kernel5Ideal.Gen Idealize.ShloMosaic Idealize.ShloMosaic.TcCoe Idealize.SL.Sem

theorem hz : (![0, 0] : Fin 2 → Nat) = fun _ => 0 := funext fun a => by fin_cases a <;> rfl

/-- A tile's product is the sum over the columns of both. -/
theorem pay_at (x : Vec Ideal S1024x1024 .f32) (y : Vec Ideal S1408x1024 .bf16) (r : Fin 1024) (l : Fin 1408) :
    k0_pay1 (F := Ideal) x y (ValueIdx.ix2 r l) = ∑ k : Fin 1024, x (ValueIdx.ix2 r k) * y (ValueIdx.ix2 l k) := by
  pointwise [k0_pay1]
  rfl

variable (m : (ℓ : Loc nD τ sig) → Buf (Elt Ideal) ℓ) (c : Dev nD)

/-- The weights in the narrow format are the weights. -/
theorem V_v0 : (V m c main_v0 : S2816x1024.Idx → EReal) = m ((c : Thread nD τ).loc main_arg0) := by
  simp only [V, hostOps0, List.flatten_cons, List.flatten_nil, List.append_nil, List.cons_append, List.nil_append]
  after_reads_simp
  rfl

/-- The incoming gradient is untouched before the call. -/
theorem V_arg1 : (V m c main_arg1 : S16384x1024.Idx → EReal) = m ((c : Thread nD τ).loc main_arg1) := by
  simp only [V, hostOps0, List.flatten_cons, List.flatten_nil, List.append_nil, List.cons_append, List.nil_append]
  after_reads_simp

theorem idx0 : ∀ t : Fin cfg0.N, win0_0.index t = ![(grid0.coords t 0).val, (grid0.coords t 2).val] := (by decide +kernel : ∀ t : Fin grid0.N, _)
theorem idx1 : ∀ t : Fin cfg0.N, win0_1.index t = ![(grid0.coords t 1).val, (grid0.coords t 2).val] := (by decide +kernel : ∀ t : Fin grid0.N, _)
theorem idx2 : ∀ t : Fin cfg0.N, win0_2.index t = ![(grid0.coords t 0).val, (grid0.coords t 1).val] := (by decide +kernel : ∀ t : Fin grid0.N, _)
theorem one : ∀ t : Fin cfg0.N, (grid0.coords t 2).val = 0 := (by decide +kernel : ∀ t : Fin grid0.N, _)

/-- The array of gradients. -/
theorem array : (dats m 0 c).arrAt 2 cfg0.N
    = Cert.Reference5Ideal.Read.val_main_v2 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1408), y = ValueIdx.ix2 r l := ⟨y 0, y 1, by funext u; match u with | ⟨0, _⟩ => rfl | ⟨1, _⟩ => rfl⟩
  obtain ⟨r, l, rfl⟩ := hy
  rw [Cert.Reference5Ideal.Read.val_main_v2_apply]
  blk_simp
  rw [after0_2]
  unfold out0_2
  rw [View.canon_unit_zero hz, View.ld_unit_zero (S := S1024x1024) hz, View.ld_unit_zero (S := S1408x1024) hz]
  refine (pay_at _ _ r l).trans (Finset.sum_congr rfl fun k _ => ?_)
  congr 1
  · blk_simp [iblk, idx0]
    rw [V_arg1]
    congr 1
    funext u
    apply Fin.ext
    match u with
    | ⟨0, _⟩ =>
      change _ = (((win0_2.blk t).view.emb (ValueIdx.ix2 r l)) 0).val
      blk_simp [idx0, idx2]
      try rfl
    | ⟨1, _⟩ =>
      change _ = k.val
      blk_simp [idx0, idx2, one]
      try rfl
  · blk_simp [iblk, idx1]
    rw [V_v0]
    congr 1
    funext u
    apply Fin.ext
    match u with
    | ⟨0, _⟩ =>
      change _ = (((win0_2.blk t).view.emb (ValueIdx.ix2 r l)) 1).val
      blk_simp [idx1, idx2]
      try rfl
    | ⟨1, _⟩ =>
      change _ = k.val
      blk_simp [idx1, idx2, one]
      try rfl

end Cert.Mm.DownDx
end
-- ==== Proof.Mm.UpDwBlock.lean ====
/-
  The up projection's weight gradient: what one grid point adds to the accumulator.
-/
module
public import proofs.«01_k».proof.Proof.Gen.Kernel6Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.UpDw
open Cert.Kernel6Ideal Cert.Kernel6Ideal.Gen Idealize.ShloMosaic Idealize.ShloMosaic.TcCoe Idealize.SL.Sem

theorem hz : (![0, 0] : Fin 2 → Nat) = fun _ => 0 := funext fun a => by fin_cases a <;> rfl

/-- A tile's product sums over the rows of both tiles. -/
theorem pay1_at (x : Vec Ideal S1024x1024 .bf16) (y : Vec Ideal S1024x1408 .bf16) (r : Fin 1024) (l : Fin 1408) :
    k0_pay1 (F := Ideal) x y (ValueIdx.ix2 r l) = ∑ k : Fin 1024, x (ValueIdx.ix2 k r) * y (ValueIdx.ix2 k l) := by
  pointwise [k0_pay1]
  rfl

/-- The first point stores the product itself. -/
theorem pay2_at (x : Vec Ideal S1024x1024 .bf16) (y : Vec Ideal S1024x1408 .bf16) (r : Fin 1024) (l : Fin 1408) :
    k0_pay2 (F := Ideal) x y (ValueIdx.ix2 r l) = ∑ k : Fin 1024, x (ValueIdx.ix2 k r) * y (ValueIdx.ix2 k l) := by
  pointwise [k0_pay2, k0_pay1]
  rfl

/-- Every later point adds its product to what it finds. -/
theorem pay3_at (x : Vec Ideal S1024x1024 .bf16) (y : Vec Ideal S1024x1408 .bf16) (a : Vec Ideal S1024x1408 .f32) (r : Fin 1024) (l : Fin 1408) :
    k0_pay3 (F := Ideal) x y a (ValueIdx.ix2 r l) = a (ValueIdx.ix2 r l) + ∑ k : Fin 1024, x (ValueIdx.ix2 k r) * y (ValueIdx.ix2 k l) := by
  pointwise [k0_pay3, k0_pay1]
  rfl

variable (c : Dev nD) (i : grid0.Coords) (arg3 : Memref sig .tc .vmem S1024x1024 .bf16) (harg3 : arg3.IsWhole) (arg4 : Memref sig .tc .vmem S1024x1408 .bf16) (harg4 : arg4.IsWhole) (arg5 : Memref sig .tc .vmem S1024x1408 .f32) (harg5 : arg5.IsWhole) (arg6 : Memref sig .tc .vmem S1024x1408 .f32) (harg6 : arg6.IsWhole)
variable (x0 : Vec Ideal S1024x1024 .bf16) (x1 : Vec Ideal S1024x1408 .bf16) (xs : Vec Ideal S1024x1408 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]

/-- A middle point adds its product to the accumulator. -/
theorem soutB (hc0 : ¬cond0_0 i) (hc1 : cond0_1 i) (hc2 : ¬cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]

/-- The last point adds its product to the accumulator. -/
theorem soutC (hc0 : ¬cond0_0 i) (hc1 : cond0_1 i) (hc2 : cond0_2 i) : sout0_C_0 (F := Ideal) c i arg3 harg3 arg4 harg4 arg5 harg5 arg6 harg6 hc0 hc1 hc2 x0 x1 xs = k0_pay3 (F := Ideal) x0 x1 xs := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]

/-- The last point writes the accumulator out. -/
theorem outC (hc0 : ¬cond0_0 i) (hc1 : cond0_1 i) (hc2 : cond0_2 i) : out0_C_2 (F := Ideal) c i arg3 harg3 arg4 harg4 arg5 harg5 arg6 harg6 hc0 hc1 hc2 x0 x1 xs = k0_pay3 (F := Ideal) x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]
  exact View.readCov_cons_toLoadRect _ _ _ _

end Cert.Mm.UpDw
end
-- ==== Proof.Mm.UpDw.lean ====
/-
  The up projection's weight gradient: the sixteen steps of the accumulator against the derivative of the plain product.
-/
module
public import proofs.«01_k».proof.Proof.Mm.UpDwBlock
public import proofs.«01_k».proof.Proof.Gen.Reference6Ideal.Read
public import proofs.«01_k».proof.Proof.Gen.Reference6Ideal.Run
public import Idealize.ShloMosaic.Lib.StableHlo.RunRead
public import proofs.«01_k».proof.Defs
@[expose] public section
set_option maxRecDepth 16384
set_option maxHeartbeats 1000000
noncomputable section
namespace Cert.Mm.UpDw
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The gradients in the narrow format are the gradients. -/
theorem V_v1 : (V m c main_v1 : S16384x2816.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)
theorem idx2 : ∀ t : Fin cfg0.N, win0_2.index t = ![0, t.val / 16] := (by decide +kernel : ∀ t : Fin grid0.N, _)

/-- What block `j` of 1024 rows adds to entry `(r, a * 1408 + l)` of the gradient. -/
def part (X : S16384x1024.Idx → EReal) (Y : S16384x2816.Idx → EReal) (a : Fin 2) (r : Fin 1024) (l : Fin 1408) (j : Fin 16) : EReal :=
  ∑ k : Fin 1024, X (ValueIdx.ix2 ⟨j.val * 1024 + k.val, by omega⟩ r) * Y (ValueIdx.ix2 ⟨j.val * 1024 + k.val, by omega⟩ ⟨a.val * 1408 + l.val, by omega⟩)

/-- The product of one grid point is its block's part. -/
theorem prod_at (t : Fin cfg0.N) (a : Fin 2) (j : Fin 16) (ha : t.val / 16 = a.val) (hj : t.val % 16 = j.val) (r : Fin 1024) (l : Fin 1408)
    (x : Vec Ideal S1024x1024 .bf16) (y : Vec Ideal S1024x1408 .bf16) (hx : x = iblk m c 0 t) (hy : y = iblk m c 1 t) :
    ∑ k : Fin 1024, x (ValueIdx.ix2 k r) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_v0]
    congr 1
    funext u
    apply Fin.ext
    match u with
    | ⟨0, _⟩ =>
      change _ = j.val * 1024 + k.val
      rw [← hj]
      blk_simp [idx0]
      try rfl
    | ⟨1, _⟩ =>
      change _ = r.val
      blk_simp [idx0]
      try rfl
  · blk_simp [iblk, idx1]
    rw [V_v1]
    congr 1
    funext u
    apply Fin.ext
    match u with
    | ⟨0, _⟩ =>
      change _ = j.val * 1024 + k.val
      rw [← hj]
      blk_simp [idx1]
      try rfl
    | ⟨1, _⟩ =>
      change _ = a.val * 1408 + l.val
      rw [← ha]
      blk_simp [idx1]
      try rfl

/-- Step `b` of a column half leaves the sum of the first `b + 1` parts in the accumulator, and the last step writes it out. -/
theorem acc_at (a : Fin 2) (r : Fin 1024) (l : Fin 1408) : ∀ (b : ℕ) (hb : b < 16) (n : ℕ) (_ : n = a.val * 16 + b) (hn : n < cfg0.N),
    ((outsAt0 m c n hn).2 : S1024x1408.Idx → EReal) (ValueIdx.ix2 r l)
      = ∑ j : Fin (b + 1), part (m ((c : Thread nD τ).loc main_arg0)) (m ((c : Thread nD τ).loc main_arg1)) a r l ⟨j.val, by omega⟩
    ∧ (b = 15 → ((outsAt0 m c n hn).1 : S1024x1408.Idx → EReal) (ValueIdx.ix2 r l)
      = ∑ j : Fin (b + 1), part (m ((c : Thread nD τ).loc main_arg0)) (m ((c : Thread nD τ).loc main_arg1)) a r l ⟨j.val, by omega⟩)
  | 0, _, n, he, hn => by
    refine ⟨?_, fun h => absurd h (by decide)⟩
    have e := outsAt0_A m c ⟨n, hn⟩ (by dsimp only; omega) (by dsimp only; omega) (by dsimp only; omega)
    dsimp only at e
    rw [e]
    dsimp only
    rw [soutA, pay2_at, prod_at m c ⟨n, hn⟩ a 0 (by dsimp only; omega) (by dsimp only; omega) r l _ _ rfl rfl]
    simp
  | b + 1, hb, n, he, hn => by
    have ih := (acc_at a r l b (by omega) (n - 1) (by omega) (by omega)).1
    have step : ((outsAt0 m c (n - 1) (by omega)).2 : S1024x1408.Idx → EReal) (ValueIdx.ix2 r l)
        + part (m ((c : Thread nD τ).loc main_arg0)) (m ((c : Thread nD τ).loc main_arg1)) a r l ⟨b + 1, hb⟩
        = ∑ j : Fin (b + 1 + 1), part (m ((c : Thread nD τ).loc main_arg0)) (m ((c : Thread nD τ).loc main_arg1)) a r l ⟨j.val, by omega⟩ := by
      rw [ih, Fin.sum_univ_castSucc (n := b + 1)]
      rfl
    have pr := prod_at m c ⟨n, hn⟩ a ⟨b + 1, hb⟩ (by dsimp only; omega) (by dsimp only; omega) r l _ _ rfl rfl
    by_cases h15 : b + 1 = 15
    · have e := outsAt0_C m c ⟨n, hn⟩ (by dsimp only; omega) (by dsimp only; omega) (by dsimp only; omega)
      dsimp only at e
      rw [e]
      dsimp only
      refine ⟨?_, fun _ => ?_⟩
      · rw [soutC, pay3_at, pr]
        exact step
      · rw [outC, pay3_at, pr]
        exact step
    · refine ⟨?_, fun h => absurd h h15⟩
      have e := outsAt0_B m c ⟨n, hn⟩ (by dsimp only; omega) (by dsimp only; omega) (by dsimp only; omega)
      dsimp only at e
      rw [e]
      dsimp only
      rw [soutB, pay3_at, pr]
      exact step

/-- All sixteen parts together are the reference's sum over every row. -/
theorem parts_sum (X : S16384x1024.Idx → EReal) (Y : S16384x2816.Idx → EReal) (a : Fin 2) (r : Fin 1024) (l : Fin 1408) :
    ∑ j : Fin 16, part X Y a r l j
      = ∑ k : Fin 16384, Y (ValueIdx.ix2 k ⟨a.val * 1408 + l.val, by omega⟩) * X (ValueIdx.ix2 k r) := by
  unfold part
  refine (Fintype.sum_prod_type' (fun (j : Fin 16) (k : Fin 1024) => X (ValueIdx.ix2 ⟨j.val * 1024 + k.val, by omega⟩ r)
    * Y (ValueIdx.ix2 ⟨j.val * 1024 + k.val, by omega⟩ ⟨a.val * 1408 + l.val, by omega⟩))).symm.trans ?_
  refine Fintype.sum_equiv (finProdFinEquiv (m := 16) (n := 1024)) _ _ fun p => ?_
  rw [mul_comm]
  have e : (finProdFinEquiv p : Fin (16 * 1024)) = ⟨p.1.val * 1024 + p.2.val, by omega⟩ := by
    apply Fin.ext
    change p.2.val + 1024 * p.1.val = p.1.val * 1024 + p.2.val
    omega
  rw [e]

/-- The array of weight gradients. -/
theorem array : (dats m 0 c).arrAt 2 cfg0.N
    = Cert.Reference6Ideal.Read.val_main_v3 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1408), y = ValueIdx.ix2 r l := ⟨y 0, y 1, by funext u; match u with | ⟨0, _⟩ => rfl | ⟨1, _⟩ => rfl⟩
  obtain ⟨r, l, rfl⟩ := hy
  have h15 := (flush0_2 t).1 hf
  have hN : t.val < 32 := lt_of_lt_of_eq t.isLt N_0
  rw [Cert.Reference6Ideal.Read.val_main_v3_apply, Cert.Reference6Ideal.Read.val_main_v2_apply]
  blk_simp
  rw [after0_2]
  rw [(acc_at m c ⟨t.val / 16, by omega⟩ r l 15 (by omega) t.val (by dsimp only; omega) t.isLt).2 rfl]
  refine (parts_sum _ _ _ r l).trans (Finset.sum_congr rfl fun k _ => ?_)
  congr 1
  · congr 1
    funext u
    apply Fin.ext
    match u with
    | ⟨0, _⟩ => rfl
    | ⟨1, _⟩ =>
      change _ = (((win0_2.blk t).view.emb (ValueIdx.ix2 r l)) 1).val
      blk_simp [idx2]
      try rfl
  · congr 1
    funext u
    apply Fin.ext
    match u with
    | ⟨0, _⟩ => rfl
    | ⟨1, _⟩ =>
      change _ = (((win0_2.blk t).view.emb (ValueIdx.ix2 r l)) 0).val
      blk_simp [idx2]
      try rfl

end Cert.Mm.UpDw
end
-- ==== Proof.Mm.Claim.lean ====
/-
  The three plain products return what their references return.
-/
module
public import proofs.«01_k».proof.Proof.Mm.Up
public import proofs.«01_k».proof.Proof.Mm.DownDx
public import proofs.«01_k».proof.Proof.Mm.UpDw
public import proofs.«01_k».proof.Defs
@[expose] public section
set_option maxRecDepth 16384
set_option maxHeartbeats 1000000
noncomputable section
namespace Cert.Mm
open Idealize.ShloMosaic Idealize.ShloMosaic.TcCoe Idealize.SL.Sem

/-- The up projection returns the plain product. -/
theorem algebraic4 : Cert.algebraic_Kernel4Ideal_Reference4Ideal := by
  intro m ρ m' ρ' hpre hagree
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun _ h c => ?_) (Cert.Reference4Ideal.Value.run m' ρ')
  obtain ⟨hr, ha⟩ := h c
  obtain ⟨a0, a1⟩ := hagree c
  have e : ∀ x0 x1, x0 = m ((c.tc : Thread Cert.Kernel4Ideal.nD Cert.Kernel4Ideal.τ).loc Cert.Kernel4Ideal.main_arg0) → x1 = m ((c.tc : Thread Cert.Kernel4Ideal.nD Cert.Kernel4Ideal.τ).loc Cert.Kernel4Ideal.main_arg1)
      → Cert.Reference4Ideal.Read.val_main_v0 (F := Ideal) x0 x1 = (Cert.Kernel4Ideal.Gen.dats m 0 c).arrAt 2 Cert.Kernel4Ideal.cfg0.N := by
    rintro _ _ rfl rfl
    exact (Up.array m c).symm
  exact ⟨hr.trans (e _ _ a0 a1), ha⟩

/-- The down projection's input gradient is the derivative of the plain product. -/
theorem algebraic5 : Cert.algebraic_Kernel5Ideal_Reference5Ideal := by
  intro m ρ m' ρ' hpre hagree
  refine ⟨fun c => (Cert.Kernel5Ideal.Gen.dats m 0 c).arrAt 2 Cert.Kernel5Ideal.cfg0.N, Cert.Kernel5Ideal.Value.run_blocks m ρ, ?_⟩
  refine (θ_run Cert.Reference5Ideal.defs _ _).mono (fun _ h c => ?_) (Cert.Reference5Ideal.Value.run m' ρ')
  obtain ⟨hr, ha⟩ := h c
  obtain ⟨a0, a1⟩ := hagree c
  have e : ∀ x0 x1, x0 = m ((c.tc : Thread Cert.Kernel5Ideal.nD Cert.Kernel5Ideal.τ).loc Cert.Kernel5Ideal.main_arg0) → x1 = m ((c.tc : Thread Cert.Kernel5Ideal.nD Cert.Kernel5Ideal.τ).loc Cert.Kernel5Ideal.main_arg1)
      → Cert.Reference5Ideal.Read.val_main_v2 (F := Ideal) x0 x1 = (Cert.Kernel5Ideal.Gen.dats m 0 c).arrAt 2 Cert.Kernel5Ideal.cfg0.N := by
    rintro _ _ rfl rfl
    exact (DownDx.array m c).symm
  exact ⟨hr.trans (e _ _ a0 a1), ha⟩

/-- The up projection's weight gradient is the derivative of the plain product. -/
theorem algebraic6 : Cert.algebraic_Kernel6Ideal_Reference6Ideal := by
  intro m ρ m' ρ' hpre hagree
  refine ⟨fun c => (Cert.Kernel6Ideal.Gen.dats m 0 c).arrAt 2 Cert.Kernel6Ideal.cfg0.N, Cert.Kernel6Ideal.Value.run_blocks m ρ, ?_⟩
  refine (θ_run Cert.Reference6Ideal.defs _ _).mono (fun _ h c => ?_) (Cert.Reference6Ideal.Value.run m' ρ')
  obtain ⟨hr, ha⟩ := h c
  obtain ⟨a0, a1⟩ := hagree c
  have e : ∀ x0 x1, x0 = m ((c.tc : Thread Cert.Kernel6Ideal.nD Cert.Kernel6Ideal.τ).loc Cert.Kernel6Ideal.main_arg0) → x1 = m ((c.tc : Thread Cert.Kernel6Ideal.nD Cert.Kernel6Ideal.τ).loc Cert.Kernel6Ideal.main_arg1)
      → Cert.Reference6Ideal.Read.val_main_v3 (F := Ideal) x0 x1 = (Cert.Kernel6Ideal.Gen.dats m 0 c).arrAt 2 Cert.Kernel6Ideal.cfg0.N := by
    rintro _ _ rfl rfl
    exact (UpDw.array m c).symm
  exact ⟨hr.trans (e _ _ a0 a1), ha⟩

end Cert.Mm
end
-- ==== Proof.Mm.UpDxBlock.lean ====
/-
  The up projection's input gradient: what one grid point adds to the accumulator.
-/
module
public import proofs.«01_k».proof.Proof.Gen.Kernel7Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.UpDx
open Cert.Kernel7Ideal Cert.Kernel7Ideal.Gen Idealize.ShloMosaic Idealize.ShloMosaic.TcCoe Idealize.SL.Sem

theorem hz : (![0, 0] : Fin 2 → Nat) = fun _ => 0 := funext fun a => by fin_cases a <;> rfl

/-- A tile's product sums over the columns of both tiles. -/
theorem pay1_at (x : Vec Ideal S1024x1408 .bf16) (y : Vec Ideal S1024x1408 .bf16) (r : Fin 1024) (l : Fin 1024) :
    k0_pay1 (F := Ideal) x y (ValueIdx.ix2 r l) = ∑ k : Fin 1408, x (ValueIdx.ix2 r k) * y (ValueIdx.ix2 l k) := by
  pointwise [k0_pay1]
  rfl

/-- The first point stores the product itself. -/
theorem pay2_at (x : Vec Ideal S1024x1408 .bf16) (y : Vec Ideal S1024x1408 .bf16) (r : Fin 1024) (l : Fin 1024) :
    k0_pay2 (F := Ideal) x y (ValueIdx.ix2 r l) = ∑ k : Fin 1408, x (ValueIdx.ix2 r k) * y (ValueIdx.ix2 l k) := by
  pointwise [k0_pay2, k0_pay1]
  rfl

/-- The second point adds its product to what it finds. -/
theorem pay3_at (x : Vec Ideal S1024x1408 .bf16) (y : Vec Ideal S1024x1408 .bf16) (a : Vec Ideal S1024x1024 .f32) (r : Fin 1024) (l : Fin 1024) :
    k0_pay3 (F := Ideal) x y a (ValueIdx.ix2 r l) = a (ValueIdx.ix2 r l) + ∑ k : Fin 1408, x (ValueIdx.ix2 r k) * y (ValueIdx.ix2 l k) := by
  pointwise [k0_pay3, k0_pay1]
  rfl

variable (c : Dev nD) (i : grid0.Coords) (arg3 : Memref sig .tc .vmem S1024x1408 .bf16) (harg3 : arg3.IsWhole) (arg4 : Memref sig .tc .vmem S1024x1408 .bf16) (harg4 : arg4.IsWhole) (arg5 : Memref sig .tc .vmem S1024x1024 .f32) (harg5 : arg5.IsWhole) (arg6 : Memref sig .tc .vmem S1024x1024 .f32) (harg6 : arg6.IsWhole)
variable (x0 : Vec Ideal S1024x1408 .bf16) (x1 : Vec Ideal S1024x1408 .bf16) (xs : Vec Ideal S1024x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]

/-- The last point adds its product to the accumulator. -/
theorem soutB (hc0 : ¬cond0_0 i) (hc1 : cond0_1 i) (hc2 : cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]

/-- The last point writes the accumulator out. -/
theorem outB (hc0 : ¬cond0_0 i) (hc1 : cond0_1 i) (hc2 : cond0_2 i) : out0_B_2 (F := Ideal) c i arg3 harg3 arg4 harg4 arg5 harg5 arg6 harg6 hc0 hc1 hc2 x0 x1 xs = k0_pay3 (F := Ideal) x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x1408) hz]
  exact View.readCov_cons_toLoadRect _ _ _ _

end Cert.Mm.UpDx
end
-- ==== Proof.Mm.UpDx.lean ====
/-
  The up projection's input gradient: the two steps of the accumulator against the derivative of the plain product.
-/
module
public import proofs.«01_k».proof.Proof.Mm.UpDxBlock
public import proofs.«01_k».proof.Proof.Gen.Reference7Ideal.Read
public import proofs.«01_k».proof.Proof.Gen.Reference7Ideal.Run
public import Idealize.ShloMosaic.Lib.StableHlo.RunRead
public import proofs.«01_k».proof.Defs
@[expose] public section
set_option maxRecDepth 16384
set_option maxHeartbeats 1000000
noncomputable section
namespace Cert.Mm.UpDx
open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- The gradients in the narrow format are the gradients. -/
theorem V_v0 : (V m c main_v0 : S16384x2816.Idx → EReal) = m ((c : Thread nD τ).loc main_arg1) := by
  simp only [V, hostOps0, List.flatten_cons, List.flatten_nil, List.append_nil, List.cons_append, List.nil_append]
  after_reads_simp
  rfl

/-- The weights in the narrow format are the weights. -/
theorem V_v1 : (V m c main_v1 : S1024x2816.Idx → EReal) = m ((c : Thread nD τ).loc main_arg0) := by
  simp only [V, hostOps0, List.flatten_cons, List.flatten_nil, List.append_nil, List.cons_append, List.nil_append]
  after_reads_simp
  rfl

theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)

/-- What half `j` of the columns adds to entry `(a * 1024 + r, l)` of the gradient. -/
def part (X : S16384x2816.Idx → EReal) (Y : S1024x2816.Idx → EReal) (a : Fin 16) (r l : Fin 1024) (j : Fin 2) : EReal :=
  ∑ k : Fin 1408, X (ValueIdx.ix2 ⟨a.val * 1024 + r.val, by omega⟩ ⟨j.val * 1408 + k.val, by omega⟩) * Y (ValueIdx.ix2 l ⟨j.val * 1408 + k.val, by omega⟩)

/-- The product of one grid point is its half's part. -/
theorem prod_at (t : Fin cfg0.N) (a : Fin 16) (j : Fin 2) (ha : t.val / 2 = a.val) (hj : t.val % 2 = j.val) (r l : Fin 1024)
    (x : Vec Ideal S1024x1408 .bf16) (y : Vec Ideal S1024x1408 .bf16) (hx : x = iblk m c 0 t) (hy : y = iblk m c 1 t) :
    ∑ k : Fin 1408, x (ValueIdx.ix2 r k) * y (ValueIdx.ix2 l k)
      = part (m ((c : Thread nD τ).loc main_arg1)) (m ((c : Thread nD τ).loc main_arg0)) a r l j := by
  subst hx hy
  refine Finset.sum_congr rfl fun k _ => ?_
  congr 1
  · blk_simp [iblk, idx0]
    rw [V_v0]
    congr 1
    funext u
    apply Fin.ext
    match u with
    | ⟨0, _⟩ =>
      change _ = a.val * 1024 + r.val
      rw [← ha]
      blk_simp [idx0]
      try rfl
    | ⟨1, _⟩ =>
      change _ = j.val * 1408 + k.val
      rw [← hj]
      blk_simp [idx0]
      try rfl
  · blk_simp [iblk, idx1]
    rw [V_v1]
    congr 1
    funext u
    apply Fin.ext
    match u with
    | ⟨0, _⟩ =>
      change _ = l.val
      blk_simp [idx1]
      try rfl
    | ⟨1, _⟩ =>
      change _ = j.val * 1408 + k.val
      rw [← hj]
      blk_simp [idx1]
      try rfl

/-- The first step of a row block leaves the first part in the accumulator. -/
theorem acc_first (a : Fin 16) (r l : Fin 1024) (n : ℕ) (he : n = a.val * 2) (hn : n < cfg0.N) :
    ((outsAt0 m c n hn).2 : S1024x1024.Idx → EReal) (ValueIdx.ix2 r l)
      = part (m ((c : Thread nD τ).loc main_arg1)) (m ((c : Thread nD τ).loc main_arg0)) a r l 0 := by
  have e := outsAt0_A m c ⟨n, hn⟩ (by dsimp only; omega) (by dsimp only; omega) (by dsimp only; omega)
  dsimp only at e
  rw [e]
  dsimp only
  rw [soutA, pay2_at, prod_at m c ⟨n, hn⟩ a 0 (by dsimp only; omega) (by dsimp only; omega) r l _ _ rfl rfl]

/-- The second step writes the sum of both parts. -/
theorem out_at (a : Fin 16) (r l : Fin 1024) (n : ℕ) (he : n = a.val * 2 + 1) (hn : n < cfg0.N) :
    ((outsAt0 m c n hn).1 : S1024x1024.Idx → EReal) (ValueIdx.ix2 r l)
      = ∑ j : Fin 2, part (m ((c : Thread nD τ).loc main_arg1)) (m ((c : Thread nD τ).loc main_arg0)) a r l j := by
  have e := outsAt0_B m c ⟨n, hn⟩ (by dsimp only; omega) (by dsimp only; omega) (by dsimp only; omega)
  dsimp only at e
  rw [e]
  dsimp only
  rw [outB, pay3_at, prod_at m c ⟨n, hn⟩ a 1 (by dsimp only; omega) (by dsimp only; omega) r l _ _ rfl rfl,
    acc_first m c a r l (n - 1) (by omega), Fin.sum_univ_two]

/-- Both parts together are the reference's sum over every column. -/
theorem parts_sum (X : S16384x2816.Idx → EReal) (Y : S1024x2816.Idx → EReal) (a : Fin 16) (r l : Fin 1024) :
    ∑ j : Fin 2, part X Y a r l j
      = ∑ k : Fin 2816, X (ValueIdx.ix2 ⟨a.val * 1024 + r.val, by omega⟩ k) * Y (ValueIdx.ix2 l k) := by
  unfold part
  refine (Fintype.sum_prod_type' (fun (j : Fin 2) (k : Fin 1408) => X (ValueIdx.ix2 ⟨a.val * 1024 + r.val, by omega⟩ ⟨j.val * 1408 + k.val, by omega⟩)
    * Y (ValueIdx.ix2 l ⟨j.val * 1408 + k.val, by omega⟩))).symm.trans ?_
  refine Fintype.sum_equiv (finProdFinEquiv (m := 2) (n := 1408)) _ _ fun p => ?_
  have e : (finProdFinEquiv p : Fin (2 * 1408)) = ⟨p.1.val * 1408 + p.2.val, by omega⟩ := by
    apply Fin.ext
    change p.2.val + 1408 * p.1.val = p.1.val * 1408 + p.2.val
    omega
  rw [e]

/-- The array of input gradients. -/
theorem array : (dats m 0 c).arrAt 2 cfg0.N
    = Cert.Reference7Ideal.Read.val_main_v2 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have h1 := (flush0_2 t).1 hf
  have hN : t.val < 32 := lt_of_lt_of_eq t.isLt N_0
  rw [Cert.Reference7Ideal.Read.val_main_v2_apply]
  blk_simp
  rw [after0_2]
  rw [out_at m c ⟨t.val / 2, by omega⟩ r l t.val (by dsimp only; omega) t.isLt]
  refine (parts_sum _ _ _ r l).trans (Finset.sum_congr rfl fun k _ => ?_)
  congr 1
  · congr 1
    funext u
    apply Fin.ext
    match u with
    | ⟨0, _⟩ =>
      change _ = (((win0_2.blk t).view.emb (ValueIdx.ix2 r l)) 0).val
      blk_simp [idx2]
      try rfl
    | ⟨1, _⟩ => rfl
  · congr 1
    funext u
    apply Fin.ext
    match u with
    | ⟨0, _⟩ =>
      change _ = (((win0_2.blk t).view.emb (ValueIdx.ix2 r l)) 1).val
      blk_simp [idx2]
      try rfl
    | ⟨1, _⟩ => rfl

end Cert.Mm.UpDx
end
-- ==== Proof.Mm.DownDwBlock.lean ====
/-
  The down projection's weight gradient: what one grid point adds to the accumulator.
-/
module
public import proofs.«01_k».proof.Proof.Gen.Kernel8Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.DownDw
open Cert.Kernel8Ideal Cert.Kernel8Ideal.Gen Idealize.ShloMosaic Idealize.ShloMosaic.TcCoe Idealize.SL.Sem

theorem hz : (![0, 0] : Fin 2 → Nat) = fun _ => 0 := funext fun a => by fin_cases a <;> rfl

/-- A tile's product sums over the rows of both tiles. -/
theorem pay1_at (x : Vec Ideal S1024x1408 .bf16) (y : Vec Ideal S1024x1024 .f32) (r : Fin 1408) (l : Fin 1024) :
    k0_pay1 (F := Ideal) x y (ValueIdx.ix2 r l) = ∑ k : Fin 1024, x (ValueIdx.ix2 k r) * y (ValueIdx.ix2 k l) := by
  pointwise [k0_pay1]
  rfl

/-- The first point stores the product itself. -/
theorem pay2_at (x : Vec Ideal S1024x1408 .bf16) (y : Vec Ideal S1024x1024 .f32) (r : Fin 1408) (l : Fin 1024) :
    k0_pay2 (F := Ideal) x y (ValueIdx.ix2 r l) = ∑ k : Fin 1024, x (ValueIdx.ix2 k r) * y (ValueIdx.ix2 k l) := by
  pointwise [k0_pay2, k0_pay1]
  rfl

/-- Every later point adds its product to what it finds. -/
theorem pay3_at (x : Vec Ideal S1024x1408 .bf16) (y : Vec Ideal S1024x1024 .f32) (a : Vec Ideal S1408x1024 .f32) (r : Fin 1408) (l : Fin 1024) :
    k0_pay3 (F := Ideal) x y a (ValueIdx.ix2 r l) = a (ValueIdx.ix2 r l) + ∑ k : Fin 1024, x (ValueIdx.ix2 k r) * y (ValueIdx.ix2 k l) := by
  pointwise [k0_pay3, k0_pay1]
  rfl

variable (c : Dev nD) (i : grid0.Coords) (arg3 : Memref sig .tc .vmem S1024x1408 .bf16) (harg3 : arg3.IsWhole) (arg4 : Memref sig .tc .vmem S1024x1024 .f32) (harg4 : arg4.IsWhole) (arg5 : Memref sig .tc .vmem S1408x1024 .f32) (harg5 : arg5.IsWhole) (arg6 : Memref sig .tc .vmem S1408x1024 .f32) (harg6 : arg6.IsWhole)
variable (x0 : Vec Ideal S1024x1408 .bf16) (x1 : Vec Ideal S1024x1024 .f32) (xs : Vec Ideal S1408x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1408) hz, View.ld_unit_zero (S := S1024x1024) hz, View.ld_unit_zero (S := S1408x1024) hz]

/-- A middle point adds its product to the accumulator. -/
theorem soutB (hc0 : ¬cond0_0 i) (hc1 : cond0_1 i) (hc2 : ¬cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1408) hz, View.ld_unit_zero (S := S1024x1024) hz, View.ld_unit_zero (S := S1408x1024) hz]

/-- The last point adds its product to the accumulator. -/
theorem soutC (hc0 : ¬cond0_0 i) (hc1 : cond0_1 i) (hc2 : cond0_2 i) : sout0_C_0 (F := Ideal) c i arg3 harg3 arg4 harg4 arg5 harg5 arg6 harg6 hc0 hc1 hc2 x0 x1 xs = k0_pay3 (F := Ideal) x0 x1 xs := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1408) hz, View.ld_unit_zero (S := S1024x1024) hz, View.ld_unit_zero (S := S1408x1024) hz]

/-- The last point writes the accumulator out. -/
theorem outC (hc0 : ¬cond0_0 i) (hc1 : cond0_1 i) (hc2 : cond0_2 i) : out0_C_2 (F := Ideal) c i arg3 harg3 arg4 harg4 arg5 harg5 arg6 harg6 hc0 hc1 hc2 x0 x1 xs = k0_pay3 (F := Ideal) x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1408) hz, View.ld_unit_zero (S := S1024x1024) hz, View.ld_unit_zero (S := S1408x1024) hz]
  exact View.readCov_cons_toLoadRect _ _ _ _

end Cert.Mm.DownDw
end
-- ==== Proof.Mm.DownDw.lean ====
/-
  The down projection's weight gradient: the sixteen steps of the accumulator against the derivative of the plain product.
-/
module
public import proofs.«01_k».proof.Proof.Mm.DownDwBlock
public import proofs.«01_k».proof.Proof.Gen.Reference8Ideal.Read
public import proofs.«01_k».proof.Proof.Gen.Reference8Ideal.Run
public import Idealize.ShloMosaic.Lib.StableHlo.RunRead
public import proofs.«01_k».proof.Defs
@[expose] public section
set_option maxRecDepth 16384
set_option maxHeartbeats 1000000
noncomputable section
namespace Cert.Mm.DownDw
open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The rows in the narrow format are the rows. -/
theorem V_v0 : (V m c main_v0 : S16384x2816.Idx → EReal) = m ((c : Thread nD τ).loc main_arg0) := by
  simp only [V, hostOps0, List.flatten_cons, List.flatten_nil, List.append_nil, List.cons_append, List.nil_append]
  after_reads_simp
  rfl

/-- The incoming gradient is untouched before the call. -/
theorem V_arg1 : (V m c main_arg1 : S16384x1024.Idx → EReal) = m ((c : Thread nD τ).loc main_arg1) := by
  simp only [V, hostOps0, List.flatten_cons, List.flatten_nil, List.append_nil, List.cons_append, List.nil_append]
  after_reads_simp

theorem idx0 : ∀ t : Fin cfg0.N, win0_0.index t = ![t.val % 16, t.val / 16] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![t.val / 16, 0] := (by decide +kernel : ∀ t : Fin grid0.N, _)

/-- What block `j` of 1024 rows adds to entry `(a * 1408 + r, l)` of the gradient. -/
def part (X : S16384x2816.Idx → EReal) (Y : S16384x1024.Idx → EReal) (a : Fin 2) (r : Fin 1408) (l : Fin 1024) (j : Fin 16) : EReal :=
  ∑ k : Fin 1024, X (ValueIdx.ix2 ⟨j.val * 1024 + k.val, by omega⟩ ⟨a.val * 1408 + r.val, by omega⟩) * Y (ValueIdx.ix2 ⟨j.val * 1024 + k.val, by omega⟩ l)

/-- The product of one grid point is its block's part. -/
theorem prod_at (t : Fin cfg0.N) (a : Fin 2) (j : Fin 16) (ha : t.val / 16 = a.val) (hj : t.val % 16 = j.val) (r : Fin 1408) (l : Fin 1024)
    (x : Vec Ideal S1024x1408 .bf16) (y : Vec Ideal S1024x1024 .f32) (hx : x = iblk m c 0 t) (hy : y = iblk m c 1 t) :
    ∑ k : Fin 1024, x (ValueIdx.ix2 k r) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_v0]
    congr 1
    funext u
    apply Fin.ext
    match u with
    | ⟨0, _⟩ =>
      change _ = j.val * 1024 + k.val
      rw [← hj]
      blk_simp [idx0]
      try rfl
    | ⟨1, _⟩ =>
      change _ = a.val * 1408 + r.val
      rw [← ha]
      blk_simp [idx0]
      try rfl
  · blk_simp [iblk, idx1]
    rw [V_arg1]
    congr 1
    funext u
    apply Fin.ext
    match u with
    | ⟨0, _⟩ =>
      change _ = j.val * 1024 + k.val
      rw [← hj]
      blk_simp [idx1]
      try rfl
    | ⟨1, _⟩ =>
      change _ = l.val
      blk_simp [idx1]
      try rfl

/-- Step `b` of a row half leaves the sum of the first `b + 1` parts in the accumulator, and the last step writes it out. -/
theorem acc_at (a : Fin 2) (r : Fin 1408) (l : Fin 1024) : ∀ (b : ℕ) (hb : b < 16) (n : ℕ) (_ : n = a.val * 16 + b) (hn : n < cfg0.N),
    ((outsAt0 m c n hn).2 : S1408x1024.Idx → EReal) (ValueIdx.ix2 r l)
      = ∑ j : Fin (b + 1), part (m ((c : Thread nD τ).loc main_arg0)) (m ((c : Thread nD τ).loc main_arg1)) a r l ⟨j.val, by omega⟩
    ∧ (b = 15 → ((outsAt0 m c n hn).1 : S1408x1024.Idx → EReal) (ValueIdx.ix2 r l)
      = ∑ j : Fin (b + 1), part (m ((c : Thread nD τ).loc main_arg0)) (m ((c : Thread nD τ).loc main_arg1)) a r l ⟨j.val, by omega⟩)
  | 0, _, n, he, hn => by
    refine ⟨?_, fun h => absurd h (by decide)⟩
    have e := outsAt0_A m c ⟨n, hn⟩ (by dsimp only; omega) (by dsimp only; omega) (by dsimp only; omega)
    dsimp only at e
    rw [e]
    dsimp only
    rw [soutA, pay2_at, prod_at m c ⟨n, hn⟩ a 0 (by dsimp only; omega) (by dsimp only; omega) r l _ _ rfl rfl]
    simp
  | b + 1, hb, n, he, hn => by
    have ih := (acc_at a r l b (by omega) (n - 1) (by omega) (by omega)).1
    have step : ((outsAt0 m c (n - 1) (by omega)).2 : S1408x1024.Idx → EReal) (ValueIdx.ix2 r l)
        + part (m ((c : Thread nD τ).loc main_arg0)) (m ((c : Thread nD τ).loc main_arg1)) a r l ⟨b + 1, hb⟩
        = ∑ j : Fin (b + 1 + 1), part (m ((c : Thread nD τ).loc main_arg0)) (m ((c : Thread nD τ).loc main_arg1)) a r l ⟨j.val, by omega⟩ := by
      rw [ih, Fin.sum_univ_castSucc (n := b + 1)]
      rfl
    have pr := prod_at m c ⟨n, hn⟩ a ⟨b + 1, hb⟩ (by dsimp only; omega) (by dsimp only; omega) r l _ _ rfl rfl
    by_cases h15 : b + 1 = 15
    · have e := outsAt0_C m c ⟨n, hn⟩ (by dsimp only; omega) (by dsimp only; omega) (by dsimp only; omega)
      dsimp only at e
      rw [e]
      dsimp only
      refine ⟨?_, fun _ => ?_⟩
      · rw [soutC, pay3_at, pr]
        exact step
      · rw [outC, pay3_at, pr]
        exact step
    · refine ⟨?_, fun h => absurd h h15⟩
      have e := outsAt0_B m c ⟨n, hn⟩ (by dsimp only; omega) (by dsimp only; omega) (by dsimp only; omega)
      dsimp only at e
      rw [e]
      dsimp only
      rw [soutB, pay3_at, pr]
      exact step

/-- All sixteen parts together are the reference's sum over every row. -/
theorem parts_sum (X : S16384x2816.Idx → EReal) (Y : S16384x1024.Idx → EReal) (a : Fin 2) (r : Fin 1408) (l : Fin 1024) :
    ∑ j : Fin 16, part X Y a r l j
      = ∑ k : Fin 16384, Y (ValueIdx.ix2 k l) * X (ValueIdx.ix2 k ⟨a.val * 1408 + r.val, by omega⟩) := by
  unfold part
  refine (Fintype.sum_prod_type' (fun (j : Fin 16) (k : Fin 1024) => X (ValueIdx.ix2 ⟨j.val * 1024 + k.val, by omega⟩ ⟨a.val * 1408 + r.val, by omega⟩)
    * Y (ValueIdx.ix2 ⟨j.val * 1024 + k.val, by omega⟩ l))).symm.trans ?_
  refine Fintype.sum_equiv (finProdFinEquiv (m := 16) (n := 1024)) _ _ fun p => ?_
  rw [mul_comm]
  have e : (finProdFinEquiv p : Fin (16 * 1024)) = ⟨p.1.val * 1024 + p.2.val, by omega⟩ := by
    apply Fin.ext
    change p.2.val + 1024 * p.1.val = p.1.val * 1024 + p.2.val
    omega
  rw [e]

/-- The array of weight gradients. -/
theorem array : (dats m 0 c).arrAt 2 cfg0.N
    = Cert.Reference8Ideal.Read.val_main_v3 (F := Ideal) (m ((c : Thread nD τ).loc main_arg0)) (m ((c : Thread nD τ).loc main_arg1)) := by
  refine (dats m 0 c).arrAt_eq_of_covers 2 _ (by decide +kernel) fun t hf y => ?_
  have hy : ∃ (r : Fin 1408) (l : Fin 1024), y = ValueIdx.ix2 r l := ⟨y 0, y 1, by funext u; match u with | ⟨0, _⟩ => rfl | ⟨1, _⟩ => rfl⟩
  obtain ⟨r, l, rfl⟩ := hy
  have h15 := (flush0_2 t).1 hf
  have hN : t.val < 32 := lt_of_lt_of_eq t.isLt N_0
  rw [Cert.Reference8Ideal.Read.val_main_v3_apply, Cert.Reference8Ideal.Read.val_main_v2_apply]
  blk_simp
  rw [after0_2]
  rw [(acc_at m c ⟨t.val / 16, by omega⟩ r l 15 (by omega) t.val (by dsimp only; omega) t.isLt).2 rfl]
  refine (parts_sum _ _ _ r l).trans (Finset.sum_congr rfl fun k _ => ?_)
  congr 1
  · congr 1
    funext u
    apply Fin.ext
    match u with
    | ⟨0, _⟩ => rfl
    | ⟨1, _⟩ =>
      change _ = (((win0_2.blk t).view.emb (ValueIdx.ix2 r l)) 1).val
      blk_simp [idx2]
      try rfl
  · congr 1
    funext u
    apply Fin.ext
    match u with
    | ⟨0, _⟩ => rfl
    | ⟨1, _⟩ =>
      change _ = (((win0_2.blk t).view.emb (ValueIdx.ix2 r l)) 0).val
      blk_simp [idx2]
      try rfl

end Cert.Mm.DownDw
end
-- ==== Proof.Mm.Square.lean ====
/-
  The square projections: the run against the plain product.
-/
module
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.Square
open Cert.Kernel10Ideal Cert.Kernel10Ideal.Gen Idealize.ShloMosaic Idealize.ShloMosaic.TcCoe Idealize.SL.Sem

theorem hz : (![0, 0] : Fin 2 → Nat) = fun _ => 0 := funext fun a => by fin_cases a <;> rfl

/-- A tile's product is the sum over the inner index. -/
theorem pay_at (x : Vec Ideal S1024x1024 .bf16) (y : Vec Ideal S1024x1024 .bf16) (r : Fin 1024) (l : Fin 1024) :
    k0_pay1 (F := Ideal) x y (ValueIdx.ix2 r l) = ∑ k : Fin 1024, x (ValueIdx.ix2 r k) * y (ValueIdx.ix2 k l) := by
  pointwise [k0_pay1]
  rfl

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The weights in the narrow format are the weights. -/
theorem V_v1 : (V m c main_v1 : S1024x1024.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![(grid0.coords t 0).val, (grid0.coords t 2).val] := (by decide +kernel : ∀ t : Fin grid0.N, _)
theorem idx1 : ∀ t : Fin cfg0.N, win0_1.index t = ![(grid0.coords t 2).val, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem one : ∀ t : Fin cfg0.N, (grid0.coords t 2).val = 0 := (by decide +kernel : ∀ t : Fin grid0.N, _)

/-- The array of products. -/
theorem array : (dats m 0 c).arrAt 2 cfg0.N
    = Cert.Reference10Ideal.Read.val_main_v0 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  rw [Cert.Reference10Ideal.Read.val_main_v0_apply]
  blk_simp
  rw [after0_2]
  unfold out0_2
  rw [View.canon_unit_zero hz, View.ld_unit_zero (S := S1024x1024) hz, View.ld_unit_zero (S := S1024x1024) hz]
  refine (pay_at _ _ r l).trans (Finset.sum_congr rfl fun k _ => ?_)
  congr 1
  · blk_simp [iblk, idx0]
    rw [V_v0]
    congr 1
    funext u
    apply Fin.ext
    match u with
    | ⟨0, _⟩ =>
      change _ = (((win0_2.blk t).view.emb (ValueIdx.ix2 r l)) 0).val
      blk_simp [idx0, idx2]
      try rfl
    | ⟨1, _⟩ =>
      change _ = k.val
      blk_simp [idx0, idx2, one]
      try rfl
  · blk_simp [iblk, idx1]
    rw [V_v1]
    congr 1
    funext u
    apply Fin.ext
    match u with
    | ⟨0, _⟩ =>
      change _ = k.val
      blk_simp [idx1, idx2, one]
      try rfl
    | ⟨1, _⟩ =>
      change _ = (((win0_2.blk t).view.emb (ValueIdx.ix2 r l)) 1).val
      blk_simp [idx1, idx2]
      try rfl

end Cert.Mm.Square
end
-- ==== Proof.Mm.SquareDwBlock.lean ====
/-
  The square projections' weight gradient: what one grid point adds to the accumulator.
-/
module
public import proofs.«01_k».proof.Proof.Gen.Kernel11Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.SquareDw
open Cert.Kernel11Ideal Cert.Kernel11Ideal.Gen Idealize.ShloMosaic Idealize.ShloMosaic.TcCoe Idealize.SL.Sem

theorem hz : (![0, 0] : Fin 2 → Nat) = fun _ => 0 := funext fun a => by fin_cases a <;> rfl

/-- A tile's product sums over the rows of both tiles. -/
theorem pay1_at (x : Vec Ideal S1024x1024 .bf16) (y : Vec Ideal S1024x1024 .bf16) (r : Fin 1024) (l : Fin 1024) :
    k0_pay1 (F := Ideal) x y (ValueIdx.ix2 r l) = ∑ k : Fin 1024, x (ValueIdx.ix2 k r) * y (ValueIdx.ix2 k l) := by
  pointwise [k0_pay1]
  rfl

/-- The first point stores the product itself. -/
theorem pay2_at (x : Vec Ideal S1024x1024 .bf16) (y : Vec Ideal S1024x1024 .bf16) (r : Fin 1024) (l : Fin 1024) :
    k0_pay2 (F := Ideal) x y (ValueIdx.ix2 r l) = ∑ k : Fin 1024, x (ValueIdx.ix2 k r) * y (ValueIdx.ix2 k l) := by
  pointwise [k0_pay2, k0_pay1]
  rfl

/-- Every later point adds its product to what it finds. -/
theorem pay3_at (x : Vec Ideal S1024x1024 .bf16) (y : Vec Ideal S1024x1024 .bf16) (a : Vec Ideal S1024x1024 .f32) (r : Fin 1024) (l : Fin 1024) :
    k0_pay3 (F := Ideal) x y a (ValueIdx.ix2 r l) = a (ValueIdx.ix2 r l) + ∑ k : Fin 1024, x (ValueIdx.ix2 k r) * y (ValueIdx.ix2 k l) := by
  pointwise [k0_pay3, k0_pay1]
  rfl

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
variable (x0 : Vec Ideal S1024x1024 .bf16) (x1 : Vec Ideal S1024x1024 .bf16) (xs : Vec Ideal S1024x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]

/-- A middle point adds its product to the accumulator. -/
theorem soutB (hc0 : ¬cond0_0 i) (hc1 : cond0_1 i) (hc2 : ¬cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]

/-- The last point adds its product to the accumulator. -/
theorem soutC (hc0 : ¬cond0_0 i) (hc1 : cond0_1 i) (hc2 : cond0_2 i) : sout0_C_0 (F := Ideal) c i arg3 harg3 arg4 harg4 arg5 harg5 arg6 harg6 hc0 hc1 hc2 x0 x1 xs = k0_pay3 (F := Ideal) x0 x1 xs := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]

/-- The last point writes the accumulator out. -/
theorem outC (hc0 : ¬cond0_0 i) (hc1 : cond0_1 i) (hc2 : cond0_2 i) : out0_C_2 (F := Ideal) c i arg3 harg3 arg4 harg4 arg5 harg5 arg6 harg6 hc0 hc1 hc2 x0 x1 xs = k0_pay3 (F := Ideal) x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]
  exact View.readCov_cons_toLoadRect _ _ _ _

end Cert.Mm.SquareDw
end
-- ==== Proof.Mm.SquareDw.lean ====
/-
  The square projections' weight gradient: the sixteen steps of the accumulator against the derivative of the plain product.
-/
module
public import proofs.«01_k».proof.Proof.Mm.SquareDwBlock
public import proofs.«01_k».proof.Proof.Gen.Reference11Ideal.Read
public import proofs.«01_k».proof.Proof.Gen.Reference11Ideal.Run
public import Idealize.ShloMosaic.Lib.StableHlo.RunRead
public import proofs.«01_k».proof.Defs
@[expose] public section
set_option maxRecDepth 16384
set_option maxHeartbeats 1000000
noncomputable section
namespace Cert.Mm.SquareDw
open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The gradients in the narrow format are the gradients. -/
theorem V_v1 : (V m c main_v1 : S16384x1024.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![0, 0] := (by decide +kernel : ∀ t : Fin grid0.N, _)

/-- What block `j` of 1024 rows adds to entry `(r, a * 1024 + l)` of the gradient. -/
def part (X : S16384x1024.Idx → EReal) (Y : S16384x1024.Idx → EReal) (a : Fin 1) (r : Fin 1024) (l : Fin 1024) (j : Fin 16) : EReal :=
  ∑ k : Fin 1024, X (ValueIdx.ix2 ⟨j.val * 1024 + k.val, by omega⟩ r) * Y (ValueIdx.ix2 ⟨j.val * 1024 + k.val, by omega⟩ ⟨a.val * 1024 + l.val, by omega⟩)

/-- The product of one grid point is its block's part. -/
theorem prod_at (t : Fin cfg0.N) (a : Fin 1) (j : Fin 16) (ha : t.val / 16 = a.val) (hj : t.val % 16 = j.val) (r : Fin 1024) (l : Fin 1024)
    (x : Vec Ideal S1024x1024 .bf16) (y : Vec Ideal S1024x1024 .bf16) (hx : x = iblk m c 0 t) (hy : y = iblk m c 1 t) :
    ∑ k : Fin 1024, x (ValueIdx.ix2 k r) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_v0]
    congr 1
    funext u
    apply Fin.ext
    match u with
    | ⟨0, _⟩ =>
      change _ = j.val * 1024 + k.val
      rw [← hj]
      blk_simp [idx0]
      try rfl
    | ⟨1, _⟩ =>
      change _ = r.val
      blk_simp [idx0]
      try rfl
  · blk_simp [iblk, idx1]
    rw [V_v1]
    congr 1
    funext u
    apply Fin.ext
    match u with
    | ⟨0, _⟩ =>
      change _ = j.val * 1024 + k.val
      rw [← hj]
      blk_simp [idx1]
      try rfl
    | ⟨1, _⟩ =>
      change _ = l.val
      blk_simp [idx1]
      try rfl

/-- Step `b` of a column half leaves the sum of the first `b + 1` parts in the accumulator, and the last step writes it out. -/
theorem acc_at (a : Fin 1) (r : Fin 1024) (l : Fin 1024) : ∀ (b : ℕ) (hb : b < 16) (n : ℕ) (_ : n = a.val * 16 + b) (hn : n < cfg0.N),
    ((outsAt0 m c n hn).2 : S1024x1024.Idx → EReal) (ValueIdx.ix2 r l)
      = ∑ j : Fin (b + 1), part (m ((c : Thread nD τ).loc main_arg0)) (m ((c : Thread nD τ).loc main_arg1)) a r l ⟨j.val, by omega⟩
    ∧ (b = 15 → ((outsAt0 m c n hn).1 : S1024x1024.Idx → EReal) (ValueIdx.ix2 r l)
      = ∑ j : Fin (b + 1), part (m ((c : Thread nD τ).loc main_arg0)) (m ((c : Thread nD τ).loc main_arg1)) a r l ⟨j.val, by omega⟩)
  | 0, _, n, he, hn => by
    refine ⟨?_, fun h => absurd h (by decide)⟩
    have e := outsAt0_A m c ⟨n, hn⟩ (by dsimp only; omega) (by dsimp only; omega) (by dsimp only; omega)
    dsimp only at e
    rw [e]
    dsimp only
    rw [soutA, pay2_at, prod_at m c ⟨n, hn⟩ a 0 (by dsimp only; omega) (by dsimp only; omega) r l _ _ rfl rfl]
    simp
  | b + 1, hb, n, he, hn => by
    have ih := (acc_at a r l b (by omega) (n - 1) (by omega) (by omega)).1
    have step : ((outsAt0 m c (n - 1) (by omega)).2 : S1024x1024.Idx → EReal) (ValueIdx.ix2 r l)
        + part (m ((c : Thread nD τ).loc main_arg0)) (m ((c : Thread nD τ).loc main_arg1)) a r l ⟨b + 1, hb⟩
        = ∑ j : Fin (b + 1 + 1), part (m ((c : Thread nD τ).loc main_arg0)) (m ((c : Thread nD τ).loc main_arg1)) a r l ⟨j.val, by omega⟩ := by
      rw [ih, Fin.sum_univ_castSucc (n := b + 1)]
      rfl
    have pr := prod_at m c ⟨n, hn⟩ a ⟨b + 1, hb⟩ (by dsimp only; omega) (by dsimp only; omega) r l _ _ rfl rfl
    by_cases h15 : b + 1 = 15
    · have e := outsAt0_C m c ⟨n, hn⟩ (by dsimp only; omega) (by dsimp only; omega) (by dsimp only; omega)
      dsimp only at e
      rw [e]
      dsimp only
      refine ⟨?_, fun _ => ?_⟩
      · rw [soutC, pay3_at, pr]
        exact step
      · rw [outC, pay3_at, pr]
        exact step
    · refine ⟨?_, fun h => absurd h h15⟩
      have e := outsAt0_B m c ⟨n, hn⟩ (by dsimp only; omega) (by dsimp only; omega) (by dsimp only; omega)
      dsimp only at e
      rw [e]
      dsimp only
      rw [soutB, pay3_at, pr]
      exact step

/-- All sixteen parts together are the reference's sum over every row. -/
theorem parts_sum (X : S16384x1024.Idx → EReal) (Y : S16384x1024.Idx → EReal) (a : Fin 1) (r : Fin 1024) (l : Fin 1024) :
    ∑ j : Fin 16, part X Y a r l j
      = ∑ k : Fin 16384, Y (ValueIdx.ix2 k ⟨a.val * 1024 + l.val, by omega⟩) * X (ValueIdx.ix2 k r) := by
  unfold part
  refine (Fintype.sum_prod_type' (fun (j : Fin 16) (k : Fin 1024) => X (ValueIdx.ix2 ⟨j.val * 1024 + k.val, by omega⟩ r)
    * Y (ValueIdx.ix2 ⟨j.val * 1024 + k.val, by omega⟩ ⟨a.val * 1024 + l.val, by omega⟩))).symm.trans ?_
  refine Fintype.sum_equiv (finProdFinEquiv (m := 16) (n := 1024)) _ _ fun p => ?_
  rw [mul_comm]
  have e : (finProdFinEquiv p : Fin (16 * 1024)) = ⟨p.1.val * 1024 + p.2.val, by omega⟩ := by
    apply Fin.ext
    change p.2.val + 1024 * p.1.val = p.1.val * 1024 + p.2.val
    omega
  rw [e]

/-- The array of weight gradients. -/
theorem array : (dats m 0 c).arrAt 2 cfg0.N
    = Cert.Reference11Ideal.Read.val_main_v3 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have h15 := (flush0_2 t).1 hf
  have hN : t.val < 16 := lt_of_lt_of_eq t.isLt N_0
  rw [Cert.Reference11Ideal.Read.val_main_v3_apply, Cert.Reference11Ideal.Read.val_main_v2_apply]
  blk_simp
  rw [after0_2]
  rw [(acc_at m c ⟨t.val / 16, by omega⟩ r l 15 (by omega) t.val (by dsimp only; omega) t.isLt).2 rfl]
  refine (parts_sum _ _ _ r l).trans (Finset.sum_congr rfl fun k _ => ?_)
  congr 1
  · congr 1
    funext u
    apply Fin.ext
    match u with
    | ⟨0, _⟩ => rfl
    | ⟨1, _⟩ =>
      change t.val / 16 * 1024 + l.val = (((win0_2.blk t).view.emb (ValueIdx.ix2 r l)) 1).val
      rw [Nat.div_eq_of_lt hN]
      blk_simp [idx2]
      try rfl
  · congr 1
    funext u
    apply Fin.ext
    match u with
    | ⟨0, _⟩ => rfl
    | ⟨1, _⟩ =>
      change _ = (((win0_2.blk t).view.emb (ValueIdx.ix2 r l)) 0).val
      blk_simp [idx2]
      try rfl

end Cert.Mm.SquareDw
end
-- ==== Proof.Mm.Glu.lean ====
/-
  The gated unit projection: the run against the plain product.
-/
module
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.Glu
open Cert.Kernel12Ideal Cert.Kernel12Ideal.Gen Idealize.ShloMosaic Idealize.ShloMosaic.TcCoe Idealize.SL.Sem

theorem hz : (![0, 0] : Fin 2 → Nat) = fun _ => 0 := funext fun a => by fin_cases a <;> rfl

/-- A tile's product is the sum over the inner index. -/
theorem pay_at (x : Vec Ideal S1024x1024 .bf16) (y : Vec Ideal S1024x1024 .bf16) (r : Fin 1024) (l : Fin 1024) :
    k0_pay1 (F := Ideal) x y (ValueIdx.ix2 r l) = ∑ k : Fin 1024, x (ValueIdx.ix2 r k) * y (ValueIdx.ix2 k l) := by
  pointwise [k0_pay1]
  rfl

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The weights in the narrow format are the weights. -/
theorem V_v1 : (V m c main_v1 : S1024x2048.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![(grid0.coords t 0).val, (grid0.coords t 2).val] := (by decide +kernel : ∀ t : Fin grid0.N, _)
theorem idx1 : ∀ t : Fin cfg0.N, win0_1.index t = ![(grid0.coords t 2).val, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem one : ∀ t : Fin cfg0.N, (grid0.coords t 2).val = 0 := (by decide +kernel : ∀ t : Fin grid0.N, _)

/-- The array of products. -/
theorem array : (dats m 0 c).arrAt 2 cfg0.N
    = Cert.Reference12Ideal.Read.val_main_v0 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  rw [Cert.Reference12Ideal.Read.val_main_v0_apply]
  blk_simp
  rw [after0_2]
  unfold out0_2
  rw [View.canon_unit_zero hz, View.ld_unit_zero (S := S1024x1024) hz, View.ld_unit_zero (S := S1024x1024) hz]
  refine (pay_at _ _ r l).trans (Finset.sum_congr rfl fun k _ => ?_)
  congr 1
  · blk_simp [iblk, idx0]
    rw [V_v0]
    congr 1
    funext u
    apply Fin.ext
    match u with
    | ⟨0, _⟩ =>
      change _ = (((win0_2.blk t).view.emb (ValueIdx.ix2 r l)) 0).val
      blk_simp [idx0, idx2]
      try rfl
    | ⟨1, _⟩ =>
      change _ = k.val
      blk_simp [idx0, idx2, one]
      try rfl
  · blk_simp [iblk, idx1]
    rw [V_v1]
    congr 1
    funext u
    apply Fin.ext
    match u with
    | ⟨0, _⟩ =>
      change _ = k.val
      blk_simp [idx1, idx2, one]
      try rfl
    | ⟨1, _⟩ =>
      change _ = (((win0_2.blk t).view.emb (ValueIdx.ix2 r l)) 1).val
      blk_simp [idx1, idx2]
      try rfl

end Cert.Mm.Glu
end
-- ==== Proof.Mm.GluDwBlock.lean ====
/-
  The gated unit projection's weight gradient: what one grid point adds to the accumulator.
-/
module
public import proofs.«01_k».proof.Proof.Gen.Kernel13Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.GluDw
open Cert.Kernel13Ideal Cert.Kernel13Ideal.Gen Idealize.ShloMosaic Idealize.ShloMosaic.TcCoe Idealize.SL.Sem

theorem hz : (![0, 0] : Fin 2 → Nat) = fun _ => 0 := funext fun a => by fin_cases a <;> rfl

/-- A tile's product sums over the rows of both tiles. -/
theorem pay1_at (x : Vec Ideal S1024x1024 .bf16) (y : Vec Ideal S1024x1024 .bf16) (r : Fin 1024) (l : Fin 1024) :
    k0_pay1 (F := Ideal) x y (ValueIdx.ix2 r l) = ∑ k : Fin 1024, x (ValueIdx.ix2 k r) * y (ValueIdx.ix2 k l) := by
  pointwise [k0_pay1]
  rfl

/-- The first point stores the product itself. -/
theorem pay2_at (x : Vec Ideal S1024x1024 .bf16) (y : Vec Ideal S1024x1024 .bf16) (r : Fin 1024) (l : Fin 1024) :
    k0_pay2 (F := Ideal) x y (ValueIdx.ix2 r l) = ∑ k : Fin 1024, x (ValueIdx.ix2 k r) * y (ValueIdx.ix2 k l) := by
  pointwise [k0_pay2, k0_pay1]
  rfl

/-- Every later point adds its product to what it finds. -/
theorem pay3_at (x : Vec Ideal S1024x1024 .bf16) (y : Vec Ideal S1024x1024 .bf16) (a : Vec Ideal S1024x1024 .f32) (r : Fin 1024) (l : Fin 1024) :
    k0_pay3 (F := Ideal) x y a (ValueIdx.ix2 r l) = a (ValueIdx.ix2 r l) + ∑ k : Fin 1024, x (ValueIdx.ix2 k r) * y (ValueIdx.ix2 k l) := by
  pointwise [k0_pay3, k0_pay1]
  rfl

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
variable (x0 : Vec Ideal S1024x1024 .bf16) (x1 : Vec Ideal S1024x1024 .bf16) (xs : Vec Ideal S1024x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]

/-- A middle point adds its product to the accumulator. -/
theorem soutB (hc0 : ¬cond0_0 i) (hc1 : cond0_1 i) (hc2 : ¬cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]

/-- The last point adds its product to the accumulator. -/
theorem soutC (hc0 : ¬cond0_0 i) (hc1 : cond0_1 i) (hc2 : cond0_2 i) : sout0_C_0 (F := Ideal) c i arg3 harg3 arg4 harg4 arg5 harg5 arg6 harg6 hc0 hc1 hc2 x0 x1 xs = k0_pay3 (F := Ideal) x0 x1 xs := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]

/-- The last point writes the accumulator out. -/
theorem outC (hc0 : ¬cond0_0 i) (hc1 : cond0_1 i) (hc2 : cond0_2 i) : out0_C_2 (F := Ideal) c i arg3 harg3 arg4 harg4 arg5 harg5 arg6 harg6 hc0 hc1 hc2 x0 x1 xs = k0_pay3 (F := Ideal) x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz]
  exact View.readCov_cons_toLoadRect _ _ _ _

end Cert.Mm.GluDw
end
-- ==== Proof.Mm.GluDw.lean ====
/-
  The gated unit projection's weight gradient: the sixteen steps of the accumulator against the derivative of the plain product.
-/
module
public import proofs.«01_k».proof.Proof.Mm.GluDwBlock
public import proofs.«01_k».proof.Proof.Gen.Reference13Ideal.Read
public import proofs.«01_k».proof.Proof.Gen.Reference13Ideal.Run
public import Idealize.ShloMosaic.Lib.StableHlo.RunRead
public import proofs.«01_k».proof.Defs
@[expose] public section
set_option maxRecDepth 16384
set_option maxHeartbeats 1000000
noncomputable section
namespace Cert.Mm.GluDw
open Cert.Kernel13Ideal Cert.Kernel13Ideal.Gen Idealize.ShloMosaic Idealize.ShloMosaic.TcCoe Idealize.SL.Sem

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The gradients in the narrow format are the gradients. -/
theorem V_v1 : (V m c main_v1 : S16384x2048.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)
theorem idx2 : ∀ t : Fin cfg0.N, win0_2.index t = ![0, t.val / 16] := (by decide +kernel : ∀ t : Fin grid0.N, _)

/-- What block `j` of 1024 rows adds to entry `(r, a * 1024 + l)` of the gradient. -/
def part (X : S16384x1024.Idx → EReal) (Y : S16384x2048.Idx → EReal) (a : Fin 2) (r : Fin 1024) (l : Fin 1024) (j : Fin 16) : EReal :=
  ∑ k : Fin 1024, X (ValueIdx.ix2 ⟨j.val * 1024 + k.val, by omega⟩ r) * Y (ValueIdx.ix2 ⟨j.val * 1024 + k.val, by omega⟩ ⟨a.val * 1024 + l.val, by omega⟩)

/-- The product of one grid point is its block's part. -/
theorem prod_at (t : Fin cfg0.N) (a : Fin 2) (j : Fin 16) (ha : t.val / 16 = a.val) (hj : t.val % 16 = j.val) (r : Fin 1024) (l : Fin 1024)
    (x : Vec Ideal S1024x1024 .bf16) (y : Vec Ideal S1024x1024 .bf16) (hx : x = iblk m c 0 t) (hy : y = iblk m c 1 t) :
    ∑ k : Fin 1024, x (ValueIdx.ix2 k r) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_v0]
    congr 1
    funext u
    apply Fin.ext
    match u with
    | ⟨0, _⟩ =>
      change _ = j.val * 1024 + k.val
      rw [← hj]
      blk_simp [idx0]
      try rfl
    | ⟨1, _⟩ =>
      change _ = r.val
      blk_simp [idx0]
      try rfl
  · blk_simp [iblk, idx1]
    rw [V_v1]
    congr 1
    funext u
    apply Fin.ext
    match u with
    | ⟨0, _⟩ =>
      change _ = j.val * 1024 + k.val
      rw [← hj]
      blk_simp [idx1]
      try rfl
    | ⟨1, _⟩ =>
      change _ = a.val * 1024 + l.val
      rw [← ha]
      blk_simp [idx1]
      try rfl

/-- Step `b` of a column half leaves the sum of the first `b + 1` parts in the accumulator, and the last step writes it out. -/
theorem acc_at (a : Fin 2) (r : Fin 1024) (l : Fin 1024) : ∀ (b : ℕ) (hb : b < 16) (n : ℕ) (_ : n = a.val * 16 + b) (hn : n < cfg0.N),
    ((outsAt0 m c n hn).2 : S1024x1024.Idx → EReal) (ValueIdx.ix2 r l)
      = ∑ j : Fin (b + 1), part (m ((c : Thread nD τ).loc main_arg0)) (m ((c : Thread nD τ).loc main_arg1)) a r l ⟨j.val, by omega⟩
    ∧ (b = 15 → ((outsAt0 m c n hn).1 : S1024x1024.Idx → EReal) (ValueIdx.ix2 r l)
      = ∑ j : Fin (b + 1), part (m ((c : Thread nD τ).loc main_arg0)) (m ((c : Thread nD τ).loc main_arg1)) a r l ⟨j.val, by omega⟩)
  | 0, _, n, he, hn => by
    refine ⟨?_, fun h => absurd h (by decide)⟩
    have e := outsAt0_A m c ⟨n, hn⟩ (by dsimp only; omega) (by dsimp only; omega) (by dsimp only; omega)
    dsimp only at e
    rw [e]
    dsimp only
    rw [soutA, pay2_at, prod_at m c ⟨n, hn⟩ a 0 (by dsimp only; omega) (by dsimp only; omega) r l _ _ rfl rfl]
    simp
  | b + 1, hb, n, he, hn => by
    have ih := (acc_at a r l b (by omega) (n - 1) (by omega) (by omega)).1
    have step : ((outsAt0 m c (n - 1) (by omega)).2 : S1024x1024.Idx → EReal) (ValueIdx.ix2 r l)
        + part (m ((c : Thread nD τ).loc main_arg0)) (m ((c : Thread nD τ).loc main_arg1)) a r l ⟨b + 1, hb⟩
        = ∑ j : Fin (b + 1 + 1), part (m ((c : Thread nD τ).loc main_arg0)) (m ((c : Thread nD τ).loc main_arg1)) a r l ⟨j.val, by omega⟩ := by
      rw [ih, Fin.sum_univ_castSucc (n := b + 1)]
      rfl
    have pr := prod_at m c ⟨n, hn⟩ a ⟨b + 1, hb⟩ (by dsimp only; omega) (by dsimp only; omega) r l _ _ rfl rfl
    by_cases h15 : b + 1 = 15
    · have e := outsAt0_C m c ⟨n, hn⟩ (by dsimp only; omega) (by dsimp only; omega) (by dsimp only; omega)
      dsimp only at e
      rw [e]
      dsimp only
      refine ⟨?_, fun _ => ?_⟩
      · rw [soutC, pay3_at, pr]
        exact step
      · rw [outC, pay3_at, pr]
        exact step
    · refine ⟨?_, fun h => absurd h h15⟩
      have e := outsAt0_B m c ⟨n, hn⟩ (by dsimp only; omega) (by dsimp only; omega) (by dsimp only; omega)
      dsimp only at e
      rw [e]
      dsimp only
      rw [soutB, pay3_at, pr]
      exact step

/-- All sixteen parts together are the reference's sum over every row. -/
theorem parts_sum (X : S16384x1024.Idx → EReal) (Y : S16384x2048.Idx → EReal) (a : Fin 2) (r : Fin 1024) (l : Fin 1024) :
    ∑ j : Fin 16, part X Y a r l j
      = ∑ k : Fin 16384, Y (ValueIdx.ix2 k ⟨a.val * 1024 + l.val, by omega⟩) * X (ValueIdx.ix2 k r) := by
  unfold part
  refine (Fintype.sum_prod_type' (fun (j : Fin 16) (k : Fin 1024) => X (ValueIdx.ix2 ⟨j.val * 1024 + k.val, by omega⟩ r)
    * Y (ValueIdx.ix2 ⟨j.val * 1024 + k.val, by omega⟩ ⟨a.val * 1024 + l.val, by omega⟩))).symm.trans ?_
  refine Fintype.sum_equiv (finProdFinEquiv (m := 16) (n := 1024)) _ _ fun p => ?_
  rw [mul_comm]
  have e : (finProdFinEquiv p : Fin (16 * 1024)) = ⟨p.1.val * 1024 + p.2.val, by omega⟩ := by
    apply Fin.ext
    change p.2.val + 1024 * p.1.val = p.1.val * 1024 + p.2.val
    omega
  rw [e]

/-- The array of weight gradients. -/
theorem array : (dats m 0 c).arrAt 2 cfg0.N
    = Cert.Reference13Ideal.Read.val_main_v3 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have h15 := (flush0_2 t).1 hf
  have hN : t.val < 32 := lt_of_lt_of_eq t.isLt N_0
  rw [Cert.Reference13Ideal.Read.val_main_v3_apply, Cert.Reference13Ideal.Read.val_main_v2_apply]
  blk_simp
  rw [after0_2]
  rw [(acc_at m c ⟨t.val / 16, by omega⟩ r l 15 (by omega) t.val (by dsimp only; omega) t.isLt).2 rfl]
  refine (parts_sum _ _ _ r l).trans (Finset.sum_congr rfl fun k _ => ?_)
  congr 1
  · congr 1
    funext u
    apply Fin.ext
    match u with
    | ⟨0, _⟩ => rfl
    | ⟨1, _⟩ =>
      change _ = (((win0_2.blk t).view.emb (ValueIdx.ix2 r l)) 1).val
      blk_simp [idx2]
      try rfl
  · congr 1
    funext u
    apply Fin.ext
    match u with
    | ⟨0, _⟩ => rfl
    | ⟨1, _⟩ =>
      change _ = (((win0_2.blk t).view.emb (ValueIdx.ix2 r l)) 0).val
      blk_simp [idx2]
      try rfl

end Cert.Mm.GluDw
end
-- ==== Proof.Mm.GluDxBlock.lean ====
/-
  The gated unit projection's input gradient: what one grid point adds to the accumulator.
-/
module
public import proofs.«01_k».proof.Proof.Gen.Kernel14Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.GluDx
open Cert.Kernel14Ideal Cert.Kernel14Ideal.Gen Idealize.ShloMosaic Idealize.ShloMosaic.TcCoe Idealize.SL.Sem

theorem hz : (![0, 0] : Fin 2 → Nat) = fun _ => 0 := funext fun a => by fin_cases a <;> rfl

/-- A tile's product sums over the columns of both tiles. -/
theorem pay1_at (x : Vec Ideal S1024x1024 .bf16) (y : Vec Ideal S1024x1024 .bf16) (r : Fin 1024) (l : Fin 1024) :
    k0_pay1 (F := Ideal) x y (ValueIdx.ix2 r l) = ∑ k : Fin 1024, x (ValueIdx.ix2 r k) * y (ValueIdx.ix2 l k) := by
  pointwise [k0_pay1]
  rfl

/-- The first point stores the product itself. -/
theorem pay2_at (x : Vec Ideal S1024x1024 .bf16) (y : Vec Ideal S1024x1024 .bf16) (r : Fin 1024) (l : Fin 1024) :
    k0_pay2 (F := Ideal) x y (ValueIdx.ix2 r l) = ∑ k : Fin 1024, x (ValueIdx.ix2 r k) * y (ValueIdx.ix2 l k) := by
  pointwise [k0_pay2, k0_pay1]
  rfl

/-- The second point adds its product to what it finds. -/
theorem pay3_at (x : Vec Ideal S1024x1024 .bf16) (y : Vec Ideal S1024x1024 .bf16) (a : Vec Ideal S1024x1024 .f32) (r : Fin 1024) (l : Fin 1024) :
    k0_pay3 (F := Ideal) x y a (ValueIdx.ix2 r l) = a (ValueIdx.ix2 r l) + ∑ k : Fin 1024, x (ValueIdx.ix2 r k) * y (ValueIdx.ix2 l k) := by
  pointwise [k0_pay3, k0_pay1]
  rfl

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
variable (x0 : Vec Ideal S1024x1024 .bf16) (x1 : Vec Ideal S1024x1024 .bf16) (xs : Vec Ideal S1024x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz]

/-- The last point adds its product to the accumulator. -/
theorem soutB (hc0 : ¬cond0_0 i) (hc1 : cond0_1 i) (hc2 : cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]

/-- The last point writes the accumulator out. -/
theorem outB (hc0 : ¬cond0_0 i) (hc1 : cond0_1 i) (hc2 : cond0_2 i) : out0_B_2 (F := Ideal) c i arg3 harg3 arg4 harg4 arg5 harg5 arg6 harg6 hc0 hc1 hc2 x0 x1 xs = k0_pay3 (F := Ideal) x0 x1 xs := by
  unfold out0_B_2
  rw [View.read_writes_eq_canon _ _ _ (cover0_B_2 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz]
  exact View.readCov_cons_toLoadRect _ _ _ _

end Cert.Mm.GluDx
end
-- ==== Proof.Mm.GluDx.lean ====
/-
  The gated unit projection's input gradient: the two steps of the accumulator against the derivative of the plain product.
-/
module
public import proofs.«01_k».proof.Proof.Mm.GluDxBlock
public import proofs.«01_k».proof.Proof.Gen.Reference14Ideal.Read
public import proofs.«01_k».proof.Proof.Gen.Reference14Ideal.Run
public import Idealize.ShloMosaic.Lib.StableHlo.RunRead
public import proofs.«01_k».proof.Defs
@[expose] public section
set_option maxRecDepth 16384
set_option maxHeartbeats 1000000
noncomputable section
namespace Cert.Mm.GluDx
open Cert.Kernel14Ideal Cert.Kernel14Ideal.Gen Idealize.ShloMosaic Idealize.ShloMosaic.TcCoe Idealize.SL.Sem

variable (m : (ℓ : Loc nD τ sig) → Buf (Elt Ideal) ℓ) (c : Dev nD)

/-- The gradients in the narrow format are the gradients. -/
theorem V_v0 : (V m c main_v0 : S16384x2048.Idx → EReal) = m ((c : Thread nD τ).loc main_arg1) := by
  simp only [V, hostOps0, List.flatten_cons, List.flatten_nil, List.append_nil, List.cons_append, List.nil_append]
  after_reads_simp
  rfl

/-- The weights in the narrow format are the weights. -/
theorem V_v1 : (V m c main_v1 : S1024x2048.Idx → EReal) = m ((c : Thread nD τ).loc main_arg0) := by
  simp only [V, hostOps0, List.flatten_cons, List.flatten_nil, List.append_nil, List.cons_append, List.nil_append]
  after_reads_simp
  rfl

theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)

/-- What half `j` of the columns adds to entry `(a * 1024 + r, l)` of the gradient. -/
def part (X : S16384x2048.Idx → EReal) (Y : S1024x2048.Idx → EReal) (a : Fin 16) (r l : Fin 1024) (j : Fin 2) : EReal :=
  ∑ k : Fin 1024, X (ValueIdx.ix2 ⟨a.val * 1024 + r.val, by omega⟩ ⟨j.val * 1024 + k.val, by omega⟩) * Y (ValueIdx.ix2 l ⟨j.val * 1024 + k.val, by omega⟩)

/-- The product of one grid point is its half's part. -/
theorem prod_at (t : Fin cfg0.N) (a : Fin 16) (j : Fin 2) (ha : t.val / 2 = a.val) (hj : t.val % 2 = j.val) (r l : Fin 1024)
    (x : Vec Ideal S1024x1024 .bf16) (y : Vec Ideal S1024x1024 .bf16) (hx : x = iblk m c 0 t) (hy : y = iblk m c 1 t) :
    ∑ k : Fin 1024, x (ValueIdx.ix2 r k) * y (ValueIdx.ix2 l k)
      = part (m ((c : Thread nD τ).loc main_arg1)) (m ((c : Thread nD τ).loc main_arg0)) a r l j := by
  subst hx hy
  refine Finset.sum_congr rfl fun k _ => ?_
  congr 1
  · blk_simp [iblk, idx0]
    rw [V_v0]
    congr 1
    funext u
    apply Fin.ext
    match u with
    | ⟨0, _⟩ =>
      change _ = a.val * 1024 + r.val
      rw [← ha]
      blk_simp [idx0]
      try rfl
    | ⟨1, _⟩ =>
      change _ = j.val * 1024 + k.val
      rw [← hj]
      blk_simp [idx0]
      try rfl
  · blk_simp [iblk, idx1]
    rw [V_v1]
    congr 1
    funext u
    apply Fin.ext
    match u with
    | ⟨0, _⟩ =>
      change _ = l.val
      blk_simp [idx1]
      try rfl
    | ⟨1, _⟩ =>
      change _ = j.val * 1024 + k.val
      rw [← hj]
      blk_simp [idx1]
      try rfl

/-- The first step of a row block leaves the first part in the accumulator. -/
theorem acc_first (a : Fin 16) (r l : Fin 1024) (n : ℕ) (he : n = a.val * 2) (hn : n < cfg0.N) :
    ((outsAt0 m c n hn).2 : S1024x1024.Idx → EReal) (ValueIdx.ix2 r l)
      = part (m ((c : Thread nD τ).loc main_arg1)) (m ((c : Thread nD τ).loc main_arg0)) a r l 0 := by
  have e := outsAt0_A m c ⟨n, hn⟩ (by dsimp only; omega) (by dsimp only; omega) (by dsimp only; omega)
  dsimp only at e
  rw [e]
  dsimp only
  rw [soutA, pay2_at, prod_at m c ⟨n, hn⟩ a 0 (by dsimp only; omega) (by dsimp only; omega) r l _ _ rfl rfl]

/-- The second step writes the sum of both parts. -/
theorem out_at (a : Fin 16) (r l : Fin 1024) (n : ℕ) (he : n = a.val * 2 + 1) (hn : n < cfg0.N) :
    ((outsAt0 m c n hn).1 : S1024x1024.Idx → EReal) (ValueIdx.ix2 r l)
      = ∑ j : Fin 2, part (m ((c : Thread nD τ).loc main_arg1)) (m ((c : Thread nD τ).loc main_arg0)) a r l j := by
  have e := outsAt0_B m c ⟨n, hn⟩ (by dsimp only; omega) (by dsimp only; omega) (by dsimp only; omega)
  dsimp only at e
  rw [e]
  dsimp only
  rw [outB, pay3_at, prod_at m c ⟨n, hn⟩ a 1 (by dsimp only; omega) (by dsimp only; omega) r l _ _ rfl rfl,
    acc_first m c a r l (n - 1) (by omega), Fin.sum_univ_two]

/-- Both parts together are the reference's sum over every column. -/
theorem parts_sum (X : S16384x2048.Idx → EReal) (Y : S1024x2048.Idx → EReal) (a : Fin 16) (r l : Fin 1024) :
    ∑ j : Fin 2, part X Y a r l j
      = ∑ k : Fin 2048, X (ValueIdx.ix2 ⟨a.val * 1024 + r.val, by omega⟩ k) * Y (ValueIdx.ix2 l k) := by
  unfold part
  refine (Fintype.sum_prod_type' (fun (j : Fin 2) (k : Fin 1024) => X (ValueIdx.ix2 ⟨a.val * 1024 + r.val, by omega⟩ ⟨j.val * 1024 + k.val, by omega⟩)
    * Y (ValueIdx.ix2 l ⟨j.val * 1024 + k.val, by omega⟩))).symm.trans ?_
  refine Fintype.sum_equiv (finProdFinEquiv (m := 2) (n := 1024)) _ _ fun p => ?_
  have e : (finProdFinEquiv p : Fin (2 * 1024)) = ⟨p.1.val * 1024 + p.2.val, by omega⟩ := by
    apply Fin.ext
    change p.2.val + 1024 * p.1.val = p.1.val * 1024 + p.2.val
    omega
  rw [e]

/-- The array of input gradients. -/
theorem array : (dats m 0 c).arrAt 2 cfg0.N
    = Cert.Reference14Ideal.Read.val_main_v2 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have h1 := (flush0_2 t).1 hf
  have hN : t.val < 32 := lt_of_lt_of_eq t.isLt N_0
  rw [Cert.Reference14Ideal.Read.val_main_v2_apply]
  blk_simp
  rw [after0_2]
  rw [out_at m c ⟨t.val / 2, by omega⟩ r l t.val (by dsimp only; omega) t.isLt]
  refine (parts_sum _ _ _ r l).trans (Finset.sum_congr rfl fun k _ => ?_)
  congr 1
  · congr 1
    funext u
    apply Fin.ext
    match u with
    | ⟨0, _⟩ =>
      change _ = (((win0_2.blk t).view.emb (ValueIdx.ix2 r l)) 0).val
      blk_simp [idx2]
      try rfl
    | ⟨1, _⟩ => rfl
  · congr 1
    funext u
    apply Fin.ext
    match u with
    | ⟨0, _⟩ =>
      change _ = (((win0_2.blk t).view.emb (ValueIdx.ix2 r l)) 1).val
      blk_simp [idx2]
      try rfl
    | ⟨1, _⟩ => rfl

end Cert.Mm.GluDx
end
-- ==== Proof.Mm.DownBlock.lean ====
/-
  The down projection: what one grid point adds to the accumulator, and what the second one writes.
-/
module
public import proofs.«01_k».proof.Proof.Gen.Kernel9Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.Down
open Cert.Kernel9Ideal Cert.Kernel9Ideal.Gen Idealize.ShloMosaic Idealize.ShloMosaic.TcCoe Idealize.SL.Sem

theorem hz : (![0, 0] : Fin 2 → Nat) = fun _ => 0 := funext fun a => by fin_cases a <;> rfl

/-- A tile's product sums over the inner index. -/
theorem pay1_at (x : Vec Ideal S1024x1408 .bf16) (y : Vec Ideal S1408x1024 .bf16) (r : Fin 1024) (l : Fin 1024) :
    k0_pay1 (F := Ideal) x y (ValueIdx.ix2 r l) = ∑ k : Fin 1408, x (ValueIdx.ix2 r k) * y (ValueIdx.ix2 k l) := by
  pointwise [k0_pay1]
  rfl

/-- The first point stores the product itself. -/
theorem pay2_at (x : Vec Ideal S1024x1408 .bf16) (y : Vec Ideal S1408x1024 .bf16) (r : Fin 1024) (l : Fin 1024) :
    k0_pay2 (F := Ideal) x y (ValueIdx.ix2 r l) = ∑ k : Fin 1408, x (ValueIdx.ix2 r k) * y (ValueIdx.ix2 k l) := by
  pointwise [k0_pay2, k0_pay1]
  rfl

/-- The second point adds its product to what it finds. -/
theorem pay3_at (x : Vec Ideal S1024x1408 .bf16) (y : Vec Ideal S1408x1024 .bf16) (a : Vec Ideal S1024x1024 .f32) (r : Fin 1024) (l : Fin 1024) :
    k0_pay3 (F := Ideal) x y a (ValueIdx.ix2 r l) = a (ValueIdx.ix2 r l) + ∑ k : Fin 1408, x (ValueIdx.ix2 r k) * y (ValueIdx.ix2 k l) := by
  pointwise [k0_pay3, k0_pay1]
  rfl

/-- The first result adds the residual. -/
theorem pay4_at (a x : Vec Ideal S1024x1024 .f32) (r l : Fin 1024) :
    k0_pay4 (F := Ideal) a x (ValueIdx.ix2 r l) = x (ValueIdx.ix2 r l) + a (ValueIdx.ix2 r l) := by
  pointwise [k0_pay4]
  try rfl

/-- The second result divides each row by its root mean square and multiplies by the gain. -/
theorem pay5_at (a x : Vec Ideal S1024x1024 .f32) (g : Vec Ideal S1x1024 .f32) (r l : Fin 1024) :
    k0_pay5 (F := Ideal) a x g (ValueIdx.ix2 r l) = k0_pay4 (F := Ideal) a x (ValueIdx.ix2 r l)
      * Ideal.rsqrt (Ideal.div (∑ k : Fin 1024, k0_pay4 (F := Ideal) a x (ValueIdx.ix2 r k) * k0_pay4 (F := Ideal) a x (ValueIdx.ix2 r k)) (Ideal.ofBits .f32 0x44800000#32) + Ideal.ofBits .f32 0x358637BD#32)
      * g (ValueIdx.ix2 0 l) := by
  pointwise [k0_pay5]
  rfl

variable (c : Dev nD) (i : grid0.Coords) (arg3 : Memref sig .tc .vmem S1024x1408 .bf16) (harg3 : arg3.IsWhole) (arg4 : Memref sig .tc .vmem S1408x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
variable (x0 : Vec Ideal S1024x1408 .bf16) (x1 : Vec Ideal S1408x1024 .bf16) (x2 : Vec Ideal S1024x1024 .f32) (x3 : Vec Ideal S1x1024 .f32) (xs : Vec Ideal S1024x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 arg7 harg7 arg8 harg8 arg9 harg9 hc0 hc1 hc2 x0 x1 x2 x3 = k0_pay2 (F := Ideal) x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3)]
  unfold kernelRun0_A
  dsimp only
  sl_unfold_words
  rw [View.canon_unit_zero hz]
  simp only [View.readAt_eq_ld, harg3.read_unread, harg4.read_unread, harg5.read_unread, harg6.read_unread, harg9.read_unread, View.ld_unit_zero (S := S1024x1024) hz, View.ld_unit_zero (S := S1024x1408) hz, View.ld_unit_zero (S := S1408x1024) hz, View.ld_unit_zero (S := S1x1024) hz]

/-- The second point writes the sum and the residual. -/
theorem outY (hc0 : ¬cond0_0 i) (hc1 : cond0_1 i) (hc2 : cond0_2 i) : out0_B_4 (F := Ideal) c i arg3 harg3 arg4 harg4 arg5 harg5 arg6 harg6 arg7 harg7 arg8 harg8 arg9 harg9 hc0 hc1 hc2 x0 x1 x2 x3 xs = k0_pay4 (F := Ideal) (k0_pay3 (F := Ideal) x0 x1 xs) x2 := by
  unfold out0_B_4
  rw [View.read_writes_eq_canon _ _ _ (cover0_B_4 c i arg3 harg3 arg4 harg4 arg5 harg5 arg6 harg6 arg7 harg7 arg8 harg8 arg9 harg9 hc0 hc1 hc2 x0 x1 x2 x3 xs)]
  unfold kernelRun0_B
  dsimp only
  sl_unfold_words
  rw [View.canon_unit_zero hz]
  simp only [View.readAt_eq_ld, harg3.read_unread, harg4.read_unread, harg5.read_unread, harg6.read_unread, harg9.read_unread, View.ld_unit_zero (S := S1024x1024) hz, View.ld_unit_zero (S := S1024x1408) hz, View.ld_unit_zero (S := S1408x1024) hz, View.ld_unit_zero (S := S1x1024) hz]
  exact congrArg (fun q => k0_pay4 (F := Ideal) q x2) (View.readCov_cons_toLoadRect _ _ _ _)

/-- The second point writes the normalised rows. -/
theorem outR (hc0 : ¬cond0_0 i) (hc1 : cond0_1 i) (hc2 : cond0_2 i) : out0_B_5 (F := Ideal) c i arg3 harg3 arg4 harg4 arg5 harg5 arg6 harg6 arg7 harg7 arg8 harg8 arg9 harg9 hc0 hc1 hc2 x0 x1 x2 x3 xs = k0_pay5 (F := Ideal) (k0_pay3 (F := Ideal) x0 x1 xs) x2 x3 := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 xs)]
  unfold kernelRun0_B
  dsimp only
  sl_unfold_words
  rw [View.canon_unit_zero hz]
  simp only [View.readAt_eq_ld, harg3.read_unread, harg4.read_unread, harg5.read_unread, harg6.read_unread, harg9.read_unread, View.ld_unit_zero (S := S1024x1024) hz, View.ld_unit_zero (S := S1024x1408) hz, View.ld_unit_zero (S := S1408x1024) hz, View.ld_unit_zero (S := S1x1024) hz]
  exact congrArg (fun q => k0_pay5 (F := Ideal) q x2 x3) (View.readCov_cons_toLoadRect _ _ _ _)

end Cert.Mm.Down
end
-- ==== Proof.Mm.Down.lean ====
/-
  The down projection: the two steps of the accumulator, the residual and the normalised rows against the plain formulas.
-/
module
public import proofs.«01_k».proof.Proof.Mm.DownBlock
public import proofs.«01_k».proof.Proof.Gen.Reference9Ideal.Read
public import proofs.«01_k».proof.Proof.Gen.Reference9Ideal.Run
public import Idealize.ShloMosaic.Lib.StableHlo.RunRead
public import proofs.«01_k».proof.Defs
@[expose] public section
set_option maxRecDepth 16384
set_option maxHeartbeats 1000000
noncomputable section
namespace Cert.Mm.Down
open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- The rows in the narrow format are the rows. -/
theorem V_v0 : (V m c main_v0 : S16384x2816.Idx → EReal) = m ((c : Thread nD τ).loc main_arg0) := by
  simp only [V, hostOps0, List.flatten_cons, List.flatten_nil, List.append_nil, List.cons_append, List.nil_append]
  after_reads_simp
  rfl

/-- The weights in the narrow format are the weights. -/
theorem V_v1 : (V m c main_v1 : S2816x1024.Idx → EReal) = m ((c : Thread nD τ).loc main_arg1) := by
  simp only [V, hostOps0, List.flatten_cons, List.flatten_nil, List.append_nil, List.cons_append, List.nil_append]
  after_reads_simp
  rfl

/-- The residual is untouched before the call. -/
theorem V_arg2 : (V m c main_arg2 : S16384x1024.Idx → EReal) = m ((c : Thread nD τ).loc main_arg2) := by
  simp only [V, hostOps0, List.flatten_cons, List.flatten_nil, List.append_nil, List.cons_append, List.nil_append]
  after_reads_simp

/-- The gain is one in every column. -/
theorem V_v2 : (V m c main_v2 : S1x1024.Idx → EReal) = fun _ => (1 : EReal) := by
  simp only [V, hostOps0, List.flatten_cons, List.flatten_nil, List.append_nil, List.cons_append, List.nil_append]
  after_reads_simp
  funext i
  exact Ideal.ofBits_one_f32

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)
theorem idx4 : ∀ t : Fin cfg0.N, win0_4.index t = ![t.val / 2, 0] := (by decide +kernel : ∀ t : Fin grid0.N, _)
theorem idx5 : ∀ t : Fin cfg0.N, win0_5.index t = ![t.val / 2, 0] := (by decide +kernel : ∀ t : Fin grid0.N, _)

/-- What half `j` of the inner index adds to entry `(a * 1024 + r, l)` of the product. -/
def part (X : S16384x2816.Idx → EReal) (Y : S2816x1024.Idx → EReal) (a : Fin 16) (r l : Fin 1024) (j : Fin 2) : EReal :=
  ∑ k : Fin 1408, X (ValueIdx.ix2 ⟨a.val * 1024 + r.val, by omega⟩ ⟨j.val * 1408 + k.val, by omega⟩) * Y (ValueIdx.ix2 ⟨j.val * 1408 + k.val, by omega⟩ l)

/-- The product of one grid point is its half's part. -/
theorem prod_at (t : Fin cfg0.N) (a : Fin 16) (j : Fin 2) (ha : t.val / 2 = a.val) (hj : t.val % 2 = j.val) (r l : Fin 1024)
    (x : Vec Ideal S1024x1408 .bf16) (y : Vec Ideal S1408x1024 .bf16) (hx : x = iblk m c 0 t) (hy : y = iblk m c 1 t) :
    ∑ k : Fin 1408, x (ValueIdx.ix2 r k) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_v0]
    congr 1
    funext u
    apply Fin.ext
    match u with
    | ⟨0, _⟩ =>
      change _ = a.val * 1024 + r.val
      rw [← ha]
      blk_simp [idx0]
      try rfl
    | ⟨1, _⟩ =>
      change _ = j.val * 1408 + k.val
      rw [← hj]
      blk_simp [idx0]
      try rfl
  · blk_simp [iblk, idx1]
    rw [V_v1]
    congr 1
    funext u
    apply Fin.ext
    match u with
    | ⟨0, _⟩ =>
      change _ = j.val * 1408 + k.val
      rw [← hj]
      blk_simp [idx1]
      try rfl
    | ⟨1, _⟩ =>
      change _ = l.val
      blk_simp [idx1]
      try rfl

/-- The first step of a row block leaves the first part in the accumulator. -/
theorem acc_first (a : Fin 16) (r l : Fin 1024) (n : ℕ) (he : n = a.val * 2) (hn : n < cfg0.N) :
    ((outsAt0 m c n hn).2.2 : S1024x1024.Idx → EReal) (ValueIdx.ix2 r l)
      = part (m ((c : Thread nD τ).loc main_arg0)) (m ((c : Thread nD τ).loc main_arg1)) a r l 0 := by
  have e := outsAt0_A m c ⟨n, hn⟩ (by dsimp only; omega) (by dsimp only; omega) (by dsimp only; omega)
  dsimp only at e
  rw [e]
  dsimp only
  rw [soutA, pay2_at, prod_at m c ⟨n, hn⟩ a 0 (by dsimp only; omega) (by dsimp only; omega) r l _ _ rfl rfl]

/-- Both parts together are the reference's sum over the inner index. -/
theorem parts_sum (X : S16384x2816.Idx → EReal) (Y : S2816x1024.Idx → EReal) (a : Fin 16) (r l : Fin 1024) :
    ∑ j : Fin 2, part X Y a r l j
      = ∑ k : Fin 2816, X (ValueIdx.ix2 ⟨a.val * 1024 + r.val, by omega⟩ k) * Y (ValueIdx.ix2 k l) := by
  unfold part
  refine (Fintype.sum_prod_type' (fun (j : Fin 2) (k : Fin 1408) => X (ValueIdx.ix2 ⟨a.val * 1024 + r.val, by omega⟩ ⟨j.val * 1408 + k.val, by omega⟩)
    * Y (ValueIdx.ix2 ⟨j.val * 1408 + k.val, by omega⟩ l))).symm.trans ?_
  refine Fintype.sum_equiv (finProdFinEquiv (m := 2) (n := 1408)) _ _ fun p => ?_
  have e : (finProdFinEquiv p : Fin (2 * 1408)) = ⟨p.1.val * 1408 + p.2.val, by omega⟩ := by
    apply Fin.ext
    change p.2.val + 1408 * p.1.val = p.1.val * 1408 + p.2.val
    omega
  rw [e]

/-- The reference's first result: the residual and the product. -/
theorem ref_y (X : S16384x2816.Idx → EReal) (Y : S2816x1024.Idx → EReal) (Z : S16384x1024.Idx → EReal) (R : Fin 16384) (l : Fin 1024) :
    Cert.Reference9Ideal.Read.val_main_v1 (F := Ideal) X Y Z (ValueIdx.ix2 R l)
      = Z (ValueIdx.ix2 R l) + ∑ k : Fin 2816, X (ValueIdx.ix2 R k) * Y (ValueIdx.ix2 k l) := by
  rw [Cert.Reference9Ideal.Read.val_main_v1_apply, Cert.Reference9Ideal.Read.val_main_v0_apply]
  refine congrArg (Z (ValueIdx.ix2 R l) + ·) (Finset.sum_congr rfl fun k _ => ?_)
  congr 1
  · congr 1
    funext u
    match u with | ⟨0, _⟩ => rfl | ⟨1, _⟩ => rfl
  · congr 1
    funext u
    match u with | ⟨0, _⟩ => rfl | ⟨1, _⟩ => rfl

/-- The reference's second result: the first one divided by its root mean square, row by row. -/
theorem ref_r (X : S16384x2816.Idx → EReal) (Y : S2816x1024.Idx → EReal) (Z : S16384x1024.Idx → EReal) (R : Fin 16384) (l : Fin 1024) :
    Cert.Reference9Ideal.Read.val_main_v12 (F := Ideal) X Y Z (ValueIdx.ix2 R l)
      = Cert.Reference9Ideal.Read.val_main_v1 (F := Ideal) X Y Z (ValueIdx.ix2 R l)
        * Ideal.rsqrt (Ideal.div (∑ k : Fin 1024, Cert.Reference9Ideal.Read.val_main_v1 (F := Ideal) X Y Z (ValueIdx.ix2 R k)
          * Cert.Reference9Ideal.Read.val_main_v1 (F := Ideal) X Y Z (ValueIdx.ix2 R k)) (Ideal.ofBits .f32 0x44800000#32) + Ideal.ofBits .f32 0x358637BD#32) := by
  rw [Cert.Reference9Ideal.Read.val_main_v12_apply, Cert.Reference9Ideal.Read.val_main_v11_apply, Cert.Reference9Ideal.Read.val_main_v10_apply,
    Cert.Reference9Ideal.Read.val_main_v9_apply, Cert.Reference9Ideal.Read.val_main_v8_apply, Cert.Reference9Ideal.Read.val_main_v7_apply,
    Cert.Reference9Ideal.Read.val_main_v6_apply, Cert.Reference9Ideal.Read.val_main_v5_apply, Cert.Reference9Ideal.Read.val_main_v4_apply,
    Cert.Reference9Ideal.Read.val_main_v3_apply, Cert.Reference9Ideal.Read.val_main_cst_0_apply, Cert.Reference9Ideal.Read.val_main_cst_1_apply,
    Cert.Reference9Ideal.Read.val_main_cst_apply]
  have e : ∀ k : Fin 1024, Cert.Reference9Ideal.Read.idx_main_v3 (Cert.Reference9Ideal.Read.idx_main_v4 (Cert.Reference9Ideal.Read.idx_main_v10 (ValueIdx.ix2 R l))) k = ValueIdx.ix2 R k := fun k => by
    funext u
    match u with | ⟨0, _⟩ => rfl | ⟨1, _⟩ => rfl
  simp only [e, Cert.Reference9Ideal.Read.val_main_v2_apply]
  change Cert.Reference9Ideal.Read.val_main_v1 (F := Ideal) X Y Z (ValueIdx.ix2 R l) * Ideal.rsqrt (Ideal.div (Ideal.ofBits .f32 0x00000000#32 + ∑ k : Fin 1024, Cert.Reference9Ideal.Read.val_main_v1 (F := Ideal) X Y Z (ValueIdx.ix2 R k) * Cert.Reference9Ideal.Read.val_main_v1 (F := Ideal) X Y Z (ValueIdx.ix2 R k)) (Ideal.ofBits .f32 0x44800000#32) + Ideal.ofBits .f32 0x358637BD#32) = _
  rw [Ideal.ofBits_zero_f32, zero_add]

/-- The second step writes the residual plus both parts. -/
theorem out_y (a : Fin 16) (r l : Fin 1024) (n : ℕ) (he : n = a.val * 2 + 1) (hn : n < cfg0.N) (z : Vec Ideal S1024x1024 .f32) (hz2 : z = iblk m c 2 ⟨n, hn⟩) :
    k0_pay4 (F := Ideal) (k0_pay3 (F := Ideal) (iblk m c 0 ⟨n, hn⟩) (iblk m c 1 ⟨n, hn⟩) (outsAt0 m c (n - 1) (Nat.lt_of_le_of_lt (Nat.sub_le _ _) hn)).2.2) z (ValueIdx.ix2 r l)
      = Cert.Reference9Ideal.Read.val_main_v1 (F := Ideal) (m ((c : Thread nD τ).loc main_arg0)) (m ((c : Thread nD τ).loc main_arg1)) (m ((c : Thread nD τ).loc main_arg2)) (ValueIdx.ix2 ⟨a.val * 1024 + r.val, by omega⟩ l) := by
  rw [ref_y, pay4_at, pay3_at, prod_at m c ⟨n, hn⟩ a 1 (by dsimp only; omega) (by dsimp only; omega) r l _ _ rfl rfl,
    acc_first m c a r l (n - 1) (by omega), ← parts_sum, Fin.sum_univ_two]
  congr 1
  subst hz2
  blk_simp [iblk, idx2]
  rw [V_arg2]
  congr 1
  funext u
  apply Fin.ext
  match u with
  | ⟨0, _⟩ =>
    change _ = a.val * 1024 + r.val
    have ha : n / 2 = a.val := by omega
    rw [← ha]
    blk_simp [idx2]
    try rfl
  | ⟨1, _⟩ =>
    change _ = l.val
    blk_simp [idx2]
    try rfl

/-- The gain block is one everywhere. -/
theorem gain_at (t : Fin cfg0.N) (l : Fin 1024) (g : Vec Ideal S1x1024 .f32) (hg : g = iblk m c 3 t) : g (ValueIdx.ix2 0 l) = 1 := by
  subst hg
  blk_simp [iblk]
  rw [V_v2]

/-- The second step's normalised rows are the reference's. -/
theorem out_r (a : Fin 16) (r l : Fin 1024) (n : ℕ) (he : n = a.val * 2 + 1) (hn : n < cfg0.N) :
    k0_pay5 (F := Ideal) (k0_pay3 (F := Ideal) (iblk m c 0 ⟨n, hn⟩) (iblk m c 1 ⟨n, hn⟩) (outsAt0 m c (n - 1) (Nat.lt_of_le_of_lt (Nat.sub_le _ _) hn)).2.2) (iblk m c 2 ⟨n, hn⟩) (iblk m c 3 ⟨n, hn⟩) (ValueIdx.ix2 r l)
      = Cert.Reference9Ideal.Read.val_main_v12 (F := Ideal) (m ((c : Thread nD τ).loc main_arg0)) (m ((c : Thread nD τ).loc main_arg1)) (m ((c : Thread nD τ).loc main_arg2)) (ValueIdx.ix2 ⟨a.val * 1024 + r.val, by omega⟩ l) := by
  rw [ref_r, pay5_at, gain_at m c ⟨n, hn⟩ l _ rfl, mul_one]
  simp only [out_y m c a r _ n he hn _ rfl]

/-- The array of sums. -/
theorem array_y : (dats m 0 c).arrAt 4 cfg0.N
    = Cert.Reference9Ideal.Read.val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have h1 := (flush0_4 t).1 hf
  have hN : t.val < 32 := lt_of_lt_of_eq t.isLt N_0
  have hemb : ((win0_4.blk t).view.emb (ValueIdx.ix2 r l) : S16384x1024.Idx) = ValueIdx.ix2 ⟨t.val / 2 * 1024 + r.val, by omega⟩ l := by
    funext u
    apply Fin.ext
    match u with
    | ⟨0, _⟩ =>
      change _ = t.val / 2 * 1024 + r.val
      blk_simp [idx4]
      try rfl
    | ⟨1, _⟩ =>
      change _ = l.val
      blk_simp [idx4]
      try rfl
  refine Eq.trans ?_ (congrArg (Cert.Reference9Ideal.Read.val_main_v1 (F := Ideal) (m ((c : Thread nD τ).loc main_arg0)) (m ((c : Thread nD τ).loc main_arg1)) (m ((c : Thread nD τ).loc main_arg2))) hemb).symm
  rw [← out_y m c ⟨t.val / 2, by omega⟩ r l t.val (by dsimp only; omega) t.isLt _ rfl]
  blk_simp
  rw [after0_4, outsAt0_B m c t (by omega) h1 h1]
  dsimp only
  rw [outY]

/-- The array of normalised rows. -/
theorem array_r : (dats m 0 c).arrAt 5 cfg0.N
    = Cert.Reference9Ideal.Read.val_main_v12 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have h1 := (flush0_5 t).1 hf
  have hN : t.val < 32 := lt_of_lt_of_eq t.isLt N_0
  have hemb : ((win0_5.blk t).view.emb (ValueIdx.ix2 r l) : S16384x1024.Idx) = ValueIdx.ix2 ⟨t.val / 2 * 1024 + r.val, by omega⟩ l := by
    funext u
    apply Fin.ext
    match u with
    | ⟨0, _⟩ =>
      change _ = t.val / 2 * 1024 + r.val
      blk_simp [idx5]
      try rfl
    | ⟨1, _⟩ =>
      change _ = l.val
      blk_simp [idx5]
      try rfl
  refine Eq.trans ?_ (congrArg (Cert.Reference9Ideal.Read.val_main_v12 (F := Ideal) (m ((c : Thread nD τ).loc main_arg0)) (m ((c : Thread nD τ).loc main_arg1)) (m ((c : Thread nD τ).loc main_arg2))) hemb).symm
  rw [← out_r m c ⟨t.val / 2, by omega⟩ r l t.val (by dsimp only; omega) t.isLt]
  blk_simp
  rw [after0_5, outsAt0_B m c t (by omega) h1 h1]
  dsimp only
  rw [outR]

end Cert.Mm.Down
end
-- ==== Proof.Mm.Claim2.lean ====
/-
  The other plain products return what their references return.
-/
module
public import proofs.«01_k».proof.Proof.Mm.UpDx
public import proofs.«01_k».proof.Proof.Mm.DownDw
public import proofs.«01_k».proof.Proof.Mm.Square
public import proofs.«01_k».proof.Proof.Mm.SquareDw
public import proofs.«01_k».proof.Proof.Mm.Glu
public import proofs.«01_k».proof.Proof.Mm.GluDw
public import proofs.«01_k».proof.Proof.Mm.GluDx
public import proofs.«01_k».proof.Proof.Mm.Down
public import proofs.«01_k».proof.Defs
@[expose] public section
set_option maxRecDepth 16384
set_option maxHeartbeats 1000000
noncomputable section
namespace Cert.Mm
open Idealize.ShloMosaic Idealize.ShloMosaic.TcCoe Idealize.SL.Sem

/-- The up projection's input gradient is the derivative of the plain product. -/
theorem algebraic7 : Cert.algebraic_Kernel7Ideal_Reference7Ideal := by
  intro m ρ m' ρ' hpre hagree
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun _ h c => ?_) (Cert.Reference7Ideal.Value.run m' ρ')
  obtain ⟨hr, ha⟩ := h c
  obtain ⟨a0, a1⟩ := hagree c
  have e : ∀ x0 x1, x0 = m ((c.tc : Thread Cert.Kernel7Ideal.nD Cert.Kernel7Ideal.τ).loc Cert.Kernel7Ideal.main_arg0) → x1 = m ((c.tc : Thread Cert.Kernel7Ideal.nD Cert.Kernel7Ideal.τ).loc Cert.Kernel7Ideal.main_arg1)
      → Cert.Reference7Ideal.Read.val_main_v2 (F := Ideal) x0 x1 = (Cert.Kernel7Ideal.Gen.dats m 0 c).arrAt 2 Cert.Kernel7Ideal.cfg0.N := by
    rintro _ _ rfl rfl
    exact (UpDx.array m c).symm
  exact ⟨hr.trans (e _ _ a0 a1), ha⟩

/-- The down projection's weight gradient is the derivative of the plain product. -/
theorem algebraic8 : Cert.algebraic_Kernel8Ideal_Reference8Ideal := by
  intro m ρ m' ρ' hpre hagree
  refine ⟨fun c => (Cert.Kernel8Ideal.Gen.dats m 0 c).arrAt 2 Cert.Kernel8Ideal.cfg0.N, Cert.Kernel8Ideal.Value.run_blocks m ρ, ?_⟩
  refine (θ_run Cert.Reference8Ideal.defs _ _).mono (fun _ h c => ?_) (Cert.Reference8Ideal.Value.run m' ρ')
  obtain ⟨hr, ha⟩ := h c
  obtain ⟨a0, a1⟩ := hagree c
  have e : ∀ x0 x1, x0 = m ((c.tc : Thread Cert.Kernel8Ideal.nD Cert.Kernel8Ideal.τ).loc Cert.Kernel8Ideal.main_arg0) → x1 = m ((c.tc : Thread Cert.Kernel8Ideal.nD Cert.Kernel8Ideal.τ).loc Cert.Kernel8Ideal.main_arg1)
      → Cert.Reference8Ideal.Read.val_main_v3 (F := Ideal) x0 x1 = (Cert.Kernel8Ideal.Gen.dats m 0 c).arrAt 2 Cert.Kernel8Ideal.cfg0.N := by
    rintro _ _ rfl rfl
    exact (DownDw.array m c).symm
  exact ⟨hr.trans (e _ _ a0 a1), ha⟩

/-- The square projections return the plain product. -/
theorem algebraic10 : Cert.algebraic_Kernel10Ideal_Reference10Ideal := by
  intro m ρ m' ρ' hpre hagree
  refine ⟨fun c => (Cert.Kernel10Ideal.Gen.dats m 0 c).arrAt 2 Cert.Kernel10Ideal.cfg0.N, Cert.Kernel10Ideal.Value.run_blocks m ρ, ?_⟩
  refine (θ_run Cert.Reference10Ideal.defs _ _).mono (fun _ h c => ?_) (Cert.Reference10Ideal.Value.run m' ρ')
  obtain ⟨hr, ha⟩ := h c
  obtain ⟨a0, a1⟩ := hagree c
  have e : ∀ x0 x1, x0 = m ((c.tc : Thread Cert.Kernel10Ideal.nD Cert.Kernel10Ideal.τ).loc Cert.Kernel10Ideal.main_arg0) → x1 = m ((c.tc : Thread Cert.Kernel10Ideal.nD Cert.Kernel10Ideal.τ).loc Cert.Kernel10Ideal.main_arg1)
      → Cert.Reference10Ideal.Read.val_main_v0 (F := Ideal) x0 x1 = (Cert.Kernel10Ideal.Gen.dats m 0 c).arrAt 2 Cert.Kernel10Ideal.cfg0.N := by
    rintro _ _ rfl rfl
    exact (Square.array m c).symm
  exact ⟨hr.trans (e _ _ a0 a1), ha⟩

/-- The square projections' weight gradient is the derivative of the plain product. -/
theorem algebraic11 : Cert.algebraic_Kernel11Ideal_Reference11Ideal := by
  intro m ρ m' ρ' hpre hagree
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun _ h c => ?_) (Cert.Reference11Ideal.Value.run m' ρ')
  obtain ⟨hr, ha⟩ := h c
  obtain ⟨a0, a1⟩ := hagree c
  have e : ∀ x0 x1, x0 = m ((c.tc : Thread Cert.Kernel11Ideal.nD Cert.Kernel11Ideal.τ).loc Cert.Kernel11Ideal.main_arg0) → x1 = m ((c.tc : Thread Cert.Kernel11Ideal.nD Cert.Kernel11Ideal.τ).loc Cert.Kernel11Ideal.main_arg1)
      → Cert.Reference11Ideal.Read.val_main_v3 (F := Ideal) x0 x1 = (Cert.Kernel11Ideal.Gen.dats m 0 c).arrAt 2 Cert.Kernel11Ideal.cfg0.N := by
    rintro _ _ rfl rfl
    exact (SquareDw.array m c).symm
  exact ⟨hr.trans (e _ _ a0 a1), ha⟩

/-- The gated unit projection returns the plain product. -/
theorem algebraic12 : Cert.algebraic_Kernel12Ideal_Reference12Ideal := by
  intro m ρ m' ρ' hpre hagree
  refine ⟨fun c => (Cert.Kernel12Ideal.Gen.dats m 0 c).arrAt 2 Cert.Kernel12Ideal.cfg0.N, Cert.Kernel12Ideal.Value.run_blocks m ρ, ?_⟩
  refine (θ_run Cert.Reference12Ideal.defs _ _).mono (fun _ h c => ?_) (Cert.Reference12Ideal.Value.run m' ρ')
  obtain ⟨hr, ha⟩ := h c
  obtain ⟨a0, a1⟩ := hagree c
  have e : ∀ x0 x1, x0 = m ((c.tc : Thread Cert.Kernel12Ideal.nD Cert.Kernel12Ideal.τ).loc Cert.Kernel12Ideal.main_arg0) → x1 = m ((c.tc : Thread Cert.Kernel12Ideal.nD Cert.Kernel12Ideal.τ).loc Cert.Kernel12Ideal.main_arg1)
      → Cert.Reference12Ideal.Read.val_main_v0 (F := Ideal) x0 x1 = (Cert.Kernel12Ideal.Gen.dats m 0 c).arrAt 2 Cert.Kernel12Ideal.cfg0.N := by
    rintro _ _ rfl rfl
    exact (Glu.array m c).symm
  exact ⟨hr.trans (e _ _ a0 a1), ha⟩

/-- The gated unit projection's weight gradient is the derivative of the plain product. -/
theorem algebraic13 : Cert.algebraic_Kernel13Ideal_Reference13Ideal := by
  intro m ρ m' ρ' hpre hagree
  refine ⟨fun c => (Cert.Kernel13Ideal.Gen.dats m 0 c).arrAt 2 Cert.Kernel13Ideal.cfg0.N, Cert.Kernel13Ideal.Value.run_blocks m ρ, ?_⟩
  refine (θ_run Cert.Reference13Ideal.defs _ _).mono (fun _ h c => ?_) (Cert.Reference13Ideal.Value.run m' ρ')
  obtain ⟨hr, ha⟩ := h c
  obtain ⟨a0, a1⟩ := hagree c
  have e : ∀ x0 x1, x0 = m ((c.tc : Thread Cert.Kernel13Ideal.nD Cert.Kernel13Ideal.τ).loc Cert.Kernel13Ideal.main_arg0) → x1 = m ((c.tc : Thread Cert.Kernel13Ideal.nD Cert.Kernel13Ideal.τ).loc Cert.Kernel13Ideal.main_arg1)
      → Cert.Reference13Ideal.Read.val_main_v3 (F := Ideal) x0 x1 = (Cert.Kernel13Ideal.Gen.dats m 0 c).arrAt 2 Cert.Kernel13Ideal.cfg0.N := by
    rintro _ _ rfl rfl
    exact (GluDw.array m c).symm
  exact ⟨hr.trans (e _ _ a0 a1), ha⟩

/-- The gated unit projection's input gradient is the derivative of the plain product. -/
theorem algebraic14 : Cert.algebraic_Kernel14Ideal_Reference14Ideal := by
  intro m ρ m' ρ' hpre hagree
  refine ⟨fun c => (Cert.Kernel14Ideal.Gen.dats m 0 c).arrAt 2 Cert.Kernel14Ideal.cfg0.N, Cert.Kernel14Ideal.Value.run_blocks m ρ, ?_⟩
  refine (θ_run Cert.Reference14Ideal.defs _ _).mono (fun _ h c => ?_) (Cert.Reference14Ideal.Value.run m' ρ')
  obtain ⟨hr, ha⟩ := h c
  obtain ⟨a0, a1⟩ := hagree c
  have e : ∀ x0 x1, x0 = m ((c.tc : Thread Cert.Kernel14Ideal.nD Cert.Kernel14Ideal.τ).loc Cert.Kernel14Ideal.main_arg0) → x1 = m ((c.tc : Thread Cert.Kernel14Ideal.nD Cert.Kernel14Ideal.τ).loc Cert.Kernel14Ideal.main_arg1)
      → Cert.Reference14Ideal.Read.val_main_v2 (F := Ideal) x0 x1 = (Cert.Kernel14Ideal.Gen.dats m 0 c).arrAt 2 Cert.Kernel14Ideal.cfg0.N := by
    rintro _ _ rfl rfl
    exact (GluDx.array m c).symm
  exact ⟨hr.trans (e _ _ a0 a1), ha⟩

/-- The down projection returns the residual stream and its normalised rows. -/
theorem algebraic9 : Cert.algebraic_Kernel9Ideal_Reference9Ideal := by
  intro m ρ m' ρ' hpre hagree
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N, Cert.Kernel9Ideal.Value.run_blocks m ρ, ?_⟩
  refine (θ_run Cert.Reference9Ideal.defs _ _).mono (fun _ h c => ?_) (Cert.Reference9Ideal.Value.run m' ρ')
  obtain ⟨hy, hr, ha⟩ := h c
  obtain ⟨a0, a1, a2⟩ := hagree c
  have ey : ∀ x0 x1 x2, x0 = m ((c.tc : Thread Cert.Kernel9Ideal.nD Cert.Kernel9Ideal.τ).loc Cert.Kernel9Ideal.main_arg0) → x1 = m ((c.tc : Thread Cert.Kernel9Ideal.nD Cert.Kernel9Ideal.τ).loc Cert.Kernel9Ideal.main_arg1) → x2 = m ((c.tc : Thread Cert.Kernel9Ideal.nD Cert.Kernel9Ideal.τ).loc Cert.Kernel9Ideal.main_arg2)
      → Cert.Reference9Ideal.Read.val_main_v1 (F := Ideal) x0 x1 x2 = (Cert.Kernel9Ideal.Gen.dats m 0 c).arrAt 4 Cert.Kernel9Ideal.cfg0.N := by
    rintro _ _ _ rfl rfl rfl
    exact (Down.array_y m c).symm
  have er : ∀ x0 x1 x2, x0 = m ((c.tc : Thread Cert.Kernel9Ideal.nD Cert.Kernel9Ideal.τ).loc Cert.Kernel9Ideal.main_arg0) → x1 = m ((c.tc : Thread Cert.Kernel9Ideal.nD Cert.Kernel9Ideal.τ).loc Cert.Kernel9Ideal.main_arg1) → x2 = m ((c.tc : Thread Cert.Kernel9Ideal.nD Cert.Kernel9Ideal.τ).loc Cert.Kernel9Ideal.main_arg2)
      → Cert.Reference9Ideal.Read.val_main_v12 (F := Ideal) x0 x1 x2 = (Cert.Kernel9Ideal.Gen.dats m 0 c).arrAt 5 Cert.Kernel9Ideal.cfg0.N := by
    rintro _ _ _ rfl rfl rfl
    exact (Down.array_r m c).symm
  exact ⟨hy.trans (ey _ _ _ a0 a1 a2), hr.trans (er _ _ _ a0 a1 a2), ha⟩

end Cert.Mm
end
-- ==== Proof.Mm.Qkv.lean ====
/-
  The projection to q, k and v: its run against the plain product.
-/
module
public import proofs.«01_k».proof.Proof.Gen.Kernel15Ideal.Value
public import proofs.«01_k».proof.Proof.Gen.Reference15Ideal.Read
public import proofs.«01_k».proof.Proof.Gen.Reference15Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.Qkv
open Cert.Kernel15Ideal Cert.Kernel15Ideal.Gen Idealize.ShloMosaic Idealize.ShloMosaic.TcCoe Idealize.SL.Sem

theorem hz : (![0, 0] : Fin 2 → Nat) = fun _ => 0 := funext fun a => by fin_cases a <;> rfl

/-- A tile's product is the sum over the inner index. -/
theorem pay_at (x : Vec Ideal S1024x1024 .bf16) (y : Vec Ideal S1024x768 .bf16) (r : Fin 1024) (l : Fin 768) :
    k0_pay1 (F := Ideal) x y (ValueIdx.ix2 r l) = ∑ k : Fin 1024, x (ValueIdx.ix2 r k) * y (ValueIdx.ix2 k l) := by
  pointwise [k0_pay1]
  rfl

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The weights in the narrow format are the weights. -/
theorem V_v1 : (V m c main_v1 : S1024x1536.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![(grid0.coords t 0).val, (grid0.coords t 2).val] := (by decide +kernel : ∀ t : Fin grid0.N, _)
theorem idx1 : ∀ t : Fin cfg0.N, win0_1.index t = ![(grid0.coords t 2).val, (grid0.coords t 1).val] := (by decide +kernel : ∀ t : Fin grid0.N, _)
theorem idx2 : ∀ t : Fin cfg0.N, win0_2.index t = ![(grid0.coords t 0).val, (grid0.coords t 1).val] := (by decide +kernel : ∀ t : Fin grid0.N, _)
theorem one : ∀ t : Fin cfg0.N, (grid0.coords t 2).val = 0 := (by decide +kernel : ∀ t : Fin grid0.N, _)

/-- The array of products. -/
theorem array : (dats m 0 c).arrAt 2 cfg0.N
    = Cert.Reference15Ideal.Read.val_main_v0 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 768), y = ValueIdx.ix2 r l := ⟨y 0, y 1, by funext u; match u with | ⟨0, _⟩ => rfl | ⟨1, _⟩ => rfl⟩
  obtain ⟨r, l, rfl⟩ := hy
  rw [Cert.Reference15Ideal.Read.val_main_v0_apply]
  blk_simp
  rw [after0_2]
  unfold out0_2
  rw [View.canon_unit_zero hz, View.ld_unit_zero (S := S1024x1024) hz, View.ld_unit_zero (S := S1024x768) hz]
  refine (pay_at _ _ r l).trans (Finset.sum_congr rfl fun k _ => ?_)
  congr 1
  · blk_simp [iblk, idx0]
    rw [V_v0]
    congr 1
    funext u
    apply Fin.ext
    match u with
    | ⟨0, _⟩ =>
      change _ = (((win0_2.blk t).view.emb (ValueIdx.ix2 r l)) 0).val
      blk_simp [idx0, idx2]
      try rfl
    | ⟨1, _⟩ =>
      change _ = k.val
      blk_simp [idx0, idx2, one]
      try rfl
  · blk_simp [iblk, idx1]
    rw [V_v1]
    congr 1
    funext u
    apply Fin.ext
    match u with
    | ⟨0, _⟩ =>
      change _ = k.val
      blk_simp [idx1, idx2, one]
      try rfl
    | ⟨1, _⟩ =>
      change _ = (((win0_2.blk t).view.emb (ValueIdx.ix2 r l)) 1).val
      blk_simp [idx1, idx2]
      try rfl

end Cert.Mm.Qkv
end
-- ==== Proof.Mm.QkvDwBlock.lean ====
/-
  The weight gradient of q, k and v: what one grid point adds to the accumulator.
-/
module
public import proofs.«01_k».proof.Proof.Gen.Kernel16Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.QkvDw
open Cert.Kernel16Ideal Cert.Kernel16Ideal.Gen Idealize.ShloMosaic Idealize.ShloMosaic.TcCoe Idealize.SL.Sem

theorem hz : (![0, 0] : Fin 2 → Nat) = fun _ => 0 := funext fun a => by fin_cases a <;> rfl

/-- A tile's product sums over the rows of both tiles. -/
theorem pay1_at (x : Vec Ideal S1024x1024 .bf16) (y : Vec Ideal S1024x768 .bf16) (r : Fin 1024) (l : Fin 768) :
    k0_pay1 (F := Ideal) x y (ValueIdx.ix2 r l) = ∑ k : Fin 1024, x (ValueIdx.ix2 k r) * y (ValueIdx.ix2 k l) := by
  pointwise [k0_pay1]
  rfl

/-- The first point stores the product itself. -/
theorem pay2_at (x : Vec Ideal S1024x1024 .bf16) (y : Vec Ideal S1024x768 .bf16) (r : Fin 1024) (l : Fin 768) :
    k0_pay2 (F := Ideal) x y (ValueIdx.ix2 r l) = ∑ k : Fin 1024, x (ValueIdx.ix2 k r) * y (ValueIdx.ix2 k l) := by
  pointwise [k0_pay2, k0_pay1]
  rfl

/-- Every later point adds its product to what it finds. -/
theorem pay3_at (x : Vec Ideal S1024x1024 .bf16) (y : Vec Ideal S1024x768 .bf16) (a : Vec Ideal S1024x768 .f32) (r : Fin 1024) (l : Fin 768) :
    k0_pay3 (F := Ideal) x y a (ValueIdx.ix2 r l) = a (ValueIdx.ix2 r l) + ∑ k : Fin 1024, x (ValueIdx.ix2 k r) * y (ValueIdx.ix2 k l) := by
  pointwise [k0_pay3, k0_pay1]
  rfl

variable (c : Dev nD) (i : grid0.Coords) (arg3 : Memref sig .tc .vmem S1024x1024 .bf16) (harg3 : arg3.IsWhole) (arg4 : Memref sig .tc .vmem S1024x768 .bf16) (harg4 : arg4.IsWhole) (arg5 : Memref sig .tc .vmem S1024x768 .f32) (harg5 : arg5.IsWhole) (arg6 : Memref sig .tc .vmem S1024x768 .f32) (harg6 : arg6.IsWhole)
variable (x0 : Vec Ideal S1024x1024 .bf16) (x1 : Vec Ideal S1024x768 .bf16) (xs : Vec Ideal S1024x768 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x1024) hz, View.ld_unit_zero (S := S1024x768) hz]

/-- A middle point adds its product to the accumulator. -/
theorem soutB (hc0 : ¬cond0_0 i) (hc1 : cond0_1 i) (hc2 : ¬cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x1024) hz, View.ld_unit_zero (S := S1024x768) hz]

/-- The last point adds its product to the accumulator. -/
theorem soutC (hc0 : ¬cond0_0 i) (hc1 : cond0_1 i) (hc2 : cond0_2 i) : sout0_C_0 (F := Ideal) c i arg3 harg3 arg4 harg4 arg5 harg5 arg6 harg6 hc0 hc1 hc2 x0 x1 xs = k0_pay3 (F := Ideal) x0 x1 xs := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x768) hz]

/-- The last point writes the accumulator out. -/
theorem outC (hc0 : ¬cond0_0 i) (hc1 : cond0_1 i) (hc2 : cond0_2 i) : out0_C_2 (F := Ideal) c i arg3 harg3 arg4 harg4 arg5 harg5 arg6 harg6 hc0 hc1 hc2 x0 x1 xs = k0_pay3 (F := Ideal) x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x1024) hz, View.ld_unit_zero (S := S1024x768) hz]
  exact View.readCov_cons_toLoadRect _ _ _ _

end Cert.Mm.QkvDw
end
-- ==== Proof.Mm.QkvDw.lean ====
/-
  The weight gradient of q, k and v: the sixteen steps of the accumulator against the derivative of the plain product.
-/
module
public import proofs.«01_k».proof.Proof.Mm.QkvDwBlock
public import proofs.«01_k».proof.Proof.Gen.Reference16Ideal.Read
public import proofs.«01_k».proof.Proof.Gen.Reference16Ideal.Run
public import Idealize.ShloMosaic.Lib.StableHlo.RunRead
public import proofs.«01_k».proof.Defs
@[expose] public section
set_option maxRecDepth 16384
set_option maxHeartbeats 1000000
noncomputable section
namespace Cert.Mm.QkvDw
open Cert.Kernel16Ideal Cert.Kernel16Ideal.Gen Idealize.ShloMosaic Idealize.ShloMosaic.TcCoe Idealize.SL.Sem

variable (m : (ℓ : Loc nD τ sig) → Buf (Elt Ideal) ℓ) (c : Dev nD)

/-- The rows in the narrow format are the rows. -/
theorem V_v0 : (V m c main_v0 : S16384x1024.Idx → EReal) = m ((c : Thread nD τ).loc main_arg0) := by
  simp only [V, hostOps0, List.flatten_cons, List.flatten_nil, List.append_nil, List.cons_append, List.nil_append]
  after_reads_simp
  rfl

/-- The gradients in the narrow format are the gradients. -/
theorem V_v1 : (V m c main_v1 : S16384x1536.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![t.val % 16, 0] := (by decide +kernel : ∀ t : Fin grid0.N, _)
theorem idx1 : ∀ t : Fin cfg0.N, win0_1.index t = ![t.val % 16, t.val / 16] := (by decide +kernel : ∀ t : Fin grid0.N, _)
theorem idx2 : ∀ t : Fin cfg0.N, win0_2.index t = ![0, t.val / 16] := (by decide +kernel : ∀ t : Fin grid0.N, _)

/-- What block `j` of 1024 rows adds to entry `(r, a * 768 + l)` of the gradient. -/
def part (X : S16384x1024.Idx → EReal) (Y : S16384x1536.Idx → EReal) (a : Fin 2) (r : Fin 1024) (l : Fin 768) (j : Fin 16) : EReal :=
  ∑ k : Fin 1024, X (ValueIdx.ix2 ⟨j.val * 1024 + k.val, by omega⟩ r) * Y (ValueIdx.ix2 ⟨j.val * 1024 + k.val, by omega⟩ ⟨a.val * 768 + l.val, by omega⟩)

/-- The product of one grid point is its block's part. -/
theorem prod_at (t : Fin cfg0.N) (a : Fin 2) (j : Fin 16) (ha : t.val / 16 = a.val) (hj : t.val % 16 = j.val) (r : Fin 1024) (l : Fin 768)
    (x : Vec Ideal S1024x1024 .bf16) (y : Vec Ideal S1024x768 .bf16) (hx : x = iblk m c 0 t) (hy : y = iblk m c 1 t) :
    ∑ k : Fin 1024, x (ValueIdx.ix2 k r) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_v0]
    congr 1
    funext u
    apply Fin.ext
    match u with
    | ⟨0, _⟩ =>
      change _ = j.val * 1024 + k.val
      rw [← hj]
      blk_simp [idx0]
      try rfl
    | ⟨1, _⟩ =>
      change _ = r.val
      blk_simp [idx0]
      try rfl
  · blk_simp [iblk, idx1]
    rw [V_v1]
    congr 1
    funext u
    apply Fin.ext
    match u with
    | ⟨0, _⟩ =>
      change _ = j.val * 1024 + k.val
      rw [← hj]
      blk_simp [idx1]
      try rfl
    | ⟨1, _⟩ =>
      change _ = a.val * 768 + l.val
      rw [← ha]
      blk_simp [idx1]
      try rfl

/-- Step `b` of a column half leaves the sum of the first `b + 1` parts in the accumulator, and the last step writes it out. -/
theorem acc_at (a : Fin 2) (r : Fin 1024) (l : Fin 768) : ∀ (b : ℕ) (hb : b < 16) (n : ℕ) (_ : n = a.val * 16 + b) (hn : n < cfg0.N),
    ((outsAt0 m c n hn).2 : S1024x768.Idx → EReal) (ValueIdx.ix2 r l)
      = ∑ j : Fin (b + 1), part (m ((c : Thread nD τ).loc main_arg0)) (m ((c : Thread nD τ).loc main_arg1)) a r l ⟨j.val, by omega⟩
    ∧ (b = 15 → ((outsAt0 m c n hn).1 : S1024x768.Idx → EReal) (ValueIdx.ix2 r l)
      = ∑ j : Fin (b + 1), part (m ((c : Thread nD τ).loc main_arg0)) (m ((c : Thread nD τ).loc main_arg1)) a r l ⟨j.val, by omega⟩)
  | 0, _, n, he, hn => by
    refine ⟨?_, fun h => absurd h (by decide)⟩
    have e := outsAt0_A m c ⟨n, hn⟩ (by dsimp only; omega) (by dsimp only; omega) (by dsimp only; omega)
    dsimp only at e
    rw [e]
    dsimp only
    rw [soutA, pay2_at, prod_at m c ⟨n, hn⟩ a 0 (by dsimp only; omega) (by dsimp only; omega) r l _ _ rfl rfl]
    simp
  | b + 1, hb, n, he, hn => by
    have ih := (acc_at a r l b (by omega) (n - 1) (by omega) (by omega)).1
    have step : ((outsAt0 m c (n - 1) (by omega)).2 : S1024x768.Idx → EReal) (ValueIdx.ix2 r l)
        + part (m ((c : Thread nD τ).loc main_arg0)) (m ((c : Thread nD τ).loc main_arg1)) a r l ⟨b + 1, hb⟩
        = ∑ j : Fin (b + 1 + 1), part (m ((c : Thread nD τ).loc main_arg0)) (m ((c : Thread nD τ).loc main_arg1)) a r l ⟨j.val, by omega⟩ := by
      rw [ih, Fin.sum_univ_castSucc (n := b + 1)]
      rfl
    have pr := prod_at m c ⟨n, hn⟩ a ⟨b + 1, hb⟩ (by dsimp only; omega) (by dsimp only; omega) r l _ _ rfl rfl
    by_cases h15 : b + 1 = 15
    · have e := outsAt0_C m c ⟨n, hn⟩ (by dsimp only; omega) (by dsimp only; omega) (by dsimp only; omega)
      dsimp only at e
      rw [e]
      dsimp only
      refine ⟨?_, fun _ => ?_⟩
      · rw [soutC, pay3_at, pr]
        exact step
      · rw [outC, pay3_at, pr]
        exact step
    · refine ⟨?_, fun h => absurd h h15⟩
      have e := outsAt0_B m c ⟨n, hn⟩ (by dsimp only; omega) (by dsimp only; omega) (by dsimp only; omega)
      dsimp only at e
      rw [e]
      dsimp only
      rw [soutB, pay3_at, pr]
      exact step

/-- All sixteen parts together are the reference's sum over every row. -/
theorem parts_sum (X : S16384x1024.Idx → EReal) (Y : S16384x1536.Idx → EReal) (a : Fin 2) (r : Fin 1024) (l : Fin 768) :
    ∑ j : Fin 16, part X Y a r l j
      = ∑ k : Fin 16384, Y (ValueIdx.ix2 k ⟨a.val * 768 + l.val, by omega⟩) * X (ValueIdx.ix2 k r) := by
  unfold part
  refine (Fintype.sum_prod_type' (fun (j : Fin 16) (k : Fin 1024) => X (ValueIdx.ix2 ⟨j.val * 1024 + k.val, by omega⟩ r)
    * Y (ValueIdx.ix2 ⟨j.val * 1024 + k.val, by omega⟩ ⟨a.val * 768 + l.val, by omega⟩))).symm.trans ?_
  refine Fintype.sum_equiv (finProdFinEquiv (m := 16) (n := 1024)) _ _ fun p => ?_
  rw [mul_comm]
  have e : (finProdFinEquiv p : Fin (16 * 1024)) = ⟨p.1.val * 1024 + p.2.val, by omega⟩ := by
    apply Fin.ext
    change p.2.val + 1024 * p.1.val = p.1.val * 1024 + p.2.val
    omega
  rw [e]

/-- The array of weight gradients. -/
theorem array : (dats m 0 c).arrAt 2 cfg0.N
    = Cert.Reference16Ideal.Read.val_main_v3 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 768), y = ValueIdx.ix2 r l := ⟨y 0, y 1, by funext u; match u with | ⟨0, _⟩ => rfl | ⟨1, _⟩ => rfl⟩
  obtain ⟨r, l, rfl⟩ := hy
  have h15 := (flush0_2 t).1 hf
  have hN : t.val < 32 := lt_of_lt_of_eq t.isLt N_0
  rw [Cert.Reference16Ideal.Read.val_main_v3_apply, Cert.Reference16Ideal.Read.val_main_v2_apply]
  blk_simp
  rw [after0_2]
  rw [(acc_at m c ⟨t.val / 16, by omega⟩ r l 15 (by omega) t.val (by dsimp only; omega) t.isLt).2 rfl]
  refine (parts_sum _ _ _ r l).trans (Finset.sum_congr rfl fun k _ => ?_)
  congr 1
  · congr 1
    funext u
    apply Fin.ext
    match u with
    | ⟨0, _⟩ => rfl
    | ⟨1, _⟩ =>
      change _ = (((win0_2.blk t).view.emb (ValueIdx.ix2 r l)) 1).val
      blk_simp [idx2]
      try rfl
  · congr 1
    funext u
    apply Fin.ext
    match u with
    | ⟨0, _⟩ => rfl
    | ⟨1, _⟩ =>
      change _ = (((win0_2.blk t).view.emb (ValueIdx.ix2 r l)) 0).val
      blk_simp [idx2]
      try rfl

end Cert.Mm.QkvDw
end
-- ==== Proof.Mm.UvDx.lean ====
/-
  The gradient of the mixer's input from u and v: its run against the derivative of the plain product.
-/
module
public import proofs.«01_k».proof.Proof.Gen.Kernel17Ideal.Value
public import proofs.«01_k».proof.Proof.Gen.Reference17Ideal.Read
public import proofs.«01_k».proof.Proof.Gen.Reference17Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.UvDx
open Cert.Kernel17Ideal Cert.Kernel17Ideal.Gen Idealize.ShloMosaic Idealize.ShloMosaic.TcCoe Idealize.SL.Sem

theorem hz : (![0, 0] : Fin 2 → Nat) = fun _ => 0 := funext fun a => by fin_cases a <;> rfl

/-- A tile's product is the sum over the columns of both. -/
theorem pay_at (x : Vec Ideal S1024x1024 .bf16) (y : Vec Ideal S1024x1024 .bf16) (r : Fin 1024) (l : Fin 1024) :
    k0_pay1 (F := Ideal) x y (ValueIdx.ix2 r l) = ∑ k : Fin 1024, x (ValueIdx.ix2 r k) * y (ValueIdx.ix2 l k) := by
  pointwise [k0_pay1]
  rfl

variable (m : (ℓ : Loc nD τ sig) → Buf (Elt Ideal) ℓ) (c : Dev nD)

/-- The weights in the narrow format are the weights. -/
theorem V_v1 : (V m c main_v1 : S1024x1024.Idx → EReal) = m ((c : Thread nD τ).loc main_arg0) := by
  simp only [V, hostOps0, List.flatten_cons, List.flatten_nil, List.append_nil, List.cons_append, List.nil_append]
  after_reads_simp
  rfl

/-- The gradients in the narrow format are the gradients. -/
theorem V_v0 : (V m c main_v0 : S16384x1024.Idx → EReal) = m ((c : Thread nD τ).loc main_arg1) := by
  simp only [V, hostOps0, List.flatten_cons, List.flatten_nil, List.append_nil, List.cons_append, List.nil_append]
  after_reads_simp
  rfl

theorem idx0 : ∀ t : Fin cfg0.N, win0_0.index t = ![(grid0.coords t 0).val, (grid0.coords t 2).val] := (by decide +kernel : ∀ t : Fin grid0.N, _)
theorem idx1 : ∀ t : Fin cfg0.N, win0_1.index t = ![(grid0.coords t 1).val, (grid0.coords t 2).val] := (by decide +kernel : ∀ t : Fin grid0.N, _)
theorem idx2 : ∀ t : Fin cfg0.N, win0_2.index t = ![(grid0.coords t 0).val, (grid0.coords t 1).val] := (by decide +kernel : ∀ t : Fin grid0.N, _)
theorem one : ∀ t : Fin cfg0.N, (grid0.coords t 2).val = 0 := (by decide +kernel : ∀ t : Fin grid0.N, _)

/-- The array of gradients. -/
theorem array : (dats m 0 c).arrAt 2 cfg0.N
    = Cert.Reference17Ideal.Read.val_main_v2 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  rw [Cert.Reference17Ideal.Read.val_main_v2_apply]
  blk_simp
  rw [after0_2]
  unfold out0_2
  rw [View.canon_unit_zero hz, View.ld_unit_zero (S := S1024x1024) hz, View.ld_unit_zero (S := S1024x1024) hz]
  refine (pay_at _ _ r l).trans (Finset.sum_congr rfl fun k _ => ?_)
  congr 1
  · blk_simp [iblk, idx0]
    rw [V_v0]
    congr 1
    funext u
    apply Fin.ext
    match u with
    | ⟨0, _⟩ =>
      change _ = (((win0_2.blk t).view.emb (ValueIdx.ix2 r l)) 0).val
      blk_simp [idx0, idx2]
      try rfl
    | ⟨1, _⟩ =>
      change _ = k.val
      blk_simp [idx0, idx2, one]
      try rfl
  · blk_simp [iblk, idx1]
    rw [V_v1]
    congr 1
    funext u
    apply Fin.ext
    match u with
    | ⟨0, _⟩ =>
      change _ = (((win0_2.blk t).view.emb (ValueIdx.ix2 r l)) 1).val
      blk_simp [idx1, idx2]
      try rfl
    | ⟨1, _⟩ =>
      change _ = k.val
      blk_simp [idx1, idx2, one]
      try rfl

end Cert.Mm.UvDx
end
-- ==== Proof.Mm.QkvDxBlock.lean ====
/-
  The gradient of the mixer's input from q, k and v: what one grid point adds to the accumulator, and what the second one writes.
-/
module
public import proofs.«01_k».proof.Proof.Gen.Kernel18Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.QkvDx
open Cert.Kernel18Ideal Cert.Kernel18Ideal.Gen Idealize.ShloMosaic Idealize.ShloMosaic.TcCoe Idealize.SL.Sem

theorem hz : (![0, 0] : Fin 2 → Nat) = fun _ => 0 := funext fun a => by fin_cases a <;> rfl

/-- A tile's product sums over the columns of both tiles. -/
theorem pay1_at (x : Vec Ideal S1024x768 .bf16) (y : Vec Ideal S1024x768 .bf16) (r : Fin 1024) (l : Fin 1024) :
    k0_pay1 (F := Ideal) x y (ValueIdx.ix2 r l) = ∑ k : Fin 768, x (ValueIdx.ix2 r k) * y (ValueIdx.ix2 l k) := by
  pointwise [k0_pay1]
  rfl

/-- The first point stores the product itself. -/
theorem pay2_at (x : Vec Ideal S1024x768 .bf16) (y : Vec Ideal S1024x768 .bf16) (r : Fin 1024) (l : Fin 1024) :
    k0_pay2 (F := Ideal) x y (ValueIdx.ix2 r l) = ∑ k : Fin 768, x (ValueIdx.ix2 r k) * y (ValueIdx.ix2 l k) := by
  pointwise [k0_pay2, k0_pay1]
  rfl

/-- The second point adds its product to what it finds. -/
theorem pay3_at (x : Vec Ideal S1024x768 .bf16) (y : Vec Ideal S1024x768 .bf16) (a : Vec Ideal S1024x1024 .f32) (r : Fin 1024) (l : Fin 1024) :
    k0_pay3 (F := Ideal) x y a (ValueIdx.ix2 r l) = a (ValueIdx.ix2 r l) + ∑ k : Fin 768, x (ValueIdx.ix2 r k) * y (ValueIdx.ix2 l k) := by
  pointwise [k0_pay3, k0_pay1]
  rfl

/-- The result adds the other gradient. -/
theorem pay4_at (a x : Vec Ideal S1024x1024 .f32) (r l : Fin 1024) :
    k0_pay4 (F := Ideal) a x (ValueIdx.ix2 r l) = x (ValueIdx.ix2 r l) + a (ValueIdx.ix2 r l) := by
  pointwise [k0_pay4]

variable (c : Dev nD) (i : grid0.Coords) (arg3 : Memref sig .tc .vmem S1024x768 .bf16) (harg3 : arg3.IsWhole) (arg4 : Memref sig .tc .vmem S1024x768 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
variable (x0 : Vec Ideal S1024x768 .bf16) (x1 : Vec Ideal S1024x768 .bf16) (x2 : Vec Ideal S1024x1024 .f32) (xs : Vec Ideal S1024x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 arg7 harg7 hc0 hc1 hc2 x0 x1 x2 = k0_pay2 (F := Ideal) x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1024x768) hz]

/-- The second point writes the sum and the other gradient. -/
theorem outB (hc0 : ¬cond0_0 i) (hc1 : cond0_1 i) (hc2 : cond0_2 i) : out0_B_3 (F := Ideal) c i arg3 harg3 arg4 harg4 arg5 harg5 arg6 harg6 arg7 harg7 hc0 hc1 hc2 x0 x1 x2 xs = k0_pay4 (F := Ideal) (k0_pay3 (F := Ideal) x0 x1 xs) x2 := by
  unfold out0_B_3
  rw [View.read_writes_eq_canon _ _ _ (cover0_B_3 c i arg3 harg3 arg4 harg4 arg5 harg5 arg6 harg6 arg7 harg7 hc0 hc1 hc2 x0 x1 x2 xs)]
  unfold kernelRun0_B
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1024x768) hz]
  exact congrArg (fun q => k0_pay4 (F := Ideal) q x2) (View.readCov_cons_toLoadRect _ _ _ _)

end Cert.Mm.QkvDx
end
-- ==== Proof.Mm.QkvDx.lean ====
/-
  The gradient of the mixer's input from q, k and v: the two steps of the accumulator and the other gradient against the derivative of the plain product.
-/
module
public import proofs.«01_k».proof.Proof.Mm.QkvDxBlock
public import proofs.«01_k».proof.Proof.Gen.Reference18Ideal.Read
public import proofs.«01_k».proof.Proof.Gen.Reference18Ideal.Run
public import Idealize.ShloMosaic.Lib.StableHlo.RunRead
public import proofs.«01_k».proof.Defs
@[expose] public section
set_option maxRecDepth 16384
set_option maxHeartbeats 1000000
noncomputable section
namespace Cert.Mm.QkvDx
open Cert.Kernel18Ideal Cert.Kernel18Ideal.Gen Idealize.ShloMosaic Idealize.ShloMosaic.TcCoe Idealize.SL.Sem

variable (m : (ℓ : Loc nD τ sig) → Buf (Elt Ideal) ℓ) (c : Dev nD)

/-- The gradients in the narrow format are the gradients. -/
theorem V_v0 : (V m c main_v0 : S16384x1536.Idx → EReal) = m ((c : Thread nD τ).loc main_arg1) := by
  simp only [V, hostOps0, List.flatten_cons, List.flatten_nil, List.append_nil, List.cons_append, List.nil_append]
  after_reads_simp
  rfl

/-- The weights in the narrow format are the weights. -/
theorem V_v1 : (V m c main_v1 : S1024x1536.Idx → EReal) = m ((c : Thread nD τ).loc main_arg0) := by
  simp only [V, hostOps0, List.flatten_cons, List.flatten_nil, List.append_nil, List.cons_append, List.nil_append]
  after_reads_simp
  rfl

/-- The other gradient is untouched before the call. -/
theorem V_arg2 : (V m c main_arg2 : S16384x1024.Idx → EReal) = m ((c : Thread nD τ).loc main_arg2) := by
  simp only [V, hostOps0, List.flatten_cons, List.flatten_nil, List.append_nil, List.cons_append, List.nil_append]
  after_reads_simp

theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)

/-- What half `j` of the columns adds to entry `(a * 1024 + r, l)` of the gradient. -/
def part (X : S16384x1536.Idx → EReal) (Y : S1024x1536.Idx → EReal) (a : Fin 16) (r l : Fin 1024) (j : Fin 2) : EReal :=
  ∑ k : Fin 768, X (ValueIdx.ix2 ⟨a.val * 1024 + r.val, by omega⟩ ⟨j.val * 768 + k.val, by omega⟩) * Y (ValueIdx.ix2 l ⟨j.val * 768 + k.val, by omega⟩)

/-- The product of one grid point is its half's part. -/
theorem prod_at (t : Fin cfg0.N) (a : Fin 16) (j : Fin 2) (ha : t.val / 2 = a.val) (hj : t.val % 2 = j.val) (r l : Fin 1024)
    (x : Vec Ideal S1024x768 .bf16) (y : Vec Ideal S1024x768 .bf16) (hx : x = iblk m c 0 t) (hy : y = iblk m c 1 t) :
    ∑ k : Fin 768, x (ValueIdx.ix2 r k) * y (ValueIdx.ix2 l k)
      = part (m ((c : Thread nD τ).loc main_arg1)) (m ((c : Thread nD τ).loc main_arg0)) a r l j := by
  subst hx hy
  refine Finset.sum_congr rfl fun k _ => ?_
  congr 1
  · blk_simp [iblk, idx0]
    rw [V_v0]
    congr 1
    funext u
    apply Fin.ext
    match u with
    | ⟨0, _⟩ =>
      change _ = a.val * 1024 + r.val
      rw [← ha]
      blk_simp [idx0]
      try rfl
    | ⟨1, _⟩ =>
      change _ = j.val * 768 + k.val
      rw [← hj]
      blk_simp [idx0]
      try rfl
  · blk_simp [iblk, idx1]
    rw [V_v1]
    congr 1
    funext u
    apply Fin.ext
    match u with
    | ⟨0, _⟩ =>
      change _ = l.val
      blk_simp [idx1]
      try rfl
    | ⟨1, _⟩ =>
      change _ = j.val * 768 + k.val
      rw [← hj]
      blk_simp [idx1]
      try rfl

/-- The first step of a row block leaves the first part in the accumulator. -/
theorem acc_first (a : Fin 16) (r l : Fin 1024) (n : ℕ) (he : n = a.val * 2) (hn : n < cfg0.N) :
    ((outsAt0 m c n hn).2 : S1024x1024.Idx → EReal) (ValueIdx.ix2 r l)
      = part (m ((c : Thread nD τ).loc main_arg1)) (m ((c : Thread nD τ).loc main_arg0)) a r l 0 := by
  have e := outsAt0_A m c ⟨n, hn⟩ (by dsimp only; omega) (by dsimp only; omega) (by dsimp only; omega)
  dsimp only at e
  rw [e]
  dsimp only
  rw [soutA, pay2_at, prod_at m c ⟨n, hn⟩ a 0 (by dsimp only; omega) (by dsimp only; omega) r l _ _ rfl rfl]

/-- A block of the other gradient. -/
theorem res_at (t : Fin cfg0.N) (a : Fin 16) (ha : t.val / 2 = a.val) (r l : Fin 1024) (z : Vec Ideal S1024x1024 .f32) (hz2 : z = iblk m c 2 t) :
    z (ValueIdx.ix2 r l) = (m ((c : Thread nD τ).loc main_arg2) : S16384x1024.Idx → EReal) (ValueIdx.ix2 ⟨a.val * 1024 + r.val, by omega⟩ l) := by
  subst hz2
  blk_simp [iblk, idx2]
  rw [V_arg2]
  congr 1
  funext u
  apply Fin.ext
  match u with
  | ⟨0, _⟩ =>
    change _ = a.val * 1024 + r.val
    rw [← ha]
    blk_simp [idx2]
    try rfl
  | ⟨1, _⟩ =>
    change _ = l.val
    blk_simp [idx2]
    try rfl

/-- The second step writes the other gradient plus both parts. -/
theorem out_at (a : Fin 16) (r l : Fin 1024) (n : ℕ) (he : n = a.val * 2 + 1) (hn : n < cfg0.N)
    (Z : S16384x1024.Idx → EReal) (hZ : Z = m ((c : Thread nD τ).loc main_arg2)) :
    ((outsAt0 m c n hn).1 : S1024x1024.Idx → EReal) (ValueIdx.ix2 r l)
      = Z (ValueIdx.ix2 ⟨a.val * 1024 + r.val, by omega⟩ l) + ∑ j : Fin 2, part (m ((c : Thread nD τ).loc main_arg1)) (m ((c : Thread nD τ).loc main_arg0)) a r l j := by
  have e := outsAt0_B m c ⟨n, hn⟩ (by dsimp only; omega) (by dsimp only; omega) (by dsimp only; omega)
  dsimp only at e
  rw [e]
  dsimp only
  rw [outB, pay4_at, pay3_at, prod_at m c ⟨n, hn⟩ a 1 (by dsimp only; omega) (by dsimp only; omega) r l _ _ rfl rfl,
    acc_first m c a r l (n - 1) (by omega), Fin.sum_univ_two, res_at m c ⟨n, hn⟩ a (by dsimp only; omega) r l _ rfl, hZ]

/-- Both parts together are the reference's sum over every column. -/
theorem parts_sum (X : S16384x1536.Idx → EReal) (Y : S1024x1536.Idx → EReal) (a : Fin 16) (r l : Fin 1024) :
    ∑ j : Fin 2, part X Y a r l j
      = ∑ k : Fin 1536, X (ValueIdx.ix2 ⟨a.val * 1024 + r.val, by omega⟩ k) * Y (ValueIdx.ix2 l k) := by
  unfold part
  refine (Fintype.sum_prod_type' (fun (j : Fin 2) (k : Fin 768) => X (ValueIdx.ix2 ⟨a.val * 1024 + r.val, by omega⟩ ⟨j.val * 768 + k.val, by omega⟩)
    * Y (ValueIdx.ix2 l ⟨j.val * 768 + k.val, by omega⟩))).symm.trans ?_
  refine Fintype.sum_equiv (finProdFinEquiv (m := 2) (n := 768)) _ _ fun p => ?_
  have e : (finProdFinEquiv p : Fin (2 * 768)) = ⟨p.1.val * 768 + p.2.val, by omega⟩ := by
    apply Fin.ext
    change p.2.val + 768 * p.1.val = p.1.val * 768 + p.2.val
    omega
  rw [e]

/-- The reference's sum of the other gradient and the product. -/
theorem ref_at (W : S1024x1536.Idx → EReal) (X : S16384x1536.Idx → EReal) (Z : S16384x1024.Idx → EReal) (R : Fin 16384) (l : Fin 1024) :
    Cert.Reference18Ideal.Read.val_main_v3 (F := Ideal) W X Z (ValueIdx.ix2 R l)
      = Z (ValueIdx.ix2 R l) + ∑ k : Fin 1536, X (ValueIdx.ix2 R k) * W (ValueIdx.ix2 l k) := by
  rw [Cert.Reference18Ideal.Read.val_main_v3_apply, Cert.Reference18Ideal.Read.val_main_v2_apply]
  refine congrArg (Z (ValueIdx.ix2 R l) + ·) (Finset.sum_congr rfl fun k _ => ?_)
  congr 1
  · congr 1
    funext u
    match u with | ⟨0, _⟩ => rfl | ⟨1, _⟩ => rfl
  · congr 1
    funext u
    match u with | ⟨0, _⟩ => rfl | ⟨1, _⟩ => rfl

/-- The array of input gradients. -/
theorem array : (dats m 0 c).arrAt 3 cfg0.N
    = Cert.Reference18Ideal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have h1 := (flush0_3 t).1 hf
  have hN : t.val < 32 := lt_of_lt_of_eq t.isLt N_0
  have hemb : ((win0_3.blk t).view.emb (ValueIdx.ix2 r l) : S16384x1024.Idx) = ValueIdx.ix2 ⟨t.val / 2 * 1024 + r.val, by omega⟩ l := by
    funext u
    apply Fin.ext
    match u with
    | ⟨0, _⟩ =>
      change _ = t.val / 2 * 1024 + r.val
      blk_simp [idx3]
      try rfl
    | ⟨1, _⟩ =>
      change _ = l.val
      blk_simp [idx3]
      try rfl
  refine Eq.trans ?_ (congrArg (Cert.Reference18Ideal.Read.val_main_v3 (F := Ideal) (m ((c : Thread nD τ).loc main_arg0)) (m ((c : Thread nD τ).loc main_arg1)) (m ((c : Thread nD τ).loc main_arg2))) hemb).symm
  rw [ref_at]
  blk_simp
  rw [after0_3]
  rw [out_at m c ⟨t.val / 2, by omega⟩ r l t.val (by dsimp only; omega) t.isLt _ rfl, parts_sum]

end Cert.Mm.QkvDx
end
-- ==== Proof.Mm.OutDx.lean ====
/-
  The gradient of a mixer half's output: its run against the derivative of the plain product.
-/
module
public import proofs.«01_k».proof.Proof.Gen.Kernel21Ideal.Value
public import proofs.«01_k».proof.Proof.Gen.Reference21Ideal.Read
public import proofs.«01_k».proof.Proof.Gen.Reference21Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.OutDx
open Cert.Kernel21Ideal Cert.Kernel21Ideal.Gen Idealize.ShloMosaic Idealize.ShloMosaic.TcCoe Idealize.SL.Sem

theorem hz : (![0, 0] : Fin 2 → Nat) = fun _ => 0 := funext fun a => by fin_cases a <;> rfl

/-- A tile's product is the sum over the columns of both. -/
theorem pay_at (x : Vec Ideal S1024x1024 .f32) (y : Vec Ideal S512x1024 .bf16) (r : Fin 1024) (l : Fin 512) :
    k0_pay1 (F := Ideal) x y (ValueIdx.ix2 r l) = ∑ k : Fin 1024, x (ValueIdx.ix2 r k) * y (ValueIdx.ix2 l k) := by
  pointwise [k0_pay1]
  rfl

variable (m : (ℓ : Loc nD τ sig) → Buf (Elt Ideal) ℓ) (c : Dev nD)

/-- The weights in the narrow format are the weights. -/
theorem V_v0 : (V m c main_v0 : S512x1024.Idx → EReal) = m ((c : Thread nD τ).loc main_arg0) := by
  simp only [V, hostOps0, List.flatten_cons, List.flatten_nil, List.append_nil, List.cons_append, List.nil_append]
  after_reads_simp
  rfl

/-- The incoming gradient is untouched before the call. -/
theorem V_arg1 : (V m c main_arg1 : S16384x1024.Idx → EReal) = m ((c : Thread nD τ).loc main_arg1) := by
  simp only [V, hostOps0, List.flatten_cons, List.flatten_nil, List.append_nil, List.cons_append, List.nil_append]
  after_reads_simp

theorem idx0 : ∀ t : Fin cfg0.N, win0_0.index t = ![(grid0.coords t 0).val, (grid0.coords t 2).val] := (by decide +kernel : ∀ t : Fin grid0.N, _)
theorem idx1 : ∀ t : Fin cfg0.N, win0_1.index t = ![(grid0.coords t 1).val, (grid0.coords t 2).val] := (by decide +kernel : ∀ t : Fin grid0.N, _)
theorem idx2 : ∀ t : Fin cfg0.N, win0_2.index t = ![(grid0.coords t 0).val, (grid0.coords t 1).val] := (by decide +kernel : ∀ t : Fin grid0.N, _)
theorem one : ∀ t : Fin cfg0.N, (grid0.coords t 2).val = 0 := (by decide +kernel : ∀ t : Fin grid0.N, _)

/-- The array of gradients. -/
theorem array : (dats m 0 c).arrAt 2 cfg0.N
    = Cert.Reference21Ideal.Read.val_main_v2 (F := Ideal) (m ((c : Thread nD τ).loc main_arg0)) (m ((c : Thread nD τ).loc main_arg1)) := by
  refine (dats m 0 c).arrAt_eq_of_covers 2 _ (by decide +kernel) fun t hf y => ?_
  have hy : ∃ (r : Fin 1024) (l : Fin 512), y = ValueIdx.ix2 r l := ⟨y 0, y 1, by funext u; match u with | ⟨0, _⟩ => rfl | ⟨1, _⟩ => rfl⟩
  obtain ⟨r, l, rfl⟩ := hy
  rw [Cert.Reference21Ideal.Read.val_main_v2_apply]
  blk_simp
  rw [after0_2]
  unfold out0_2
  rw [View.canon_unit_zero hz, View.ld_unit_zero (S := S1024x1024) hz, View.ld_unit_zero (S := S512x1024) hz]
  refine (pay_at _ _ r l).trans (Finset.sum_congr rfl fun k _ => ?_)
  congr 1
  · blk_simp [iblk, idx0]
    rw [V_arg1]
    congr 1
    funext u
    apply Fin.ext
    match u with
    | ⟨0, _⟩ =>
      change _ = (((win0_2.blk t).view.emb (ValueIdx.ix2 r l)) 0).val
      blk_simp [idx0, idx2]
      try rfl
    | ⟨1, _⟩ =>
      change _ = k.val
      blk_simp [idx0, idx2, one]
      try rfl
  · blk_simp [iblk, idx1]
    rw [V_v0]
    congr 1
    funext u
    apply Fin.ext
    match u with
    | ⟨0, _⟩ =>
      change _ = (((win0_2.blk t).view.emb (ValueIdx.ix2 r l)) 1).val
      blk_simp [idx1, idx2]
      try rfl
    | ⟨1, _⟩ =>
      change _ = k.val
      blk_simp [idx1, idx2, one]
      try rfl

end Cert.Mm.OutDx
end
-- ==== Proof.Mm.OutADwBlock.lean ====
/-
  The chunked gating's output weights' gradient: what one grid point adds to the accumulator.
-/
module
public import proofs.«01_k».proof.Proof.Gen.Kernel22Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.OutADw
open Cert.Kernel22Ideal Cert.Kernel22Ideal.Gen Idealize.ShloMosaic Idealize.ShloMosaic.TcCoe Idealize.SL.Sem

theorem hz : (![0, 0] : Fin 2 → Nat) = fun _ => 0 := funext fun a => by fin_cases a <;> rfl

/-- A tile's product sums over the rows of both tiles. -/
theorem pay1_at (x : Vec Ideal S1024x512 .bf16) (y : Vec Ideal S1024x1024 .f32) (r : Fin 512) (l : Fin 1024) :
    k0_pay1 (F := Ideal) x y (ValueIdx.ix2 r l) = ∑ k : Fin 1024, x (ValueIdx.ix2 k r) * y (ValueIdx.ix2 k l) := by
  pointwise [k0_pay1]
  rfl

/-- The first point stores the product itself. -/
theorem pay2_at (x : Vec Ideal S1024x512 .bf16) (y : Vec Ideal S1024x1024 .f32) (r : Fin 512) (l : Fin 1024) :
    k0_pay2 (F := Ideal) x y (ValueIdx.ix2 r l) = ∑ k : Fin 1024, x (ValueIdx.ix2 k r) * y (ValueIdx.ix2 k l) := by
  pointwise [k0_pay2, k0_pay1]
  rfl

/-- Every later point adds its product to what it finds. -/
theorem pay3_at (x : Vec Ideal S1024x512 .bf16) (y : Vec Ideal S1024x1024 .f32) (a : Vec Ideal S512x1024 .f32) (r : Fin 512) (l : Fin 1024) :
    k0_pay3 (F := Ideal) x y a (ValueIdx.ix2 r l) = a (ValueIdx.ix2 r l) + ∑ k : Fin 1024, x (ValueIdx.ix2 k r) * y (ValueIdx.ix2 k l) := by
  pointwise [k0_pay3, k0_pay1]
  rfl

variable (c : Dev nD) (i : grid0.Coords) (arg3 : Memref sig .tc .vmem S1024x512 .bf16) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
variable (x0 : Vec Ideal S1024x512 .bf16) (x1 : Vec Ideal S1024x1024 .f32) (xs : Vec Ideal S512x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]

/-- A middle point adds its product to the accumulator. -/
theorem soutB (hc0 : ¬cond0_0 i) (hc1 : cond0_1 i) (hc2 : ¬cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]

/-- The last point adds its product to the accumulator. -/
theorem soutC (hc0 : ¬cond0_0 i) (hc1 : cond0_1 i) (hc2 : cond0_2 i) : sout0_C_0 (F := Ideal) c i arg3 harg3 arg4 harg4 arg5 harg5 arg6 harg6 hc0 hc1 hc2 x0 x1 xs = k0_pay3 (F := Ideal) x0 x1 xs := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]

/-- The last point writes the accumulator out. -/
theorem outC (hc0 : ¬cond0_0 i) (hc1 : cond0_1 i) (hc2 : cond0_2 i) : out0_C_2 (F := Ideal) c i arg3 harg3 arg4 harg4 arg5 harg5 arg6 harg6 hc0 hc1 hc2 x0 x1 xs = k0_pay3 (F := Ideal) x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact View.readCov_cons_toLoadRect _ _ _ _

end Cert.Mm.OutADw
end
-- ==== Proof.Mm.OutADw.lean ====
/-
  The chunked gating's output weights' gradient: the sixteen steps of the accumulator against the derivative of the plain product.
-/
module
public import proofs.«01_k».proof.Proof.Mm.OutADwBlock
public import proofs.«01_k».proof.Proof.Gen.Reference22Ideal.Read
public import proofs.«01_k».proof.Proof.Gen.Reference22Ideal.Run
public import Idealize.ShloMosaic.Lib.StableHlo.RunRead
public import proofs.«01_k».proof.Defs
@[expose] public section
set_option maxRecDepth 16384
set_option maxHeartbeats 1000000
noncomputable section
namespace Cert.Mm.OutADw
open Cert.Kernel22Ideal Cert.Kernel22Ideal.Gen Idealize.ShloMosaic Idealize.ShloMosaic.TcCoe Idealize.SL.Sem

variable (m : (ℓ : Loc nD τ sig) → Buf (Elt Ideal) ℓ) (c : Dev nD)

/-- The rows in the narrow format are the rows. -/
theorem V_v0 : (V m c main_v0 : S16384x512.Idx → EReal) = m ((c : Thread nD τ).loc main_arg0) := by
  simp only [V, hostOps0, List.flatten_cons, List.flatten_nil, List.append_nil, List.cons_append, List.nil_append]
  after_reads_simp
  rfl

/-- The incoming gradient is untouched before the call. -/
theorem V_arg1 : (V m c main_arg1 : S16384x1024.Idx → EReal) = m ((c : Thread nD τ).loc main_arg1) := by
  simp only [V, hostOps0, List.flatten_cons, List.flatten_nil, List.append_nil, List.cons_append, List.nil_append]
  after_reads_simp

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![0, 0] := (by decide +kernel : ∀ t : Fin grid0.N, _)

/-- What block `j` of 1024 rows adds to entry `(r, a * 1024 + l)` of the gradient. -/
def part (X : S16384x512.Idx → EReal) (Y : S16384x1024.Idx → EReal) (a : Fin 1) (r : Fin 512) (l : Fin 1024) (j : Fin 16) : EReal :=
  ∑ k : Fin 1024, X (ValueIdx.ix2 ⟨j.val * 1024 + k.val, by omega⟩ r) * Y (ValueIdx.ix2 ⟨j.val * 1024 + k.val, by omega⟩ ⟨a.val * 1024 + l.val, by omega⟩)

/-- The product of one grid point is its block's part. -/
theorem prod_at (t : Fin cfg0.N) (a : Fin 1) (j : Fin 16) (ha : t.val / 16 = a.val) (hj : t.val % 16 = j.val) (r : Fin 512) (l : Fin 1024)
    (x : Vec Ideal S1024x512 .bf16) (y : Vec Ideal S1024x1024 .f32) (hx : x = iblk m c 0 t) (hy : y = iblk m c 1 t) :
    ∑ k : Fin 1024, x (ValueIdx.ix2 k r) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_v0]
    congr 1
    funext u
    apply Fin.ext
    match u with
    | ⟨0, _⟩ =>
      change _ = j.val * 1024 + k.val
      rw [← hj]
      blk_simp [idx0]
      try rfl
    | ⟨1, _⟩ =>
      change _ = r.val
      blk_simp [idx0]
      try rfl
  · blk_simp [iblk, idx1]
    rw [V_arg1]
    congr 1
    funext u
    apply Fin.ext
    match u with
    | ⟨0, _⟩ =>
      change _ = j.val * 1024 + k.val
      rw [← hj]
      blk_simp [idx1]
      try rfl
    | ⟨1, _⟩ =>
      change _ = l.val
      blk_simp [idx1]
      try rfl

/-- Step `b` of a column half leaves the sum of the first `b + 1` parts in the accumulator, and the last step writes it out. -/
theorem acc_at (a : Fin 1) (r : Fin 512) (l : Fin 1024) : ∀ (b : ℕ) (hb : b < 16) (n : ℕ) (_ : n = a.val * 16 + b) (hn : n < cfg0.N),
    ((outsAt0 m c n hn).2 : S512x1024.Idx → EReal) (ValueIdx.ix2 r l)
      = ∑ j : Fin (b + 1), part (m ((c : Thread nD τ).loc main_arg0)) (m ((c : Thread nD τ).loc main_arg1)) a r l ⟨j.val, by omega⟩
    ∧ (b = 15 → ((outsAt0 m c n hn).1 : S512x1024.Idx → EReal) (ValueIdx.ix2 r l)
      = ∑ j : Fin (b + 1), part (m ((c : Thread nD τ).loc main_arg0)) (m ((c : Thread nD τ).loc main_arg1)) a r l ⟨j.val, by omega⟩)
  | 0, _, n, he, hn => by
    refine ⟨?_, fun h => absurd h (by decide)⟩
    have e := outsAt0_A m c ⟨n, hn⟩ (by dsimp only; omega) (by dsimp only; omega) (by dsimp only; omega)
    dsimp only at e
    rw [e]
    dsimp only
    rw [soutA, pay2_at, prod_at m c ⟨n, hn⟩ a 0 (by dsimp only; omega) (by dsimp only; omega) r l _ _ rfl rfl]
    simp
  | b + 1, hb, n, he, hn => by
    have ih := (acc_at a r l b (by omega) (n - 1) (by omega) (by omega)).1
    have step : ((outsAt0 m c (n - 1) (by omega)).2 : S512x1024.Idx → EReal) (ValueIdx.ix2 r l)
        + part (m ((c : Thread nD τ).loc main_arg0)) (m ((c : Thread nD τ).loc main_arg1)) a r l ⟨b + 1, hb⟩
        = ∑ j : Fin (b + 1 + 1), part (m ((c : Thread nD τ).loc main_arg0)) (m ((c : Thread nD τ).loc main_arg1)) a r l ⟨j.val, by omega⟩ := by
      rw [ih, Fin.sum_univ_castSucc (n := b + 1)]
      rfl
    have pr := prod_at m c ⟨n, hn⟩ a ⟨b + 1, hb⟩ (by dsimp only; omega) (by dsimp only; omega) r l _ _ rfl rfl
    by_cases h15 : b + 1 = 15
    · have e := outsAt0_C m c ⟨n, hn⟩ (by dsimp only; omega) (by dsimp only; omega) (by dsimp only; omega)
      dsimp only at e
      rw [e]
      dsimp only
      refine ⟨?_, fun _ => ?_⟩
      · rw [soutC, pay3_at, pr]
        exact step
      · rw [outC, pay3_at, pr]
        exact step
    · refine ⟨?_, fun h => absurd h h15⟩
      have e := outsAt0_B m c ⟨n, hn⟩ (by dsimp only; omega) (by dsimp only; omega) (by dsimp only; omega)
      dsimp only at e
      rw [e]
      dsimp only
      rw [soutB, pay3_at, pr]
      exact step

/-- All sixteen parts together are the reference's sum over every row. -/
theorem parts_sum (X : S16384x512.Idx → EReal) (Y : S16384x1024.Idx → EReal) (a : Fin 1) (r : Fin 512) (l : Fin 1024) :
    ∑ j : Fin 16, part X Y a r l j
      = ∑ k : Fin 16384, Y (ValueIdx.ix2 k ⟨a.val * 1024 + l.val, by omega⟩) * X (ValueIdx.ix2 k r) := by
  unfold part
  refine (Fintype.sum_prod_type' (fun (j : Fin 16) (k : Fin 1024) => X (ValueIdx.ix2 ⟨j.val * 1024 + k.val, by omega⟩ r)
    * Y (ValueIdx.ix2 ⟨j.val * 1024 + k.val, by omega⟩ ⟨a.val * 1024 + l.val, by omega⟩))).symm.trans ?_
  refine Fintype.sum_equiv (finProdFinEquiv (m := 16) (n := 1024)) _ _ fun p => ?_
  rw [mul_comm]
  have e : (finProdFinEquiv p : Fin (16 * 1024)) = ⟨p.1.val * 1024 + p.2.val, by omega⟩ := by
    apply Fin.ext
    change p.2.val + 1024 * p.1.val = p.1.val * 1024 + p.2.val
    omega
  rw [e]

/-- The array of weight gradients. -/
theorem array : (dats m 0 c).arrAt 2 cfg0.N
    = Cert.Reference22Ideal.Read.val_main_v3 (F := Ideal) (m ((c : Thread nD τ).loc main_arg0)) (m ((c : Thread nD τ).loc main_arg1)) := by
  refine (dats m 0 c).arrAt_eq_of_covers 2 _ (by decide +kernel) fun t hf y => ?_
  have hy : ∃ (r : Fin 512) (l : Fin 1024), y = ValueIdx.ix2 r l := ⟨y 0, y 1, by funext u; match u with | ⟨0, _⟩ => rfl | ⟨1, _⟩ => rfl⟩
  obtain ⟨r, l, rfl⟩ := hy
  have h15 := (flush0_2 t).1 hf
  have hN : t.val < 16 := lt_of_lt_of_eq t.isLt N_0
  rw [Cert.Reference22Ideal.Read.val_main_v3_apply, Cert.Reference22Ideal.Read.val_main_v2_apply]
  blk_simp
  rw [after0_2]
  rw [(acc_at m c ⟨t.val / 16, by omega⟩ r l 15 (by omega) t.val (by dsimp only; omega) t.isLt).2 rfl]
  refine (parts_sum _ _ _ r l).trans (Finset.sum_congr rfl fun k _ => ?_)
  congr 1
  · congr 1
    funext u
    apply Fin.ext
    match u with
    | ⟨0, _⟩ => rfl
    | ⟨1, _⟩ =>
      change t.val / 16 * 1024 + l.val = (((win0_2.blk t).view.emb (ValueIdx.ix2 r l)) 1).val
      rw [Nat.div_eq_of_lt hN]
      blk_simp [idx2]
      try rfl
  · congr 1
    funext u
    apply Fin.ext
    match u with
    | ⟨0, _⟩ => rfl
    | ⟨1, _⟩ =>
      change _ = (((win0_2.blk t).view.emb (ValueIdx.ix2 r l)) 0).val
      blk_simp [idx2]
      try rfl

end Cert.Mm.OutADw
end
-- ==== Proof.Mm.OutBDwBlock.lean ====
/-
  The attention's output weights' gradient: what one grid point adds to the accumulator.
-/
module
public import proofs.«01_k».proof.Proof.Gen.Kernel23Ideal.Value
public import Idealize.ShloMosaic.Lib.Pointwise
public import Idealize.ShloMosaic.Lib.Pipeline.ValueKit.Geometry
public import Idealize.ShloMosaic.Lib.Pipeline.ValueKit.Tiles
@[expose] public section
set_option maxRecDepth 16384
set_option maxHeartbeats 1000000
noncomputable section
namespace Cert.Mm.OutBDw
open Cert.Kernel23Ideal Cert.Kernel23Ideal.Gen Idealize.ShloMosaic Idealize.ShloMosaic.TcCoe Idealize.SL.Sem

theorem hz : (![0, 0] : Fin 2 → Nat) = fun _ => 0 := funext fun a => by fin_cases a <;> rfl

/-- A tile's product sums over the rows of both tiles. -/
theorem pay1_at (x : Vec Ideal S1024x512 .f32) (y : Vec Ideal S1024x1024 .f32) (r : Fin 512) (l : Fin 1024) :
    k0_pay1 (F := Ideal) x y (ValueIdx.ix2 r l) = ∑ k : Fin 1024, x (ValueIdx.ix2 k r) * y (ValueIdx.ix2 k l) := by
  pointwise [k0_pay1]
  rfl

/-- The first point stores the product itself. -/
theorem pay2_at (x : Vec Ideal S1024x512 .f32) (y : Vec Ideal S1024x1024 .f32) (r : Fin 512) (l : Fin 1024) :
    k0_pay2 (F := Ideal) x y (ValueIdx.ix2 r l) = ∑ k : Fin 1024, x (ValueIdx.ix2 k r) * y (ValueIdx.ix2 k l) := by
  pointwise [k0_pay2, k0_pay1]
  rfl

/-- Every later point adds its product to what it finds. -/
theorem pay3_at (x : Vec Ideal S1024x512 .f32) (y : Vec Ideal S1024x1024 .f32) (a : Vec Ideal S512x1024 .f32) (r : Fin 512) (l : Fin 1024) :
    k0_pay3 (F := Ideal) x y a (ValueIdx.ix2 r l) = a (ValueIdx.ix2 r l) + ∑ k : Fin 1024, x (ValueIdx.ix2 k r) * y (ValueIdx.ix2 k l) := by
  pointwise [k0_pay3, k0_pay1]
  rfl

variable (c : Dev nD) (i : grid0.Coords) (arg3 : Memref sig .tc .vmem S1024x512 .f32) (harg3 : arg3.IsWhole) (arg4 : Memref sig .tc .vmem S1024x1024 .f32) (harg4 : arg4.IsWhole) (arg5 : Memref sig .tc .vmem S512x1024 .f32) (harg5 : arg5.IsWhole) (arg6 : Memref sig .tc .vmem S512x1024 .f32) (harg6 : arg6.IsWhole)
variable (x0 : Vec Ideal S1024x512 .f32) (x1 : Vec Ideal S1024x1024 .f32) (xs : Vec Ideal S512x1024 .f32)

/-- The first point leaves its product in the accumulator. -/
theorem soutA (hc0 : cond0_0 i) (hc1 : ¬cond0_1 i) (hc2 : ¬cond0_2 i) : sout0_A_0 (F := Ideal) c i arg3 harg3 arg4 harg4 arg5 harg5 arg6 harg6 hc0 hc1 hc2 x0 x1 = k0_pay2 (F := Ideal) x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]

/-- A middle point adds its product to the accumulator. -/
theorem soutB (hc0 : ¬cond0_0 i) (hc1 : cond0_1 i) (hc2 : ¬cond0_2 i) : sout0_B_0 (F := Ideal) c i arg3 harg3 arg4 harg4 arg5 harg5 arg6 harg6 hc0 hc1 hc2 x0 x1 xs = k0_pay3 (F := Ideal) x0 x1 xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]

/-- The last point adds its product to the accumulator. -/
theorem soutC (hc0 : ¬cond0_0 i) (hc1 : cond0_1 i) (hc2 : cond0_2 i) : sout0_C_0 (F := Ideal) c i arg3 harg3 arg4 harg4 arg5 harg5 arg6 harg6 hc0 hc1 hc2 x0 x1 xs = k0_pay3 (F := Ideal) x0 x1 xs := by
  unfold sout0_C_0
  rw [View.read_writes_eq_canon _ _ _ (scover0_C_0 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]

/-- The last point writes the accumulator out. -/
theorem outC (hc0 : ¬cond0_0 i) (hc1 : cond0_1 i) (hc2 : cond0_2 i) : out0_C_2 (F := Ideal) c i arg3 harg3 arg4 harg4 arg5 harg5 arg6 harg6 hc0 hc1 hc2 x0 x1 xs = k0_pay3 (F := Ideal) x0 x1 xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  sl_unfold_words
  rw [View.canon_unit_zero hz]
  simp only [View.readAt_eq_ld, harg3.read_unread, harg4.read_unread, harg6.read_unread, View.ld_unit_zero (S := S1024x512) hz, View.ld_unit_zero (S := S1024x1024) hz, View.ld_unit_zero (S := S512x1024) hz]
  exact View.readCov_cons_toLoadRect _ _ _ _

end Cert.Mm.OutBDw
end
-- ==== Proof.Mm.OutBDw.lean ====
/-
  The attention's output weights' gradient: the sixteen steps of the accumulator against the derivative of the plain product.
-/
module
public import proofs.«01_k».proof.Proof.Mm.OutBDwBlock
public import proofs.«01_k».proof.Proof.Gen.Reference23Ideal.Read
public import proofs.«01_k».proof.Proof.Gen.Reference23Ideal.Run
public import Idealize.ShloMosaic.Lib.StableHlo.RunRead
public import proofs.«01_k».proof.Defs
@[expose] public section
set_option maxRecDepth 16384
set_option maxHeartbeats 1000000
noncomputable section
namespace Cert.Mm.OutBDw
open Cert.Kernel23Ideal Cert.Kernel23Ideal.Gen Idealize.ShloMosaic Idealize.ShloMosaic.TcCoe Idealize.SL.Sem

variable (m : (ℓ : Loc nD τ sig) → Buf (Elt Ideal) ℓ) (c : Dev nD)

/-- The outputs are untouched before the call. -/
theorem V_arg0 : (V m c main_arg0 : S16384x512.Idx → EReal) = m ((c : Thread nD τ).loc main_arg0) := by
  rfl

/-- The incoming gradient is untouched before the call. -/
theorem V_arg1 : (V m c main_arg1 : S16384x1024.Idx → EReal) = m ((c : Thread nD τ).loc main_arg1) := by
  rfl

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![0, 0] := (by decide +kernel : ∀ t : Fin grid0.N, _)

/-- What block `j` of 1024 rows adds to entry `(r, a * 1024 + l)` of the gradient. -/
def part (X : S16384x512.Idx → EReal) (Y : S16384x1024.Idx → EReal) (a : Fin 1) (r : Fin 512) (l : Fin 1024) (j : Fin 16) : EReal :=
  ∑ k : Fin 1024, X (ValueIdx.ix2 ⟨j.val * 1024 + k.val, by omega⟩ r) * Y (ValueIdx.ix2 ⟨j.val * 1024 + k.val, by omega⟩ ⟨a.val * 1024 + l.val, by omega⟩)

/-- The product of one grid point is its block's part. -/
theorem prod_at (t : Fin cfg0.N) (a : Fin 1) (j : Fin 16) (ha : t.val / 16 = a.val) (hj : t.val % 16 = j.val) (r : Fin 512) (l : Fin 1024)
    (x : Vec Ideal S1024x512 .f32) (y : Vec Ideal S1024x1024 .f32) (hx : x = iblk m c 0 t) (hy : y = iblk m c 1 t) :
    ∑ k : Fin 1024, x (ValueIdx.ix2 k r) * y (ValueIdx.ix2 k l)
      = part (m ((c : Thread nD τ).loc main_arg0)) (m ((c : Thread nD τ).loc main_arg1)) a r l j := by
  subst hx hy
  refine Finset.sum_congr rfl fun k _ => ?_
  congr 1
  · blk_simp [iblk, idx0]
    rw [V_arg0]
    congr 1
    funext u
    apply Fin.ext
    match u with
    | ⟨0, _⟩ =>
      change _ = j.val * 1024 + k.val
      rw [← hj]
      blk_simp [idx0]
      try rfl
    | ⟨1, _⟩ =>
      change _ = r.val
      blk_simp [idx0]
      try rfl
  · blk_simp [iblk, idx1]
    rw [V_arg1]
    congr 1
    funext u
    apply Fin.ext
    match u with
    | ⟨0, _⟩ =>
      change _ = j.val * 1024 + k.val
      rw [← hj]
      blk_simp [idx1]
      try rfl
    | ⟨1, _⟩ =>
      change _ = l.val
      blk_simp [idx1]
      try rfl

/-- Step `b` of a column half leaves the sum of the first `b + 1` parts in the accumulator, and the last step writes it out. -/
theorem acc_at (a : Fin 1) (r : Fin 512) (l : Fin 1024) : ∀ (b : ℕ) (hb : b < 16) (n : ℕ) (_ : n = a.val * 16 + b) (hn : n < cfg0.N),
    ((outsAt0 m c n hn).2 : S512x1024.Idx → EReal) (ValueIdx.ix2 r l)
      = ∑ j : Fin (b + 1), part (m ((c : Thread nD τ).loc main_arg0)) (m ((c : Thread nD τ).loc main_arg1)) a r l ⟨j.val, by omega⟩
    ∧ (b = 15 → ((outsAt0 m c n hn).1 : S512x1024.Idx → EReal) (ValueIdx.ix2 r l)
      = ∑ j : Fin (b + 1), part (m ((c : Thread nD τ).loc main_arg0)) (m ((c : Thread nD τ).loc main_arg1)) a r l ⟨j.val, by omega⟩)
  | 0, _, n, he, hn => by
    refine ⟨?_, fun h => absurd h (by decide)⟩
    have e := outsAt0_A m c ⟨n, hn⟩ (by dsimp only; omega) (by dsimp only; omega) (by dsimp only; omega)
    dsimp only at e
    rw [e]
    dsimp only
    rw [soutA, pay2_at, prod_at m c ⟨n, hn⟩ a 0 (by dsimp only; omega) (by dsimp only; omega) r l _ _ rfl rfl]
    simp
  | b + 1, hb, n, he, hn => by
    have ih := (acc_at a r l b (by omega) (n - 1) (by omega) (by omega)).1
    have step : ((outsAt0 m c (n - 1) (by omega)).2 : S512x1024.Idx → EReal) (ValueIdx.ix2 r l)
        + part (m ((c : Thread nD τ).loc main_arg0)) (m ((c : Thread nD τ).loc main_arg1)) a r l ⟨b + 1, hb⟩
        = ∑ j : Fin (b + 1 + 1), part (m ((c : Thread nD τ).loc main_arg0)) (m ((c : Thread nD τ).loc main_arg1)) a r l ⟨j.val, by omega⟩ := by
      rw [ih, Fin.sum_univ_castSucc (n := b + 1)]
      rfl
    have pr := prod_at m c ⟨n, hn⟩ a ⟨b + 1, hb⟩ (by dsimp only; omega) (by dsimp only; omega) r l _ _ rfl rfl
    by_cases h15 : b + 1 = 15
    · have e := outsAt0_C m c ⟨n, hn⟩ (by dsimp only; omega) (by dsimp only; omega) (by dsimp only; omega)
      dsimp only at e
      rw [e]
      dsimp only
      refine ⟨?_, fun _ => ?_⟩
      · rw [soutC, pay3_at, pr]
        exact step
      · rw [outC, pay3_at, pr]
        exact step
    · refine ⟨?_, fun h => absurd h h15⟩
      have e := outsAt0_B m c ⟨n, hn⟩ (by dsimp only; omega) (by dsimp only; omega) (by dsimp only; omega)
      dsimp only at e
      rw [e]
      dsimp only
      rw [soutB, pay3_at, pr]
      exact step

/-- All sixteen parts together are the reference's sum over every row. -/
theorem parts_sum (X : S16384x512.Idx → EReal) (Y : S16384x1024.Idx → EReal) (a : Fin 1) (r : Fin 512) (l : Fin 1024) :
    ∑ j : Fin 16, part X Y a r l j
      = ∑ k : Fin 16384, Y (ValueIdx.ix2 k ⟨a.val * 1024 + l.val, by omega⟩) * X (ValueIdx.ix2 k r) := by
  unfold part
  refine (Fintype.sum_prod_type' (fun (j : Fin 16) (k : Fin 1024) => X (ValueIdx.ix2 ⟨j.val * 1024 + k.val, by omega⟩ r)
    * Y (ValueIdx.ix2 ⟨j.val * 1024 + k.val, by omega⟩ ⟨a.val * 1024 + l.val, by omega⟩))).symm.trans ?_
  refine Fintype.sum_equiv (finProdFinEquiv (m := 16) (n := 1024)) _ _ fun p => ?_
  rw [mul_comm]
  have e : (finProdFinEquiv p : Fin (16 * 1024)) = ⟨p.1.val * 1024 + p.2.val, by omega⟩ := by
    apply Fin.ext
    change p.2.val + 1024 * p.1.val = p.1.val * 1024 + p.2.val
    omega
  rw [e]

/-- The array of weight gradients. -/
theorem array : (dats m 0 c).arrAt 2 cfg0.N
    = Cert.Reference23Ideal.Read.val_main_v3 (F := Ideal) (m ((c : Thread nD τ).loc main_arg0)) (m ((c : Thread nD τ).loc main_arg1)) := by
  refine (dats m 0 c).arrAt_eq_of_covers 2 _ (by decide +kernel) fun t hf y => ?_
  have hy : ∃ (r : Fin 512) (l : Fin 1024), y = ValueIdx.ix2 r l := ⟨y 0, y 1, by funext u; match u with | ⟨0, _⟩ => rfl | ⟨1, _⟩ => rfl⟩
  obtain ⟨r, l, rfl⟩ := hy
  have h15 := (flush0_2 t).1 hf
  have hN : t.val < 16 := lt_of_lt_of_eq t.isLt N_0
  rw [Cert.Reference23Ideal.Read.val_main_v3_apply, Cert.Reference23Ideal.Read.val_main_v2_apply]
  blk_simp
  rw [after0_2]
  rw [(acc_at m c ⟨t.val / 16, by omega⟩ r l 15 (by omega) t.val (by dsimp only; omega) t.isLt).2 rfl]
  refine (parts_sum _ _ _ r l).trans (Finset.sum_congr rfl fun k _ => ?_)
  congr 1
  · congr 1
    funext u
    apply Fin.ext
    match u with
    | ⟨0, _⟩ => rfl
    | ⟨1, _⟩ =>
      change t.val / 16 * 1024 + l.val = (((win0_2.blk t).view.emb (ValueIdx.ix2 r l)) 1).val
      rw [Nat.div_eq_of_lt hN]
      blk_simp [idx2]
      try rfl
  · congr 1
    funext u
    apply Fin.ext
    match u with
    | ⟨0, _⟩ => rfl
    | ⟨1, _⟩ =>
      change _ = (((win0_2.blk t).view.emb (ValueIdx.ix2 r l)) 0).val
      blk_simp [idx2]
      try rfl

end Cert.Mm.OutBDw
end
-- ==== Proof.Mm.OutA.lean ====
/-
  The output projection of the chunked gating with its residual: its run against the plain formula.
-/
module
public import proofs.«01_k».proof.Proof.Gen.Kernel19Ideal.Value
public import proofs.«01_k».proof.Proof.Gen.Reference19Ideal.Read
public import proofs.«01_k».proof.Proof.Gen.Reference19Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.OutA
open Cert.Kernel19Ideal Cert.Kernel19Ideal.Gen Idealize.ShloMosaic Idealize.ShloMosaic.TcCoe Idealize.SL.Sem

theorem hz : (![0, 0] : Fin 2 → Nat) = fun _ => 0 := funext fun a => by fin_cases a <;> rfl

/-- A tile's result is the residual plus the sum over the inner index. -/
theorem pay1_at (x : Vec Ideal S1024x512 .bf16) (y : Vec Ideal S512x1024 .bf16) (z : Vec Ideal S1024x1024 .f32) (r l : Fin 1024) :
    k0_pay1 (F := Ideal) x y z (ValueIdx.ix2 r l) = z (ValueIdx.ix2 r l) + ∑ k : Fin 512, x (ValueIdx.ix2 r k) * y (ValueIdx.ix2 k l) := by
  pointwise [k0_pay1]
  rfl

variable (m : (ℓ : Loc nD τ sig) → Buf (Elt Ideal) ℓ) (c : Dev nD)

/-- The rows in the narrow format are the rows. -/
theorem V_v0 : (V m c main_v0 : S16384x512.Idx → EReal) = m ((c : Thread nD τ).loc main_arg0) := by
  simp only [V, hostOps0, List.flatten_cons, List.flatten_nil, List.append_nil, List.cons_append, List.nil_append]
  after_reads_simp
  rfl

/-- The weights in the narrow format are the weights. -/
theorem V_v1 : (V m c main_v1 : S512x1024.Idx → EReal) = m ((c : Thread nD τ).loc main_arg1) := by
  simp only [V, hostOps0, List.flatten_cons, List.flatten_nil, List.append_nil, List.cons_append, List.nil_append]
  after_reads_simp
  rfl

/-- The residual is untouched before the call. -/
theorem V_arg2 : (V m c main_arg2 : S16384x1024.Idx → EReal) = m ((c : Thread nD τ).loc main_arg2) := by
  simp only [V, hostOps0, List.flatten_cons, List.flatten_nil, List.append_nil, List.cons_append, List.nil_append]
  after_reads_simp

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- A block's rows are the array's. -/
theorem rows_at (t : Fin cfg0.N) (ht : t.val < 16) (r : Fin 1024) (k : Fin 512) (x : Vec Ideal S1024x512 .bf16) (hx : x = iblk m c 0 t) :
    x (ValueIdx.ix2 r k) = (m ((c : Thread nD τ).loc main_arg0) : S16384x512.Idx → EReal) (ValueIdx.ix2 ⟨t.val * 1024 + r.val, by omega⟩ k) := by
  subst hx
  blk_simp [iblk, idx0]
  rw [V_v0]
  congr 1
  funext u
  apply Fin.ext
  match u with
  | ⟨0, _⟩ =>
    change _ = t.val * 1024 + r.val
    blk_simp [idx0]
    try rfl
  | ⟨1, _⟩ =>
    change _ = k.val
    blk_simp [idx0]
    try rfl

/-- The weights' block is the whole of them. -/
theorem weights_at (t : Fin cfg0.N) (k : Fin 512) (l : Fin 1024) (x : Vec Ideal S512x1024 .bf16) (hx : x = iblk m c 1 t) :
    x (ValueIdx.ix2 k l) = (m ((c : Thread nD τ).loc main_arg1) : S512x1024.Idx → EReal) (ValueIdx.ix2 k l) := by
  subst hx
  blk_simp [iblk, idx1]
  rw [V_v1]
  congr 1
  funext u
  apply Fin.ext
  match u with
  | ⟨0, _⟩ =>
    change _ = k.val
    blk_simp [idx1]
    try rfl
  | ⟨1, _⟩ =>
    change _ = l.val
    blk_simp [idx1]
    try rfl

/-- A block of the residual is the residual's. -/
theorem res_at (t : Fin cfg0.N) (ht : t.val < 16) (r l : Fin 1024) (x : Vec Ideal S1024x1024 .f32) (hx : x = iblk m c 2 t) :
    x (ValueIdx.ix2 r l) = (m ((c : Thread nD τ).loc main_arg2) : S16384x1024.Idx → EReal) (ValueIdx.ix2 ⟨t.val * 1024 + r.val, by omega⟩ l) := by
  subst hx
  blk_simp [iblk, idx2]
  rw [V_arg2]
  congr 1
  funext u
  apply Fin.ext
  match u with
  | ⟨0, _⟩ =>
    change _ = t.val * 1024 + r.val
    blk_simp [idx2]
    try rfl
  | ⟨1, _⟩ =>
    change _ = l.val
    blk_simp [idx2]
    try rfl

/-- The reference's sum of the residual and the product. -/
theorem ref_y (X : S16384x512.Idx → EReal) (Y : S512x1024.Idx → EReal) (Z : S16384x1024.Idx → EReal) (R : Fin 16384) (l : Fin 1024) :
    Cert.Reference19Ideal.Read.val_main_v1 (F := Ideal) X Y Z (ValueIdx.ix2 R l)
      = Z (ValueIdx.ix2 R l) + ∑ k : Fin 512, X (ValueIdx.ix2 R k) * Y (ValueIdx.ix2 k l) := by
  rw [Cert.Reference19Ideal.Read.val_main_v1_apply, Cert.Reference19Ideal.Read.val_main_v0_apply]
  refine congrArg (Z (ValueIdx.ix2 R l) + ·) (Finset.sum_congr rfl fun k _ => ?_)
  congr 1
  · congr 1
    funext u
    match u with | ⟨0, _⟩ => rfl | ⟨1, _⟩ => rfl
  · congr 1
    funext u
    match u with | ⟨0, _⟩ => rfl | ⟨1, _⟩ => rfl

/-- A grid point's sum is the reference's. -/
theorem out_y (t : Fin cfg0.N) (ht : t.val < 16) (r l : Fin 1024) (x : Vec Ideal S1024x512 .bf16) (y : Vec Ideal S512x1024 .bf16) (z : Vec Ideal S1024x1024 .f32)
    (hx : x = iblk m c 0 t) (hy : y = iblk m c 1 t) (hz2 : z = iblk m c 2 t) :
    k0_pay1 (F := Ideal) x y z (ValueIdx.ix2 r l)
      = Cert.Reference19Ideal.Read.val_main_v1 (F := Ideal) (m ((c : Thread nD τ).loc main_arg0)) (m ((c : Thread nD τ).loc main_arg1)) (m ((c : Thread nD τ).loc main_arg2)) (ValueIdx.ix2 ⟨t.val * 1024 + r.val, by omega⟩ l) := by
  rw [ref_y, pay1_at]
  refine congrArg₂ (fun p q : EReal => p + q) (res_at m c t ht r l z hz2) (Finset.sum_congr rfl fun k _ => ?_)
  rw [rows_at m c t ht r k x hx, weights_at m c t k l y hy]

/-- The array of sums. -/
theorem array : (dats m 0 c).arrAt 3 cfg0.N
    = Cert.Reference19Ideal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have hN : t.val < 16 := lt_of_lt_of_eq t.isLt N_0
  have hemb : ((win0_3.blk t).view.emb (ValueIdx.ix2 r l) : S16384x1024.Idx) = ValueIdx.ix2 ⟨t.val * 1024 + r.val, by omega⟩ l := by
    funext u
    apply Fin.ext
    match u with
    | ⟨0, _⟩ =>
      change _ = t.val * 1024 + r.val
      blk_simp [idx3]
      try rfl
    | ⟨1, _⟩ =>
      change _ = l.val
      blk_simp [idx3]
      try rfl
  refine Eq.trans ?_ (congrArg (Cert.Reference19Ideal.Read.val_main_v1 (F := Ideal) (m ((c : Thread nD τ).loc main_arg0)) (m ((c : Thread nD τ).loc main_arg1)) (m ((c : Thread nD τ).loc main_arg2))) hemb).symm
  rw [← out_y m c t hN r l _ _ _ rfl rfl rfl]
  blk_simp
  rw [after0_3]
  unfold out0_3
  rw [View.canon_unit_zero hz, View.ld_unit_zero (S := S1024x512) hz, View.ld_unit_zero (S := S512x1024) hz, View.ld_unit_zero (S := S1024x1024) hz]

end Cert.Mm.OutA
end
-- ==== Proof.Mm.OutB.lean ====
/-
  The output projection of the attention with its residual and the norm of the sum: its run against the plain formulas.
-/
module
public import proofs.«01_k».proof.Proof.Gen.Kernel20Ideal.Value
public import proofs.«01_k».proof.Proof.Gen.Reference20Ideal.Read
public import proofs.«01_k».proof.Proof.Gen.Reference20Ideal.Run
public import Idealize.ShloMosaic.Lib.Pointwise
public import Idealize.ShloMosaic.Lib.Pipeline.ValueKit.Geometry
public import Idealize.ShloMosaic.Lib.Pipeline.ValueKit.Tiles
public import Idealize.ShloMosaic.Lib.StableHlo.RunRead
public import proofs.«01_k».proof.Defs
@[expose] public section
set_option maxRecDepth 16384
set_option maxHeartbeats 1000000
noncomputable section
namespace Cert.Mm.OutB
open Cert.Kernel20Ideal Cert.Kernel20Ideal.Gen Idealize.ShloMosaic Idealize.ShloMosaic.TcCoe Idealize.SL.Sem

theorem hz : (![0, 0] : Fin 2 → Nat) = fun _ => 0 := funext fun a => by fin_cases a <;> rfl

/-- A tile's result is the residual plus the sum over the inner index. -/
theorem pay1_at (x : Vec Ideal S1024x512 .f32) (y : Vec Ideal S512x1024 .bf16) (z : Vec Ideal S1024x1024 .f32) (r l : Fin 1024) :
    k0_pay1 (F := Ideal) x y z (ValueIdx.ix2 r l) = z (ValueIdx.ix2 r l) + ∑ k : Fin 512, x (ValueIdx.ix2 r k) * y (ValueIdx.ix2 k l) := by
  pointwise [k0_pay1]
  rfl

/-- The second result divides each row by its root mean square and multiplies by the gain. -/
theorem pay2_at (x : Vec Ideal S1024x512 .f32) (y : Vec Ideal S512x1024 .bf16) (z : Vec Ideal S1024x1024 .f32) (g : Vec Ideal S1x1024 .f32) (r l : Fin 1024) :
    k0_pay2 (F := Ideal) x y z g (ValueIdx.ix2 r l) = k0_pay1 (F := Ideal) x y z (ValueIdx.ix2 r l)
      * Ideal.rsqrt (Ideal.div (∑ k : Fin 1024, k0_pay1 (F := Ideal) x y z (ValueIdx.ix2 r k) * k0_pay1 (F := Ideal) x y z (ValueIdx.ix2 r k)) (Ideal.ofBits .f32 0x44800000#32) + Ideal.ofBits .f32 0x358637BD#32)
      * g (ValueIdx.ix2 0 l) := by
  pointwise [k0_pay2]
  rfl

variable (m : (ℓ : Loc nD τ sig) → Buf (Elt Ideal) ℓ) (c : Dev nD)

/-- The rows are untouched before the call. -/
theorem V_arg0 : (V m c main_arg0 : S16384x512.Idx → EReal) = m ((c : Thread nD τ).loc main_arg0) := by
  simp only [V, hostOps0, List.flatten_cons, List.flatten_nil, List.append_nil, List.cons_append, List.nil_append]
  after_reads_simp

/-- The weights in the narrow format are the weights. -/
theorem V_v0 : (V m c main_v0 : S512x1024.Idx → EReal) = m ((c : Thread nD τ).loc main_arg1) := by
  simp only [V, hostOps0, List.flatten_cons, List.flatten_nil, List.append_nil, List.cons_append, List.nil_append]
  after_reads_simp
  rfl

/-- The residual is untouched before the call. -/
theorem V_arg2 : (V m c main_arg2 : S16384x1024.Idx → EReal) = m ((c : Thread nD τ).loc main_arg2) := by
  simp only [V, hostOps0, List.flatten_cons, List.flatten_nil, List.append_nil, List.cons_append, List.nil_append]
  after_reads_simp

/-- The gain as one row is the gain. -/
theorem V_v1 (l : Fin 1024) : (V m c main_v1 : S1x1024.Idx → EReal) (ValueIdx.ix2 0 l) = (m ((c : Thread nD τ).loc main_arg3) : S1024.Idx → EReal) (ValueIdx.ix1 l) := by
  simp only [V, hostOps0, List.flatten_cons, List.flatten_nil, List.append_nil, List.cons_append, List.nil_append]
  after_reads_simp
  refine congrArg (m ((c : Thread nD τ).loc main_arg3) : S1024.Idx → EReal) ?_
  funext u
  match u with | ⟨0, _⟩ => rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- A block's rows are the array's. -/
theorem rows_at (t : Fin cfg0.N) (ht : t.val < 16) (r : Fin 1024) (k : Fin 512) (x : Vec Ideal S1024x512 .f32) (hx : x = iblk m c 0 t) :
    x (ValueIdx.ix2 r k) = (m ((c : Thread nD τ).loc main_arg0) : S16384x512.Idx → EReal) (ValueIdx.ix2 ⟨t.val * 1024 + r.val, by omega⟩ k) := by
  subst hx
  blk_simp [iblk, idx0]
  rw [V_arg0]
  congr 1
  funext u
  apply Fin.ext
  match u with
  | ⟨0, _⟩ =>
    change _ = t.val * 1024 + r.val
    blk_simp [idx0]
    try rfl
  | ⟨1, _⟩ =>
    change _ = k.val
    blk_simp [idx0]
    try rfl

/-- The weights' block is the whole of them. -/
theorem weights_at (t : Fin cfg0.N) (k : Fin 512) (l : Fin 1024) (x : Vec Ideal S512x1024 .bf16) (hx : x = iblk m c 1 t) :
    x (ValueIdx.ix2 k l) = (m ((c : Thread nD τ).loc main_arg1) : S512x1024.Idx → EReal) (ValueIdx.ix2 k l) := by
  subst hx
  blk_simp [iblk, idx1]
  rw [V_v0]
  congr 1
  funext u
  apply Fin.ext
  match u with
  | ⟨0, _⟩ =>
    change _ = k.val
    blk_simp [idx1]
    try rfl
  | ⟨1, _⟩ =>
    change _ = l.val
    blk_simp [idx1]
    try rfl

/-- A block of the residual is the residual's. -/
theorem res_at (t : Fin cfg0.N) (ht : t.val < 16) (r l : Fin 1024) (x : Vec Ideal S1024x1024 .f32) (hx : x = iblk m c 2 t) :
    x (ValueIdx.ix2 r l) = (m ((c : Thread nD τ).loc main_arg2) : S16384x1024.Idx → EReal) (ValueIdx.ix2 ⟨t.val * 1024 + r.val, by omega⟩ l) := by
  subst hx
  blk_simp [iblk, idx2]
  rw [V_arg2]
  congr 1
  funext u
  apply Fin.ext
  match u with
  | ⟨0, _⟩ =>
    change _ = t.val * 1024 + r.val
    blk_simp [idx2]
    try rfl
  | ⟨1, _⟩ =>
    change _ = l.val
    blk_simp [idx2]
    try rfl

/-- The reference's sum of the residual and the product. -/
theorem ref_y (X : S16384x512.Idx → EReal) (Y : S512x1024.Idx → EReal) (Z : S16384x1024.Idx → EReal) (R : Fin 16384) (l : Fin 1024) :
    Cert.Reference20Ideal.Read.val_main_v1 (F := Ideal) X Y Z (ValueIdx.ix2 R l)
      = Z (ValueIdx.ix2 R l) + ∑ k : Fin 512, X (ValueIdx.ix2 R k) * Y (ValueIdx.ix2 k l) := by
  rw [Cert.Reference20Ideal.Read.val_main_v1_apply, Cert.Reference20Ideal.Read.val_main_v0_apply]
  refine congrArg (Z (ValueIdx.ix2 R l) + ·) (Finset.sum_congr rfl fun k _ => ?_)
  congr 1
  · congr 1
    funext u
    match u with | ⟨0, _⟩ => rfl | ⟨1, _⟩ => rfl
  · congr 1
    funext u
    match u with | ⟨0, _⟩ => rfl | ⟨1, _⟩ => rfl

/-- A grid point's sum is the reference's. -/
theorem out_y (t : Fin cfg0.N) (ht : t.val < 16) (r l : Fin 1024) (x : Vec Ideal S1024x512 .f32) (y : Vec Ideal S512x1024 .bf16) (z : Vec Ideal S1024x1024 .f32)
    (hx : x = iblk m c 0 t) (hy : y = iblk m c 1 t) (hz2 : z = iblk m c 2 t) :
    k0_pay1 (F := Ideal) x y z (ValueIdx.ix2 r l)
      = Cert.Reference20Ideal.Read.val_main_v1 (F := Ideal) (m ((c : Thread nD τ).loc main_arg0)) (m ((c : Thread nD τ).loc main_arg1)) (m ((c : Thread nD τ).loc main_arg2)) (ValueIdx.ix2 ⟨t.val * 1024 + r.val, by omega⟩ l) := by
  rw [ref_y, pay1_at]
  refine congrArg₂ (fun p q : EReal => p + q) (res_at m c t ht r l z hz2) (Finset.sum_congr rfl fun k _ => ?_)
  rw [rows_at m c t ht r k x hx, weights_at m c t k l y hy]

/-- The reference's second result: the first one divided by its root mean square, row by row, times the gain. -/
theorem ref_r (X : S16384x512.Idx → EReal) (Y : S512x1024.Idx → EReal) (Z : S16384x1024.Idx → EReal) (G : S1024.Idx → EReal) (R : Fin 16384) (l : Fin 1024) :
    Cert.Reference20Ideal.Read.val_main_v15 (F := Ideal) X Y Z G (ValueIdx.ix2 R l)
      = Cert.Reference20Ideal.Read.val_main_v1 (F := Ideal) X Y Z (ValueIdx.ix2 R l) * Ideal.rsqrt (Ideal.div (∑ k : Fin 1024, Cert.Reference20Ideal.Read.val_main_v1 (F := Ideal) X Y Z (ValueIdx.ix2 R k) * Cert.Reference20Ideal.Read.val_main_v1 (F := Ideal) X Y Z (ValueIdx.ix2 R k)) (Ideal.ofBits .f32 0x44800000#32) + Ideal.ofBits .f32 0x358637BD#32) * G (ValueIdx.ix1 l) := by
  rw [Cert.Reference20Ideal.Read.val_main_v15_apply, Cert.Reference20Ideal.Read.val_main_v14_apply, Cert.Reference20Ideal.Read.val_main_v13_apply, Cert.Reference20Ideal.Read.val_main_v12_apply, Cert.Reference20Ideal.Read.val_main_v11_apply, Cert.Reference20Ideal.Read.val_main_v10_apply,
    Cert.Reference20Ideal.Read.val_main_v9_apply, Cert.Reference20Ideal.Read.val_main_v8_apply, Cert.Reference20Ideal.Read.val_main_v7_apply, Cert.Reference20Ideal.Read.val_main_v6_apply, Cert.Reference20Ideal.Read.val_main_v5_apply, Cert.Reference20Ideal.Read.val_main_v4_apply,
    Cert.Reference20Ideal.Read.val_main_v3_apply, Cert.Reference20Ideal.Read.val_main_cst_0_apply, Cert.Reference20Ideal.Read.val_main_cst_1_apply, Cert.Reference20Ideal.Read.val_main_cst_apply]
  have e : ∀ k : Fin 1024, Cert.Reference20Ideal.Read.idx_main_v3 (Cert.Reference20Ideal.Read.idx_main_v4 (Cert.Reference20Ideal.Read.idx_main_v10 (ValueIdx.ix2 R l))) k = ValueIdx.ix2 R k := fun k => by
    funext u
    match u with | ⟨0, _⟩ => rfl | ⟨1, _⟩ => rfl
  have eg : Cert.Reference20Ideal.Read.idx_main_v12 (Cert.Reference20Ideal.Read.idx_main_v13 (ValueIdx.ix2 R l)) = ValueIdx.ix1 l := by
    funext u
    match u with | ⟨0, _⟩ => rfl
  simp only [e, eg, Cert.Reference20Ideal.Read.val_main_v2_apply]
  change Cert.Reference20Ideal.Read.val_main_v1 (F := Ideal) X Y Z (ValueIdx.ix2 R l) * Ideal.rsqrt (Ideal.div (Ideal.ofBits .f32 0x00000000#32 + ∑ k : Fin 1024, Cert.Reference20Ideal.Read.val_main_v1 (F := Ideal) X Y Z (ValueIdx.ix2 R k) * Cert.Reference20Ideal.Read.val_main_v1 (F := Ideal) X Y Z (ValueIdx.ix2 R k)) (Ideal.ofBits .f32 0x44800000#32) + Ideal.ofBits .f32 0x358637BD#32) * G (ValueIdx.ix1 l) = _
  rw [Ideal.ofBits_zero_f32, zero_add]

/-- The gain's block is the gain. -/
theorem gain_at (t : Fin cfg0.N) (l : Fin 1024) (g : Vec Ideal S1x1024 .f32) (hg : g = iblk m c 3 t) :
    g (ValueIdx.ix2 0 l) = (m ((c : Thread nD τ).loc main_arg3) : S1024.Idx → EReal) (ValueIdx.ix1 l) := by
  rw [← V_v1 m c l]
  subst hg
  blk_simp [iblk, idx3]
  congr 1
  funext u
  apply Fin.ext
  match u with
  | ⟨0, _⟩ =>
    change _ = 0
    blk_simp [idx3]
    try rfl
  | ⟨1, _⟩ =>
    change _ = l.val
    blk_simp [idx3]
    try rfl

/-- A grid point's normalised rows are the reference's. -/
theorem out_r (t : Fin cfg0.N) (ht : t.val < 16) (r l : Fin 1024) (x : Vec Ideal S1024x512 .f32) (y : Vec Ideal S512x1024 .bf16) (z : Vec Ideal S1024x1024 .f32) (g : Vec Ideal S1x1024 .f32)
    (hx : x = iblk m c 0 t) (hy : y = iblk m c 1 t) (hz2 : z = iblk m c 2 t) (hg : g = iblk m c 3 t) :
    k0_pay2 (F := Ideal) x y z g (ValueIdx.ix2 r l)
      = Cert.Reference20Ideal.Read.val_main_v15 (F := Ideal) (m ((c : Thread nD τ).loc main_arg0)) (m ((c : Thread nD τ).loc main_arg1)) (m ((c : Thread nD τ).loc main_arg2)) (m ((c : Thread nD τ).loc main_arg3)) (ValueIdx.ix2 ⟨t.val * 1024 + r.val, by omega⟩ l) := by
  rw [ref_r, pay2_at, gain_at m c t l g hg]
  simp only [out_y m c t ht r _ x y z hx hy hz2]

/-- The array of sums. -/
theorem array_y : (dats m 0 c).arrAt 4 cfg0.N
    = Cert.Reference20Ideal.Read.val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have hN : t.val < 16 := lt_of_lt_of_eq t.isLt N_0
  have hemb : ((win0_4.blk t).view.emb (ValueIdx.ix2 r l) : S16384x1024.Idx) = ValueIdx.ix2 ⟨t.val * 1024 + r.val, by omega⟩ l := by
    funext u
    apply Fin.ext
    match u with
    | ⟨0, _⟩ =>
      change _ = t.val * 1024 + r.val
      blk_simp [idx4]
      try rfl
    | ⟨1, _⟩ =>
      change _ = l.val
      blk_simp [idx4]
      try rfl
  refine Eq.trans ?_ (congrArg (Cert.Reference20Ideal.Read.val_main_v1 (F := Ideal) (m ((c : Thread nD τ).loc main_arg0)) (m ((c : Thread nD τ).loc main_arg1)) (m ((c : Thread nD τ).loc main_arg2))) hemb).symm
  rw [← out_y m c t hN r l _ _ _ rfl rfl rfl]
  blk_simp
  rw [after0_4]
  unfold out0_4
  rw [View.canon_unit_zero hz, View.ld_unit_zero (S := S1024x512) hz, View.ld_unit_zero (S := S512x1024) hz, View.ld_unit_zero (S := S1024x1024) hz]

/-- The array of normalised rows. -/
theorem array_r : (dats m 0 c).arrAt 5 cfg0.N
    = Cert.Reference20Ideal.Read.val_main_v15 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hy : ∃ (r : Fin 1024) (l : Fin 1024), y = ValueIdx.ix2 r l := ⟨y 0, y 1, by funext u; match u with | ⟨0, _⟩ => rfl | ⟨1, _⟩ => rfl⟩
  obtain ⟨r, l, rfl⟩ := hy
  have hN : t.val < 16 := lt_of_lt_of_eq t.isLt N_0
  have hemb : ((win0_5.blk t).view.emb (ValueIdx.ix2 r l) : S16384x1024.Idx) = ValueIdx.ix2 ⟨t.val * 1024 + r.val, by omega⟩ l := by
    funext u
    apply Fin.ext
    match u with
    | ⟨0, _⟩ =>
      change _ = t.val * 1024 + r.val
      blk_simp [idx5]
      try rfl
    | ⟨1, _⟩ =>
      change _ = l.val
      blk_simp [idx5]
      try rfl
  refine Eq.trans ?_ (congrArg (Cert.Reference20Ideal.Read.val_main_v15 (F := Ideal) (m ((c : Thread nD τ).loc main_arg0)) (m ((c : Thread nD τ).loc main_arg1)) (m ((c : Thread nD τ).loc main_arg2)) (m ((c : Thread nD τ).loc main_arg3))) hemb).symm
  rw [← out_r m c t hN r l _ _ _ _ rfl rfl rfl rfl]
  blk_simp
  rw [after0_5]
  unfold out0_5
  rw [View.canon_unit_zero hz, View.ld_unit_zero (S := S1024x512) hz, View.ld_unit_zero (S := S512x1024) hz, View.ld_unit_zero (S := S1024x1024) hz, View.ld_unit_zero (S := S1x1024) hz]

end Cert.Mm.OutB
end
-- ==== Proof.Mm.Claim3.lean ====
/-
  The products of the attention, of the chunked gating and of their outputs return what their references return.
-/
module
public import proofs.«01_k».proof.Proof.Mm.Qkv
public import proofs.«01_k».proof.Proof.Mm.QkvDw
public import proofs.«01_k».proof.Proof.Mm.UvDx
public import proofs.«01_k».proof.Proof.Mm.QkvDx
public import proofs.«01_k».proof.Proof.Mm.OutDx
public import proofs.«01_k».proof.Proof.Mm.OutADw
public import proofs.«01_k».proof.Proof.Mm.OutBDw
public import proofs.«01_k».proof.Proof.Mm.OutA
public import proofs.«01_k».proof.Proof.Mm.OutB
public import proofs.«01_k».proof.Defs
@[expose] public section
set_option maxRecDepth 16384
set_option maxHeartbeats 1000000
noncomputable section
namespace Cert.Mm
open Idealize.ShloMosaic Idealize.ShloMosaic.TcCoe Idealize.SL.Sem

/-- The projection to q, k and v returns the plain product. -/
theorem algebraic15 : Cert.algebraic_Kernel15Ideal_Reference15Ideal := by
  intro m ρ m' ρ' hpre hagree
  refine ⟨fun c => (Cert.Kernel15Ideal.Gen.dats m 0 c).arrAt 2 Cert.Kernel15Ideal.cfg0.N, Cert.Kernel15Ideal.Value.run_blocks m ρ, ?_⟩
  refine (θ_run Cert.Reference15Ideal.defs _ _).mono (fun _ h c => ?_) (Cert.Reference15Ideal.Value.run m' ρ')
  obtain ⟨hr, ha⟩ := h c
  obtain ⟨a0, a1⟩ := hagree c
  have e : ∀ x0 x1, x0 = m ((c.tc : Thread Cert.Kernel15Ideal.nD Cert.Kernel15Ideal.τ).loc Cert.Kernel15Ideal.main_arg0) → x1 = m ((c.tc : Thread Cert.Kernel15Ideal.nD Cert.Kernel15Ideal.τ).loc Cert.Kernel15Ideal.main_arg1)
      → Cert.Reference15Ideal.Read.val_main_v0 (F := Ideal) x0 x1 = (Cert.Kernel15Ideal.Gen.dats m 0 c).arrAt 2 Cert.Kernel15Ideal.cfg0.N := by
    rintro _ _ rfl rfl
    exact (Qkv.array m c).symm
  exact ⟨hr.trans (e _ _ a0 a1), ha⟩

/-- The weight gradient of q, k and v is the derivative of the plain product. -/
theorem algebraic16 : Cert.algebraic_Kernel16Ideal_Reference16Ideal := by
  intro m ρ m' ρ' hpre hagree
  refine ⟨fun c => (Cert.Kernel16Ideal.Gen.dats m 0 c).arrAt 2 Cert.Kernel16Ideal.cfg0.N, Cert.Kernel16Ideal.Value.run_blocks m ρ, ?_⟩
  refine (θ_run Cert.Reference16Ideal.defs _ _).mono (fun _ h c => ?_) (Cert.Reference16Ideal.Value.run m' ρ')
  obtain ⟨hr, ha⟩ := h c
  obtain ⟨a0, a1⟩ := hagree c
  have e : ∀ x0 x1, x0 = m ((c.tc : Thread Cert.Kernel16Ideal.nD Cert.Kernel16Ideal.τ).loc Cert.Kernel16Ideal.main_arg0) → x1 = m ((c.tc : Thread Cert.Kernel16Ideal.nD Cert.Kernel16Ideal.τ).loc Cert.Kernel16Ideal.main_arg1)
      → Cert.Reference16Ideal.Read.val_main_v3 (F := Ideal) x0 x1 = (Cert.Kernel16Ideal.Gen.dats m 0 c).arrAt 2 Cert.Kernel16Ideal.cfg0.N := by
    rintro _ _ rfl rfl
    exact (QkvDw.array m c).symm
  exact ⟨hr.trans (e _ _ a0 a1), ha⟩

/-- The gradient of the mixer's input from u and v is the derivative of the plain product. -/
theorem algebraic17 : Cert.algebraic_Kernel17Ideal_Reference17Ideal := by
  intro m ρ m' ρ' hpre hagree
  refine ⟨fun c => (Cert.Kernel17Ideal.Gen.dats m 0 c).arrAt 2 Cert.Kernel17Ideal.cfg0.N, Cert.Kernel17Ideal.Value.run_blocks m ρ, ?_⟩
  refine (θ_run Cert.Reference17Ideal.defs _ _).mono (fun _ h c => ?_) (Cert.Reference17Ideal.Value.run m' ρ')
  obtain ⟨hr, ha⟩ := h c
  obtain ⟨a0, a1⟩ := hagree c
  have e : ∀ x0 x1, x0 = m ((c.tc : Thread Cert.Kernel17Ideal.nD Cert.Kernel17Ideal.τ).loc Cert.Kernel17Ideal.main_arg0) → x1 = m ((c.tc : Thread Cert.Kernel17Ideal.nD Cert.Kernel17Ideal.τ).loc Cert.Kernel17Ideal.main_arg1)
      → Cert.Reference17Ideal.Read.val_main_v2 (F := Ideal) x0 x1 = (Cert.Kernel17Ideal.Gen.dats m 0 c).arrAt 2 Cert.Kernel17Ideal.cfg0.N := by
    rintro _ _ rfl rfl
    exact (UvDx.array m c).symm
  exact ⟨hr.trans (e _ _ a0 a1), ha⟩

/-- The gradient of the mixer's input from q, k and v is the derivative of the plain product, added to the other gradient. -/
theorem algebraic18 : Cert.algebraic_Kernel18Ideal_Reference18Ideal := by
  intro m ρ m' ρ' hpre hagree
  refine ⟨fun c => (Cert.Kernel18Ideal.Gen.dats m 0 c).arrAt 3 Cert.Kernel18Ideal.cfg0.N, Cert.Kernel18Ideal.Value.run_blocks m ρ, ?_⟩
  refine (θ_run Cert.Reference18Ideal.defs _ _).mono (fun _ h c => ?_) (Cert.Reference18Ideal.Value.run m' ρ')
  obtain ⟨hr, ha⟩ := h c
  obtain ⟨a0, a1, a2⟩ := hagree c
  have e : ∀ x0 x1 x2, x0 = m ((c.tc : Thread Cert.Kernel18Ideal.nD Cert.Kernel18Ideal.τ).loc Cert.Kernel18Ideal.main_arg0) → x1 = m ((c.tc : Thread Cert.Kernel18Ideal.nD Cert.Kernel18Ideal.τ).loc Cert.Kernel18Ideal.main_arg1) → x2 = m ((c.tc : Thread Cert.Kernel18Ideal.nD Cert.Kernel18Ideal.τ).loc Cert.Kernel18Ideal.main_arg2)
      → Cert.Reference18Ideal.Read.val_main_v3 (F := Ideal) x0 x1 x2 = (Cert.Kernel18Ideal.Gen.dats m 0 c).arrAt 3 Cert.Kernel18Ideal.cfg0.N := by
    rintro _ _ _ rfl rfl rfl
    exact (QkvDx.array m c).symm
  exact ⟨hr.trans (e _ _ _ a0 a1 a2), ha⟩

/-- The output projection of the chunked gating returns the residual plus the plain product. -/
theorem algebraic19 : Cert.algebraic_Kernel19Ideal_Reference19Ideal := by
  intro m ρ m' ρ' hpre hagree
  refine ⟨fun c => (Cert.Kernel19Ideal.Gen.dats m 0 c).arrAt 3 Cert.Kernel19Ideal.cfg0.N, Cert.Kernel19Ideal.Value.run_blocks m ρ, ?_⟩
  refine (θ_run Cert.Reference19Ideal.defs _ _).mono (fun _ h c => ?_) (Cert.Reference19Ideal.Value.run m' ρ')
  obtain ⟨hr, ha⟩ := h c
  obtain ⟨a0, a1, a2⟩ := hagree c
  have e : ∀ x0 x1 x2, x0 = m ((c.tc : Thread Cert.Kernel19Ideal.nD Cert.Kernel19Ideal.τ).loc Cert.Kernel19Ideal.main_arg0) → x1 = m ((c.tc : Thread Cert.Kernel19Ideal.nD Cert.Kernel19Ideal.τ).loc Cert.Kernel19Ideal.main_arg1) → x2 = m ((c.tc : Thread Cert.Kernel19Ideal.nD Cert.Kernel19Ideal.τ).loc Cert.Kernel19Ideal.main_arg2)
      → Cert.Reference19Ideal.Read.val_main_v1 (F := Ideal) x0 x1 x2 = (Cert.Kernel19Ideal.Gen.dats m 0 c).arrAt 3 Cert.Kernel19Ideal.cfg0.N := by
    rintro _ _ _ rfl rfl rfl
    exact (OutA.array m c).symm
  exact ⟨hr.trans (e _ _ _ a0 a1 a2), ha⟩

/-- The gradient of a mixer half's output is the derivative of the plain product. -/
theorem algebraic21 : Cert.algebraic_Kernel21Ideal_Reference21Ideal := by
  intro m ρ m' ρ' hpre hagree
  refine ⟨fun c => (Cert.Kernel21Ideal.Gen.dats m 0 c).arrAt 2 Cert.Kernel21Ideal.cfg0.N, Cert.Kernel21Ideal.Value.run_blocks m ρ, ?_⟩
  refine (θ_run Cert.Reference21Ideal.defs _ _).mono (fun _ h c => ?_) (Cert.Reference21Ideal.Value.run m' ρ')
  obtain ⟨hr, ha⟩ := h c
  obtain ⟨a0, a1⟩ := hagree c
  have e : ∀ x0 x1, x0 = m ((c.tc : Thread Cert.Kernel21Ideal.nD Cert.Kernel21Ideal.τ).loc Cert.Kernel21Ideal.main_arg0) → x1 = m ((c.tc : Thread Cert.Kernel21Ideal.nD Cert.Kernel21Ideal.τ).loc Cert.Kernel21Ideal.main_arg1)
      → Cert.Reference21Ideal.Read.val_main_v2 (F := Ideal) x0 x1 = (Cert.Kernel21Ideal.Gen.dats m 0 c).arrAt 2 Cert.Kernel21Ideal.cfg0.N := by
    rintro _ _ rfl rfl
    exact (OutDx.array m c).symm
  exact ⟨hr.trans (e _ _ a0 a1), ha⟩

/-- The chunked gating's output weights' gradient is the derivative of the plain product. -/
theorem algebraic22 : Cert.algebraic_Kernel22Ideal_Reference22Ideal := by
  intro m ρ m' ρ' hpre hagree
  refine ⟨fun c => (Cert.Kernel22Ideal.Gen.dats m 0 c).arrAt 2 Cert.Kernel22Ideal.cfg0.N, Cert.Kernel22Ideal.Value.run_blocks m ρ, ?_⟩
  refine (θ_run Cert.Reference22Ideal.defs _ _).mono (fun _ h c => ?_) (Cert.Reference22Ideal.Value.run m' ρ')
  obtain ⟨hr, ha⟩ := h c
  obtain ⟨a0, a1⟩ := hagree c
  have e : ∀ x0 x1, x0 = m ((c.tc : Thread Cert.Kernel22Ideal.nD Cert.Kernel22Ideal.τ).loc Cert.Kernel22Ideal.main_arg0) → x1 = m ((c.tc : Thread Cert.Kernel22Ideal.nD Cert.Kernel22Ideal.τ).loc Cert.Kernel22Ideal.main_arg1)
      → Cert.Reference22Ideal.Read.val_main_v3 (F := Ideal) x0 x1 = (Cert.Kernel22Ideal.Gen.dats m 0 c).arrAt 2 Cert.Kernel22Ideal.cfg0.N := by
    rintro _ _ rfl rfl
    exact (OutADw.array m c).symm
  exact ⟨hr.trans (e _ _ a0 a1), ha⟩

/-- The attention's output weights' gradient is the derivative of the plain product. -/
theorem algebraic23 : Cert.algebraic_Kernel23Ideal_Reference23Ideal := by
  intro m ρ m' ρ' hpre hagree
  refine ⟨fun c => (Cert.Kernel23Ideal.Gen.dats m 0 c).arrAt 2 Cert.Kernel23Ideal.cfg0.N, Cert.Kernel23Ideal.Value.run_blocks m ρ, ?_⟩
  refine (θ_run Cert.Reference23Ideal.defs _ _).mono (fun _ h c => ?_) (Cert.Reference23Ideal.Value.run m' ρ')
  obtain ⟨hr, ha⟩ := h c
  obtain ⟨a0, a1⟩ := hagree c
  have e : ∀ x0 x1, x0 = m ((c.tc : Thread Cert.Kernel23Ideal.nD Cert.Kernel23Ideal.τ).loc Cert.Kernel23Ideal.main_arg0) → x1 = m ((c.tc : Thread Cert.Kernel23Ideal.nD Cert.Kernel23Ideal.τ).loc Cert.Kernel23Ideal.main_arg1)
      → Cert.Reference23Ideal.Read.val_main_v3 (F := Ideal) x0 x1 = (Cert.Kernel23Ideal.Gen.dats m 0 c).arrAt 2 Cert.Kernel23Ideal.cfg0.N := by
    rintro _ _ rfl rfl
    exact (OutBDw.array m c).symm
  exact ⟨hr.trans (e _ _ a0 a1), ha⟩

/-- The output projection of the attention returns the residual stream and its normalised rows. -/
theorem algebraic20 : Cert.algebraic_Kernel20Ideal_Reference20Ideal := by
  intro m ρ m' ρ' hpre hagree
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, Cert.Kernel20Ideal.Value.run_blocks m ρ, ?_⟩
  refine (θ_run Cert.Reference20Ideal.defs _ _).mono (fun _ h c => ?_) (Cert.Reference20Ideal.Value.run m' ρ')
  obtain ⟨hy, hr, ha⟩ := h c
  obtain ⟨a0, a1, a2, a3⟩ := hagree c
  have ey : ∀ x0 x1 x2, x0 = m ((c.tc : Thread Cert.Kernel20Ideal.nD Cert.Kernel20Ideal.τ).loc Cert.Kernel20Ideal.main_arg0) → x1 = m ((c.tc : Thread Cert.Kernel20Ideal.nD Cert.Kernel20Ideal.τ).loc Cert.Kernel20Ideal.main_arg1) → x2 = m ((c.tc : Thread Cert.Kernel20Ideal.nD Cert.Kernel20Ideal.τ).loc Cert.Kernel20Ideal.main_arg2)
      → Cert.Reference20Ideal.Read.val_main_v1 (F := Ideal) x0 x1 x2 = (Cert.Kernel20Ideal.Gen.dats m 0 c).arrAt 4 Cert.Kernel20Ideal.cfg0.N := by
    rintro _ _ _ rfl rfl rfl
    exact (OutB.array_y m c).symm
  have er : ∀ x0 x1 x2 x3, x0 = m ((c.tc : Thread Cert.Kernel20Ideal.nD Cert.Kernel20Ideal.τ).loc Cert.Kernel20Ideal.main_arg0) → x1 = m ((c.tc : Thread Cert.Kernel20Ideal.nD Cert.Kernel20Ideal.τ).loc Cert.Kernel20Ideal.main_arg1) → x2 = m ((c.tc : Thread Cert.Kernel20Ideal.nD Cert.Kernel20Ideal.τ).loc Cert.Kernel20Ideal.main_arg2) → x3 = m ((c.tc : Thread Cert.Kernel20Ideal.nD Cert.Kernel20Ideal.τ).loc Cert.Kernel20Ideal.main_arg3)
      → Cert.Reference20Ideal.Read.val_main_v15 (F := Ideal) x0 x1 x2 x3 = (Cert.Kernel20Ideal.Gen.dats m 0 c).arrAt 5 Cert.Kernel20Ideal.cfg0.N := by
    rintro _ _ _ _ rfl rfl rfl rfl
    exact (OutB.array_r m c).symm
  exact ⟨hy.trans (ey _ _ _ a0 a1 a2), hr.trans (er _ _ _ _ a0 a1 a2 a3), ha⟩

end Cert.Mm
end
-- ==== Proof.lean ====
/-
  The proof of the certificate's claims: the kernels' runs, their references' runs, and the equalities of what they return.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Dkv.FrameWords
public import proofs.«01_k».proof.Proof.Dkv.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_finite
public import proofs.«01_k».proof.Proof.Gen.Pre_finite4
public import proofs.«01_k».proof.Proof.Dq.Claim
public import proofs.«01_k».proof.Proof.Dkv.Claim
public import proofs.«01_k».proof.Proof.Fwd.Claim
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Mm.Claim
public import proofs.«01_k».proof.Proof.Mm.Claim2
public import proofs.«01_k».proof.Proof.Mm.Claim3
public import Idealize.ShloMosaic.Adequacy
public import Idealize.ShloMosaic.Init

@[expose] public section

noncomputable section

namespace Cert.Proof

open Idealize.ShloMosaic Idealize.SL.Sem

/-- Every run of reference 1 ends with the arguments unchanged and every counter at zero. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2, sem_eq_zero_of_no_sems (by decide) r.2⟩) (Cert.ReferenceIdeal.Value.run m ρ)

/-- Every run of reference 2 ends with the arguments unchanged and every counter at zero. -/
theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run Cert.Reference2Ideal.defs _ _).mono (fun r h => ⟨fun c => (h c).2.2.2, sem_eq_zero_of_no_sems (by decide) r.2⟩) (Cert.Reference2Ideal.Value.run m ρ)

/-- Every run of reference 3 ends with the arguments unchanged and every counter at zero. -/
theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run Cert.Reference3Ideal.defs _ _).mono (fun r h => ⟨fun c => (h c).2.2, sem_eq_zero_of_no_sems (by decide) r.2⟩) (Cert.Reference3Ideal.Value.run m ρ)

/-- Every run of reference 4 ends with the arguments unchanged and every counter at zero. -/
theorem reference4_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, sem_eq_zero_of_no_sems (by decide) r.2⟩) (Cert.Reference4Ideal.Value.run m ρ)

/-- Every run of reference 5 ends with the arguments unchanged and every counter at zero. -/
theorem reference5_frame (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run Cert.Reference5Ideal.defs _ _).mono (fun r h => ⟨fun c => (h c).2, sem_eq_zero_of_no_sems (by decide) r.2⟩) (Cert.Reference5Ideal.Value.run m ρ)

/-- Every run of reference 6 ends with the arguments unchanged and every counter at zero. -/
theorem reference6_frame (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono (fun r h => ⟨fun c => (h c).2, sem_eq_zero_of_no_sems (by decide) r.2⟩) (Cert.Reference6Ideal.Value.run m ρ)

/-- Every run of reference 7 ends with the arguments unchanged and every counter at zero. -/
theorem reference7_frame (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run Cert.Reference7Ideal.defs _ _).mono (fun r h => ⟨fun c => (h c).2, sem_eq_zero_of_no_sems (by decide) r.2⟩) (Cert.Reference7Ideal.Value.run m ρ)

/-- Every run of reference 8 ends with the arguments unchanged and every counter at zero. -/
theorem reference8_frame (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run Cert.Reference8Ideal.defs _ _).mono (fun r h => ⟨fun c => (h c).2, sem_eq_zero_of_no_sems (by decide) r.2⟩) (Cert.Reference8Ideal.Value.run m ρ)

/-- Every run of reference 9 ends with the arguments unchanged and every counter at zero. -/
theorem reference9_frame (m : (ℓ : Loc Cert.Reference9Ideal.nD Cert.Reference9Ideal.τ Cert.Reference9Ideal.sig) → Buf (Elt Ideal) ℓ) (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0) :=
  (θ_run Cert.Reference9Ideal.defs _ _).mono (fun r h => ⟨fun c => (h c).2.2, sem_eq_zero_of_no_sems (by decide) r.2⟩) (Cert.Reference9Ideal.Value.run m ρ)

/-- Every run of reference 10 ends with the arguments unchanged and every counter at zero. -/
theorem reference10_frame (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run Cert.Reference10Ideal.defs _ _).mono (fun r h => ⟨fun c => (h c).2, sem_eq_zero_of_no_sems (by decide) r.2⟩) (Cert.Reference10Ideal.Value.run m ρ)

/-- Every run of reference 11 ends with the arguments unchanged and every counter at zero. -/
theorem reference11_frame (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run Cert.Reference11Ideal.defs _ _).mono (fun r h => ⟨fun c => (h c).2, sem_eq_zero_of_no_sems (by decide) r.2⟩) (Cert.Reference11Ideal.Value.run m ρ)

/-- Every run of reference 12 ends with the arguments unchanged and every counter at zero. -/
theorem reference12_frame (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run Cert.Reference12Ideal.defs _ _).mono (fun r h => ⟨fun c => (h c).2, sem_eq_zero_of_no_sems (by decide) r.2⟩) (Cert.Reference12Ideal.Value.run m ρ)

/-- Every run of reference 13 ends with the arguments unchanged and every counter at zero. -/
theorem reference13_frame (m : (ℓ : Loc Cert.Reference13Ideal.nD Cert.Reference13Ideal.τ Cert.Reference13Ideal.sig) → Buf (Elt Ideal) ℓ) (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run Cert.Reference13Ideal.defs _ _).mono (fun r h => ⟨fun c => (h c).2, sem_eq_zero_of_no_sems (by decide) r.2⟩) (Cert.Reference13Ideal.Value.run m ρ)

/-- Every run of reference 14 ends with the arguments unchanged and every counter at zero. -/
theorem reference14_frame (m : (ℓ : Loc Cert.Reference14Ideal.nD Cert.Reference14Ideal.τ Cert.Reference14Ideal.sig) → Buf (Elt Ideal) ℓ) (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run Cert.Reference14Ideal.defs _ _).mono (fun r h => ⟨fun c => (h c).2, sem_eq_zero_of_no_sems (by decide) r.2⟩) (Cert.Reference14Ideal.Value.run m ρ)

/-- Every run of reference 15 ends with the arguments unchanged and every counter at zero. -/
theorem reference15_frame (m : (ℓ : Loc Cert.Reference15Ideal.nD Cert.Reference15Ideal.τ Cert.Reference15Ideal.sig) → Buf (Elt Ideal) ℓ) (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run Cert.Reference15Ideal.defs _ _).mono (fun r h => ⟨fun c => (h c).2, sem_eq_zero_of_no_sems (by decide) r.2⟩) (Cert.Reference15Ideal.Value.run m ρ)

/-- Every run of reference 16 ends with the arguments unchanged and every counter at zero. -/
theorem reference16_frame (m : (ℓ : Loc Cert.Reference16Ideal.nD Cert.Reference16Ideal.τ Cert.Reference16Ideal.sig) → Buf (Elt Ideal) ℓ) (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run Cert.Reference16Ideal.defs _ _).mono (fun r h => ⟨fun c => (h c).2, sem_eq_zero_of_no_sems (by decide) r.2⟩) (Cert.Reference16Ideal.Value.run m ρ)

/-- Every run of reference 17 ends with the arguments unchanged and every counter at zero. -/
theorem reference17_frame (m : (ℓ : Loc Cert.Reference17Ideal.nD Cert.Reference17Ideal.τ Cert.Reference17Ideal.sig) → Buf (Elt Ideal) ℓ) (ρ : Dev Cert.Reference17Ideal.nD → PrngReg) :
    θ_run (Cert.Reference17Ideal.defs (F := Ideal)) (onTc (τ := Cert.Reference17Ideal.τ) (Cert.Reference17Ideal.main (F := Ideal))) ⟨m, fun _ => 0, ρ⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0) :=
  (θ_run Cert.Reference17Ideal.defs _ _).mono (fun r h => ⟨fun c => (h c).2, sem_eq_zero_of_no_sems (by decide) r.2⟩) (Cert.Reference17Ideal.Value.run m ρ)

/-- Every run of reference 18 ends with the arguments unchanged and every counter at zero. -/
theorem reference18_frame (m : (ℓ : Loc Cert.Reference18Ideal.nD Cert.Reference18Ideal.τ Cert.Reference18Ideal.sig) → Buf (Elt Ideal) ℓ) (ρ : Dev Cert.Reference18Ideal.nD → PrngReg) :
    θ_run (Cert.Reference18Ideal.defs (F := Ideal)) (onTc (τ := Cert.Reference18Ideal.τ) (Cert.Reference18Ideal.main (F := Ideal))) ⟨m, fun _ => 0, ρ⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0) :=
  (θ_run Cert.Reference18Ideal.defs _ _).mono (fun r h => ⟨fun c => (h c).2, sem_eq_zero_of_no_sems (by decide) r.2⟩) (Cert.Reference18Ideal.Value.run m ρ)

/-- Every run of reference 19 ends with the arguments unchanged and every counter at zero. -/
theorem reference19_frame (m : (ℓ : Loc Cert.Reference19Ideal.nD Cert.Reference19Ideal.τ Cert.Reference19Ideal.sig) → Buf (Elt Ideal) ℓ) (ρ : Dev Cert.Reference19Ideal.nD → PrngReg) :
    θ_run (Cert.Reference19Ideal.defs (F := Ideal)) (onTc (τ := Cert.Reference19Ideal.τ) (Cert.Reference19Ideal.main (F := Ideal))) ⟨m, fun _ => 0, ρ⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0) :=
  (θ_run Cert.Reference19Ideal.defs _ _).mono (fun r h => ⟨fun c => (h c).2, sem_eq_zero_of_no_sems (by decide) r.2⟩) (Cert.Reference19Ideal.Value.run m ρ)

/-- Every run of reference 20 ends with the arguments unchanged and every counter at zero. -/
theorem reference20_frame (m : (ℓ : Loc Cert.Reference20Ideal.nD Cert.Reference20Ideal.τ Cert.Reference20Ideal.sig) → Buf (Elt Ideal) ℓ) (ρ : Dev Cert.Reference20Ideal.nD → PrngReg) :
    θ_run (Cert.Reference20Ideal.defs (F := Ideal)) (onTc (τ := Cert.Reference20Ideal.τ) (Cert.Reference20Ideal.main (F := Ideal))) ⟨m, fun _ => 0, ρ⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0) :=
  (θ_run Cert.Reference20Ideal.defs _ _).mono (fun r h => ⟨fun c => (h c).2.2, sem_eq_zero_of_no_sems (by decide) r.2⟩) (Cert.Reference20Ideal.Value.run m ρ)

/-- Every run of reference 21 ends with the arguments unchanged and every counter at zero. -/
theorem reference21_frame (m : (ℓ : Loc Cert.Reference21Ideal.nD Cert.Reference21Ideal.τ Cert.Reference21Ideal.sig) → Buf (Elt Ideal) ℓ) (ρ : Dev Cert.Reference21Ideal.nD → PrngReg) :
    θ_run (Cert.Reference21Ideal.defs (F := Ideal)) (onTc (τ := Cert.Reference21Ideal.τ) (Cert.Reference21Ideal.main (F := Ideal))) ⟨m, fun _ => 0, ρ⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0) :=
  (θ_run Cert.Reference21Ideal.defs _ _).mono (fun r h => ⟨fun c => (h c).2, sem_eq_zero_of_no_sems (by decide) r.2⟩) (Cert.Reference21Ideal.Value.run m ρ)

/-- Every run of reference 22 ends with the arguments unchanged and every counter at zero. -/
theorem reference22_frame (m : (ℓ : Loc Cert.Reference22Ideal.nD Cert.Reference22Ideal.τ Cert.Reference22Ideal.sig) → Buf (Elt Ideal) ℓ) (ρ : Dev Cert.Reference22Ideal.nD → PrngReg) :
    θ_run (Cert.Reference22Ideal.defs (F := Ideal)) (onTc (τ := Cert.Reference22Ideal.τ) (Cert.Reference22Ideal.main (F := Ideal))) ⟨m, fun _ => 0, ρ⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0) :=
  (θ_run Cert.Reference22Ideal.defs _ _).mono (fun r h => ⟨fun c => (h c).2, sem_eq_zero_of_no_sems (by decide) r.2⟩) (Cert.Reference22Ideal.Value.run m ρ)

/-- Every run of reference 23 ends with the arguments unchanged and every counter at zero. -/
theorem reference23_frame (m : (ℓ : Loc Cert.Reference23Ideal.nD Cert.Reference23Ideal.τ Cert.Reference23Ideal.sig) → Buf (Elt Ideal) ℓ) (ρ : Dev Cert.Reference23Ideal.nD → PrngReg) :
    θ_run (Cert.Reference23Ideal.defs (F := Ideal)) (onTc (τ := Cert.Reference23Ideal.τ) (Cert.Reference23Ideal.main (F := Ideal))) ⟨m, fun _ => 0, ρ⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0) :=
  (θ_run Cert.Reference23Ideal.defs _ _).mono (fun r h => ⟨fun c => (h c).2, sem_eq_zero_of_no_sems (by decide) r.2⟩) (Cert.Reference23Ideal.Value.run m ρ)

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite.Gen.facts, Cert.Pre_finite4.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Attn.DkvWords.frame m ρ,
  fun m ρ _ => Cert.Attn.Dkv.frame m ρ,
  fun m ρ _ => Cert.Attn.Dkv.frame m ρ,
  fun m ρ _ => reference2_frame m ρ,
  fun m ρ _ => reference2_frame m ρ,
  fun m ρ _ => Cert.Kernel3.Gen.frame m ρ,
  fun m ρ _ => Cert.Kernel3Ideal.Gen.frame m ρ,
  fun m ρ _ => Cert.Kernel3Ideal.Gen.frame m ρ,
  fun m ρ _ => reference3_frame m ρ,
  fun m ρ _ => reference3_frame m ρ,
  fun m ρ _ => Cert.Kernel4.Gen.frame m ρ,
  fun m ρ _ => Cert.Kernel4Ideal.Gen.frame m ρ,
  fun m ρ _ => reference4_frame m ρ,
  fun m ρ _ => Cert.Kernel5.Gen.frame m ρ,
  fun m ρ _ => Cert.Kernel5Ideal.Gen.frame m ρ,
  fun m ρ _ => reference5_frame m ρ,
  fun m ρ _ => Cert.Kernel6.Gen.frame m ρ,
  fun m ρ _ => Cert.Kernel6Ideal.Gen.frame m ρ,
  fun m ρ _ => reference6_frame m ρ,
  fun m ρ _ => Cert.Kernel7.Gen.frame m ρ,
  fun m ρ _ => Cert.Kernel7Ideal.Gen.frame m ρ,
  fun m ρ _ => reference7_frame m ρ,
  fun m ρ _ => Cert.Kernel8.Gen.frame m ρ,
  fun m ρ _ => Cert.Kernel8Ideal.Gen.frame m ρ,
  fun m ρ _ => reference8_frame m ρ,
  fun m ρ _ => Cert.Kernel9.Gen.frame m ρ,
  fun m ρ _ => Cert.Kernel9Ideal.Gen.frame m ρ,
  fun m ρ _ => reference9_frame m ρ,
  fun m ρ _ => Cert.Kernel10.Gen.frame m ρ,
  fun m ρ _ => Cert.Kernel10Ideal.Gen.frame m ρ,
  fun m ρ _ => reference10_frame m ρ,
  fun m ρ _ => Cert.Kernel11.Gen.frame m ρ,
  fun m ρ _ => Cert.Kernel11Ideal.Gen.frame m ρ,
  fun m ρ _ => reference11_frame m ρ,
  fun m ρ _ => Cert.Kernel12.Gen.frame m ρ,
  fun m ρ _ => Cert.Kernel12Ideal.Gen.frame m ρ,
  fun m ρ _ => reference12_frame m ρ,
  fun m ρ _ => Cert.Kernel13.Gen.frame m ρ,
  fun m ρ _ => Cert.Kernel13Ideal.Gen.frame m ρ,
  fun m ρ _ => reference13_frame m ρ,
  fun m ρ _ => Cert.Kernel14.Gen.frame m ρ,
  fun m ρ _ => Cert.Kernel14Ideal.Gen.frame m ρ,
  fun m ρ _ => reference14_frame m ρ,
  fun m ρ _ => Cert.Kernel15.Gen.frame m ρ,
  fun m ρ _ => Cert.Kernel15Ideal.Gen.frame m ρ,
  fun m ρ _ => reference15_frame m ρ,
  fun m ρ _ => Cert.Kernel16.Gen.frame m ρ,
  fun m ρ _ => Cert.Kernel16Ideal.Gen.frame m ρ,
  fun m ρ _ => reference16_frame m ρ,
  fun m ρ _ => Cert.Kernel17.Gen.frame m ρ,
  fun m ρ _ => Cert.Kernel17Ideal.Gen.frame m ρ,
  fun m ρ _ => reference17_frame m ρ,
  fun m ρ _ => Cert.Kernel18.Gen.frame m ρ,
  fun m ρ _ => Cert.Kernel18Ideal.Gen.frame m ρ,
  fun m ρ _ => reference18_frame m ρ,
  fun m ρ _ => Cert.Kernel19.Gen.frame m ρ,
  fun m ρ _ => Cert.Kernel19Ideal.Gen.frame m ρ,
  fun m ρ _ => reference19_frame m ρ,
  fun m ρ _ => Cert.Kernel20.Gen.frame m ρ,
  fun m ρ _ => Cert.Kernel20Ideal.Gen.frame m ρ,
  fun m ρ _ => reference20_frame m ρ,
  fun m ρ _ => Cert.Kernel21.Gen.frame m ρ,
  fun m ρ _ => Cert.Kernel21Ideal.Gen.frame m ρ,
  fun m ρ _ => reference21_frame m ρ,
  fun m ρ _ => Cert.Kernel22.Gen.frame m ρ,
  fun m ρ _ => Cert.Kernel22Ideal.Gen.frame m ρ,
  fun m ρ _ => reference22_frame m ρ,
  fun m ρ _ => Cert.Kernel23.Gen.frame m ρ,
  fun m ρ _ => Cert.Kernel23Ideal.Gen.frame m ρ,
  fun m ρ _ => reference23_frame m ρ,
  trivial,
  Cert.Attn.Dq.algebraic,
  trivial,
  Cert.Attn.Dkv.algebraic,
  IdealRules.named_const.statement _ _ _ _ _ rfl,
  Cert.Attn.Fwd.algebraic,
  trivial,
  Cert.Mm.algebraic4,
  trivial,
  Cert.Mm.algebraic5,
  trivial,
  Cert.Mm.algebraic6,
  trivial,
  Cert.Mm.algebraic7,
  trivial,
  Cert.Mm.algebraic8,
  trivial,
  Cert.Mm.algebraic9,
  trivial,
  Cert.Mm.algebraic10,
  trivial,
  Cert.Mm.algebraic11,
  trivial,
  Cert.Mm.algebraic12,
  trivial,
  Cert.Mm.algebraic13,
  trivial,
  Cert.Mm.algebraic14,
  trivial,
  Cert.Mm.algebraic15,
  trivial,
  Cert.Mm.algebraic16,
  trivial,
  Cert.Mm.algebraic17,
  trivial,
  Cert.Mm.algebraic18,
  trivial,
  Cert.Mm.algebraic19,
  trivial,
  Cert.Mm.algebraic20,
  trivial,
  Cert.Mm.algebraic21,
  trivial,
  Cert.Mm.algebraic22,
  trivial,
  Cert.Mm.algebraic23⟩

end Cert.Proof

end
